-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_PeerKernel (m : (ℓ : Loc Cert.PeerKernel.nD Cert.PeerKernel.τ Cert.PeerKernel.sig) → Buf (Elt Bits) ℓ) : Prop :=
  True

def Pre_PeerKernelIdeal (m : (ℓ : Loc Cert.PeerKernelIdeal.nD Cert.PeerKernelIdeal.τ Cert.PeerKernelIdeal.sig) → Buf (Elt Ideal) ℓ) : Prop :=
  True

def Pre_PeerKernelIdeal_finite_scores_peer [hPre_finite_scores_peer : Cert.Pre_finite_scores_peer.Facts] (m : (ℓ : Loc Cert.PeerKernelIdeal.nD Cert.PeerKernelIdeal.τ Cert.PeerKernelIdeal.sig) → Buf (Elt Ideal) ℓ) : Prop :=
  ∀ c : Dev Cert.PeerKernelIdeal.nD,
    (Cert.Pre_finite_scores_peer.fn (F := Ideal) (m ((c.tc : Thread Cert.PeerKernelIdeal.nD Cert.PeerKernelIdeal.τ).loc Cert.PeerKernelIdeal.main_arg0)) (m ((c.tc : Thread Cert.PeerKernelIdeal.nD Cert.PeerKernelIdeal.τ).loc Cert.PeerKernelIdeal.main_arg1)) (m ((c.tc : Thread Cert.PeerKernelIdeal.nD Cert.PeerKernelIdeal.τ).loc Cert.PeerKernelIdeal.main_arg2))) = (fun _ => 1#1)

def Pre_PeerReferenceIdeal (m : (ℓ : Loc Cert.PeerReferenceIdeal.nD Cert.PeerReferenceIdeal.τ Cert.PeerReferenceIdeal.sig) → Buf (Elt Ideal) ℓ) : Prop :=
  True

def Pre_PeerReferenceIdeal_finite_scores_peer [hPre_finite_scores_peer : Cert.Pre_finite_scores_peer.Facts] (m : (ℓ : Loc Cert.PeerReferenceIdeal.nD Cert.PeerReferenceIdeal.τ Cert.PeerReferenceIdeal.sig) → Buf (Elt Ideal) ℓ) : Prop :=
  ∀ c : Dev Cert.PeerReferenceIdeal.nD,
    (Cert.Pre_finite_scores_peer.fn (F := Ideal) (m ((c.tc : Thread Cert.PeerReferenceIdeal.nD Cert.PeerReferenceIdeal.τ).loc Cert.PeerReferenceIdeal.main_arg0)) (m ((c.tc : Thread Cert.PeerReferenceIdeal.nD Cert.PeerReferenceIdeal.τ).loc Cert.PeerReferenceIdeal.main_arg1)) (m ((c.tc : Thread Cert.PeerReferenceIdeal.nD Cert.PeerReferenceIdeal.τ).loc Cert.PeerReferenceIdeal.main_arg2))) = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxKernelIdeal_finite_scores_ctx [hPre_finite_scores_ctx : Cert.Pre_finite_scores_ctx.Facts] (m : (ℓ : Loc Cert.CtxKernelIdeal.nD Cert.CtxKernelIdeal.τ Cert.CtxKernelIdeal.sig) → Buf (Elt Ideal) ℓ) : Prop :=
  ∀ c : Dev Cert.CtxKernelIdeal.nD,
    (Cert.Pre_finite_scores_ctx.fn (F := Ideal) (m ((c.tc : Thread Cert.CtxKernelIdeal.nD Cert.CtxKernelIdeal.τ).loc Cert.CtxKernelIdeal.main_arg0)) (m ((c.tc : Thread Cert.CtxKernelIdeal.nD Cert.CtxKernelIdeal.τ).loc Cert.CtxKernelIdeal.main_arg1)) (m ((c.tc : Thread Cert.CtxKernelIdeal.nD Cert.CtxKernelIdeal.τ).loc Cert.CtxKernelIdeal.main_arg2))) = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_scores_ctx [hPre_finite_scores_ctx : Cert.Pre_finite_scores_ctx.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_scores_ctx.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2))) = (fun _ => 1#1)

def Pre_SinkKernel (m : (ℓ : Loc Cert.SinkKernel.nD Cert.SinkKernel.τ Cert.SinkKernel.sig) → Buf (Elt Bits) ℓ) : Prop :=
  True

def Pre_SinkKernelIdeal (m : (ℓ : Loc Cert.SinkKernelIdeal.nD Cert.SinkKernelIdeal.τ Cert.SinkKernelIdeal.sig) → Buf (Elt Ideal) ℓ) : Prop :=
  True

def Pre_SinkKernelIdeal_finite_scores_sink [hPre_finite_scores_sink : Cert.Pre_finite_scores_sink.Facts] (m : (ℓ : Loc Cert.SinkKernelIdeal.nD Cert.SinkKernelIdeal.τ Cert.SinkKernelIdeal.sig) → Buf (Elt Ideal) ℓ) : Prop :=
  ∀ c : Dev Cert.SinkKernelIdeal.nD,
    (Cert.Pre_finite_scores_sink.fn (F := Ideal) (m ((c.tc : Thread Cert.SinkKernelIdeal.nD Cert.SinkKernelIdeal.τ).loc Cert.SinkKernelIdeal.main_arg0)) (m ((c.tc : Thread Cert.SinkKernelIdeal.nD Cert.SinkKernelIdeal.τ).loc Cert.SinkKernelIdeal.main_arg1)) (m ((c.tc : Thread Cert.SinkKernelIdeal.nD Cert.SinkKernelIdeal.τ).loc Cert.SinkKernelIdeal.main_arg2)) (m ((c.tc : Thread Cert.SinkKernelIdeal.nD Cert.SinkKernelIdeal.τ).loc Cert.SinkKernelIdeal.main_arg3))) = (fun _ => 1#1)

def Pre_SinkReferenceIdeal (m : (ℓ : Loc Cert.SinkReferenceIdeal.nD Cert.SinkReferenceIdeal.τ Cert.SinkReferenceIdeal.sig) → Buf (Elt Ideal) ℓ) : Prop :=
  True

def Pre_SinkReferenceIdeal_finite_scores_sink [hPre_finite_scores_sink : Cert.Pre_finite_scores_sink.Facts] (m : (ℓ : Loc Cert.SinkReferenceIdeal.nD Cert.SinkReferenceIdeal.τ Cert.SinkReferenceIdeal.sig) → Buf (Elt Ideal) ℓ) : Prop :=
  ∀ c : Dev Cert.SinkReferenceIdeal.nD,
    (Cert.Pre_finite_scores_sink.fn (F := Ideal) (m ((c.tc : Thread Cert.SinkReferenceIdeal.nD Cert.SinkReferenceIdeal.τ).loc Cert.SinkReferenceIdeal.main_arg0)) (m ((c.tc : Thread Cert.SinkReferenceIdeal.nD Cert.SinkReferenceIdeal.τ).loc Cert.SinkReferenceIdeal.main_arg1)) (m ((c.tc : Thread Cert.SinkReferenceIdeal.nD Cert.SinkReferenceIdeal.τ).loc Cert.SinkReferenceIdeal.main_arg2)) (m ((c.tc : Thread Cert.SinkReferenceIdeal.nD Cert.SinkReferenceIdeal.τ).loc Cert.SinkReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9)
      ∧ r.2.mem ((c.tc : Thread Cert.OutKernel.nD Cert.OutKernel.τ).loc Cert.OutKernel.main_arg10) = m ((c.tc : Thread Cert.OutKernel.nD Cert.OutKernel.τ).loc Cert.OutKernel.main_arg10))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10))
      ∧ r.2.sem = fun _ => 0)

def quiescent_PeerKernel [hPeerKernel : Cert.PeerKernel.Facts] : Prop :=
  ∀ (m : (ℓ : Loc Cert.PeerKernel.nD Cert.PeerKernel.τ Cert.PeerKernel.sig) → Buf (Elt Bits) ℓ) (g : Dev Cert.PeerKernel.nD → PrngReg), Pre_PeerKernel m →
    θ_run (Cert.PeerKernel.defs (F := Bits)) (onTc (τ := Cert.PeerKernel.τ) (Cert.PeerKernel.main (F := Bits))) ⟨m, fun _ => 0, g⟩ (fun r => (∀ c : Dev Cert.PeerKernel.nD,
      r.2.mem ((c.tc : Thread Cert.PeerKernel.nD Cert.PeerKernel.τ).loc Cert.PeerKernel.main_arg0) = m ((c.tc : Thread Cert.PeerKernel.nD Cert.PeerKernel.τ).loc Cert.PeerKernel.main_arg0)
      ∧ r.2.mem ((c.tc : Thread Cert.PeerKernel.nD Cert.PeerKernel.τ).loc Cert.PeerKernel.main_arg1) = m ((c.tc : Thread Cert.PeerKernel.nD Cert.PeerKernel.τ).loc Cert.PeerKernel.main_arg1)
      ∧ r.2.mem ((c.tc : Thread Cert.PeerKernel.nD Cert.PeerKernel.τ).loc Cert.PeerKernel.main_arg2) = m ((c.tc : Thread Cert.PeerKernel.nD Cert.PeerKernel.τ).loc Cert.PeerKernel.main_arg2))
      ∧ r.2.sem = fun _ => 0)

def quiescent_PeerKernelIdeal [hPeerKernelIdeal : Cert.PeerKernelIdeal.Facts] : Prop :=
  ∀ (m : (ℓ : Loc Cert.PeerKernelIdeal.nD Cert.PeerKernelIdeal.τ Cert.PeerKernelIdeal.sig) → Buf (Elt Ideal) ℓ) (g : Dev Cert.PeerKernelIdeal.nD → PrngReg), Pre_PeerKernelIdeal m →
    θ_run (Cert.PeerKernelIdeal.defs (F := Ideal)) (onTc (τ := Cert.PeerKernelIdeal.τ) (Cert.PeerKernelIdeal.main (F := Ideal))) ⟨m, fun _ => 0, g⟩ (fun r => (∀ c : Dev Cert.PeerKernelIdeal.nD,
      r.2.mem ((c.tc : Thread Cert.PeerKernelIdeal.nD Cert.PeerKernelIdeal.τ).loc Cert.PeerKernelIdeal.main_arg0) = m ((c.tc : Thread Cert.PeerKernelIdeal.nD Cert.PeerKernelIdeal.τ).loc Cert.PeerKernelIdeal.main_arg0)
      ∧ r.2.mem ((c.tc : Thread Cert.PeerKernelIdeal.nD Cert.PeerKernelIdeal.τ).loc Cert.PeerKernelIdeal.main_arg1) = m ((c.tc : Thread Cert.PeerKernelIdeal.nD Cert.PeerKernelIdeal.τ).loc Cert.PeerKernelIdeal.main_arg1)
      ∧ r.2.mem ((c.tc : Thread Cert.PeerKernelIdeal.nD Cert.PeerKernelIdeal.τ).loc Cert.PeerKernelIdeal.main_arg2) = m ((c.tc : Thread Cert.PeerKernelIdeal.nD Cert.PeerKernelIdeal.τ).loc Cert.PeerKernelIdeal.main_arg2))
      ∧ r.2.sem = fun _ => 0)

def quiescent_PeerKernelIdeal_pre_finite_scores_peer [hPeerKernelIdeal : Cert.PeerKernelIdeal.Facts] [hPre_finite_scores_peer : Cert.Pre_finite_scores_peer.Facts] : Prop :=
  ∀ (m : (ℓ : Loc Cert.PeerKernelIdeal.nD Cert.PeerKernelIdeal.τ Cert.PeerKernelIdeal.sig) → Buf (Elt Ideal) ℓ) (g : Dev Cert.PeerKernelIdeal.nD → PrngReg), Pre_PeerKernelIdeal_finite_scores_peer m →
    θ_run (Cert.PeerKernelIdeal.defs (F := Ideal)) (onTc (τ := Cert.PeerKernelIdeal.τ) (Cert.PeerKernelIdeal.main (F := Ideal))) ⟨m, fun _ => 0, g⟩ (fun r => (∀ c : Dev Cert.PeerKernelIdeal.nD,
      r.2.mem ((c.tc : Thread Cert.PeerKernelIdeal.nD Cert.PeerKernelIdeal.τ).loc Cert.PeerKernelIdeal.main_arg0) = m ((c.tc : Thread Cert.PeerKernelIdeal.nD Cert.PeerKernelIdeal.τ).loc Cert.PeerKernelIdeal.main_arg0)
      ∧ r.2.mem ((c.tc : Thread Cert.PeerKernelIdeal.nD Cert.PeerKernelIdeal.τ).loc Cert.PeerKernelIdeal.main_arg1) = m ((c.tc : Thread Cert.PeerKernelIdeal.nD Cert.PeerKernelIdeal.τ).loc Cert.PeerKernelIdeal.main_arg1)
      ∧ r.2.mem ((c.tc : Thread Cert.PeerKernelIdeal.nD Cert.PeerKernelIdeal.τ).loc Cert.PeerKernelIdeal.main_arg2) = m ((c.tc : Thread Cert.PeerKernelIdeal.nD Cert.PeerKernelIdeal.τ).loc Cert.PeerKernelIdeal.main_arg2))
      ∧ r.2.sem = fun _ => 0)

def quiescent_PeerReferenceIdeal [hPeerReferenceIdeal : Cert.PeerReferenceIdeal.Facts] : Prop :=
  ∀ (m : (ℓ : Loc Cert.PeerReferenceIdeal.nD Cert.PeerReferenceIdeal.τ Cert.PeerReferenceIdeal.sig) → Buf (Elt Ideal) ℓ) (g : Dev Cert.PeerReferenceIdeal.nD → PrngReg), Pre_PeerReferenceIdeal m →
    θ_run (Cert.PeerReferenceIdeal.defs (F := Ideal)) (onTc (τ := Cert.PeerReferenceIdeal.τ) (Cert.PeerReferenceIdeal.main (F := Ideal))) ⟨m, fun _ => 0, g⟩ (fun r => (∀ c : Dev Cert.PeerReferenceIdeal.nD,
      r.2.mem ((c.tc : Thread Cert.PeerReferenceIdeal.nD Cert.PeerReferenceIdeal.τ).loc Cert.PeerReferenceIdeal.main_arg0) = m ((c.tc : Thread Cert.PeerReferenceIdeal.nD Cert.PeerReferenceIdeal.τ).loc Cert.PeerReferenceIdeal.main_arg0)
      ∧ r.2.mem ((c.tc : Thread Cert.PeerReferenceIdeal.nD Cert.PeerReferenceIdeal.τ).loc Cert.PeerReferenceIdeal.main_arg1) = m ((c.tc : Thread Cert.PeerReferenceIdeal.nD Cert.PeerReferenceIdeal.τ).loc Cert.PeerReferenceIdeal.main_arg1)
      ∧ r.2.mem ((c.tc : Thread Cert.PeerReferenceIdeal.nD Cert.PeerReferenceIdeal.τ).loc Cert.PeerReferenceIdeal.main_arg2) = m ((c.tc : Thread Cert.PeerReferenceIdeal.nD Cert.PeerReferenceIdeal.τ).loc Cert.PeerReferenceIdeal.main_arg2))
      ∧ r.2.sem = fun _ => 0)

def quiescent_PeerReferenceIdeal_pre_finite_scores_peer [hPeerReferenceIdeal : Cert.PeerReferenceIdeal.Facts] [hPre_finite_scores_peer : Cert.Pre_finite_scores_peer.Facts] : Prop :=
  ∀ (m : (ℓ : Loc Cert.PeerReferenceIdeal.nD Cert.PeerReferenceIdeal.τ Cert.PeerReferenceIdeal.sig) → Buf (Elt Ideal) ℓ) (g : Dev Cert.PeerReferenceIdeal.nD → PrngReg), Pre_PeerReferenceIdeal_finite_scores_peer m →
    θ_run (Cert.PeerReferenceIdeal.defs (F := Ideal)) (onTc (τ := Cert.PeerReferenceIdeal.τ) (Cert.PeerReferenceIdeal.main (F := Ideal))) ⟨m, fun _ => 0, g⟩ (fun r => (∀ c : Dev Cert.PeerReferenceIdeal.nD,
      r.2.mem ((c.tc : Thread Cert.PeerReferenceIdeal.nD Cert.PeerReferenceIdeal.τ).loc Cert.PeerReferenceIdeal.main_arg0) = m ((c.tc : Thread Cert.PeerReferenceIdeal.nD Cert.PeerReferenceIdeal.τ).loc Cert.PeerReferenceIdeal.main_arg0)
      ∧ r.2.mem ((c.tc : Thread Cert.PeerReferenceIdeal.nD Cert.PeerReferenceIdeal.τ).loc Cert.PeerReferenceIdeal.main_arg1) = m ((c.tc : Thread Cert.PeerReferenceIdeal.nD Cert.PeerReferenceIdeal.τ).loc Cert.PeerReferenceIdeal.main_arg1)
      ∧ r.2.mem ((c.tc : Thread Cert.PeerReferenceIdeal.nD Cert.PeerReferenceIdeal.τ).loc Cert.PeerReferenceIdeal.main_arg2) = m ((c.tc : Thread Cert.PeerReferenceIdeal.nD Cert.PeerReferenceIdeal.τ).loc Cert.PeerReferenceIdeal.main_arg2))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7)
      ∧ r.2.mem ((c.tc : Thread Cert.MlaReferenceIdeal.nD Cert.MlaReferenceIdeal.τ).loc Cert.MlaReferenceIdeal.main_arg8) = m ((c.tc : Thread Cert.MlaReferenceIdeal.nD Cert.MlaReferenceIdeal.τ).loc Cert.MlaReferenceIdeal.main_arg8))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxKernelIdeal_pre_finite_scores_ctx [hCtxKernelIdeal : Cert.CtxKernelIdeal.Facts] [hPre_finite_scores_ctx : Cert.Pre_finite_scores_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal_finite_scores_ctx m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_CtxReferenceIdeal_pre_finite_scores_ctx [hCtxReferenceIdeal : Cert.CtxReferenceIdeal.Facts] [hPre_finite_scores_ctx : Cert.Pre_finite_scores_ctx.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_scores_ctx m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2))
      ∧ r.2.sem = fun _ => 0)

def quiescent_SinkKernel [hSinkKernel : Cert.SinkKernel.Facts] : Prop :=
  ∀ (m : (ℓ : Loc Cert.SinkKernel.nD Cert.SinkKernel.τ Cert.SinkKernel.sig) → Buf (Elt Bits) ℓ) (g : Dev Cert.SinkKernel.nD → PrngReg), Pre_SinkKernel m →
    θ_run (Cert.SinkKernel.defs (F := Bits)) (onTc (τ := Cert.SinkKernel.τ) (Cert.SinkKernel.main (F := Bits))) ⟨m, fun _ => 0, g⟩ (fun r => (∀ c : Dev Cert.SinkKernel.nD,
      r.2.mem ((c.tc : Thread Cert.SinkKernel.nD Cert.SinkKernel.τ).loc Cert.SinkKernel.main_arg0) = m ((c.tc : Thread Cert.SinkKernel.nD Cert.SinkKernel.τ).loc Cert.SinkKernel.main_arg0)
      ∧ r.2.mem ((c.tc : Thread Cert.SinkKernel.nD Cert.SinkKernel.τ).loc Cert.SinkKernel.main_arg1) = m ((c.tc : Thread Cert.SinkKernel.nD Cert.SinkKernel.τ).loc Cert.SinkKernel.main_arg1)
      ∧ r.2.mem ((c.tc : Thread Cert.SinkKernel.nD Cert.SinkKernel.τ).loc Cert.SinkKernel.main_arg2) = m ((c.tc : Thread Cert.SinkKernel.nD Cert.SinkKernel.τ).loc Cert.SinkKernel.main_arg2)
      ∧ r.2.mem ((c.tc : Thread Cert.SinkKernel.nD Cert.SinkKernel.τ).loc Cert.SinkKernel.main_arg3) = m ((c.tc : Thread Cert.SinkKernel.nD Cert.SinkKernel.τ).loc Cert.SinkKernel.main_arg3))
      ∧ r.2.sem = fun _ => 0)

def quiescent_SinkKernelIdeal [hSinkKernelIdeal : Cert.SinkKernelIdeal.Facts] : Prop :=
  ∀ (m : (ℓ : Loc Cert.SinkKernelIdeal.nD Cert.SinkKernelIdeal.τ Cert.SinkKernelIdeal.sig) → Buf (Elt Ideal) ℓ) (g : Dev Cert.SinkKernelIdeal.nD → PrngReg), Pre_SinkKernelIdeal m →
    θ_run (Cert.SinkKernelIdeal.defs (F := Ideal)) (onTc (τ := Cert.SinkKernelIdeal.τ) (Cert.SinkKernelIdeal.main (F := Ideal))) ⟨m, fun _ => 0, g⟩ (fun r => (∀ c : Dev Cert.SinkKernelIdeal.nD,
      r.2.mem ((c.tc : Thread Cert.SinkKernelIdeal.nD Cert.SinkKernelIdeal.τ).loc Cert.SinkKernelIdeal.main_arg0) = m ((c.tc : Thread Cert.SinkKernelIdeal.nD Cert.SinkKernelIdeal.τ).loc Cert.SinkKernelIdeal.main_arg0)
      ∧ r.2.mem ((c.tc : Thread Cert.SinkKernelIdeal.nD Cert.SinkKernelIdeal.τ).loc Cert.SinkKernelIdeal.main_arg1) = m ((c.tc : Thread Cert.SinkKernelIdeal.nD Cert.SinkKernelIdeal.τ).loc Cert.SinkKernelIdeal.main_arg1)
      ∧ r.2.mem ((c.tc : Thread Cert.SinkKernelIdeal.nD Cert.SinkKernelIdeal.τ).loc Cert.SinkKernelIdeal.main_arg2) = m ((c.tc : Thread Cert.SinkKernelIdeal.nD Cert.SinkKernelIdeal.τ).loc Cert.SinkKernelIdeal.main_arg2)
      ∧ r.2.mem ((c.tc : Thread Cert.SinkKernelIdeal.nD Cert.SinkKernelIdeal.τ).loc Cert.SinkKernelIdeal.main_arg3) = m ((c.tc : Thread Cert.SinkKernelIdeal.nD Cert.SinkKernelIdeal.τ).loc Cert.SinkKernelIdeal.main_arg3))
      ∧ r.2.sem = fun _ => 0)

def quiescent_SinkKernelIdeal_pre_finite_scores_sink [hSinkKernelIdeal : Cert.SinkKernelIdeal.Facts] [hPre_finite_scores_sink : Cert.Pre_finite_scores_sink.Facts] : Prop :=
  ∀ (m : (ℓ : Loc Cert.SinkKernelIdeal.nD Cert.SinkKernelIdeal.τ Cert.SinkKernelIdeal.sig) → Buf (Elt Ideal) ℓ) (g : Dev Cert.SinkKernelIdeal.nD → PrngReg), Pre_SinkKernelIdeal_finite_scores_sink m →
    θ_run (Cert.SinkKernelIdeal.defs (F := Ideal)) (onTc (τ := Cert.SinkKernelIdeal.τ) (Cert.SinkKernelIdeal.main (F := Ideal))) ⟨m, fun _ => 0, g⟩ (fun r => (∀ c : Dev Cert.SinkKernelIdeal.nD,
      r.2.mem ((c.tc : Thread Cert.SinkKernelIdeal.nD Cert.SinkKernelIdeal.τ).loc Cert.SinkKernelIdeal.main_arg0) = m ((c.tc : Thread Cert.SinkKernelIdeal.nD Cert.SinkKernelIdeal.τ).loc Cert.SinkKernelIdeal.main_arg0)
      ∧ r.2.mem ((c.tc : Thread Cert.SinkKernelIdeal.nD Cert.SinkKernelIdeal.τ).loc Cert.SinkKernelIdeal.main_arg1) = m ((c.tc : Thread Cert.SinkKernelIdeal.nD Cert.SinkKernelIdeal.τ).loc Cert.SinkKernelIdeal.main_arg1)
      ∧ r.2.mem ((c.tc : Thread Cert.SinkKernelIdeal.nD Cert.SinkKernelIdeal.τ).loc Cert.SinkKernelIdeal.main_arg2) = m ((c.tc : Thread Cert.SinkKernelIdeal.nD Cert.SinkKernelIdeal.τ).loc Cert.SinkKernelIdeal.main_arg2)
      ∧ r.2.mem ((c.tc : Thread Cert.SinkKernelIdeal.nD Cert.SinkKernelIdeal.τ).loc Cert.SinkKernelIdeal.main_arg3) = m ((c.tc : Thread Cert.SinkKernelIdeal.nD Cert.SinkKernelIdeal.τ).loc Cert.SinkKernelIdeal.main_arg3))
      ∧ r.2.sem = fun _ => 0)

def quiescent_SinkReferenceIdeal [hSinkReferenceIdeal : Cert.SinkReferenceIdeal.Facts] : Prop :=
  ∀ (m : (ℓ : Loc Cert.SinkReferenceIdeal.nD Cert.SinkReferenceIdeal.τ Cert.SinkReferenceIdeal.sig) → Buf (Elt Ideal) ℓ) (g : Dev Cert.SinkReferenceIdeal.nD → PrngReg), Pre_SinkReferenceIdeal m →
    θ_run (Cert.SinkReferenceIdeal.defs (F := Ideal)) (onTc (τ := Cert.SinkReferenceIdeal.τ) (Cert.SinkReferenceIdeal.main (F := Ideal))) ⟨m, fun _ => 0, g⟩ (fun r => (∀ c : Dev Cert.SinkReferenceIdeal.nD,
      r.2.mem ((c.tc : Thread Cert.SinkReferenceIdeal.nD Cert.SinkReferenceIdeal.τ).loc Cert.SinkReferenceIdeal.main_arg0) = m ((c.tc : Thread Cert.SinkReferenceIdeal.nD Cert.SinkReferenceIdeal.τ).loc Cert.SinkReferenceIdeal.main_arg0)
      ∧ r.2.mem ((c.tc : Thread Cert.SinkReferenceIdeal.nD Cert.SinkReferenceIdeal.τ).loc Cert.SinkReferenceIdeal.main_arg1) = m ((c.tc : Thread Cert.SinkReferenceIdeal.nD Cert.SinkReferenceIdeal.τ).loc Cert.SinkReferenceIdeal.main_arg1)
      ∧ r.2.mem ((c.tc : Thread Cert.SinkReferenceIdeal.nD Cert.SinkReferenceIdeal.τ).loc Cert.SinkReferenceIdeal.main_arg2) = m ((c.tc : Thread Cert.SinkReferenceIdeal.nD Cert.SinkReferenceIdeal.τ).loc Cert.SinkReferenceIdeal.main_arg2)
      ∧ r.2.mem ((c.tc : Thread Cert.SinkReferenceIdeal.nD Cert.SinkReferenceIdeal.τ).loc Cert.SinkReferenceIdeal.main_arg3) = m ((c.tc : Thread Cert.SinkReferenceIdeal.nD Cert.SinkReferenceIdeal.τ).loc Cert.SinkReferenceIdeal.main_arg3))
      ∧ r.2.sem = fun _ => 0)

def quiescent_SinkReferenceIdeal_pre_finite_scores_sink [hSinkReferenceIdeal : Cert.SinkReferenceIdeal.Facts] [hPre_finite_scores_sink : Cert.Pre_finite_scores_sink.Facts] : Prop :=
  ∀ (m : (ℓ : Loc Cert.SinkReferenceIdeal.nD Cert.SinkReferenceIdeal.τ Cert.SinkReferenceIdeal.sig) → Buf (Elt Ideal) ℓ) (g : Dev Cert.SinkReferenceIdeal.nD → PrngReg), Pre_SinkReferenceIdeal_finite_scores_sink m →
    θ_run (Cert.SinkReferenceIdeal.defs (F := Ideal)) (onTc (τ := Cert.SinkReferenceIdeal.τ) (Cert.SinkReferenceIdeal.main (F := Ideal))) ⟨m, fun _ => 0, g⟩ (fun r => (∀ c : Dev Cert.SinkReferenceIdeal.nD,
      r.2.mem ((c.tc : Thread Cert.SinkReferenceIdeal.nD Cert.SinkReferenceIdeal.τ).loc Cert.SinkReferenceIdeal.main_arg0) = m ((c.tc : Thread Cert.SinkReferenceIdeal.nD Cert.SinkReferenceIdeal.τ).loc Cert.SinkReferenceIdeal.main_arg0)
      ∧ r.2.mem ((c.tc : Thread Cert.SinkReferenceIdeal.nD Cert.SinkReferenceIdeal.τ).loc Cert.SinkReferenceIdeal.main_arg1) = m ((c.tc : Thread Cert.SinkReferenceIdeal.nD Cert.SinkReferenceIdeal.τ).loc Cert.SinkReferenceIdeal.main_arg1)
      ∧ r.2.mem ((c.tc : Thread Cert.SinkReferenceIdeal.nD Cert.SinkReferenceIdeal.τ).loc Cert.SinkReferenceIdeal.main_arg2) = m ((c.tc : Thread Cert.SinkReferenceIdeal.nD Cert.SinkReferenceIdeal.τ).loc Cert.SinkReferenceIdeal.main_arg2)
      ∧ r.2.mem ((c.tc : Thread Cert.SinkReferenceIdeal.nD Cert.SinkReferenceIdeal.τ).loc Cert.SinkReferenceIdeal.main_arg3) = m ((c.tc : Thread Cert.SinkReferenceIdeal.nD Cert.SinkReferenceIdeal.τ).loc Cert.SinkReferenceIdeal.main_arg3))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v34_0)) (v1 : (c : Dev Cert.InKernelIdeal.nD) → Buf (Elt Ideal) ((c.tc : Thread Cert.InKernelIdeal.nD Cert.InKernelIdeal.τ).loc Cert.InKernelIdeal.main_v34_1)) (v2 : (c : Dev Cert.InKernelIdeal.nD) → Buf (Elt Ideal) ((c.tc : Thread Cert.InKernelIdeal.nD Cert.InKernelIdeal.τ).loc Cert.InKernelIdeal.main_v34_2)) (v3 : (c : Dev Cert.InKernelIdeal.nD) → Buf (Elt Ideal) ((c.tc : Thread Cert.InKernelIdeal.nD Cert.InKernelIdeal.τ).loc Cert.InKernelIdeal.main_v34_3)) (v4 : (c : Dev Cert.InKernelIdeal.nD) → Buf (Elt Ideal) ((c.tc : Thread Cert.InKernelIdeal.nD Cert.InKernelIdeal.τ).loc Cert.InKernelIdeal.main_v34_4)) (v5 : (c : Dev Cert.InKernelIdeal.nD) → Buf (Elt Ideal) ((c.tc : Thread Cert.InKernelIdeal.nD Cert.InKernelIdeal.τ).loc Cert.InKernelIdeal.main_v34_5)) (v6 : (c : Dev Cert.InKernelIdeal.nD) → Buf (Elt Ideal) ((c.tc : Thread Cert.InKernelIdeal.nD Cert.InKernelIdeal.τ).loc Cert.InKernelIdeal.main_v34_6)) (v7 : (c : Dev Cert.InKernelIdeal.nD) → Buf (Elt Ideal) ((c.tc : Thread Cert.InKernelIdeal.nD Cert.InKernelIdeal.τ).loc Cert.InKernelIdeal.main_v34_7)) (v8 : (c : Dev Cert.InKernelIdeal.nD) → Buf (Elt Ideal) ((c.tc : Thread Cert.InKernelIdeal.nD Cert.InKernelIdeal.τ).loc Cert.InKernelIdeal.main_v34_8)) (v9 : (c : Dev Cert.InKernelIdeal.nD) → Buf (Elt Ideal) ((c.tc : Thread Cert.InKernelIdeal.nD Cert.InKernelIdeal.τ).loc Cert.InKernelIdeal.main_v34_9)) (v10 : (c : Dev Cert.InKernelIdeal.nD) → Buf (Elt Ideal) ((c.tc : Thread Cert.InKernelIdeal.nD Cert.InKernelIdeal.τ).loc Cert.InKernelIdeal.main_v34_10)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v34_0) = v0 c
          ∧ r.2.mem ((c.tc : Thread Cert.InKernelIdeal.nD Cert.InKernelIdeal.τ).loc Cert.InKernelIdeal.main_v34_1) = v1 c
          ∧ r.2.mem ((c.tc : Thread Cert.InKernelIdeal.nD Cert.InKernelIdeal.τ).loc Cert.InKernelIdeal.main_v34_2) = v2 c
          ∧ r.2.mem ((c.tc : Thread Cert.InKernelIdeal.nD Cert.InKernelIdeal.τ).loc Cert.InKernelIdeal.main_v34_3) = v3 c
          ∧ r.2.mem ((c.tc : Thread Cert.InKernelIdeal.nD Cert.InKernelIdeal.τ).loc Cert.InKernelIdeal.main_v34_4) = v4 c
          ∧ r.2.mem ((c.tc : Thread Cert.InKernelIdeal.nD Cert.InKernelIdeal.τ).loc Cert.InKernelIdeal.main_v34_5) = v5 c
          ∧ r.2.mem ((c.tc : Thread Cert.InKernelIdeal.nD Cert.InKernelIdeal.τ).loc Cert.InKernelIdeal.main_v34_6) = v6 c
          ∧ r.2.mem ((c.tc : Thread Cert.InKernelIdeal.nD Cert.InKernelIdeal.τ).loc Cert.InKernelIdeal.main_v34_7) = v7 c
          ∧ r.2.mem ((c.tc : Thread Cert.InKernelIdeal.nD Cert.InKernelIdeal.τ).loc Cert.InKernelIdeal.main_v34_8) = v8 c
          ∧ r.2.mem ((c.tc : Thread Cert.InKernelIdeal.nD Cert.InKernelIdeal.τ).loc Cert.InKernelIdeal.main_v34_9) = v9 c
          ∧ r.2.mem ((c.tc : Thread Cert.InKernelIdeal.nD Cert.InKernelIdeal.τ).loc Cert.InKernelIdeal.main_v34_10) = v10 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v35) = v0 c
          ∧ r.2.mem ((c.tc : Thread Cert.InReferenceIdeal.nD Cert.InReferenceIdeal.τ).loc Cert.InReferenceIdeal.main_v37) = v1 c
          ∧ r.2.mem ((c.tc : Thread Cert.InReferenceIdeal.nD Cert.InReferenceIdeal.τ).loc Cert.InReferenceIdeal.main_v39) = v2 c
          ∧ r.2.mem ((c.tc : Thread Cert.InReferenceIdeal.nD Cert.InReferenceIdeal.τ).loc Cert.InReferenceIdeal.main_v40) = v3 c
          ∧ r.2.mem ((c.tc : Thread Cert.InReferenceIdeal.nD Cert.InReferenceIdeal.τ).loc Cert.InReferenceIdeal.main_v42) = v4 c
          ∧ r.2.mem ((c.tc : Thread Cert.InReferenceIdeal.nD Cert.InReferenceIdeal.τ).loc Cert.InReferenceIdeal.main_v43) = v5 c
          ∧ r.2.mem ((c.tc : Thread Cert.InReferenceIdeal.nD Cert.InReferenceIdeal.τ).loc Cert.InReferenceIdeal.main_v44) = v6 c
          ∧ r.2.mem ((c.tc : Thread Cert.InReferenceIdeal.nD Cert.InReferenceIdeal.τ).loc Cert.InReferenceIdeal.main_v45) = v7 c
          ∧ r.2.mem ((c.tc : Thread Cert.InReferenceIdeal.nD Cert.InReferenceIdeal.τ).loc Cert.InReferenceIdeal.main_v46) = v8 c
          ∧ r.2.mem ((c.tc : Thread Cert.InReferenceIdeal.nD Cert.InReferenceIdeal.τ).loc Cert.InReferenceIdeal.main_v47) = v9 c
          ∧ r.2.mem ((c.tc : Thread Cert.InReferenceIdeal.nD Cert.InReferenceIdeal.τ).loc Cert.InReferenceIdeal.main_v49) = v10 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)
      ∧ m' ((c.tc : Thread Cert.OutReferenceIdeal.nD Cert.OutReferenceIdeal.τ).loc Cert.OutReferenceIdeal.main_arg10) = m ((c.tc : Thread Cert.OutKernelIdeal.nD Cert.OutKernelIdeal.τ).loc Cert.OutKernelIdeal.main_arg10)) →
    ∃ (v0 : (c : Dev Cert.OutKernelIdeal.nD) → Buf (Elt Ideal) ((c.tc : Thread Cert.OutKernelIdeal.nD Cert.OutKernelIdeal.τ).loc Cert.OutKernelIdeal.main_v16_0)) (v1 : (c : Dev Cert.OutKernelIdeal.nD) → Buf (Elt Ideal) ((c.tc : Thread Cert.OutKernelIdeal.nD Cert.OutKernelIdeal.τ).loc Cert.OutKernelIdeal.main_v16_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v16_0) = v0 c
          ∧ r.2.mem ((c.tc : Thread Cert.OutKernelIdeal.nD Cert.OutKernelIdeal.τ).loc Cert.OutKernelIdeal.main_v16_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
          ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v34) = v0 c
          ∧ r.2.mem ((c.tc : Thread Cert.OutReferenceIdeal.nD Cert.OutReferenceIdeal.τ).loc Cert.OutReferenceIdeal.main_v35) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10))

def preserves_PeerKernel_PeerKernelIdeal : Prop :=
  True

def algebraic_PeerKernelIdeal_PeerReferenceIdeal_pre_finite_scores_peer [hPeerKernelIdeal : Cert.PeerKernelIdeal.Facts] [hPeerReferenceIdeal : Cert.PeerReferenceIdeal.Facts] [hPre_finite_scores_peer : Cert.Pre_finite_scores_peer.Facts] : Prop :=
  ∀ (m : (ℓ : Loc Cert.PeerKernelIdeal.nD Cert.PeerKernelIdeal.τ Cert.PeerKernelIdeal.sig) → Buf (Elt Ideal) ℓ) (g : Dev Cert.PeerKernelIdeal.nD → PrngReg)
    (m' : (ℓ : Loc Cert.PeerReferenceIdeal.nD Cert.PeerReferenceIdeal.τ Cert.PeerReferenceIdeal.sig) → Buf (Elt Ideal) ℓ) (g' : Dev Cert.PeerReferenceIdeal.nD → PrngReg), Pre_PeerKernelIdeal_finite_scores_peer m →
    (∀ c : Dev Cert.PeerKernelIdeal.nD,
      m' ((c.tc : Thread Cert.PeerReferenceIdeal.nD Cert.PeerReferenceIdeal.τ).loc Cert.PeerReferenceIdeal.main_arg0) = m ((c.tc : Thread Cert.PeerKernelIdeal.nD Cert.PeerKernelIdeal.τ).loc Cert.PeerKernelIdeal.main_arg0)
      ∧ m' ((c.tc : Thread Cert.PeerReferenceIdeal.nD Cert.PeerReferenceIdeal.τ).loc Cert.PeerReferenceIdeal.main_arg1) = m ((c.tc : Thread Cert.PeerKernelIdeal.nD Cert.PeerKernelIdeal.τ).loc Cert.PeerKernelIdeal.main_arg1)
      ∧ m' ((c.tc : Thread Cert.PeerReferenceIdeal.nD Cert.PeerReferenceIdeal.τ).loc Cert.PeerReferenceIdeal.main_arg2) = m ((c.tc : Thread Cert.PeerKernelIdeal.nD Cert.PeerKernelIdeal.τ).loc Cert.PeerKernelIdeal.main_arg2)) →
    ∃ (v0 : (c : Dev Cert.PeerKernelIdeal.nD) → Buf (Elt Ideal) ((c.tc : Thread Cert.PeerKernelIdeal.nD Cert.PeerKernelIdeal.τ).loc Cert.PeerKernelIdeal.main_v2_0)) (v1 : (c : Dev Cert.PeerKernelIdeal.nD) → Buf (Elt Ideal) ((c.tc : Thread Cert.PeerKernelIdeal.nD Cert.PeerKernelIdeal.τ).loc Cert.PeerKernelIdeal.main_v2_1)),
      θ_run (Cert.PeerKernelIdeal.defs (F := Ideal)) (onTc (τ := Cert.PeerKernelIdeal.τ) (Cert.PeerKernelIdeal.main (F := Ideal))) ⟨m, fun _ => 0, g⟩ (fun r => ∀ c : Dev Cert.PeerKernelIdeal.nD,
          r.2.mem ((c.tc : Thread Cert.PeerKernelIdeal.nD Cert.PeerKernelIdeal.τ).loc Cert.PeerKernelIdeal.main_v2_0) = v0 c
          ∧ r.2.mem ((c.tc : Thread Cert.PeerKernelIdeal.nD Cert.PeerKernelIdeal.τ).loc Cert.PeerKernelIdeal.main_v2_1) = v1 c
          ∧ r.2.mem ((c.tc : Thread Cert.PeerKernelIdeal.nD Cert.PeerKernelIdeal.τ).loc Cert.PeerKernelIdeal.main_arg0) = m ((c.tc : Thread Cert.PeerKernelIdeal.nD Cert.PeerKernelIdeal.τ).loc Cert.PeerKernelIdeal.main_arg0)
          ∧ r.2.mem ((c.tc : Thread Cert.PeerKernelIdeal.nD Cert.PeerKernelIdeal.τ).loc Cert.PeerKernelIdeal.main_arg1) = m ((c.tc : Thread Cert.PeerKernelIdeal.nD Cert.PeerKernelIdeal.τ).loc Cert.PeerKernelIdeal.main_arg1)
          ∧ r.2.mem ((c.tc : Thread Cert.PeerKernelIdeal.nD Cert.PeerKernelIdeal.τ).loc Cert.PeerKernelIdeal.main_arg2) = m ((c.tc : Thread Cert.PeerKernelIdeal.nD Cert.PeerKernelIdeal.τ).loc Cert.PeerKernelIdeal.main_arg2))
      ∧ θ_run (Cert.PeerReferenceIdeal.defs (F := Ideal)) (onTc (τ := Cert.PeerReferenceIdeal.τ) (Cert.PeerReferenceIdeal.main (F := Ideal))) ⟨m', fun _ => 0, g'⟩ (fun r => ∀ c : Dev Cert.PeerReferenceIdeal.nD,
          r.2.mem ((c.tc : Thread Cert.PeerReferenceIdeal.nD Cert.PeerReferenceIdeal.τ).loc Cert.PeerReferenceIdeal.main_v38) = v0 c
          ∧ r.2.mem ((c.tc : Thread Cert.PeerReferenceIdeal.nD Cert.PeerReferenceIdeal.τ).loc Cert.PeerReferenceIdeal.main_v39) = v1 c
          ∧ r.2.mem ((c.tc : Thread Cert.PeerReferenceIdeal.nD Cert.PeerReferenceIdeal.τ).loc Cert.PeerReferenceIdeal.main_arg0) = m' ((c.tc : Thread Cert.PeerReferenceIdeal.nD Cert.PeerReferenceIdeal.τ).loc Cert.PeerReferenceIdeal.main_arg0)
          ∧ r.2.mem ((c.tc : Thread Cert.PeerReferenceIdeal.nD Cert.PeerReferenceIdeal.τ).loc Cert.PeerReferenceIdeal.main_arg1) = m' ((c.tc : Thread Cert.PeerReferenceIdeal.nD Cert.PeerReferenceIdeal.τ).loc Cert.PeerReferenceIdeal.main_arg1)
          ∧ r.2.mem ((c.tc : Thread Cert.PeerReferenceIdeal.nD Cert.PeerReferenceIdeal.τ).loc Cert.PeerReferenceIdeal.main_arg2) = m' ((c.tc : Thread Cert.PeerReferenceIdeal.nD Cert.PeerReferenceIdeal.τ).loc Cert.PeerReferenceIdeal.main_arg2))

def preserves_MlaKernel_MlaKernelIdeal : Prop :=
  True

def algebraic_MlaKernelIdeal_MlaReferenceIdeal [hMlaKernelIdeal : Cert.MlaKernelIdeal.Facts] [hMlaReferenceIdeal : Cert.MlaReferenceIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)
      ∧ m' ((c.tc : Thread Cert.MlaReferenceIdeal.nD Cert.MlaReferenceIdeal.τ).loc Cert.MlaReferenceIdeal.main_arg8) = m ((c.tc : Thread Cert.MlaKernelIdeal.nD Cert.MlaKernelIdeal.τ).loc Cert.MlaKernelIdeal.main_arg8)) →
    ∃ (v0 : (c : Dev Cert.MlaKernelIdeal.nD) → Buf (Elt Ideal) ((c.tc : Thread Cert.MlaKernelIdeal.nD Cert.MlaKernelIdeal.τ).loc Cert.MlaKernelIdeal.main_v49_0)) (v1 : (c : Dev Cert.MlaKernelIdeal.nD) → Buf (Elt Ideal) ((c.tc : Thread Cert.MlaKernelIdeal.nD Cert.MlaKernelIdeal.τ).loc Cert.MlaKernelIdeal.main_v49_1)) (v2 : (c : Dev Cert.MlaKernelIdeal.nD) → Buf (Elt Ideal) ((c.tc : Thread Cert.MlaKernelIdeal.nD Cert.MlaKernelIdeal.τ).loc Cert.MlaKernelIdeal.main_v49_2)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v49_0) = v0 c
          ∧ r.2.mem ((c.tc : Thread Cert.MlaKernelIdeal.nD Cert.MlaKernelIdeal.τ).loc Cert.MlaKernelIdeal.main_v49_1) = v1 c
          ∧ r.2.mem ((c.tc : Thread Cert.MlaKernelIdeal.nD Cert.MlaKernelIdeal.τ).loc Cert.MlaKernelIdeal.main_v49_2) = v2 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v118) = v0 c
          ∧ r.2.mem ((c.tc : Thread Cert.MlaReferenceIdeal.nD Cert.MlaReferenceIdeal.τ).loc Cert.MlaReferenceIdeal.main_v122) = v1 c
          ∧ r.2.mem ((c.tc : Thread Cert.MlaReferenceIdeal.nD Cert.MlaReferenceIdeal.τ).loc Cert.MlaReferenceIdeal.main_v126) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7)
          ∧ r.2.mem ((c.tc : Thread Cert.MlaReferenceIdeal.nD Cert.MlaReferenceIdeal.τ).loc Cert.MlaReferenceIdeal.main_arg8) = m' ((c.tc : Thread Cert.MlaReferenceIdeal.nD Cert.MlaReferenceIdeal.τ).loc Cert.MlaReferenceIdeal.main_arg8))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)) →
    ∃ (v0 : (c : Dev Cert.FinalKernelIdeal.nD) → Buf (Elt Ideal) ((c.tc : Thread Cert.FinalKernelIdeal.nD Cert.FinalKernelIdeal.τ).loc Cert.FinalKernelIdeal.main_v2)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v2) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v13) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)) →
    ∃ (v0 : (c : Dev Cert.AdaKernelIdeal.nD) → Buf (Elt Ideal) ((c.tc : Thread Cert.AdaKernelIdeal.nD Cert.AdaKernelIdeal.τ).loc Cert.AdaKernelIdeal.main_v4)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v4) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v10) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def preserves_CtxKernel_CtxKernelIdeal : Prop :=
  True

def algebraic_CtxKernelIdeal_CtxReferenceIdeal_pre_finite_scores_ctx [hCtxKernelIdeal : Cert.CtxKernelIdeal.Facts] [hCtxReferenceIdeal : Cert.CtxReferenceIdeal.Facts] [hPre_finite_scores_ctx : Cert.Pre_finite_scores_ctx.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal_finite_scores_ctx m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)) →
    ∃ (v0 : (c : Dev Cert.CtxKernelIdeal.nD) → Buf (Elt Ideal) ((c.tc : Thread Cert.CtxKernelIdeal.nD Cert.CtxKernelIdeal.τ).loc Cert.CtxKernelIdeal.main_v8)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v8) = v0 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v16) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2))

def preserves_SinkKernel_SinkKernelIdeal : Prop :=
  True

def algebraic_SinkKernelIdeal_SinkReferenceIdeal_pre_finite_scores_sink [hSinkKernelIdeal : Cert.SinkKernelIdeal.Facts] [hSinkReferenceIdeal : Cert.SinkReferenceIdeal.Facts] [hPre_finite_scores_sink : Cert.Pre_finite_scores_sink.Facts] : Prop :=
  ∀ (m : (ℓ : Loc Cert.SinkKernelIdeal.nD Cert.SinkKernelIdeal.τ Cert.SinkKernelIdeal.sig) → Buf (Elt Ideal) ℓ) (g : Dev Cert.SinkKernelIdeal.nD → PrngReg)
    (m' : (ℓ : Loc Cert.SinkReferenceIdeal.nD Cert.SinkReferenceIdeal.τ Cert.SinkReferenceIdeal.sig) → Buf (Elt Ideal) ℓ) (g' : Dev Cert.SinkReferenceIdeal.nD → PrngReg), Pre_SinkKernelIdeal_finite_scores_sink m →
    (∀ c : Dev Cert.SinkKernelIdeal.nD,
      m' ((c.tc : Thread Cert.SinkReferenceIdeal.nD Cert.SinkReferenceIdeal.τ).loc Cert.SinkReferenceIdeal.main_arg0) = m ((c.tc : Thread Cert.SinkKernelIdeal.nD Cert.SinkKernelIdeal.τ).loc Cert.SinkKernelIdeal.main_arg0)
      ∧ m' ((c.tc : Thread Cert.SinkReferenceIdeal.nD Cert.SinkReferenceIdeal.τ).loc Cert.SinkReferenceIdeal.main_arg1) = m ((c.tc : Thread Cert.SinkKernelIdeal.nD Cert.SinkKernelIdeal.τ).loc Cert.SinkKernelIdeal.main_arg1)
      ∧ m' ((c.tc : Thread Cert.SinkReferenceIdeal.nD Cert.SinkReferenceIdeal.τ).loc Cert.SinkReferenceIdeal.main_arg2) = m ((c.tc : Thread Cert.SinkKernelIdeal.nD Cert.SinkKernelIdeal.τ).loc Cert.SinkKernelIdeal.main_arg2)
      ∧ m' ((c.tc : Thread Cert.SinkReferenceIdeal.nD Cert.SinkReferenceIdeal.τ).loc Cert.SinkReferenceIdeal.main_arg3) = m ((c.tc : Thread Cert.SinkKernelIdeal.nD Cert.SinkKernelIdeal.τ).loc Cert.SinkKernelIdeal.main_arg3)) →
    ∃ (v0 : (c : Dev Cert.SinkKernelIdeal.nD) → Buf (Elt Ideal) ((c.tc : Thread Cert.SinkKernelIdeal.nD Cert.SinkKernelIdeal.τ).loc Cert.SinkKernelIdeal.main_v7)),
      θ_run (Cert.SinkKernelIdeal.defs (F := Ideal)) (onTc (τ := Cert.SinkKernelIdeal.τ) (Cert.SinkKernelIdeal.main (F := Ideal))) ⟨m, fun _ => 0, g⟩ (fun r => ∀ c : Dev Cert.SinkKernelIdeal.nD,
          r.2.mem ((c.tc : Thread Cert.SinkKernelIdeal.nD Cert.SinkKernelIdeal.τ).loc Cert.SinkKernelIdeal.main_v7) = v0 c
          ∧ r.2.mem ((c.tc : Thread Cert.SinkKernelIdeal.nD Cert.SinkKernelIdeal.τ).loc Cert.SinkKernelIdeal.main_arg0) = m ((c.tc : Thread Cert.SinkKernelIdeal.nD Cert.SinkKernelIdeal.τ).loc Cert.SinkKernelIdeal.main_arg0)
          ∧ r.2.mem ((c.tc : Thread Cert.SinkKernelIdeal.nD Cert.SinkKernelIdeal.τ).loc Cert.SinkKernelIdeal.main_arg1) = m ((c.tc : Thread Cert.SinkKernelIdeal.nD Cert.SinkKernelIdeal.τ).loc Cert.SinkKernelIdeal.main_arg1)
          ∧ r.2.mem ((c.tc : Thread Cert.SinkKernelIdeal.nD Cert.SinkKernelIdeal.τ).loc Cert.SinkKernelIdeal.main_arg2) = m ((c.tc : Thread Cert.SinkKernelIdeal.nD Cert.SinkKernelIdeal.τ).loc Cert.SinkKernelIdeal.main_arg2)
          ∧ r.2.mem ((c.tc : Thread Cert.SinkKernelIdeal.nD Cert.SinkKernelIdeal.τ).loc Cert.SinkKernelIdeal.main_arg3) = m ((c.tc : Thread Cert.SinkKernelIdeal.nD Cert.SinkKernelIdeal.τ).loc Cert.SinkKernelIdeal.main_arg3))
      ∧ θ_run (Cert.SinkReferenceIdeal.defs (F := Ideal)) (onTc (τ := Cert.SinkReferenceIdeal.τ) (Cert.SinkReferenceIdeal.main (F := Ideal))) ⟨m', fun _ => 0, g'⟩ (fun r => ∀ c : Dev Cert.SinkReferenceIdeal.nD,
          r.2.mem ((c.tc : Thread Cert.SinkReferenceIdeal.nD Cert.SinkReferenceIdeal.τ).loc Cert.SinkReferenceIdeal.main_v24) = v0 c
          ∧ r.2.mem ((c.tc : Thread Cert.SinkReferenceIdeal.nD Cert.SinkReferenceIdeal.τ).loc Cert.SinkReferenceIdeal.main_arg0) = m' ((c.tc : Thread Cert.SinkReferenceIdeal.nD Cert.SinkReferenceIdeal.τ).loc Cert.SinkReferenceIdeal.main_arg0)
          ∧ r.2.mem ((c.tc : Thread Cert.SinkReferenceIdeal.nD Cert.SinkReferenceIdeal.τ).loc Cert.SinkReferenceIdeal.main_arg1) = m' ((c.tc : Thread Cert.SinkReferenceIdeal.nD Cert.SinkReferenceIdeal.τ).loc Cert.SinkReferenceIdeal.main_arg1)
          ∧ r.2.mem ((c.tc : Thread Cert.SinkReferenceIdeal.nD Cert.SinkReferenceIdeal.τ).loc Cert.SinkReferenceIdeal.main_arg2) = m' ((c.tc : Thread Cert.SinkReferenceIdeal.nD Cert.SinkReferenceIdeal.τ).loc Cert.SinkReferenceIdeal.main_arg2)
          ∧ r.2.mem ((c.tc : Thread Cert.SinkReferenceIdeal.nD Cert.SinkReferenceIdeal.τ).loc Cert.SinkReferenceIdeal.main_arg3) = m' ((c.tc : Thread Cert.SinkReferenceIdeal.nD Cert.SinkReferenceIdeal.τ).loc Cert.SinkReferenceIdeal.main_arg3))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hPeerKernel : Cert.PeerKernel.Facts) (hPeerKernelIdeal : Cert.PeerKernelIdeal.Facts) (hPeerReferenceIdeal : Cert.PeerReferenceIdeal.Facts) (hMlaKernel : Cert.MlaKernel.Facts) (hMlaKernelIdeal : Cert.MlaKernelIdeal.Facts) (hMlaReferenceIdeal : Cert.MlaReferenceIdeal.Facts) (hFinalKernel : Cert.FinalKernel.Facts) (hFinalKernelIdeal : Cert.FinalKernelIdeal.Facts) (hFinalReferenceIdeal : Cert.FinalReferenceIdeal.Facts) (hAdaKernel : Cert.AdaKernel.Facts) (hAdaKernelIdeal : Cert.AdaKernelIdeal.Facts) (hAdaReferenceIdeal : Cert.AdaReferenceIdeal.Facts) (hCtxKernel : Cert.CtxKernel.Facts) (hCtxKernelIdeal : Cert.CtxKernelIdeal.Facts) (hCtxReferenceIdeal : Cert.CtxReferenceIdeal.Facts) (hSinkKernel : Cert.SinkKernel.Facts) (hSinkKernelIdeal : Cert.SinkKernelIdeal.Facts) (hSinkReferenceIdeal : Cert.SinkReferenceIdeal.Facts) (hPre_finite_scores : Cert.Pre_finite_scores.Facts) (hPre_finite_scores_peer : Cert.Pre_finite_scores_peer.Facts) (hPre_finite_scores_ctx : Cert.Pre_finite_scores_ctx.Facts) (hPre_finite_scores_sink : Cert.Pre_finite_scores_sink.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_PeerKernel (hPeerKernel := hPeerKernel)
    ∧ quiescent_PeerKernelIdeal (hPeerKernelIdeal := hPeerKernelIdeal)
    ∧ quiescent_PeerKernelIdeal_pre_finite_scores_peer (hPeerKernelIdeal := hPeerKernelIdeal) (hPre_finite_scores_peer := hPre_finite_scores_peer)
    ∧ quiescent_PeerReferenceIdeal (hPeerReferenceIdeal := hPeerReferenceIdeal)
    ∧ quiescent_PeerReferenceIdeal_pre_finite_scores_peer (hPeerReferenceIdeal := hPeerReferenceIdeal) (hPre_finite_scores_peer := hPre_finite_scores_peer)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_CtxKernel (hCtxKernel := hCtxKernel)
    ∧ quiescent_CtxKernelIdeal (hCtxKernelIdeal := hCtxKernelIdeal)
    ∧ quiescent_CtxKernelIdeal_pre_finite_scores_ctx (hCtxKernelIdeal := hCtxKernelIdeal) (hPre_finite_scores_ctx := hPre_finite_scores_ctx)
    ∧ quiescent_CtxReferenceIdeal (hCtxReferenceIdeal := hCtxReferenceIdeal)
    ∧ quiescent_CtxReferenceIdeal_pre_finite_scores_ctx (hCtxReferenceIdeal := hCtxReferenceIdeal) (hPre_finite_scores_ctx := hPre_finite_scores_ctx)
    ∧ quiescent_SinkKernel (hSinkKernel := hSinkKernel)
    ∧ quiescent_SinkKernelIdeal (hSinkKernelIdeal := hSinkKernelIdeal)
    ∧ quiescent_SinkKernelIdeal_pre_finite_scores_sink (hSinkKernelIdeal := hSinkKernelIdeal) (hPre_finite_scores_sink := hPre_finite_scores_sink)
    ∧ quiescent_SinkReferenceIdeal (hSinkReferenceIdeal := hSinkReferenceIdeal)
    ∧ quiescent_SinkReferenceIdeal_pre_finite_scores_sink (hSinkReferenceIdeal := hSinkReferenceIdeal) (hPre_finite_scores_sink := hPre_finite_scores_sink)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_PeerKernel_PeerKernelIdeal
    ∧ algebraic_PeerKernelIdeal_PeerReferenceIdeal_pre_finite_scores_peer (hPeerKernelIdeal := hPeerKernelIdeal) (hPeerReferenceIdeal := hPeerReferenceIdeal) (hPre_finite_scores_peer := hPre_finite_scores_peer)
    ∧ preserves_MlaKernel_MlaKernelIdeal
    ∧ algebraic_MlaKernelIdeal_MlaReferenceIdeal (hMlaKernelIdeal := hMlaKernelIdeal) (hMlaReferenceIdeal := hMlaReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_CtxKernel_CtxKernelIdeal
    ∧ algebraic_CtxKernelIdeal_CtxReferenceIdeal_pre_finite_scores_ctx (hCtxKernelIdeal := hCtxKernelIdeal) (hCtxReferenceIdeal := hCtxReferenceIdeal) (hPre_finite_scores_ctx := hPre_finite_scores_ctx)
    ∧ preserves_SinkKernel_SinkKernelIdeal
    ∧ algebraic_SinkKernelIdeal_SinkReferenceIdeal_pre_finite_scores_sink (hSinkKernelIdeal := hSinkKernelIdeal) (hSinkReferenceIdeal := hSinkReferenceIdeal) (hPre_finite_scores_sink := hPre_finite_scores_sink)
-- ==== Pre_finite_scores.lean ====
abbrev S2x16384x4x96 : Shape := ⟨4, ![2, 16384, 4, 96]⟩
abbrev S2x256x4x96 : Shape := ⟨4, ![2, 256, 4, 96]⟩
abbrev S2x256x4x64 : Shape := ⟨4, ![2, 256, 4, 64]⟩
abbrev S2x16384x4x64 : Shape := ⟨4, ![2, 16384, 4, 64]⟩
abbrev S_ : Shape := ⟨0, ![]⟩

class Facts : Prop where
  bcast_S_S2x16384x4x96 : S_.BroadcastsInDim S2x16384x4x96 (![] : Fin 0 → Fin S2x16384x4x96.rank)
  reducesTo_S2x16384x4x96_S_d0_1_2_3 : S2x16384x4x96.ReducesTo [0, 1, 2, 3] S_
  h_S_ : 0 < S_.numel
  bcast_S_S2x256x4x96 : S_.BroadcastsInDim S2x256x4x96 (![] : Fin 0 → Fin S2x256x4x96.rank)
  reducesTo_S2x256x4x96_S_d0_1_2_3 : S2x256x4x96.ReducesTo [0, 1, 2, 3] S_

variable [Facts]

def fn {F : FTy → Type} [FloatOps F] (main_arg0 : FVec F S2x16384x4x96 .f32) (main_arg1 : FVec F S2x256x4x96 .f32) (main_arg2 : FVec F S2x16384x4x96 .f32) (main_arg3 : FVec F S2x256x4x64 .f32) (main_arg4 : FVec F S2x16384x4x64 .f32) : IVec S_ 1 :=
  let main_v0 : FVec F S2x16384x4x96 .f32 := Host.absf main_arg0
  let main_cst : FVec F S_ .f32 := constant S_ .f32 0x7F800000#32
  let main_v1 : FVec F S2x16384x4x96 .f32 := broadcastInDim S2x16384x4x96 ![] bcast_S_S2x16384x4x96 main_cst
  let main_v2 : IVec S2x16384x4x96 1 := cmpf .olt main_v0 main_v1
  let main_c : IVec S_ 1 := constantI S_ 1 1#1
  let main_v3 : IVec S_ 1 := (fun x v => Host.reduce IntOp.andi x v reducesTo_S2x16384x4x96_S_d0_1_2_3 h_S_) main_v2 main_c
  let main_v4 : FVec F S2x256x4x96 .f32 := Host.absf main_arg1
  let main_cst_0 : FVec F S_ .f32 := constant S_ .f32 0x7F800000#32
  let main_v5 : FVec F S2x256x4x96 .f32 := broadcastInDim S2x256x4x96 ![] bcast_S_S2x256x4x96 main_cst_0
  let main_v6 : IVec S2x256x4x96 1 := cmpf .olt main_v4 main_v5
  let main_c_1 : IVec S_ 1 := constantI S_ 1 1#1
  let main_v7 : IVec S_ 1 := (fun x v => Host.reduce IntOp.andi x v reducesTo_S2x256x4x96_S_d0_1_2_3 h_S_) main_v6 main_c_1
  let main_v8 : IVec S_ 1 := andi main_v3 main_v7
  let main_v9 : FVec F S2x16384x4x96 .f32 := Host.absf main_arg2
  let main_cst_2 : FVec F S_ .f32 := constant S_ .f32 0x7F800000#32
  let main_v10 : FVec F S2x16384x4x96 .f32 := broadcastInDim S2x16384x4x96 ![] bcast_S_S2x16384x4x96 main_cst_2
  let main_v11 : IVec S2x16384x4x96 1 := cmpf .olt main_v9 main_v10
  let main_c_3 : IVec S_ 1 := constantI S_ 1 1#1
  let main_v12 : IVec S_ 1 := (fun x v => Host.reduce IntOp.andi x v reducesTo_S2x16384x4x96_S_d0_1_2_3 h_S_) main_v11 main_c_3
  let main_v13 : IVec S_ 1 := andi main_v8 main_v12
  main_v13
-- ==== Pre_finite_scores_ctx.lean ====
abbrev S2x256x4x64 : Shape := ⟨4, ![2, 256, 4, 64]⟩
abbrev S_ : Shape := ⟨0, ![]⟩

class Facts : Prop where
  bcast_S_S2x256x4x64 : S_.BroadcastsInDim S2x256x4x64 (![] : Fin 0 → Fin S2x256x4x64.rank)
  reducesTo_S2x256x4x64_S_d0_1_2_3 : S2x256x4x64.ReducesTo [0, 1, 2, 3] S_
  h_S_ : 0 < S_.numel

variable [Facts]

def fn {F : FTy → Type} [FloatOps F] (main_arg0 : FVec F S2x256x4x64 .f32) (main_arg1 : FVec F S2x256x4x64 .f32) (main_arg2 : FVec F S2x256x4x64 .f32) : IVec S_ 1 :=
  let main_v0 : FVec F S2x256x4x64 .f32 := Host.absf main_arg0
  let main_cst : FVec F S_ .f32 := constant S_ .f32 0x7F800000#32
  let main_v1 : FVec F S2x256x4x64 .f32 := broadcastInDim S2x256x4x64 ![] bcast_S_S2x256x4x64 main_cst
  let main_v2 : IVec S2x256x4x64 1 := cmpf .olt main_v0 main_v1
  let main_c : IVec S_ 1 := constantI S_ 1 1#1
  let main_v3 : IVec S_ 1 := (fun x v => Host.reduce IntOp.andi x v reducesTo_S2x256x4x64_S_d0_1_2_3 h_S_) main_v2 main_c
  let main_v4 : FVec F S2x256x4x64 .f32 := Host.absf main_arg1
  let main_cst_0 : FVec F S_ .f32 := constant S_ .f32 0x7F800000#32
  let main_v5 : FVec F S2x256x4x64 .f32 := broadcastInDim S2x256x4x64 ![] bcast_S_S2x256x4x64 main_cst_0
  let main_v6 : IVec S2x256x4x64 1 := cmpf .olt main_v4 main_v5
  let main_c_1 : IVec S_ 1 := constantI S_ 1 1#1
  let main_v7 : IVec S_ 1 := (fun x v => Host.reduce IntOp.andi x v reducesTo_S2x256x4x64_S_d0_1_2_3 h_S_) main_v6 main_c_1
  let main_v8 : IVec S_ 1 := andi main_v3 main_v7
  main_v8
-- ==== Pre_finite_scores_peer.lean ====
abbrev S32768x1024 : Shape := ⟨2, ![32768, 1024]⟩
abbrev S1024x2048 : Shape := ⟨2, ![1024, 2048]⟩
abbrev S8x2x128x128 : Shape := ⟨4, ![8, 2, 128, 128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S8x2x128x128 : S_.BroadcastsInDim S8x2x128x128 (![] : Fin 0 → Fin S8x2x128x128.rank)
  reducesTo_S8x2x128x128_S_d0_1_2_3 : S8x2x128x128.ReducesTo [0, 1, 2, 3] S_

variable [Facts]

def fn {F : FTy → Type} [FloatOps F] (main_arg0 : FVec F S32768x1024 .f32) (main_arg1 : FVec F S1024x2048 .f32) (main_arg2 : FVec F S8x2x128x128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S8x2x128x128 .f32 := Host.absf main_arg2
  let main_cst_2 : FVec F S_ .f32 := constant S_ .f32 0x7F800000#32
  let main_v10 : FVec F S8x2x128x128 .f32 := broadcastInDim S8x2x128x128 ![] bcast_S_S8x2x128x128 main_cst_2
  let main_v11 : IVec S8x2x128x128 1 := cmpf .olt main_v9 main_v10
  let main_c_3 : IVec S_ 1 := constantI S_ 1 1#1
  let main_v12 : IVec S_ 1 := (fun x v => Host.reduce IntOp.andi x v reducesTo_S8x2x128x128_S_d0_1_2_3 h_S_) main_v11 main_c_3
  let main_v13 : IVec S_ 1 := andi main_v8 main_v12
  main_v13
-- ==== Pre_finite_scores_sink.lean ====
abbrev S2x256x4x64 : Shape := ⟨4, ![2, 256, 4, 64]⟩
abbrev S2x256x2x64 : Shape := ⟨4, ![2, 256, 2, 64]⟩
abbrev S4 : Shape := ⟨1, ![4]⟩
abbrev S_ : Shape := ⟨0, ![]⟩

class Facts : Prop where
  bcast_S_S2x256x4x64 : S_.BroadcastsInDim S2x256x4x64 (![] : Fin 0 → Fin S2x256x4x64.rank)
  reducesTo_S2x256x4x64_S_d0_1_2_3 : S2x256x4x64.ReducesTo [0, 1, 2, 3] S_
  h_S_ : 0 < S_.numel
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S4 : S_.BroadcastsInDim S4 (![] : Fin 0 → Fin S4.rank)
  reducesTo_S4_S_d0 : S4.ReducesTo [0] S_

variable [Facts]

def fn {F : FTy → Type} [FloatOps F] (main_arg0 : FVec F S2x256x4x64 .f32) (main_arg1 : FVec F S2x256x2x64 .f32) (main_arg2 : FVec F S2x256x2x64 .f32) (main_arg3 : FVec F S4 .f32) : IVec S_ 1 :=
  let main_v0 : FVec F S2x256x4x64 .f32 := Host.absf main_arg0
  let main_cst : FVec F S_ .f32 := constant S_ .f32 0x7F800000#32
  let main_v1 : FVec F S2x256x4x64 .f32 := broadcastInDim S2x256x4x64 ![] bcast_S_S2x256x4x64 main_cst
  let main_v2 : IVec S2x256x4x64 1 := cmpf .olt main_v0 main_v1
  let main_c : IVec S_ 1 := constantI S_ 1 1#1
  let main_v3 : IVec S_ 1 := (fun x v => Host.reduce IntOp.andi x v reducesTo_S2x256x4x64_S_d0_1_2_3 h_S_) main_v2 main_c
  let main_v4 : FVec F S2x256x2x64 .f32 := Host.absf main_arg1
  let main_cst_0 : FVec F S_ .f32 := constant S_ .f32 0x7F800000#32
  let main_v5 : FVec F S2x256x2x64 .f32 := broadcastInDim S2x256x2x64 ![] bcast_S_S2x256x2x64 main_cst_0
  let main_v6 : IVec S2x256x2x64 1 := cmpf .olt main_v4 main_v5
  let main_c_1 : IVec S_ 1 := constantI S_ 1 1#1
  let main_v7 : IVec S_ 1 := (fun x v => Host.reduce IntOp.andi x v reducesTo_S2x256x2x64_S_d0_1_2_3 h_S_) main_v6 main_c_1
  let main_v8 : IVec S_ 1 := andi main_v3 main_v7
  let main_cst_2 : FVec F S_ .f32 := constant S_ .f32 0x7F800000#32
  let main_v9 : FVec F S4 .f32 := broadcastInDim S4 ![] bcast_S_S4 main_cst_2
  let main_v10 : IVec S4 1 := cmpf .olt main_arg3 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  main_v12
-- ==== Kernel.lean ====
abbrev S2x16384x4x96 : Shape := ⟨4, ![2, 16384, 4, 96]⟩
abbrev S2x256x4x96 : Shape := ⟨4, ![2, 256, 4, 96]⟩
abbrev S2x256x4x64 : Shape := ⟨4, ![2, 256, 4, 64]⟩
abbrev S2x16384x4x64 : Shape := ⟨4, ![2, 16384, 4, 64]⟩
abbrev S_ : Shape := ⟨0, ![]⟩
abbrev S2x16384x4x128 : Shape := ⟨4, ![2, 16384, 4, 128]⟩
abbrev S2x16384x512 : Shape := ⟨3, ![2, 16384, 512]⟩
abbrev S2x256x4x128 : Shape := ⟨4, ![2, 256, 4, 128]⟩
abbrev S2x256x512 : Shape := ⟨3, ![2, 256, 512]⟩
abbrev S2x16640x512 : Shape := ⟨3, ![2, 16640, 512]⟩
abbrev S2x16384x256 : Shape := ⟨3, ![2, 16384, 256]⟩
abbrev S1x1024x128 : Shape := ⟨3, ![1, 1024, 128]⟩
abbrev S1x16640x128 : Shape := ⟨3, ![1, 16640, 128]⟩
abbrev S1x1024x256 : Shape := ⟨3, ![1, 1024, 256]⟩
abbrev S1024x1 : Shape := ⟨2, ![1024, 1]⟩
abbrev S1024x128 : Shape := ⟨2, ![1024, 128]⟩
abbrev S1x256x128 : Shape := ⟨3, ![1, 256, 128]⟩
abbrev S256x128 : Shape := ⟨2, ![256, 128]⟩
abbrev S16640x128 : Shape := ⟨2, ![16640, 128]⟩
abbrev S256x16640 : Shape := ⟨2, ![256, 16640]⟩
abbrev S256x1 : Shape := ⟨2, ![256, 1]⟩
abbrev S256 : Shape := ⟨1, ![256]⟩
abbrev S1024x64 : Shape := ⟨2, ![1024, 64]⟩
abbrev S1x1024x64 : Shape := ⟨3, ![1, 1024, 64]⟩

abbrev nBuf : Space → Nat
  | .hbm => 33
  | .vmem => 11
  | .smem => 0
  | _ => 0

abbrev bufTy : (tb : Table) → Fin (tcTables nBuf tb) → BufTy
  | .hbm, ⟨0, _⟩ => ⟨S2x16384x4x96, .f32⟩
  | .hbm, ⟨1, _⟩ => ⟨S2x256x4x96, .f32⟩
  | .hbm, ⟨2, _⟩ => ⟨S2x16384x4x96, .f32⟩
  | .hbm, ⟨3, _⟩ => ⟨S2x256x4x64, .f32⟩
  | .hbm, ⟨4, _⟩ => ⟨S2x16384x4x64, .f32⟩
  | .hbm, ⟨5, _⟩ => ⟨S2x16384x4x96, .bf16⟩
  | .hbm, ⟨6, _⟩ => ⟨S_, .i32⟩
  | .hbm, ⟨7, _⟩ => ⟨S_, .bf16⟩
  | .hbm, ⟨8, _⟩ => ⟨S2x16384x4x128, .bf16⟩
  | .hbm, ⟨9, _⟩ => ⟨S2x16384x512, .bf16⟩
  | .hbm, ⟨10, _⟩ => ⟨S2x256x4x96, .bf16⟩
  | .hbm, ⟨11, _⟩ => ⟨S_, .i32⟩
  | .hbm, ⟨12, _⟩ => ⟨S_, .bf16⟩
  | .hbm, ⟨13, _⟩ => ⟨S2x256x4x128, .bf16⟩
  | .hbm, ⟨14, _⟩ => ⟨S2x256x512, .bf16⟩
  | .hbm, ⟨15, _⟩ => ⟨S2x16384x4x96, .bf16⟩
  | .hbm, ⟨16, _⟩ => ⟨S_, .i32⟩
  | .hbm, ⟨17, _⟩ => ⟨S_, .bf16⟩
  | .hbm, ⟨18, _⟩ => ⟨S2x16384x4x128, .bf16⟩
  | .hbm, ⟨19, _⟩ => ⟨S2x16384x512, .bf16⟩
  | .hbm, ⟨20, _⟩ => ⟨S2x16640x512, .bf16⟩
  | .hbm, ⟨21, _⟩ => ⟨S2x256x4x64, .bf16⟩
  | .hbm, ⟨22, _⟩ => ⟨S_, .i32⟩
  | .hbm, ⟨23, _⟩ => ⟨S_, .bf16⟩
  | .hbm, ⟨24, _⟩ => ⟨S2x256x4x128, .bf16⟩
  | .hbm, ⟨25, _⟩ => ⟨S2x256x512, .bf16⟩
  | .hbm, ⟨26, _⟩ => ⟨S2x16384x4x64, .bf16⟩
  | .hbm, ⟨27, _⟩ => ⟨S_, .i32⟩
  | .hbm, ⟨28, _⟩ => ⟨S_, .bf16⟩
  | .hbm, ⟨29, _⟩ => ⟨S2x16384x4x128, .bf16⟩
  | .hbm, ⟨30, _⟩ => ⟨S2x16384x512, .bf16⟩
  | .hbm, ⟨31, _⟩ => ⟨S2x16640x512, .bf16⟩
  | .hbm, ⟨32, _⟩ => ⟨S2x16384x256, .f32⟩
  | .local _ .vmem, ⟨0, _⟩ => ⟨S1x1024x128, .bf16⟩
  | .local _ .vmem, ⟨1, _⟩ => ⟨S1x1024x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x16640x128, .bf16⟩
  | .local _ .vmem, ⟨5, _⟩ => ⟨S1x16640x128, .bf16⟩
  | .local _ .vmem, ⟨6, _⟩ => ⟨S1x1024x256, .f32⟩
  | .local _ .vmem, ⟨7, _⟩ => ⟨S1x1024x256, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S2x16384x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_call3_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_call4_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 16, 4, 1], ![false, false, false, false]⟩

def k0_mult1 : BitVec 32 :=
  let c0_i32_1 : BitVec 32 := 0#32
  let c4_i32 : BitVec 32 := 4#32
  let v3 : BitVec 32 := Scalar.muli c0_i32_1 c4_i32
  let c0_i32_2 : BitVec 32 := 0#32
  let v4 : BitVec 32 := Scalar.addi v3 c0_i32_2
  let c256_i32 : BitVec 32 := 256#32
  let v5 : BitVec 32 := Scalar.muli v4 c256_i32
  v5
def k0_off1 (c0_i32_2 : BitVec 32) : Fin 3 → Nat :=
  let c0 : Index := 0#32
  let c0_i32_1 : BitVec 32 := 0#32
  let c4_i32 : BitVec 32 := 4#32
  let v3 : BitVec 32 := Scalar.muli c0_i32_1 c4_i32
  let v4 : BitVec 32 := Scalar.addi v3 c0_i32_2
  let c256_i32 : BitVec 32 := 256#32
  let v5 : BitVec 32 := Scalar.muli v4 c256_i32
  let v6 : BitVec 32 := v5
  let v7 : Index := Scalar.indexCast v6
  let c0_3 : Index := 0#32
  ![0, v7.toNat, 0]
def k0_off2 (c0_i32_2 : BitVec 32) : Fin 2 → Nat :=
  let c0_i32_1 : BitVec 32 := 0#32
  let c4_i32 : BitVec 32 := 4#32
  let v3 : BitVec 32 := Scalar.muli c0_i32_1 c4_i32
  let v4 : BitVec 32 := Scalar.addi v3 c0_i32_2
  let c256_i32 : BitVec 32 := 256#32
  let v5 : BitVec 32 := Scalar.muli v4 c256_i32
  let v6 : BitVec 32 := v5
  let v15 : Index := Scalar.indexCast v6
  let c0_8 : Index := 0#32
  ![v15.toNat, 0]
def k0_off3 (c0_i32_2 : BitVec 32) : Fin 2 → Nat :=
  let c0_i32_1 : BitVec 32 := 0#32
  let c4_i32 : BitVec 32 := 4#32
  let v3 : BitVec 32 := Scalar.muli c0_i32_1 c4_i32
  let v4 : BitVec 32 := Scalar.addi v3 c0_i32_2
  let c256_i32 : BitVec 32 := 256#32
  let v5 : BitVec 32 := Scalar.muli v4 c256_i32
  let v6 : BitVec 32 := v5
  let v35 : Index := Scalar.indexCast v6
  let c0_13 : Index := 0#32
  ![v35.toNat, 0]
def k0_mult2 : BitVec 32 :=
  let c0_i32_1 : BitVec 32 := 0#32
  let c4_i32_20 : BitVec 32 := 4#32
  let v52 : BitVec 32 := Scalar.muli c0_i32_1 c4_i32_20
  let c1_i32 : BitVec 32 := 1#32
  let v53 : BitVec 32 := Scalar.addi v52 c1_i32
  let c256_i32_21 : BitVec 32 := 256#32
  let v54 : BitVec 32 := Scalar.muli v53 c256_i32_21
  v54
def k0_mult3 : BitVec 32 :=
  let c0_i32_1 : BitVec 32 := 0#32
  let c4_i32_41 : BitVec 32 := 4#32
  let v101 : BitVec 32 := Scalar.muli c0_i32_1 c4_i32_41
  let c2_i32 : BitVec 32 := 2#32
  let v102 : BitVec 32 := Scalar.addi v101 c2_i32
  let c256_i32_42 : BitVec 32 := 256#32
  let v103 : BitVec 32 := Scalar.muli v102 c256_i32_42
  v103
def k0_mult4 : BitVec 32 :=
  let c0_i32_1 : BitVec 32 := 0#32
  let c4_i32_62 : BitVec 32 := 4#32
  let v150 : BitVec 32 := Scalar.muli c0_i32_1 c4_i32_62
  let c3_i32 : BitVec 32 := 3#32
  let v151 : BitVec 32 := Scalar.addi v150 c3_i32
  let c256_i32_63 : BitVec 32 := 256#32
  let v152 : BitVec 32 := Scalar.muli v151 c256_i32_63
  v152
def k0_cond2 (i : grid0.Coords) : BitVec 1 :=
  let arg3 : BitVec 32 := BitVec.ofNat 32 (i 3).val
  let c0_i32_84 : BitVec 32 := 0#32
  let v199 : BitVec 1 := Scalar.cmpi .eq arg3 c0_i32_84
  let arg2 : BitVec 32 := BitVec.ofNat 32 (i 2).val
  let c0_i32_85 : BitVec 32 := 0#32
  let v200 : BitVec 1 := Scalar.cmpi .eq arg2 c0_i32_85
  let v201 : BitVec 1 := Scalar.andi v199 v200
  let v202 : BitVec 32 := Scalar.extui v201
  let c0_i32_86 : BitVec 32 := 0#32
  let v203 : BitVec 1 := Scalar.cmpi .ne v202 c0_i32_86
  v203

def k0_cond3 (i : grid0.Coords) : BitVec 1 :=
  let arg3 : BitVec 32 := BitVec.ofNat 32 (i 3).val
  let c0_i32_87 : BitVec 32 := 0#32
  let v204 : BitVec 1 := Scalar.cmpi .eq arg3 c0_i32_87
  let arg2 : BitVec 32 := BitVec.ofNat 32 (i 2).val
  let c1_i32_88 : BitVec 32 := 1#32
  let v205 : BitVec 1 := Scalar.cmpi .eq arg2 c1_i32_88
  let v206 : BitVec 1 := Scalar.andi v204 v205
  let v207 : BitVec 32 := Scalar.extui v206
  let c0_i32_89 : BitVec 32 := 0#32
  let v208 : BitVec 1 := Scalar.cmpi .ne v207 c0_i32_89
  v208

def k0_cond4 (i : grid0.Coords) : BitVec 1 :=
  let arg3 : BitVec 32 := BitVec.ofNat 32 (i 3).val
  let c0_i32_90 : BitVec 32 := 0#32
  let v209 : BitVec 1 := Scalar.cmpi .eq arg3 c0_i32_90
  let arg2 : BitVec 32 := BitVec.ofNat 32 (i 2).val
  let c2_i32_91 : BitVec 32 := 2#32
  let v210 : BitVec 1 := Scalar.cmpi .eq arg2 c2_i32_91
  let v211 : BitVec 1 := Scalar.andi v209 v210
  let v212 : BitVec 32 := Scalar.extui v211
  let c0_i32_92 : BitVec 32 := 0#32
  let v213 : BitVec 1 := Scalar.cmpi .ne v212 c0_i32_92
  v213

def k0_cond5 (i : grid0.Coords) : BitVec 1 :=
  let arg3 : BitVec 32 := BitVec.ofNat 32 (i 3).val
  let c0_i32_93 : BitVec 32 := 0#32
  let v214 : BitVec 1 := Scalar.cmpi .eq arg3 c0_i32_93
  let arg2 : BitVec 32 := BitVec.ofNat 32 (i 2).val
  let c3_i32_94 : BitVec 32 := 3#32
  let v215 : BitVec 1 := Scalar.cmpi .eq arg2 c3_i32_94
  let v216 : BitVec 1 := Scalar.andi v214 v215
  let v217 : BitVec 32 := Scalar.extui v216
  let c0_i32_95 : BitVec 32 := 0#32
  let v218 : BitVec 1 := Scalar.cmpi .ne v217 c0_i32_95
  v218

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== KernelIdeal.lean ====
variable {F : FTy → Type} [FloatOps F] [Named F]
def κ : String → Option EReal := fun
  | "scale_log2e" => some (((3424635 / 33554432) * (Real.log 2)⁻¹ : ℝ) : EReal)
  | _ => none
-- ==== ReferenceIdeal.lean ====
abbrev S2x16384x4x96 : Shape := ⟨4, ![2, 16384, 4, 96]⟩
abbrev S2x256x4x96 : Shape := ⟨4, ![2, 256, 4, 96]⟩
abbrev S2x256x4x64 : Shape := ⟨4, ![2, 256, 4, 64]⟩
abbrev S2x16384x4x64 : Shape := ⟨4, ![2, 16384, 4, 64]⟩
abbrev S2x16640x4x96 : Shape := ⟨4, ![2, 16640, 4, 96]⟩
abbrev S2x16640x4x64 : Shape := ⟨4, ![2, 16640, 4, 64]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384x256 : Shape := ⟨3, ![2, 16384, 256]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x4x96, .f32⟩
  | .hbm, ⟨1, _⟩ => ⟨S2x256x4x96, .f32⟩
  | .hbm, ⟨2, _⟩ => ⟨S2x16384x4x96, .f32⟩
  | .hbm, ⟨3, _⟩ => ⟨S2x256x4x64, .f32⟩
  | .hbm, ⟨4, _⟩ => ⟨S2x16384x4x64, .f32⟩
  | .hbm, ⟨5, _⟩ => ⟨S2x16640x4x96, .f32⟩
  | .hbm, ⟨6, _⟩ => ⟨S2x16640x4x64, .f32⟩
  | .hbm, ⟨7, _⟩ => ⟨S2x4x16384x16640, .f32⟩
  | .hbm, ⟨8, _⟩ => ⟨S_, .f32⟩
  | .hbm, ⟨9, _⟩ => ⟨S2x4x16384x16640, .f32⟩
  | .hbm, ⟨10, _⟩ => ⟨S2x4x16384x16640, .f32⟩
  | .hbm, ⟨11, _⟩ => ⟨S_, .f32⟩
  | .hbm, ⟨12, _⟩ => ⟨S2x4x16384, .f32⟩
  | .hbm, ⟨13, _⟩ => ⟨S_, .f32⟩
  | .hbm, ⟨14, _⟩ => ⟨S2x4x16384, .f32⟩
  | .hbm, ⟨15, _⟩ => ⟨S2x4x16384, .f32⟩
  | .hbm, ⟨16, _⟩ => ⟨S2x4x16384x1, .f32⟩
  | .hbm, ⟨17, _⟩ => ⟨S2x4x16384x16640, .f32⟩
  | .hbm, ⟨18, _⟩ => ⟨S2x4x16384x16640, .f32⟩
  | .hbm, ⟨19, _⟩ => ⟨S2x4x16384x16640, .f32⟩
  | .hbm, ⟨20, _⟩ => ⟨S_, .f32⟩
  | .hbm, ⟨21, _⟩ => ⟨S2x4x16384, .f32⟩
  | .hbm, ⟨22, _⟩ => ⟨S2x4x16384x1, .f32⟩
  | .hbm, ⟨23, _⟩ => ⟨S2x4x16384x16640, .f32⟩
  | .hbm, ⟨24, _⟩ => ⟨S2x4x16384x16640, .f32⟩
  | .hbm, ⟨25, _⟩ => ⟨S2x4x64x16384, .f32⟩
  | .hbm, ⟨26, _⟩ => ⟨S2x16384x4x64, .f32⟩
  | .hbm, ⟨27, _⟩ => ⟨S2x16384x256, .f32⟩
  | _, _ => ⟨S2x16384x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== InKernel.lean ====
abbrev S2x16384x1024 : Shape := ⟨3, ![2, 16384, 1024]⟩
abbrev S1024 : Shape := ⟨1, ![1024]⟩
abbrev S2x1024 : Shape := ⟨2, ![2, 1024]⟩
abbrev S1024x2736 : Shape := ⟨2, ![1024, 2736]⟩
abbrev S32 : Shape := ⟨1, ![32]⟩
abbrev S2688 : Shape := ⟨1, ![2688]⟩
abbrev S16 : Shape := ⟨1, ![16]⟩
abbrev S32768x1024 : Shape := ⟨2, ![32768, 1024]⟩
abbrev S_ : Shape := ⟨0, ![]⟩
abbrev S2x1x1024 : Shape := ⟨3, ![2, 1, 1024]⟩
abbrev S2x3x1024 : Shape := ⟨3, ![2, 3, 1024]⟩
abbrev S2x8x1024 : Shape := ⟨3, ![2, 8, 1024]⟩
abbrev S32x1 : Shape := ⟨2, ![32, 1]⟩
abbrev S1024x32 : Shape := ⟨2, ![1024, 32]⟩
abbrev S2688x1 : Shape := ⟨2, ![2688, 1]⟩
abbrev S1024x2688 : Shape := ⟨2, ![1024, 2688]⟩
abbrev S16x1 : Shape := ⟨2, ![16, 1]⟩
abbrev S1024x16 : Shape := ⟨2, ![1024, 16]⟩
abbrev S1024x128 : Shape := ⟨2, ![1024, 128]⟩
abbrev S1024x3072 : Shape := ⟨2, ![1024, 3072]⟩
abbrev S32768x256 : Shape := ⟨2, ![32768, 256]⟩
abbrev S32768x512 : Shape := ⟨2, ![32768, 512]⟩
abbrev S32768x128 : Shape := ⟨2, ![32768, 128]⟩
abbrev S512x1024 : Shape := ⟨2, ![512, 1024]⟩
abbrev S1x8x1024 : Shape := ⟨3, ![1, 8, 1024]⟩
abbrev S512x256 : Shape := ⟨2, ![512, 256]⟩
abbrev S512x512 : Shape := ⟨2, ![512, 512]⟩
abbrev S512x128 : Shape := ⟨2, ![512, 128]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S512x3072 : Shape := ⟨2, ![512, 3072]⟩

abbrev nBuf : Space → Nat
  | .hbm => 73
  | .vmem => 31
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2736, .f32⟩
  | .hbm, ⟨5, _⟩ => ⟨S32, .i32⟩
  | .hbm, ⟨6, _⟩ => ⟨S32, .i1⟩
  | .hbm, ⟨7, _⟩ => ⟨S2688, .i32⟩
  | .hbm, ⟨8, _⟩ => ⟨S2688, .i1⟩
  | .hbm, ⟨9, _⟩ => ⟨S16, .i32⟩
  | .hbm, ⟨10, _⟩ => ⟨S16, .i1⟩
  | .hbm, ⟨11, _⟩ => ⟨S32, .i32⟩
  | .hbm, ⟨12, _⟩ => ⟨S32, .i1⟩
  | .hbm, ⟨13, _⟩ => ⟨S32768x1024, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x3x1024, .f32⟩
  | .hbm, ⟨22, _⟩ => ⟨S_, .i32⟩
  | .hbm, ⟨23, _⟩ => ⟨S_, .f32⟩
  | .hbm, ⟨24, _⟩ => ⟨S2x8x1024, .f32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S32x1, .i32⟩
  | .hbm, ⟨30, _⟩ => ⟨S1024x32, .f32⟩
  | .hbm, ⟨31, _⟩ => ⟨S_, .i32⟩
  | .hbm, ⟨32, _⟩ => ⟨S2688, .i32⟩
  | .hbm, ⟨33, _⟩ => ⟨S2688, .i32⟩
  | .hbm, ⟨34, _⟩ => ⟨S2688, .i32⟩
  | .hbm, ⟨35, _⟩ => ⟨S2688x1, .i32⟩
  | .hbm, ⟨36, _⟩ => ⟨S1024x2688, .f32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16x1, .i32⟩
  | .hbm, ⟨42, _⟩ => ⟨S1024x16, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S32x1, .i32⟩
  | .hbm, ⟨54, _⟩ => ⟨S1024x32, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x3072, .f32⟩
  | .hbm, ⟨59, _⟩ => ⟨S1024x3072, .bf16⟩
  | .hbm, ⟨60, _⟩ => ⟨S32768x256, .f32⟩
  | .hbm, ⟨61, _⟩ => ⟨S32768x256, .bf16⟩
  | .hbm, ⟨62, _⟩ => ⟨S32768x256, .bf16⟩
  | .hbm, ⟨63, _⟩ => ⟨S32768x512, .f32⟩
  | .hbm, ⟨64, _⟩ => ⟨S32768x256, .bf16⟩
  | .hbm, ⟨65, _⟩ => ⟨S32768x256, .f32⟩
  | .hbm, ⟨66, _⟩ => ⟨S32768x256, .f32⟩
  | .hbm, ⟨67, _⟩ => ⟨S32768x128, .f32⟩
  | .hbm, ⟨68, _⟩ => ⟨S32768x256, .f32⟩
  | .hbm, ⟨69, _⟩ => ⟨S32768x128, .f32⟩
  | .hbm, ⟨70, _⟩ => ⟨S32768x128, .bf16⟩
  | .hbm, ⟨71, _⟩ => ⟨S32768x128, .f32⟩
  | .hbm, ⟨72, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x3072, .bf16⟩
  | .local _ .vmem, ⟨5, _⟩ => ⟨S512x256, .f32⟩
  | .local _ .vmem, ⟨6, _⟩ => ⟨S512x256, .f32⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x512, .f32⟩
  | .local _ .vmem, ⟨12, _⟩ => ⟨S512x512, .f32⟩
  | .local _ .vmem, ⟨13, _⟩ => ⟨S512x256, .bf16⟩
  | .local _ .vmem, ⟨14, _⟩ => ⟨S512x256, .bf16⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x128, .f32⟩
  | .local _ .vmem, ⟨20, _⟩ => ⟨S512x128, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x128, .f32⟩
  | .local _ .vmem, ⟨25, _⟩ => ⟨S512x128, .bf16⟩
  | .local _ .vmem, ⟨26, _⟩ => ⟨S512x128, .bf16⟩
  | .local _ .vmem, ⟨27, _⟩ => ⟨S512x128, .f32⟩
  | .local _ .vmem, ⟨28, _⟩ => ⟨S512x128, .f32⟩
  | .local _ .vmem, ⟨29, _⟩ => ⟨S512x256, .f32⟩
  | .local _ .vmem, ⟨30, _⟩ => ⟨S512x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_7 : Ref sig .tc := ⟨.hbm, 22, rfl⟩
abbrev main_call0_v0 : Ref sig .tc := ⟨.hbm, 23, rfl⟩
abbrev main_v8 : Ref sig .tc := ⟨.hbm, 24, rfl⟩
abbrev main_c_8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_9 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_10 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_11 : Ref sig .tc := ⟨.hbm, 43, rfl⟩
abbrev main_call1_v0 : Ref sig .tc := ⟨.hbm, 44, rfl⟩
abbrev main_v24 : Ref sig .tc := ⟨.hbm, 45, rfl⟩
abbrev main_c_12 : Ref sig .tc := ⟨.hbm, 46, rfl⟩
abbrev main_call2_v0 : Ref sig .tc := ⟨.hbm, 47, rfl⟩
abbrev main_v25 : Ref sig .tc := ⟨.hbm, 48, rfl⟩
abbrev main_c_13 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_14 : Ref sig .tc := ⟨.hbm, 55, rfl⟩
abbrev main_call3_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v34_3 : Ref sig .tc := ⟨.hbm, 63, rfl⟩
abbrev main_v34_4 : Ref sig .tc := ⟨.hbm, 64, rfl⟩
abbrev main_v34_5 : Ref sig .tc := ⟨.hbm, 65, rfl⟩
abbrev main_v34_6 : Ref sig .tc := ⟨.hbm, 66, rfl⟩
abbrev main_v34_7 : Ref sig .tc := ⟨.hbm, 67, rfl⟩
abbrev main_v34_8 : Ref sig .tc := ⟨.hbm, 68, rfl⟩
abbrev main_v34_9 : Ref sig .tc := ⟨.hbm, 69, rfl⟩
abbrev main_v34_10 : Ref sig .tc := ⟨.hbm, 70, rfl⟩
abbrev main_v34_11 : Ref sig .tc := ⟨.hbm, 71, rfl⟩
abbrev main_v34_12 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InReferenceIdeal.lean ====
abbrev S2x16384x1024 : Shape := ⟨3, ![2, 16384, 1024]⟩
abbrev S1024 : Shape := ⟨1, ![1024]⟩
abbrev S2x1024 : Shape := ⟨2, ![2, 1024]⟩
abbrev S1024x2736 : Shape := ⟨2, ![1024, 2736]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x2736 : Shape := ⟨3, ![2, 16384, 2736]⟩
abbrev S2x16384x256 : Shape := ⟨3, ![2, 16384, 256]⟩
abbrev S2x16384x512 : Shape := ⟨3, ![2, 16384, 512]⟩
abbrev S2x16384x16 : Shape := ⟨3, ![2, 16384, 16]⟩
abbrev S2x16384x128 : Shape := ⟨3, ![2, 16384, 128]⟩
abbrev S2x16384x32 : Shape := ⟨3, ![2, 16384, 32]⟩
abbrev S32768x256 : Shape := ⟨2, ![32768, 256]⟩
abbrev S32768x512 : Shape := ⟨2, ![32768, 512]⟩
abbrev S32768x128 : Shape := ⟨2, ![32768, 128]⟩

abbrev nBuf : Space → Nat
  | .hbm => 59
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2736, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x2736, .f32⟩
  | .hbm, ⟨31, _⟩ => ⟨S2x16384x256, .f32⟩
  | .hbm, ⟨32, _⟩ => ⟨S2x16384x256, .f32⟩
  | .hbm, ⟨33, _⟩ => ⟨S2x16384x256, .f32⟩
  | .hbm, ⟨34, _⟩ => ⟨S2x16384x512, .f32⟩
  | .hbm, ⟨35, _⟩ => ⟨S2x16384x256, .f32⟩
  | .hbm, ⟨36, _⟩ => ⟨S2x16384x256, .f32⟩
  | .hbm, ⟨37, _⟩ => ⟨S2x16384x16, .f32⟩
  | .hbm, ⟨38, _⟩ => ⟨S2x16384x256, .f32⟩
  | .hbm, ⟨39, _⟩ => ⟨S2x16384x128, .f32⟩
  | .hbm, ⟨40, _⟩ => ⟨S2x16384x32, .f32⟩
  | .hbm, ⟨41, _⟩ => ⟨S2x16384x256, .f32⟩
  | .hbm, ⟨42, _⟩ => ⟨S2x16384x128, .f32⟩
  | .hbm, ⟨43, _⟩ => ⟨S2x16384x128, .f32⟩
  | .hbm, ⟨44, _⟩ => ⟨S32768x256, .f32⟩
  | .hbm, ⟨45, _⟩ => ⟨S32768x256, .f32⟩
  | .hbm, ⟨46, _⟩ => ⟨S32768x256, .bf16⟩
  | .hbm, ⟨47, _⟩ => ⟨S32768x256, .f32⟩
  | .hbm, ⟨48, _⟩ => ⟨S32768x256, .bf16⟩
  | .hbm, ⟨49, _⟩ => ⟨S32768x512, .f32⟩
  | .hbm, ⟨50, _⟩ => ⟨S32768x256, .f32⟩
  | .hbm, ⟨51, _⟩ => ⟨S32768x256, .bf16⟩
  | .hbm, ⟨52, _⟩ => ⟨S32768x256, .f32⟩
  | .hbm, ⟨53, _⟩ => ⟨S32768x256, .f32⟩
  | .hbm, ⟨54, _⟩ => ⟨S32768x128, .f32⟩
  | .hbm, ⟨55, _⟩ => ⟨S32768x256, .f32⟩
  | .hbm, ⟨56, _⟩ => ⟨S32768x128, .f32⟩
  | .hbm, ⟨57, _⟩ => ⟨S32768x128, .f32⟩
  | .hbm, ⟨58, _⟩ => ⟨S32768x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== OutKernel.lean ====
abbrev S2x16384x256 : Shape := ⟨3, ![2, 16384, 256]⟩
abbrev S2x16384x1024 : Shape := ⟨3, ![2, 16384, 1024]⟩
abbrev S2x1024 : Shape := ⟨2, ![2, 1024]⟩
abbrev S1024 : Shape := ⟨1, ![1024]⟩
abbrev S1024x1024 : Shape := ⟨2, ![1024, 1024]⟩
abbrev S32768x256 : Shape := ⟨2, ![32768, 256]⟩
abbrev S32768x1024 : Shape := ⟨2, ![32768, 1024]⟩
abbrev S_ : Shape := ⟨0, ![]⟩
abbrev S2x1x1024 : Shape := ⟨3, ![2, 1, 1024]⟩
abbrev S2x4x1024 : Shape := ⟨3, ![2, 4, 1024]⟩
abbrev S2x8x1024 : Shape := ⟨3, ![2, 8, 1024]⟩
abbrev S512x256 : Shape := ⟨2, ![512, 256]⟩
abbrev S512x1024 : Shape := ⟨2, ![512, 1024]⟩
abbrev S1x8x1024 : Shape := ⟨3, ![1, 8, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩

abbrev nBuf : Space → Nat
  | .hbm => 32
  | .vmem => 19
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S2x16384x1024, .f32⟩
  | .hbm, ⟨6, _⟩ => ⟨S2x1024, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S1024x1024, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x1024, .f32⟩
  | .hbm, ⟨17, _⟩ => ⟨S_, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x4x1024, .f32⟩
  | .hbm, ⟨26, _⟩ => ⟨S_, .i32⟩
  | .hbm, ⟨27, _⟩ => ⟨S_, .f32⟩
  | .hbm, ⟨28, _⟩ => ⟨S2x8x1024, .f32⟩
  | .hbm, ⟨29, _⟩ => ⟨S1024x1024, .bf16⟩
  | .hbm, ⟨30, _⟩ => ⟨S32768x1024, .f32⟩
  | .hbm, ⟨31, _⟩ => ⟨S32768x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutReferenceIdeal.lean ====
abbrev S2x16384x256 : Shape := ⟨3, ![2, 16384, 256]⟩
abbrev S2x16384x1024 : Shape := ⟨3, ![2, 16384, 1024]⟩
abbrev S2x1024 : Shape := ⟨2, ![2, 1024]⟩
abbrev S1024 : Shape := ⟨1, ![1024]⟩
abbrev S1024x1024 : Shape := ⟨2, ![1024, 1024]⟩
abbrev S_ : Shape := ⟨0, ![]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x256, .f32⟩
  | .hbm, ⟨4, _⟩ => ⟨S2x16384x256, .f32⟩
  | .hbm, ⟨5, _⟩ => ⟨S2x16384x1024, .f32⟩
  | .hbm, ⟨6, _⟩ => ⟨S2x1024, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S1024x1024, .f32⟩
  | .hbm, ⟨11, _⟩ => ⟨S2x16384x256, .f32⟩
  | .hbm, ⟨12, _⟩ => ⟨S2x16384x256, .f32⟩
  | .hbm, ⟨13, _⟩ => ⟨S_, .f32⟩
  | .hbm, ⟨14, _⟩ => ⟨S2x16384x256, .f32⟩
  | .hbm, ⟨15, _⟩ => ⟨S2x16384x256, .f32⟩
  | .hbm, ⟨16, _⟩ => ⟨S_, .f32⟩
  | .hbm, ⟨17, _⟩ => ⟨S2x16384x256, .f32⟩
  | .hbm, ⟨18, _⟩ => ⟨S2x16384x256, .f32⟩
  | .hbm, ⟨19, _⟩ => ⟨S2x16384x256, .f32⟩
  | .hbm, ⟨20, _⟩ => ⟨S2x1x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S_, .f32⟩
  | .hbm, ⟨34, _⟩ => ⟨S2x16384x1, .f32⟩
  | .hbm, ⟨35, _⟩ => ⟨S2x16384x1, .f32⟩
  | .hbm, ⟨36, _⟩ => ⟨S2x16384x1, .f32⟩
  | .hbm, ⟨37, _⟩ => ⟨S2x16384x1024, .f32⟩
  | .hbm, ⟨38, _⟩ => ⟨S2x16384x1024, .f32⟩
  | .hbm, ⟨39, _⟩ => ⟨S1x1x1024, .f32⟩
  | .hbm, ⟨40, _⟩ => ⟨S2x16384x1024, .f32⟩
  | .hbm, ⟨41, _⟩ => ⟨S2x16384x1024, .f32⟩
  | .hbm, ⟨42, _⟩ => ⟨S2x1x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x16384x1024, .f32⟩
  | .hbm, ⟨47, _⟩ => ⟨S2x16384x1024, .f32⟩
  | .hbm, ⟨48, _⟩ => ⟨S2x1x1024, .f32⟩
  | .hbm, ⟨49, _⟩ => ⟨S2x16384x1024, .f32⟩
  | .hbm, ⟨50, _⟩ => ⟨S2x16384x1024, .f32⟩
  | .hbm, ⟨51, _⟩ => ⟨S32768x1024, .f32⟩
  | .hbm, ⟨52, _⟩ => ⟨S32768x1024, .f32⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== PeerKernel.lean ====
abbrev S32768x1024 : Shape := ⟨2, ![32768, 1024]⟩
abbrev S1024x2048 : Shape := ⟨2, ![1024, 2048]⟩
abbrev S8x2x128x128 : Shape := ⟨4, ![8, 2, 128, 128]⟩
abbrev S8x16x32768 : Shape := ⟨3, ![8, 16, 32768]⟩
abbrev S1024x1024 : Shape := ⟨2, ![1024, 1024]⟩
abbrev S1024x256 : Shape := ⟨2, ![1024, 256]⟩
abbrev S1x2x128x128 : Shape := ⟨4, ![1, 2, 128, 128]⟩
abbrev S1x16x1024 : Shape := ⟨3, ![1, 16, 1024]⟩
abbrev S1024x128 : Shape := ⟨2, ![1024, 128]⟩
abbrev S1x1x128x128 : Shape := ⟨4, ![1, 1, 128, 128]⟩
abbrev S128x128 : Shape := ⟨2, ![128, 128]⟩
abbrev S128x1024 : Shape := ⟨2, ![128, 1024]⟩
abbrev S1024 : Shape := ⟨1, ![1024]⟩
abbrev S1x1024 : Shape := ⟨2, ![1, 1024]⟩
abbrev S16x1024 : Shape := ⟨2, ![16, 1024]⟩
abbrev S8x1024 : Shape := ⟨2, ![8, 1024]⟩
abbrev S80x1024 : Shape := ⟨2, ![80, 1024]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S8x2x128x128, .f32⟩
  | .hbm, ⟨3, _⟩ => ⟨S1024x2048, .bf16⟩
  | .hbm, ⟨4, _⟩ => ⟨S8x2x128x128, .bf16⟩
  | .hbm, ⟨5, _⟩ => ⟨S8x16x32768, .i32⟩
  | .hbm, ⟨6, _⟩ => ⟨S8x16x32768, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1x2x128x128, .bf16⟩
  | .local _ .vmem, ⟨5, _⟩ => ⟨S1x2x128x128, .bf16⟩
  | .local _ .vmem, ⟨6, _⟩ => ⟨S1x16x1024, .i32⟩
  | .local _ .vmem, ⟨7, _⟩ => ⟨S1x16x1024, .i32⟩
  | .local _ .vmem, ⟨8, _⟩ => ⟨S1x16x1024, .f32⟩
  | .local _ .vmem, ⟨9, _⟩ => ⟨S1x16x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PeerReferenceIdeal.lean ====
abbrev S32768x1024 : Shape := ⟨2, ![32768, 1024]⟩
abbrev S1024x2048 : Shape := ⟨2, ![1024, 2048]⟩
abbrev S8x2x128x128 : Shape := ⟨4, ![8, 2, 128, 128]⟩
abbrev S32768x2048 : Shape := ⟨2, ![32768, 2048]⟩
abbrev S32768x8x2x128 : Shape := ⟨4, ![32768, 8, 2, 128]⟩
abbrev S8x2x128x32768 : Shape := ⟨4, ![8, 2, 128, 32768]⟩
abbrev S32768x8x2x16 : Shape := ⟨4, ![32768, 8, 2, 16]⟩
abbrev S32768x8x1x16 : Shape := ⟨4, ![32768, 8, 1, 16]⟩
abbrev S32768x8x16 : Shape := ⟨3, ![32768, 8, 16]⟩
abbrev S32768x8x16x1 : Shape := ⟨4, ![32768, 8, 16, 1]⟩
abbrev S32768x8x16x16 : Shape := ⟨4, ![32768, 8, 16, 16]⟩
abbrev S32768x8x256 : Shape := ⟨3, ![32768, 8, 256]⟩
abbrev S_ : Shape := ⟨0, ![]⟩
abbrev S1 : Shape := ⟨1, ![1]⟩
abbrev S1x1x1x1 : Shape := ⟨4, ![1, 1, 1, 1]⟩
abbrev S32768x8 : Shape := ⟨2, ![32768, 8]⟩
abbrev S32768x8x1 : Shape := ⟨3, ![32768, 8, 1]⟩
abbrev S8x16x32768 : Shape := ⟨3, ![8, 16, 32768]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S8x2x128x128, .f32⟩
  | .hbm, ⟨3, _⟩ => ⟨S32768x2048, .f32⟩
  | .hbm, ⟨4, _⟩ => ⟨S32768x8x2x128, .f32⟩
  | .hbm, ⟨5, _⟩ => ⟨S8x2x128x32768, .f32⟩
  | .hbm, ⟨6, _⟩ => ⟨S32768x8x2x128, .f32⟩
  | .hbm, ⟨7, _⟩ => ⟨S32768x8x2x16, .f32⟩
  | .hbm, ⟨8, _⟩ => ⟨S32768x8x2x16, .i32⟩
  | .hbm, ⟨9, _⟩ => ⟨S32768x8x1x16, .f32⟩
  | .hbm, ⟨10, _⟩ => ⟨S32768x8x16, .f32⟩
  | .hbm, ⟨11, _⟩ => ⟨S32768x8x16x1, .f32⟩
  | .hbm, ⟨12, _⟩ => ⟨S32768x8x1x16, .f32⟩
  | .hbm, ⟨13, _⟩ => ⟨S32768x8x16, .f32⟩
  | .hbm, ⟨14, _⟩ => ⟨S32768x8x1x16, .f32⟩
  | .hbm, ⟨15, _⟩ => ⟨S32768x8x16x16, .f32⟩
  | .hbm, ⟨16, _⟩ => ⟨S32768x8x16x16, .f32⟩
  | .hbm, ⟨17, _⟩ => ⟨S32768x8x16x16, .f32⟩
  | .hbm, ⟨18, _⟩ => ⟨S32768x8x256, .f32⟩
  | .hbm, ⟨19, _⟩ => ⟨S32768x8x1x16, .i32⟩
  | .hbm, ⟨20, _⟩ => ⟨S32768x8x16, .i32⟩
  | .hbm, ⟨21, _⟩ => ⟨S32768x8x16x1, .i32⟩
  | .hbm, ⟨22, _⟩ => ⟨S_, .i32⟩
  | .hbm, ⟨23, _⟩ => ⟨S32768x8x16x1, .i32⟩
  | .hbm, ⟨24, _⟩ => ⟨S32768x8x16x1, .i32⟩
  | .hbm, ⟨25, _⟩ => ⟨S32768x8x1x16, .i32⟩
  | .hbm, ⟨26, _⟩ => ⟨S32768x8x16, .i32⟩
  | .hbm, ⟨27, _⟩ => ⟨S32768x8x1x16, .i32⟩
  | .hbm, ⟨28, _⟩ => ⟨S32768x8x16x16, .i32⟩
  | .hbm, ⟨29, _⟩ => ⟨S32768x8x16x16, .i32⟩
  | .hbm, ⟨30, _⟩ => ⟨S32768x8x16x16, .i32⟩
  | .hbm, ⟨31, _⟩ => ⟨S32768x8x256, .i32⟩
  | .hbm, ⟨32, _⟩ => ⟨S32768x8x16, .f32⟩
  | .hbm, ⟨33, _⟩ => ⟨S32768x8x16, .i32⟩
  | .hbm, ⟨34, _⟩ => ⟨S_, .i32⟩
  | .hbm, ⟨35, _⟩ => ⟨S32768x8x16, .i32⟩
  | .hbm, ⟨36, _⟩ => ⟨S32768x8x16, .i1⟩
  | .hbm, ⟨37, _⟩ => ⟨S_, .i32⟩
  | .hbm, ⟨38, _⟩ => ⟨S32768x8x16, .i32⟩
  | .hbm, ⟨39, _⟩ => ⟨S32768x8x16, .i32⟩
  | .hbm, ⟨40, _⟩ => ⟨S32768x8x16, .i32⟩
  | .hbm, ⟨41, _⟩ => ⟨S32768x8x16x1, .i32⟩
  | .hbm, ⟨42, _⟩ => ⟨S1, .i32⟩
  | .hbm, ⟨43, _⟩ => ⟨S_, .i32⟩
  | .hbm, ⟨44, _⟩ => ⟨S32768x8x16x1, .i32⟩
  | .hbm, ⟨45, _⟩ => ⟨S32768x8x16x1, .i1⟩
  | .hbm, ⟨46, _⟩ => ⟨S1x1x1x1, .i32⟩
  | .hbm, ⟨47, _⟩ => ⟨S32768x8x16x1, .i32⟩
  | .hbm, ⟨48, _⟩ => ⟨S32768x8x16x1, .i1⟩
  | .hbm, ⟨49, _⟩ => ⟨S32768x8x16x1, .i1⟩
  | .hbm, ⟨50, _⟩ => ⟨S_, .i1⟩
  | .hbm, ⟨51, _⟩ => ⟨S32768x8x16, .i1⟩
  | .hbm, ⟨52, _⟩ => ⟨S32768x8x16, .i32⟩
  | .hbm, ⟨53, _⟩ => ⟨S_, .i32⟩
  | .hbm, ⟨54, _⟩ => ⟨S32768x8x16, .i32⟩
  | .hbm, ⟨55, _⟩ => ⟨S32768x8x16, .i32⟩
  | .hbm, ⟨56, _⟩ => ⟨S_, .f32⟩
  | .hbm, ⟨57, _⟩ => ⟨S32768x8, .f32⟩
  | .hbm, ⟨58, _⟩ => ⟨S_, .f32⟩
  | .hbm, ⟨59, _⟩ => ⟨S32768x8, .f32⟩
  | .hbm, ⟨60, _⟩ => ⟨S32768x8, .f32⟩
  | .hbm, ⟨61, _⟩ => ⟨S32768x8x1, .f32⟩
  | .hbm, ⟨62, _⟩ => ⟨S32768x8x16, .f32⟩
  | .hbm, ⟨63, _⟩ => ⟨S32768x8x16, .f32⟩
  | .hbm, ⟨64, _⟩ => ⟨S32768x8x16, .f32⟩
  | .hbm, ⟨65, _⟩ => ⟨S_, .f32⟩
  | .hbm, ⟨66, _⟩ => ⟨S32768x8, .f32⟩
  | .hbm, ⟨67, _⟩ => ⟨S32768x8x1, .f32⟩
  | .hbm, ⟨68, _⟩ => ⟨S32768x8x16, .f32⟩
  | .hbm, ⟨69, _⟩ => ⟨S32768x8x16, .f32⟩
  | .hbm, ⟨70, _⟩ => ⟨S8x16x32768, .i32⟩
  | .hbm, ⟨71, _⟩ => ⟨S8x16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_values_0 : Ref sig .tc := ⟨.hbm, 32, rfl⟩
abbrev main_indices_1 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_c_4 : Ref sig .tc := ⟨.hbm, 53, rfl⟩
abbrev main_call0_v14 : Ref sig .tc := ⟨.hbm, 54, rfl⟩
abbrev main_v26 : Ref sig .tc := ⟨.hbm, 55, rfl⟩
abbrev main_cst : Ref sig .tc := ⟨.hbm, 56, rfl⟩
abbrev main_v27 : Ref sig .tc := ⟨.hbm, 57, rfl⟩
abbrev main_cst_2 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_3 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== MlaKernel.lean ====
abbrev S32768x256 : Shape := ⟨2, ![32768, 256]⟩
abbrev S32768x128 : Shape := ⟨2, ![32768, 128]⟩
abbrev S32768x32 : Shape := ⟨2, ![32768, 32]⟩
abbrev S256 : Shape := ⟨1, ![256]⟩
abbrev S256x384 : Shape := ⟨2, ![256, 384]⟩
abbrev S128 : Shape := ⟨1, ![128]⟩
abbrev S128x512 : Shape := ⟨2, ![128, 512]⟩
abbrev S16384x8 : Shape := ⟨2, ![16384, 8]⟩
abbrev S32 : Shape := ⟨1, ![32]⟩
abbrev S_ : Shape := ⟨0, ![]⟩
abbrev S32x1 : Shape := ⟨2, ![32, 1]⟩
abbrev S16384x32 : Shape := ⟨2, ![16384, 32]⟩
abbrev S16384x64 : Shape := ⟨2, ![16384, 64]⟩
abbrev S16384x128 : Shape := ⟨2, ![16384, 128]⟩
abbrev S256x4x96 : Shape := ⟨3, ![256, 4, 96]⟩
abbrev S256x4x32 : Shape := ⟨3, ![256, 4, 32]⟩
abbrev S256x4x128 : Shape := ⟨3, ![256, 4, 128]⟩
abbrev S256x512 : Shape := ⟨2, ![256, 512]⟩
abbrev S256x1024 : Shape := ⟨2, ![256, 1024]⟩
abbrev S128x4x128 : Shape := ⟨3, ![128, 4, 128]⟩
abbrev S128x4x64 : Shape := ⟨3, ![128, 4, 64]⟩
abbrev S128x1024 : Shape := ⟨2, ![128, 1024]⟩
abbrev S1x256 : Shape := ⟨2, ![1, 256]⟩
abbrev S1x128 : Shape := ⟨2, ![1, 128]⟩
abbrev S32768x512 : Shape := ⟨2, ![32768, 512]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩

abbrev nBuf : Space → Nat
  | .hbm => 83
  | .vmem => 20
  | .smem => 0
  | _ => 0

abbrev bufTy : (tb : Table) → Fin (tcTables nBuf tb) → BufTy
  | .hbm, ⟨0, _⟩ => ⟨S32768x256, .f32⟩
  | .hbm, ⟨1, _⟩ => ⟨S32768x128, .f32⟩
  | .hbm, ⟨2, _⟩ => ⟨S32768x32, .f32⟩
  | .hbm, ⟨3, _⟩ => ⟨S256, .f32⟩
  | .hbm, ⟨4, _⟩ => ⟨S256x384, .f32⟩
  | .hbm, ⟨5, _⟩ => ⟨S128, .f32⟩
  | .hbm, ⟨6, _⟩ => ⟨S128x512, .f32⟩
  | .hbm, ⟨7, _⟩ => ⟨S16384x8, .f32⟩
  | .hbm, ⟨8, _⟩ => ⟨S16384x8, .f32⟩
  | .hbm, ⟨9, _⟩ => ⟨S32, .i32⟩
  | .hbm, ⟨10, _⟩ => ⟨S32, .i1⟩
  | .hbm, ⟨11, _⟩ => ⟨S32, .i32⟩
  | .hbm, ⟨12, _⟩ => ⟨S32, .i1⟩
  | .hbm, ⟨13, _⟩ => ⟨S_, .i32⟩
  | .hbm, ⟨14, _⟩ => ⟨S_, .f32⟩
  | .hbm, ⟨15, _⟩ => ⟨S32768x128, .f32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S32768x32, .f32⟩
  | .hbm, ⟨22, _⟩ => ⟨S_, .i32⟩
  | .hbm, ⟨23, _⟩ => ⟨S_, .f32⟩
  | .hbm, ⟨24, _⟩ => ⟨S32768x128, .f32⟩
  | .hbm, ⟨25, _⟩ => ⟨S32768x256, .f32⟩
  | .hbm, ⟨26, _⟩ => ⟨S16384x8, .f32⟩
  | .hbm, ⟨27, _⟩ => ⟨S16384x8, .f32⟩
  | .hbm, ⟨28, _⟩ => ⟨S16384x32, .f32⟩
  | .hbm, ⟨29, _⟩ => ⟨S16384x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x32, .f32⟩
  | .hbm, ⟨36, _⟩ => ⟨S_, .f32⟩
  | .hbm, ⟨37, _⟩ => ⟨S16384x64, .f32⟩
  | .hbm, ⟨38, _⟩ => ⟨S_, .f32⟩
  | .hbm, ⟨39, _⟩ => ⟨S16384x32, .f32⟩
  | .hbm, ⟨40, _⟩ => ⟨S16384x128, .f32⟩
  | .hbm, ⟨41, _⟩ => ⟨S_, .f32⟩
  | .hbm, ⟨42, _⟩ => ⟨S16384x64, .f32⟩
  | .hbm, ⟨43, _⟩ => ⟨S_, .f32⟩
  | .hbm, ⟨44, _⟩ => ⟨S16384x32, .f32⟩
  | .hbm, ⟨45, _⟩ => ⟨S16384x128, .f32⟩
  | .hbm, ⟨46, _⟩ => ⟨S256x4x96, .f32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S32, .i32⟩
  | .hbm, ⟨51, _⟩ => ⟨S32x1, .i32⟩
  | .hbm, ⟨52, _⟩ => ⟨S256x4x32, .f32⟩
  | .hbm, ⟨53, _⟩ => ⟨S_, .i32⟩
  | .hbm, ⟨54, _⟩ => ⟨S_, .f32⟩
  | .hbm, ⟨55, _⟩ => ⟨S256x4x128, .f32⟩
  | .hbm, ⟨56, _⟩ => ⟨S256x4x96, .f32⟩
  | .hbm, ⟨57, _⟩ => ⟨S_, .i32⟩
  | .hbm, ⟨58, _⟩ => ⟨S_, .f32⟩
  | .hbm, ⟨59, _⟩ => ⟨S256x4x128, .f32⟩
  | .hbm, ⟨60, _⟩ => ⟨S256x512, .f32⟩
  | .hbm, ⟨61, _⟩ => ⟨S256x512, .f32⟩
  | .hbm, ⟨62, _⟩ => ⟨S256x1024, .f32⟩
  | .hbm, ⟨63, _⟩ => ⟨S256x1024, .bf16⟩
  | .hbm, ⟨64, _⟩ => ⟨S128x4x128, .f32⟩
  | .hbm, ⟨65, _⟩ => ⟨S128x4x64, .f32⟩
  | .hbm, ⟨66, _⟩ => ⟨S_, .i32⟩
  | .hbm, ⟨67, _⟩ => ⟨S_, .f32⟩
  | .hbm, ⟨68, _⟩ => ⟨S128x4x128, .f32⟩
  | .hbm, ⟨69, _⟩ => ⟨S128x512, .f32⟩
  | .hbm, ⟨70, _⟩ => ⟨S128x4x128, .f32⟩
  | .hbm, ⟨71, _⟩ => ⟨S128x4x64, .f32⟩
  | .hbm, ⟨72, _⟩ => ⟨S_, .i32⟩
  | .hbm, ⟨73, _⟩ => ⟨S_, .f32⟩
  | .hbm, ⟨74, _⟩ => ⟨S128x4x128, .f32⟩
  | .hbm, ⟨75, _⟩ => ⟨S128x512, .f32⟩
  | .hbm, ⟨76, _⟩ => ⟨S128x1024, .f32⟩
  | .hbm, ⟨77, _⟩ => ⟨S128x1024, .bf16⟩
  | .hbm, ⟨78, _⟩ => ⟨S1x256, .f32⟩
  | .hbm, ⟨79, _⟩ => ⟨S1x128, .f32⟩
  | .hbm, ⟨80, _⟩ => ⟨S32768x512, .bf16⟩
  | .hbm, ⟨81, _⟩ => ⟨S32768x512, .bf16⟩
  | .hbm, ⟨82, _⟩ => ⟨S32768x512, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S128x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_v0 : Ref sig .tc := ⟨.hbm, 15, rfl⟩
abbrev main_c_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_5 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_c_11 : Ref sig .tc := ⟨.hbm, 57, rfl⟩
abbrev main_call3_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_12 : Ref sig .tc := ⟨.hbm, 66, rfl⟩
abbrev main_call4_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_13 : Ref sig .tc := ⟨.hbm, 72, rfl⟩
abbrev main_call5_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49_0 : Ref sig .tc := ⟨.hbm, 80, rfl⟩
abbrev main_v49_1 : Ref sig .tc := ⟨.hbm, 81, rfl⟩
abbrev main_v49_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlaReferenceIdeal.lean ====
abbrev S32768x256 : Shape := ⟨2, ![32768, 256]⟩
abbrev S32768x128 : Shape := ⟨2, ![32768, 128]⟩
abbrev S32768x32 : Shape := ⟨2, ![32768, 32]⟩
abbrev S256 : Shape := ⟨1, ![256]⟩
abbrev S256x384 : Shape := ⟨2, ![256, 384]⟩
abbrev S128 : Shape := ⟨1, ![128]⟩
abbrev S128x512 : Shape := ⟨2, ![128, 512]⟩
abbrev S16384x8 : Shape := ⟨2, ![16384, 8]⟩
abbrev S2x16384x256 : Shape := ⟨3, ![2, 16384, 256]⟩
abbrev S2x16384x128 : Shape := ⟨3, ![2, 16384, 128]⟩
abbrev S2x16384x32 : Shape := ⟨3, ![2, 16384, 32]⟩
abbrev S_ : Shape := ⟨0, ![]⟩
abbrev S2x16384 : Shape := ⟨2, ![2, 16384]⟩
abbrev S2x16384x1 : Shape := ⟨3, ![2, 16384, 1]⟩
abbrev S1x1x256 : Shape := ⟨3, ![1, 1, 256]⟩
abbrev S2x16384x384 : Shape := ⟨3, ![2, 16384, 384]⟩
abbrev S2x16384x4x96 : Shape := ⟨4, ![2, 16384, 4, 96]⟩
abbrev S1x1x128 : Shape := ⟨3, ![1, 1, 128]⟩
abbrev S2x16384x512 : Shape := ⟨3, ![2, 16384, 512]⟩
abbrev S2x16384x4x128 : Shape := ⟨4, ![2, 16384, 4, 128]⟩
abbrev S2x16384x4x64 : Shape := ⟨4, ![2, 16384, 4, 64]⟩
abbrev S2x16384x4x32 : Shape := ⟨4, ![2, 16384, 4, 32]⟩
abbrev S2x16384x1x32 : Shape := ⟨4, ![2, 16384, 1, 32]⟩
abbrev S2x16384x4x16 : Shape := ⟨4, ![2, 16384, 4, 16]⟩
abbrev S1x16384x1x8 : Shape := ⟨4, ![1, 16384, 1, 8]⟩
abbrev S2x16384x4x8 : Shape := ⟨4, ![2, 16384, 4, 8]⟩
abbrev S2x16384x1x16 : Shape := ⟨4, ![2, 16384, 1, 16]⟩
abbrev S2x16384x1x8 : Shape := ⟨4, ![2, 16384, 1, 8]⟩
abbrev S32768x512 : Shape := ⟨2, ![32768, 512]⟩

abbrev nBuf : Space → Nat
  | .hbm => 148
  | .vmem => 0
  | .smem => 0
  | _ => 0

abbrev hbmTy0_0 (i : Nat) : BufTy := match i % 128 with
  | 0 => ⟨S32768x256, .f32⟩
  | 1 => ⟨S32768x128, .f32⟩
  | 2 => ⟨S32768x32, .f32⟩
  | 3 => ⟨S256, .f32⟩
  | 4 => ⟨S256x384, .f32⟩
  | 5 => ⟨S128, .f32⟩
  | 6 => ⟨S128x512, .f32⟩
  | 7 => ⟨S16384x8, .f32⟩
  | 8 => ⟨S16384x8, .f32⟩
  | 9 => ⟨S2x16384x256, .f32⟩
  | 10 => ⟨S2x16384x128, .f32⟩
  | 11 => ⟨S2x16384x32, .f32⟩
  | 12 => ⟨S2x16384x256, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x256, .f32⟩
  | 24 => ⟨S2x16384x256, .f32⟩
  | 25 => ⟨S1x1x256, .f32⟩
  | 26 => ⟨S2x16384x256, .f32⟩
  | 27 => ⟨S2x16384x256, .f32⟩
  | 28 => ⟨S2x16384x384, .f32⟩
  | 29 => ⟨S2x16384x4x96, .f32⟩
  | 30 => ⟨S2x16384x128, .f32⟩
  | 31 => ⟨S_, .f32⟩
  | 32 => ⟨S2x16384, .f32⟩
  | 33 => ⟨S2x16384x1, .f32⟩
  | 34 => ⟨S_, .f32⟩
  | 35 => ⟨S2x16384x1, .f32⟩
  | 36 => ⟨S2x16384x1, .f32⟩
  | 37 => ⟨S_, .f32⟩
  | 38 => ⟨S2x16384x1, .f32⟩
  | 39 => ⟨S2x16384x1, .f32⟩
  | 40 => ⟨S2x16384x1, .f32⟩
  | 41 => ⟨S2x16384x128, .f32⟩
  | 42 => ⟨S2x16384x128, .f32⟩
  | 43 => ⟨S1x1x128, .f32⟩
  | 44 => ⟨S2x16384x128, .f32⟩
  | 45 => ⟨S2x16384x128, .f32⟩
  | 46 => ⟨S2x16384x512, .f32⟩
  | 47 => ⟨S2x16384x4x128, .f32⟩
  | 48 => ⟨S2x16384x4x64, .f32⟩
  | 49 => ⟨S2x16384x4x32, .f32⟩
  | 50 => ⟨S2x16384x4x64, .f32⟩
  | 51 => ⟨S2x16384x4x64, .f32⟩
  | 52 => ⟨S2x16384x1x32, .f32⟩
  | 53 => ⟨S2x16384x4x16, .f32⟩
  | 54 => ⟨S2x16384x4x16, .f32⟩
  | 55 => ⟨S16384x8, .f32⟩
  | 56 => ⟨S1x16384x1x8, .f32⟩
  | 57 => ⟨S16384x8, .f32⟩
  | 58 => ⟨S1x16384x1x8, .f32⟩
  | 59 => ⟨S2x16384x4x8, .f32⟩
  | 60 => ⟨S2x16384x4x8, .f32⟩
  | 61 => ⟨S2x16384x4x8, .f32⟩
  | 62 => ⟨S2x16384x4x8, .f32⟩
  | 63 => ⟨S2x16384x4x8, .f32⟩
  | 64 => ⟨S2x16384x4x8, .f32⟩
  | 65 => ⟨S2x16384x4x8, .f32⟩
  | 66 => ⟨S2x16384x4x8, .f32⟩
  | 67 => ⟨S2x16384x4x8, .f32⟩
  | 68 => ⟨S2x16384x4x8, .f32⟩
  | 69 => ⟨S2x16384x4x8, .f32⟩
  | 70 => ⟨S2x16384x4x8, .f32⟩
  | 71 => ⟨S2x16384x4x16, .f32⟩
  | 72 => ⟨S16384x8, .f32⟩
  | 73 => ⟨S1x16384x1x8, .f32⟩
  | 74 => ⟨S16384x8, .f32⟩
  | 75 => ⟨S1x16384x1x8, .f32⟩
  | 76 => ⟨S2x16384x4x8, .f32⟩
  | 77 => ⟨S2x16384x4x8, .f32⟩
  | 78 => ⟨S2x16384x4x8, .f32⟩
  | 79 => ⟨S2x16384x4x8, .f32⟩
  | 80 => ⟨S2x16384x4x8, .f32⟩
  | 81 => ⟨S2x16384x4x8, .f32⟩
  | 82 => ⟨S2x16384x4x8, .f32⟩
  | 83 => ⟨S2x16384x4x8, .f32⟩
  | 84 => ⟨S2x16384x4x8, .f32⟩
  | 85 => ⟨S2x16384x4x8, .f32⟩
  | 86 => ⟨S2x16384x4x8, .f32⟩
  | 87 => ⟨S2x16384x4x8, .f32⟩
  | 88 => ⟨S2x16384x4x16, .f32⟩
  | 89 => ⟨S2x16384x4x32, .f32⟩
  | 90 => ⟨S2x16384x1x16, .f32⟩
  | 91 => ⟨S2x16384x1x16, .f32⟩
  | 92 => ⟨S16384x8, .f32⟩
  | 93 => ⟨S1x16384x1x8, .f32⟩
  | 94 => ⟨S16384x8, .f32⟩
  | 95 => ⟨S1x16384x1x8, .f32⟩
  | 96 => ⟨S2x16384x1x8, .f32⟩
  | 97 => ⟨S2x16384x1x8, .f32⟩
  | 98 => ⟨S2x16384x1x8, .f32⟩
  | 99 => ⟨S2x16384x1x8, .f32⟩
  | 100 => ⟨S2x16384x1x8, .f32⟩
  | 101 => ⟨S2x16384x1x8, .f32⟩
  | 102 => ⟨S2x16384x1x8, .f32⟩
  | 103 => ⟨S2x16384x1x8, .f32⟩
  | 104 => ⟨S2x16384x1x8, .f32⟩
  | 105 => ⟨S2x16384x1x8, .f32⟩
  | 106 => ⟨S2x16384x1x8, .f32⟩
  | 107 => ⟨S2x16384x1x8, .f32⟩
  | 108 => ⟨S2x16384x1x16, .f32⟩
  | 109 => ⟨S16384x8, .f32⟩
  | 110 => ⟨S1x16384x1x8, .f32⟩
  | 111 => ⟨S16384x8, .f32⟩
  | 112 => ⟨S1x16384x1x8, .f32⟩
  | 113 => ⟨S2x16384x1x8, .f32⟩
  | 114 => ⟨S2x16384x1x8, .f32⟩
  | 115 => ⟨S2x16384x1x8, .f32⟩
  | 116 => ⟨S2x16384x1x8, .f32⟩
  | 117 => ⟨S2x16384x1x8, .f32⟩
  | 118 => ⟨S2x16384x1x8, .f32⟩
  | 119 => ⟨S2x16384x1x8, .f32⟩
  | 120 => ⟨S2x16384x1x8, .f32⟩
  | 121 => ⟨S2x16384x1x8, .f32⟩
  | 122 => ⟨S2x16384x1x8, .f32⟩
  | 123 => ⟨S2x16384x1x8, .f32⟩
  | 124 => ⟨S2x16384x1x8, .f32⟩
  | 125 => ⟨S2x16384x1x16, .f32⟩
  | 126 => ⟨S2x16384x1x32, .f32⟩
  | 127 => ⟨S2x16384x4x32, .f32⟩
  | _ => ⟨S32768x256, .f32⟩

abbrev hbmTy0_1 (i : Nat) : BufTy := match i % 128 with
  | 0 => ⟨S2x16384x4x96, .f32⟩
  | 1 => ⟨S2x16384x4x96, .f32⟩
  | 2 => ⟨S2x16384x4x96, .bf16⟩
  | 3 => ⟨S_, .i32⟩
  | 4 => ⟨S_, .bf16⟩
  | 5 => ⟨S2x16384x4x128, .bf16⟩
  | 6 => ⟨S2x16384x512, .bf16⟩
  | 7 => ⟨S32768x512, .bf16⟩
  | 8 => ⟨S2x16384x4x96, .bf16⟩
  | 9 => ⟨S_, .i32⟩
  | 10 => ⟨S_, .bf16⟩
  | 11 => ⟨S2x16384x4x128, .bf16⟩
  | 12 => ⟨S2x16384x512, .bf16⟩
  | 13 => ⟨S32768x512, .bf16⟩
  | 14 => ⟨S2x16384x4x64, .bf16⟩
  | 15 => ⟨S_, .i32⟩
  | 16 => ⟨S_, .bf16⟩
  | 17 => ⟨S2x16384x4x128, .bf16⟩
  | 18 => ⟨S2x16384x512, .bf16⟩
  | 19 => ⟨S32768x512, .bf16⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_c : Ref sig .tc := ⟨.hbm, 131, rfl⟩
abbrev main_call0_v0 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_c_5 : Ref sig .tc := ⟨.hbm, 137, rfl⟩
abbrev main_call1_v0 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_c_6 : Ref sig .tc := ⟨.hbm, 143, rfl⟩
abbrev main_call2_v0 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩

abbrev nD : Nat := 1
abbrev τ : Topo := Topo.v7x

variable {F : FTy → Type} [FloatOps F]
-- ==== FinalKernel.lean ====
abbrev S2x16384x1024 : Shape := ⟨3, ![2, 16384, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S32768x1024, .f32⟩
  | .hbm, ⟨3, _⟩ => ⟨S1x1024, .f32⟩
  | .hbm, ⟨4, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalReferenceIdeal.lean ====
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x1024, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S1x1x1024, .f32⟩
  | .hbm, ⟨16, _⟩ => ⟨S2x16384x1024, .f32⟩
  | .hbm, ⟨17, _⟩ => ⟨S2x16384x1024, .f32⟩
  | .hbm, ⟨18, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdaKernel.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S1x6144, .f32⟩
  | .hbm, ⟨10, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S2x6144 : Shape := ⟨2, ![2, 6144]⟩
abbrev S1x6144 : Shape := ⟨2, ![1, 6144]⟩
abbrev S5x6144 : Shape := ⟨2, ![5, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x6144, .f32⟩
  | .hbm, ⟨14, _⟩ => ⟨S1x6144, .f32⟩
  | .hbm, ⟨15, _⟩ => ⟨S2x6144, .f32⟩
  | .hbm, ⟨16, _⟩ => ⟨S2x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S1x6144, .f32⟩
  | .hbm, ⟨29, _⟩ => ⟨S5x6144, .f32⟩
  | .hbm, ⟨30, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== CtxKernel.lean ====
abbrev S2x256x4x64 : Shape := ⟨4, ![2, 256, 4, 64]⟩
abbrev S2x4x256x64 : Shape := ⟨4, ![2, 4, 256, 64]⟩
abbrev S2x256x4x1x64 : Shape := ⟨5, ![2, 256, 4, 1, 64]⟩
abbrev S_ : Shape := ⟨0, ![]⟩
abbrev S4 : Shape := ⟨1, ![4]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 13
  | .vmem => 8
  | .smem => 1
  | _ => 0

abbrev bufTy : (tb : Table) → Fin (tcTables nBuf tb) → BufTy
  | .hbm, ⟨0, _⟩ => ⟨S2x256x4x64, .f32⟩
  | .hbm, ⟨1, _⟩ => ⟨S2x256x4x64, .f32⟩
  | .hbm, ⟨2, _⟩ => ⟨S2x256x4x64, .f32⟩
  | .hbm, ⟨3, _⟩ => ⟨S2x4x256x64, .f32⟩
  | .hbm, ⟨4, _⟩ => ⟨S2x256x4x1x64, .f32⟩
  | .hbm, ⟨5, _⟩ => ⟨S2x256x4x64, .f32⟩
  | .hbm, ⟨6, _⟩ => ⟨S2x4x256x64, .f32⟩
  | .hbm, ⟨7, _⟩ => ⟨S2x256x4x1x64, .f32⟩
  | .hbm, ⟨8, _⟩ => ⟨S2x256x4x64, .f32⟩
  | .hbm, ⟨9, _⟩ => ⟨S2x4x256x64, .f32⟩
  | .hbm, ⟨10, _⟩ => ⟨S_, .f32⟩
  | .hbm, ⟨11, _⟩ => ⟨S4, .f32⟩
  | .hbm, ⟨12, _⟩ => ⟨S2x4x256x64, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x256x64, .f32⟩
  | .local _ .vmem, ⟨3, _⟩ => ⟨S1x1x256x64, .f32⟩
  | .local _ .vmem, ⟨4, _⟩ => ⟨S1x1x256x64, .f32⟩
  | .local _ .vmem, ⟨5, _⟩ => ⟨S1x1x256x64, .f32⟩
  | .local _ .vmem, ⟨6, _⟩ => ⟨S1x1x256x64, .f32⟩
  | .local _ .vmem, ⟨7, _⟩ => ⟨S1x1x256x64, .f32⟩
  | .local _ .smem, ⟨0, _⟩ => ⟨S4, .f32⟩
  | _, _ => ⟨S2x256x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxReferenceIdeal.lean ====
abbrev S2x256x4x64 : Shape := ⟨4, ![2, 256, 4, 64]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x4x256x64 : Shape := ⟨4, ![2, 4, 256, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x256x4x64, .f32⟩
  | .hbm, ⟨1, _⟩ => ⟨S2x256x4x64, .f32⟩
  | .hbm, ⟨2, _⟩ => ⟨S2x256x4x64, .f32⟩
  | .hbm, ⟨3, _⟩ => ⟨S2x4x256x256, .f32⟩
  | .hbm, ⟨4, _⟩ => ⟨S_, .f32⟩
  | .hbm, ⟨5, _⟩ => ⟨S2x4x256x256, .f32⟩
  | .hbm, ⟨6, _⟩ => ⟨S2x4x256x256, .f32⟩
  | .hbm, ⟨7, _⟩ => ⟨S_, .f32⟩
  | .hbm, ⟨8, _⟩ => ⟨S2x4x256, .f32⟩
  | .hbm, ⟨9, _⟩ => ⟨S_, .f32⟩
  | .hbm, ⟨10, _⟩ => ⟨S2x4x256, .f32⟩
  | .hbm, ⟨11, _⟩ => ⟨S2x4x256, .f32⟩
  | .hbm, ⟨12, _⟩ => ⟨S2x4x256x1, .f32⟩
  | .hbm, ⟨13, _⟩ => ⟨S2x4x256x256, .f32⟩
  | .hbm, ⟨14, _⟩ => ⟨S2x4x256x256, .f32⟩
  | .hbm, ⟨15, _⟩ => ⟨S2x4x256x256, .f32⟩
  | .hbm, ⟨16, _⟩ => ⟨S_, .f32⟩
  | .hbm, ⟨17, _⟩ => ⟨S2x4x256, .f32⟩
  | .hbm, ⟨18, _⟩ => ⟨S2x4x256x1, .f32⟩
  | .hbm, ⟨19, _⟩ => ⟨S2x4x256x256, .f32⟩
  | .hbm, ⟨20, _⟩ => ⟨S2x4x256x256, .f32⟩
  | .hbm, ⟨21, _⟩ => ⟨S2x4x64x256, .f32⟩
  | .hbm, ⟨22, _⟩ => ⟨S2x256x4x64, .f32⟩
  | .hbm, ⟨23, _⟩ => ⟨S2x4x256x64, .f32⟩
  | _, _ => ⟨S2x256x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SinkKernel.lean ====
abbrev S2x256x4x64 : Shape := ⟨4, ![2, 256, 4, 64]⟩
abbrev S2x256x2x64 : Shape := ⟨4, ![2, 256, 2, 64]⟩
abbrev S4 : Shape := ⟨1, ![4]⟩
abbrev S2x4x256x64 : Shape := ⟨4, ![2, 4, 256, 64]⟩
abbrev S2x256x2x2x64 : Shape := ⟨5, ![2, 256, 2, 2, 64]⟩
abbrev S1x1x256x64 : Shape := ⟨4, ![1, 1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1 : Shape := ⟨1, ![1]⟩

abbrev nBuf : Space → Nat
  | .hbm => 12
  | .vmem => 8
  | .smem => 1
  | _ => 0

abbrev bufTy : (tb : Table) → Fin (tcTables nBuf tb) → BufTy
  | .hbm, ⟨0, _⟩ => ⟨S2x256x4x64, .f32⟩
  | .hbm, ⟨1, _⟩ => ⟨S2x256x2x64, .f32⟩
  | .hbm, ⟨2, _⟩ => ⟨S2x256x2x64, .f32⟩
  | .hbm, ⟨3, _⟩ => ⟨S4, .f32⟩
  | .hbm, ⟨4, _⟩ => ⟨S2x4x256x64, .f32⟩
  | .hbm, ⟨5, _⟩ => ⟨S2x256x2x2x64, .f32⟩
  | .hbm, ⟨6, _⟩ => ⟨S2x256x4x64, .f32⟩
  | .hbm, ⟨7, _⟩ => ⟨S2x4x256x64, .f32⟩
  | .hbm, ⟨8, _⟩ => ⟨S2x256x2x2x64, .f32⟩
  | .hbm, ⟨9, _⟩ => ⟨S2x256x4x64, .f32⟩
  | .hbm, ⟨10, _⟩ => ⟨S2x4x256x64, .f32⟩
  | .hbm, ⟨11, _⟩ => ⟨S2x4x256x64, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x256x64, .f32⟩
  | .local _ .vmem, ⟨3, _⟩ => ⟨S1x1x256x64, .f32⟩
  | .local _ .vmem, ⟨4, _⟩ => ⟨S1x1x256x64, .f32⟩
  | .local _ .vmem, ⟨5, _⟩ => ⟨S1x1x256x64, .f32⟩
  | .local _ .vmem, ⟨6, _⟩ => ⟨S1x1x256x64, .f32⟩
  | .local _ .vmem, ⟨7, _⟩ => ⟨S1x1x256x64, .f32⟩
  | .local _ .smem, ⟨0, _⟩ => ⟨S4, .f32⟩
  | _, _ => ⟨S2x256x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_off1 (i : grid0.Coords) : Fin 1 → Nat :=
  let arg1 : BitVec 32 := BitVec.ofNat 32 (i 1).val
  let v11 : Index := Scalar.indexCast arg1
  ![v11.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SinkReferenceIdeal.lean ====
abbrev S2x256x4x64 : Shape := ⟨4, ![2, 256, 4, 64]⟩
abbrev S2x256x2x64 : Shape := ⟨4, ![2, 256, 2, 64]⟩
abbrev S4 : Shape := ⟨1, ![4]⟩
abbrev S2x256x2x2x64 : Shape := ⟨5, ![2, 256, 2, 2, 64]⟩
abbrev S2x4x256x256 : Shape := ⟨4, ![2, 4, 256, 256]⟩
abbrev S_ : Shape := ⟨0, ![]⟩
abbrev S1x4x1x1 : Shape := ⟨4, ![1, 4, 1, 1]⟩
abbrev S2x4x256x1 : Shape := ⟨4, ![2, 4, 256, 1]⟩
abbrev S2x4x256x257 : Shape := ⟨4, ![2, 4, 256, 257]⟩
abbrev S2x4x256 : Shape := ⟨3, ![2, 4, 256]⟩
abbrev S2x4x64x256 : Shape := ⟨4, ![2, 4, 64, 256]⟩
abbrev S2x4x256x64 : Shape := ⟨4, ![2, 4, 256, 64]⟩

abbrev nBuf : Space → Nat
  | .hbm => 33
  | .vmem => 0
  | .smem => 0
  | _ => 0

abbrev bufTy : (tb : Table) → Fin (tcTables nBuf tb) → BufTy
  | .hbm, ⟨0, _⟩ => ⟨S2x256x4x64, .f32⟩
  | .hbm, ⟨1, _⟩ => ⟨S2x256x2x64, .f32⟩
  | .hbm, ⟨2, _⟩ => ⟨S2x256x2x64, .f32⟩
  | .hbm, ⟨3, _⟩ => ⟨S4, .f32⟩
  | .hbm, ⟨4, _⟩ => ⟨S2x256x2x2x64, .f32⟩
  | .hbm, ⟨5, _⟩ => ⟨S2x256x4x64, .f32⟩
  | .hbm, ⟨6, _⟩ => ⟨S2x256x2x2x64, .f32⟩
  | .hbm, ⟨7, _⟩ => ⟨S2x256x4x64, .f32⟩
  | .hbm, ⟨8, _⟩ => ⟨S2x4x256x256, .f32⟩
  | .hbm, ⟨9, _⟩ => ⟨S_, .f32⟩
  | .hbm, ⟨10, _⟩ => ⟨S2x4x256x256, .f32⟩
  | .hbm, ⟨11, _⟩ => ⟨S2x4x256x256, .f32⟩
  | .hbm, ⟨12, _⟩ => ⟨S1x4x1x1, .f32⟩
  | .hbm, ⟨13, _⟩ => ⟨S2x4x256x1, .f32⟩
  | .hbm, ⟨14, _⟩ => ⟨S2x4x256x257, .f32⟩
  | .hbm, ⟨15, _⟩ => ⟨S_, .f32⟩
  | .hbm, ⟨16, _⟩ => ⟨S2x4x256, .f32⟩
  | .hbm, ⟨17, _⟩ => ⟨S_, .f32⟩
  | .hbm, ⟨18, _⟩ => ⟨S2x4x256, .f32⟩
  | .hbm, ⟨19, _⟩ => ⟨S2x4x256, .f32⟩
  | .hbm, ⟨20, _⟩ => ⟨S2x4x256x1, .f32⟩
  | .hbm, ⟨21, _⟩ => ⟨S2x4x256x257, .f32⟩
  | .hbm, ⟨22, _⟩ => ⟨S2x4x256x257, .f32⟩
  | .hbm, ⟨23, _⟩ => ⟨S2x4x256x257, .f32⟩
  | .hbm, ⟨24, _⟩ => ⟨S_, .f32⟩
  | .hbm, ⟨25, _⟩ => ⟨S2x4x256, .f32⟩
  | .hbm, ⟨26, _⟩ => ⟨S2x4x256x1, .f32⟩
  | .hbm, ⟨27, _⟩ => ⟨S2x4x256x257, .f32⟩
  | .hbm, ⟨28, _⟩ => ⟨S2x4x256x257, .f32⟩
  | .hbm, ⟨29, _⟩ => ⟨S2x4x256x256, .f32⟩
  | .hbm, ⟨30, _⟩ => ⟨S2x4x64x256, .f32⟩
  | .hbm, ⟨31, _⟩ => ⟨S2x256x4x64, .f32⟩
  | .hbm, ⟨32, _⟩ => ⟨S2x4x256x64, .f32⟩
  | _, _ => ⟨S2x256x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Att.Kit.lean ====
/- The dense attention's body conditions, staging memrefs and invariant, as the region's run reads them: which head's
   store a grid point makes, by the point's number. -/
module

public import proofs.«01_k».proof.Proof.Gen.KernelIdeal.Frame
public import proofs.«01_k».proof.Proof.Gen.KernelIdeal.Skeleton

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at every point — by arithmetic of the point. -/
theorem hcond0_0 : ∀ t : Fin cfg0.N, cond0_0 (grid0.coords t) :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    have e3 : (grid0.coords t 3).val = t.val / 1 % 1 := Pipeline.Grid.coords_val t 3 (by decide) rfl
    simp only [cond0_0, e0, e1, e2, e3]
    word_cmp
   : ∀ t : Fin grid0.N, cond0_0 (grid0.coords t))

/-- The condition of the body's `scf.if` 1 (`k0_h2`), from the grid coordinates (the skeleton's scalar
    chain substituted). -/
abbrev cond0_1 (i : grid0.Coords) : Prop := k0_cond2 i = 1#1
/-- It holds at the points ≡ 0 (mod 4) — by arithmetic of the point. -/
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    have e3 : (grid0.coords t 3).val = t.val / 1 % 1 := Pipeline.Grid.coords_val t 3 (by decide) rfl
    simp only [cond0_1, k0_cond2, e0, e1, e2, e3]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 1 (mod 4) — by arithmetic of the point. -/
theorem hcond0_2 : ∀ t : Fin cfg0.N, cond0_2 (grid0.coords t) ↔ t.val % 4 = 1 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    have e3 : (grid0.coords t 3).val = t.val / 1 % 1 := Pipeline.Grid.coords_val t 3 (by decide) rfl
    simp only [cond0_2, k0_cond3, e0, e1, e2, e3]
    word_cmp
   : ∀ t : Fin grid0.N, cond0_2 (grid0.coords t) ↔ t.val % 4 = 1)

/-- The condition of the body's `scf.if` 3 (`k0_h4`), from the grid coordinates (the skeleton's scalar
    chain substituted). -/
abbrev cond0_3 (i : grid0.Coords) : Prop := k0_cond4 i = 1#1
/-- It holds at the points ≡ 2 (mod 4) — by arithmetic of the point. -/
theorem hcond0_3 : ∀ t : Fin cfg0.N, cond0_3 (grid0.coords t) ↔ t.val % 4 = 2 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    have e3 : (grid0.coords t 3).val = t.val / 1 % 1 := Pipeline.Grid.coords_val t 3 (by decide) rfl
    simp only [cond0_3, k0_cond4, e0, e1, e2, e3]
    word_cmp
   : ∀ t : Fin grid0.N, cond0_3 (grid0.coords t) ↔ t.val % 4 = 2)

/-- The condition of the body's `scf.if` 4 (`k0_h5`), from the grid coordinates (the skeleton's scalar
    chain substituted). -/
abbrev cond0_4 (i : grid0.Coords) : Prop := k0_cond5 i = 1#1
/-- It holds at the points ≡ 3 (mod 4) — by arithmetic of the point. -/
theorem hcond0_4 : ∀ t : Fin cfg0.N, cond0_4 (grid0.coords t) ↔ t.val % 4 = 3 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    have e3 : (grid0.coords t 3).val = t.val / 1 % 1 := Pipeline.Grid.coords_val t 3 (by decide) rfl
    simp only [cond0_4, k0_cond5, e0, e1, e2, e3]
    word_cmp
   : ∀ t : Fin grid0.N, cond0_4 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16640x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x256 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Att

end
-- ==== Proof.Att.Words.lean ====
/- The dense attention's body, run once for the names of the contents of its scratch. -/
module

public import proofs.«01_k».proof.Proof.Att.Kit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: checking it walks past the default budget)
set_option maxHeartbeats 1000000 in
/-- The body runs at a head's first case, its buffers' contents named by the run (`bodyWords.sl.*`): what the scratch holds
    when the quotient is read. -/
theorem bodyWords (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : cond0_1 i) (hc2 : ¬cond0_2 i) (hc3 : ¬cond0_3 i) (hc4 : ¬cond0_4 i)
    (x0 : Vec F S1x1024x128 .bf16) (x1 : Vec F S1x16640x128 .bf16) (x2 : Vec F S1x16640x128 .bf16) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Att.Pure.lean ====
/- The dense attention's payloads over the extended reals, at an index: one block of 256 query rows against the whole key axis. -/
module

public import Idealize.ShloMosaic.Lib.Pointwise
public import proofs.«01_k».proof.Proof.Gen.KernelIdeal.Skeleton

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! The four unrolled blocks of 256 query rows are one block, written four times. -/

theorem pay17_eq (q : FVec F S1x256x128 .bf16) (k : FVec F S1x16640x128 .bf16) (m0 : FVec F S256x1 .f32) :
    k0_pay17 q k m0 = k0_pay10 q k m0 := rfl

/-- The second block's sum is the first's. -/
theorem pay20_eq (q : FVec F S1x256x128 .bf16) (k : FVec F S1x16640x128 .bf16) (m0 l0 : FVec F S256x1 .f32) :
    k0_pay20 (k0_pay18 q k m0) (k0_pay19 q k m0) l0 = k0_pay13 q k m0 l0 := rfl

/-- The second block's weighted sum is the first's. -/
theorem pay21_eq (q : FVec F S1x256x128 .bf16) (k v : FVec F S1x16640x128 .bf16) (m0 : FVec F S256x1 .f32)
    (a0 : FVec F S256x128 .f32) :
    k0_pay21 (k0_pay18 q k m0) (k0_pay19 q k m0) a0 v = k0_pay14 (k0_pay11 q k m0) (k0_pay12 q k m0) a0 v := rfl

/-- The third block's sum is the first's. -/
theorem pay29_eq (q : FVec F S1x256x128 .bf16) (k : FVec F S1x16640x128 .bf16) (m0 l0 : FVec F S256x1 .f32) :
    k0_pay29 (k0_pay23 q k) k0_pay24 m0 l0 = k0_pay13 q k m0 l0 := rfl

/-- The third block's weighted sum is the first's. -/
theorem pay30_eq (q : FVec F S1x256x128 .bf16) (k v : FVec F S1x16640x128 .bf16) (m0 : FVec F S256x1 .f32)
    (a0 : FVec F S256x128 .f32) :
    k0_pay30 (k0_pay23 q k) k0_pay24 m0 a0 v = k0_pay14 (k0_pay11 q k m0) (k0_pay12 q k m0) a0 v := rfl

/-- The fourth block's sum is the first's. -/
theorem pay36_eq (q : FVec F S1x256x128 .bf16) (k : FVec F S1x16640x128 .bf16) (m0 l0 : FVec F S256x1 .f32) :
    k0_pay36 q k m0 l0 = k0_pay13 q k m0 l0 := rfl

/-- The fourth block's weighted sum is the first's. -/
theorem pay37_eq (q : FVec F S1x256x128 .bf16) (k v : FVec F S1x16640x128 .bf16) (m0 : FVec F S256x1 .f32)
    (a0 : FVec F S256x128 .f32) :
    k0_pay37 q k m0 a0 v = k0_pay14 (k0_pay11 q k m0) (k0_pay12 q k m0) a0 v := rfl

/-! Over the extended reals. -/

/-- The scale and the base-two logarithm of e, as the program names their product. -/
def kap : EReal := (((3424635 / 33554432) * (Real.log 2)⁻¹ : ℝ) : EReal)

theorem named_kap : Named.named (F := Ideal) (φ := .f32) κ "scale_log2e" 0x3E16C740#32 = kap := rfl

/-- A score, in base two. -/
theorem p9 (q : FVec Ideal S1x256x128 .bf16) (k : FVec Ideal S1x16640x128 .bf16) (r : Fin 256) (n : Fin 16640) :
    k0_pay9 (F := Ideal) q k (ix2 r n) = (∑ d : Fin 128, q (ix3 0 r d) * k (ix3 0 n d)) * kap := by
  pointwise [k0_pay9]
  exact congrArg _ named_kap

/-- A row maximum over the key axis is the fold of `max`. -/
theorem rowMax (s : FVec Ideal S256x16640 .f32) (r : Fin 256) :
      multiReduction .maximumf [1] S256 s 0xFF800000#32 reduces_S256x16640_S256 (.inl rfl) rfl (ix1 r) =
          ((Finset.univ : Finset (Fin 16640)).fold max (FloatOps.ofBits (F := Ideal) .f32 0xFF800000#32) fun n => s (ix2 r n)) := by
    refine (Ideal.multiReduction_maximumf_single s _ reduces_S256x16640_S256 (.inl rfl) rfl (ix1 r)).trans ?_
    refine Finset.fold_congr fun n _ => ?_
    refine congrArg s ?_
    funext a
    fin_cases a
    · rfl
    · rfl

/-- The running maximum at a row. -/
theorem maxCol (w : FVec Ideal S256 .f32) (m0 : FVec Ideal S256x1 .f32) (r : Fin 256) :
   maximumf m0 (shapeCast S256x1 w shapeCasts_S256_S256x1) (ix2 r 0) = max (m0 (ix2 r 0)) (w (ix1 r)) := by
  pointwise []

/-- A row's greatest score so far. -/
theorem p10 (q : FVec Ideal S1x256x128 .bf16) (k : FVec Ideal S1x16640x128 .bf16) (m0 : FVec Ideal S256x1 .f32) (r : Fin 256) :
    k0_pay10 (F := Ideal) q k m0 (ix2 r 0) = max (m0 (ix2 r 0))
      ((Finset.univ : Finset (Fin 16640)).fold max (FloatOps.ofBits (F := Ideal) .f32 0xFF800000#32) fun n => k0_pay9 q k (ix2 r n)) := by
  unfold k0_pay10
  generalize k0_pay9 (F := Ideal) q k = s
  exact (maxCol _ _ _).trans (congrArg _ (rowMax s r))

/-- A row's sum of exponentials. -/
theorem p13 (q : FVec Ideal S1x256x128 .bf16) (k : FVec Ideal S1x16640x128 .bf16) (m0 l0 : FVec Ideal S256x1 .f32)
    (r : Fin 256) :
    k0_pay13 (F := Ideal) q k m0 l0 (ix2 r 0)
      = FloatOps.exp2 (F := Ideal) (φ := .f32) (m0 (ix2 r 0) - k0_pay10 q k m0 (ix2 r 0)) * l0 (ix2 r 0)
        + ∑ n : Fin 16640, FloatOps.exp2 (F := Ideal) (φ := .f32) (k0_pay9 q k (ix2 r n) - k0_pay10 q k m0 (ix2 r 0)) := by
  pointwise [k0_pay13, k0_pay11, k0_pay12]

/-- A row's weighted sum of the values. -/
theorem p14 (q : FVec Ideal S1x256x128 .bf16) (k v : FVec Ideal S1x16640x128 .bf16) (m0 : FVec Ideal S256x1 .f32)
    (a0 : FVec Ideal S256x128 .f32) (r : Fin 256) (e : Fin 128) :
    k0_pay14 (F := Ideal) (k0_pay11 q k m0) (k0_pay12 q k m0) a0 v (ix2 r e)
      = FloatOps.exp2 (F := Ideal) (φ := .f32) (m0 (ix2 r 0) - k0_pay10 q k m0 (ix2 r 0)) * a0 (ix2 r e)
        + ∑ n : Fin 16640, FloatOps.exp2 (F := Ideal) (φ := .f32) (k0_pay9 q k (ix2 r n) - k0_pay10 q k m0 (ix2 r 0))
            * v (ix3 0 n e) := by
  pointwise [k0_pay14, k0_pay11, k0_pay12]

/-- What head 0 stores: the weighted sum over the sum. -/
theorem p2 (a : FVec Ideal S1024x128 .f32) (l : FVec Ideal S1024x1 .f32) (r : Fin 1024) (e : Fin 64) :
    k0_pay2 (F := Ideal) a l (ix3 0 r e) = Ideal.div (a (ix2 r ⟨e, by omega⟩)) (l (ix2 r 0)) := by
  pointwise [k0_pay2]

/-- What head 1 stores: the weighted sum over the sum. -/
theorem p3 (a : FVec Ideal S1024x128 .f32) (l : FVec Ideal S1024x1 .f32) (r : Fin 1024) (e : Fin 64) :
    k0_pay3 (F := Ideal) a l (ix3 0 r e) = Ideal.div (a (ix2 r ⟨e, by omega⟩)) (l (ix2 r 0)) := by
  pointwise [k0_pay3]

/-- What head 2 stores: the weighted sum over the sum. -/
theorem p4 (a : FVec Ideal S1024x128 .f32) (l : FVec Ideal S1024x1 .f32) (r : Fin 1024) (e : Fin 64) :
    k0_pay4 (F := Ideal) a l (ix3 0 r e) = Ideal.div (a (ix2 r ⟨e, by omega⟩)) (l (ix2 r 0)) := by
  pointwise [k0_pay4]

/-- What head 3 stores: the weighted sum over the sum. -/
theorem p5 (a : FVec Ideal S1024x128 .f32) (l : FVec Ideal S1024x1 .f32) (r : Fin 1024) (e : Fin 64) :
    k0_pay5 (F := Ideal) a l (ix3 0 r e) = Ideal.div (a (ix2 r ⟨e, by omega⟩)) (l (ix2 r 0)) := by
  pointwise [k0_pay5]

end Cert.KernelIdeal.Att

end
-- ==== Proof.Att.Values.lean ====
/- What the dense attention's scratch holds when the quotient is read. -/
module

public import proofs.«01_k».proof.Proof.Att.Words
public import proofs.«01_k».proof.Proof.Att.Pure
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! What a head's row works out to, over the extended reals, from the head's queries, keys and values. -/

/-- A score in base two. -/
def sc (x0 : Vec Ideal S1x1024x128 .bf16) (x1 : Vec Ideal S1x16640x128 .bf16) (r : Fin 1024) (n : Fin 16640) : EReal :=
  (∑ d : Fin 128, x0 (ix3 0 r d) * x1 (ix3 0 n d)) * kap

/-- A row's maximum before any key is seen. -/
def mz : EReal := FloatOps.ofBits (F := Ideal) .f32 0xFF800000#32

/-- A row's maximum. -/
def mx (x0 : Vec Ideal S1x1024x128 .bf16) (x1 : Vec Ideal S1x16640x128 .bf16) (r : Fin 1024) : EReal :=
  max mz ((Finset.univ : Finset (Fin 16640)).fold max mz fun n => sc x0 x1 r n)

/-- The exponential in base two. -/
def ex (x : EReal) : EReal := FloatOps.exp2 (F := Ideal) (φ := .f32) x

/-- A row's weighted sum of the values. -/
def ac (x0 : Vec Ideal S1x1024x128 .bf16) (x1 x2 : Vec Ideal S1x16640x128 .bf16) : Vec Ideal S1024x128 .f32 := fun y =>
  ex (mz - mx x0 x1 (y 0)) * FloatOps.ofBits (F := Ideal) .f32 0x00000000#32
    + ∑ n : Fin 16640, ex (sc x0 x1 (y 0) n - mx x0 x1 (y 0)) * x2 (ix3 0 n (y 1))

/-- A row's sum of the weights. -/
def li (x0 : Vec Ideal S1x1024x128 .bf16) (x1 : Vec Ideal S1x16640x128 .bf16) : Vec Ideal S1024x1 .f32 := fun y =>
  ex (mz - mx x0 x1 (y 0)) * FloatOps.ofBits (F := Ideal) .f32 0x00000000#32
    + ∑ n : Fin 16640, ex (sc x0 x1 (y 0) n - mx x0 x1 (y 0))

/-- A head's result. -/
def att (x0 : Vec Ideal S1x1024x128 .bf16) (x1 x2 : Vec Ideal S1x16640x128 .bf16) (r : Fin 1024) (e : Fin 64) : EReal :=
  Ideal.div (ac x0 x1 x2 (ix2 r ⟨e, by omega⟩)) (li x0 x1 (ix2 r 0))

/-- Every row is in one of the four blocks of 256 rows. -/
theorem row_cases (n : ℕ) (h : n < 1024) : (768 ≤ n ∧ n < 768 + 256) ∨ (512 ≤ n ∧ n < 512 + 256) ∨ (256 ≤ n ∧ n < 256 + 256) ∨ (0 ≤ n ∧ n < 0 + 256) := by
  omega

/-- An index is in the block of 256 rows from row `o` on when its row is. -/
theorem mem_blk128 (j : S1024x128.Idx) (o : ℕ) (inb : ∀ a, (![o, 0] : Fin 2 → ℕ) a + (![256, 128] : Fin 2 → ℕ) a ≤ S1024x128.size a)
    (h : o ≤ (j 0 : ℕ) ∧ (j 0 : ℕ) < o + 256) : j ∈ (Rect.unit (s := S1024x128) ![o, 0] ![256, 128] inb).set := by
  refine Rect.mem_set_unit.mpr fun a => ?_
  fin_cases a
  · exact h
  · exact ⟨Nat.zero_le _, lt_of_lt_of_eq (j 1).isLt (Nat.zero_add 128).symm⟩

/-- An index is in the block of 256 rows from row `o` on when its row is. -/
theorem mem_blk1 (j : S1024x1.Idx) (o : ℕ) (inb : ∀ a, (![o, 0] : Fin 2 → ℕ) a + (![256, 1] : Fin 2 → ℕ) a ≤ S1024x1.size a)
    (h : o ≤ (j 0 : ℕ) ∧ (j 0 : ℕ) < o + 256) : j ∈ (Rect.unit (s := S1024x1) ![o, 0] ![256, 1] inb).set := by
  refine Rect.mem_set_unit.mpr fun a => ?_
  fin_cases a
  · exact h
  · exact ⟨Nat.zero_le _, lt_of_lt_of_eq (j 1).isLt (Nat.zero_add 1).symm⟩

/-- One block of 256 rows of the weighted sum, from row `o` on. -/
theorem ac_blk (x0 : Vec Ideal S1x1024x128 .bf16) (x1 x2 : Vec Ideal S1x16640x128 .bf16) (o : ℕ) (ho : o + 256 ≤ 1024)
    (q : FVec Ideal S1x256x128 .bf16) (m0 : FVec Ideal S256x1 .f32) (a0 : FVec Ideal S256x128 .f32)
    (hq : ∀ (r : Fin 256) (d : Fin 128), q (ix3 0 r d) = x0 (ix3 0 ⟨o + r, by omega⟩ d))
    (hm : ∀ r : Fin 256, m0 (ix2 r 0) = mz) (ha : ∀ (r : Fin 256) (e : Fin 128), a0 (ix2 r e) = FloatOps.ofBits (F := Ideal) .f32 0x00000000#32)
    (r : Fin 256) (e : Fin 128) :
    k0_pay14 (F := Ideal) (k0_pay11 q x1 m0) (k0_pay12 q x1 m0) a0 x2 (ix2 r e) = ac x0 x1 x2 (ix2 ⟨o + r, by omega⟩ e) := by
  have hs : ∀ n, k0_pay9 (F := Ideal) q x1 (ix2 r n) = sc x0 x1 ⟨o + r, by omega⟩ n := fun n => by
    rw [p9]; simp only [hq]; rfl
  have hx : k0_pay10 (F := Ideal) q x1 m0 (ix2 r 0) = mx x0 x1 ⟨o + r, by omega⟩ := by
    rw [p10, hm]; simp only [hs]; rfl
  rw [p14]; simp only [hs, hx, hm, ha]; rfl

/-- One block of 256 rows of the sum of weights, from row `o` on. -/
theorem li_blk (x0 : Vec Ideal S1x1024x128 .bf16) (x1 : Vec Ideal S1x16640x128 .bf16) (o : ℕ) (ho : o + 256 ≤ 1024)
    (q : FVec Ideal S1x256x128 .bf16) (m0 : FVec Ideal S256x1 .f32) (l0 : FVec Ideal S256x1 .f32)
    (hq : ∀ (r : Fin 256) (d : Fin 128), q (ix3 0 r d) = x0 (ix3 0 ⟨o + r, by omega⟩ d))
    (hm : ∀ r : Fin 256, m0 (ix2 r 0) = mz) (hl : ∀ (r : Fin 256), l0 (ix2 r 0) = FloatOps.ofBits (F := Ideal) .f32 0x00000000#32)
    (r : Fin 256) :
    k0_pay13 (F := Ideal) q x1 m0 l0 (ix2 r 0) = li x0 x1 (ix2 ⟨o + r, by omega⟩ 0) := by
  have hs : ∀ n, k0_pay9 (F := Ideal) q x1 (ix2 r n) = sc x0 x1 ⟨o + r, by omega⟩ n := fun n => by
    rw [p9]; simp only [hq]; rfl
  have hx : k0_pay10 (F := Ideal) q x1 m0 (ix2 r 0) = mx x0 x1 ⟨o + r, by omega⟩ := by
    rw [p10, hm]; simp only [hs]; rfl
  rw [p13]; simp only [hs, hx, hm, hl]; rfl

/-- The weighted sum the quotient reads. -/
theorem v219_eq (c : Dev nD) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg8 : Memref sig .tc .vmem S1024x1 .f32) (arg10 : Memref sig .tc .vmem S1024x128 .f32)
    (x0 : Vec Ideal S1x1024x128 .bf16) (x1 : Vec Ideal S1x16640x128 .bf16) (x2 : Vec Ideal S1x16640x128 .bf16) :
    bodyWords.sl.v219 c arg4 harg4 arg5 harg5 arg6 harg6 arg8 arg10 x0 x1 x2 = ac x0 x1 x2 := by
  frame_out
  simp (disch := decide) only [↓View.readCov_skip, ↓View.readCov_fill, pay21_eq, pay30_eq, pay37_eq]
  rw [View.readCov_eq_canon']
  funext j
  have ej : (Rect.unit (s := S1024x128) ![0, 0] ![1024, 128] inb_S1024x128_S1024x128_0_0).idx j = j := by
    funext a; fin_cases a <;> exact Fin.ext (by simp [Rect.unit, LoadRect.idx])
  rw [ej]
  refine View.canon_append_of_piecesOf (ac x0 x1 x2) [_] [_, _, _, _] ⟨fun x => ?_, fun x => ?_, fun x => ?_, fun x => ?_, trivial⟩ j ?_
  · obtain ⟨r, e, rfl⟩ : ∃ (r : Fin 256) (e : Fin 128), x = ix2 r e := ⟨x 0, x 1, eq_ix2 x⟩
    refine (ac_blk x0 x1 x2 768 (by omega) _ _ _ (fun r d => congrArg x0 ?_) (fun r => rfl) (fun r e => rfl) r e).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 128), x = ix2 r e := ⟨x 0, x 1, eq_ix2 x⟩
    refine (ac_blk x0 x1 x2 512 (by omega) _ _ _ (fun r d => congrArg x0 ?_) (fun r => rfl) (fun r e => rfl) r e).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 128), x = ix2 r e := ⟨x 0, x 1, eq_ix2 x⟩
    refine (ac_blk x0 x1 x2 256 (by omega) _ _ _ (fun r d => congrArg x0 ?_) (fun r => rfl) (fun r e => rfl) r e).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 128), x = ix2 r e := ⟨x 0, x 1, eq_ix2 x⟩
    refine (ac_blk x0 x1 x2 0 (by omega) _ _ _ (fun r d => congrArg x0 ?_) (fun r => rfl) (fun r e => rfl) r e).trans (congrArg _ ?_)
    · funext a; fin_cases a <;> exact Fin.ext (by simp [Rect.emb, Rect.unit, LoadRect.idx])
    · funext a; fin_cases a <;> exact Fin.ext (by simp [Rect.emb, Rect.unit, LoadRect.idx])
  · have h1 : (j 1 : ℕ) < 128 := (j 1).isLt
    rcases row_cases (j 0) (j 0).isLt with h | h | h | h
    · refine ⟨_, (List.Mem.head _), ?_⟩
      exact mem_blk128 j _ (by decide) h
    · refine ⟨_, List.Mem.tail _ (List.Mem.head _), ?_⟩
      exact mem_blk128 j _ (by decide) h
    · refine ⟨_, List.Mem.tail _ (List.Mem.tail _ (List.Mem.head _)), ?_⟩
      exact mem_blk128 j _ (by decide) h
    · refine ⟨_, List.Mem.tail _ (List.Mem.tail _ (List.Mem.tail _ (List.Mem.head _))), ?_⟩
      exact mem_blk128 j _ (by decide) h

/-- The sum of weights the quotient reads. -/
theorem v220_eq (c : Dev nD) (arg4 : Memref sig .tc .vmem S1x1024x128 .bf16) (harg4 : arg4.IsWhole) (arg5 : Memref sig .tc .vmem S1x16640x128 .bf16) (harg5 : arg5.IsWhole) (arg8 : Memref sig .tc .vmem S1024x1 .f32) (arg9 : Memref sig .tc .vmem S1024x1 .f32)
    (x0 : Vec Ideal S1x1024x128 .bf16) (x1 : Vec Ideal S1x16640x128 .bf16) :
    bodyWords.sl.v220 c arg4 harg4 arg5 harg5 arg8 arg9 x0 x1 = li x0 x1 := by
  frame_out
  simp (disch := decide) only [↓View.readCov_skip, ↓View.readCov_fill, pay20_eq, pay29_eq, pay36_eq]
  rw [View.readCov_eq_canon']
  funext j
  have ej : (Rect.unit (s := S1024x1) ![0, 0] ![1024, 1] inb_S1024x1_S1024x1_0_0).idx j = j := by
    funext a; fin_cases a <;> exact Fin.ext (by simp [Rect.unit, LoadRect.idx])
  rw [ej]
  refine View.canon_append_of_piecesOf (li x0 x1) [_] [_, _, _, _] ⟨fun x => ?_, fun x => ?_, fun x => ?_, fun x => ?_, trivial⟩ j ?_
  · obtain ⟨r, e, rfl⟩ : ∃ (r : Fin 256) (e : Fin 1), x = ix2 r e := ⟨x 0, x 1, eq_ix2 x⟩
    obtain rfl : e = 0 := Subsingleton.elim _ _
    refine (li_blk x0 x1 768 (by omega) _ _ _ (fun r d => congrArg x0 ?_) (fun r => rfl) (fun r => rfl) r).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 1), x = ix2 r e := ⟨x 0, x 1, eq_ix2 x⟩
    obtain rfl : e = 0 := Subsingleton.elim _ _
    refine (li_blk x0 x1 512 (by omega) _ _ _ (fun r d => congrArg x0 ?_) (fun r => rfl) (fun r => rfl) r).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 1), x = ix2 r e := ⟨x 0, x 1, eq_ix2 x⟩
    obtain rfl : e = 0 := Subsingleton.elim _ _
    refine (li_blk x0 x1 256 (by omega) _ _ _ (fun r d => congrArg x0 ?_) (fun r => rfl) (fun r => rfl) r).trans (congrArg _ ?_)
    · funext a; fin_cases a <;> exact Fin.ext (by simp [Rect.emb, Rect.unit, LoadRect.idx])
    · funext a; fin_cases a <;> exact Fin.ext (by simp [Rect.emb, Rect.unit, LoadRect.idx])
  · obtain ⟨r, e, rfl⟩ : ∃ (r : Fin 256) (e : Fin 1), x = ix2 r e := ⟨x 0, x 1, eq_ix2 x⟩
    obtain rfl : e = 0 := Subsingleton.elim _ _
    refine (li_blk x0 x1 0 (by omega) _ _ _ (fun r d => congrArg x0 ?_) (fun r => rfl) (fun r => rfl) r).trans (congrArg _ ?_)
    · funext a; fin_cases a <;> exact Fin.ext (by simp [Rect.emb, Rect.unit, LoadRect.idx])
    · funext a; fin_cases a <;> exact Fin.ext (by simp [Rect.emb, Rect.unit, LoadRect.idx])
  · have h1 : (j 1 : ℕ) < 1 := (j 1).isLt
    rcases row_cases (j 0) (j 0).isLt with h | h | h | h
    · refine ⟨_, (List.Mem.head _), ?_⟩
      exact mem_blk1 j _ (by decide) h
    · refine ⟨_, List.Mem.tail _ (List.Mem.head _), ?_⟩
      exact mem_blk1 j _ (by decide) h
    · refine ⟨_, List.Mem.tail _ (List.Mem.tail _ (List.Mem.head _)), ?_⟩
      exact mem_blk1 j _ (by decide) h
    · refine ⟨_, List.Mem.tail _ (List.Mem.tail _ (List.Mem.tail _ (List.Mem.head _))), ?_⟩
      exact mem_blk1 j _ (by decide) h

end Cert.KernelIdeal.Att

end
-- ==== Proof.Att.Soft.lean ====
/- The softmax average in two spellings. -/
module

public import proofs.«01_k».proof.Proof.Att.Values
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The word of minus infinity. -/
theorem word_bot : FloatOps.ofBits (F := Ideal) .f32 0xFF800000#32 = (⊥ : EReal) := by
  show Ideal.ofBits .f32 _ = _
  simp [Ideal.ofBits, Ideal.ieee]

/-- The scale, at the number its word is. -/
def sca : ℝ := 3424635 / 33554432

theorem word_sca : FloatOps.ofBits (F := Ideal) .f32 0x3DD105EC#32 = ((sca : ℝ) : EReal) := by
  show Ideal.ofBits .f32 _ = _
  simp [Ideal.ofBits, Ideal.ieee, sca, -EReal.coe_mul]
  norm_num

/-- The base-two exponential, by its name. -/
theorem ex_eq (x : EReal) : ex x = Ideal.exp2 x := rfl

/-- A positive number times a sum, term by term, over the extended reals. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The largest of the scaled numbers is the scaled largest. -/
theorem fold_scaled {N : ℕ} (a : Fin N → ℝ) (i : Fin N) (hi : ∀ n, a n ≤ a i) {c : ℝ} (hc : 0 < c) :
    max (⊥ : EReal) ((Finset.univ : Finset (Fin N)).fold max (⊥ : EReal) fun n => ((a n * c : ℝ) : EReal)) = ((a i * c : ℝ) : EReal) := by
  rw [max_eq_right bot_le]
  refine le_antisymm ((Finset.fold_max_le _).2 ⟨bot_le, fun n _ => ?_⟩) ((Finset.le_fold_max _).2 (.inr ⟨i, Finset.mem_univ _, le_rfl⟩))
  exact EReal.coe_le_coe_iff.2 (mul_le_mul_of_nonneg_right (hi n) hc.le)

/-- A sum of numbers, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The kernel's softmax average: base-two exponentials of scores scaled by the base-two logarithm of e, the division last. -/
def kout {N : ℕ} (s v : Fin N → EReal) : EReal :=
  let M := max mz ((Finset.univ : Finset (Fin N)).fold max mz s)
  Ideal.div (ex (mz - M) * FloatOps.ofBits (F := Ideal) .f32 0x00000000#32 + ∑ n, ex (s n - M) * v n)
    (ex (mz - M) * FloatOps.ofBits (F := Ideal) .f32 0x00000000#32 + ∑ n, ex (s n - M))

/-- The plain softmax average. -/
def rout {N : ℕ} (s v : Fin N → EReal) : EReal :=
  let M := max mz ((Finset.univ : Finset (Fin N)).fold max mz s)
  ∑ n, Ideal.div (Ideal.exp (s n - M)) (0 + ∑ j, Ideal.exp (s j - M)) * v n

/-- The two averages agree on real scores. -/
theorem kout_eq_rout {N : ℕ} (hN : 0 < N) (a : Fin N → ℝ) (v : Fin N → EReal) :
    kout (fun n => (a n : EReal) * kap) v = rout (fun n => (a n : EReal) * ((sca : ℝ) : EReal)) v := by
  haveI : Nonempty (Fin N) := ⟨⟨0, hN⟩⟩
  obtain ⟨i, -, hi⟩ := Finset.exists_max_image (Finset.univ : Finset (Fin N)) a Finset.univ_nonempty
  have l2 : 0 < Real.log 2 := Real.log_pos (by norm_num)
  have hs : 0 < sca := by unfold sca; norm_num
  have hk : 0 < sca * (Real.log 2)⁻¹ := mul_pos hs (inv_pos.2 l2)
  have ek : ∀ n, (a n : EReal) * kap = ((a n * (sca * (Real.log 2)⁻¹) : ℝ) : EReal) := fun n => by
    rw [EReal.coe_mul]; rfl
  have es : ∀ n, (a n : EReal) * ((sca : ℝ) : EReal) = ((a n * sca : ℝ) : EReal) := fun n => (EReal.coe_mul _ _).symm
  simp only [ek, es]
  have hmz : mz = (⊥ : EReal) := word_bot
  have Mk := fold_scaled a i (fun n => hi n (Finset.mem_univ _)) hk
  have Ms := fold_scaled a i (fun n => hi n (Finset.mem_univ _)) hs
  unfold kout rout
  simp only [hmz, Mk, Ms]
  have z : FloatOps.ofBits (F := Ideal) .f32 0x00000000#32 = (0 : EReal) := Ideal.ofBits_zero .f32
  have e0 : ex ((⊥ : EReal) - ((a i * (sca * (Real.log 2)⁻¹) : ℝ) : EReal)) = 0 := by
    rw [ex_eq, sub_eq_add_neg, EReal.bot_add]; rfl
  let e : Fin N → ℝ := fun n => Real.exp ((a n - a i) * sca)
  have ee : ∀ n, ex (((a n * (sca * (Real.log 2)⁻¹) : ℝ) : EReal) - ((a i * (sca * (Real.log 2)⁻¹) : ℝ) : EReal)) = ((e n : ℝ) : EReal) := fun n => by
    rw [ex_eq, ← EReal.coe_sub, Ideal.exp2_coe]
    congr 1
    refine (Real.rpow_def_of_pos (x := 2) (by norm_num) _).trans ?_
    show _ = Real.exp _
    congr 1
    field_simp
  have er : ∀ n, Ideal.exp (((a n * sca : ℝ) : EReal) - ((a i * sca : ℝ) : EReal)) = ((e n : ℝ) : EReal) := fun n => by
    rw [← EReal.coe_sub, Ideal.exp_coe]
    congr 2
    ring
  simp only [z, e0, ee, er, mul_zero, zero_add]
  have hl : 0 < ∑ n, e n := Finset.sum_pos (fun n _ => Real.exp_pos _) Finset.univ_nonempty
  rw [← coe_sum, Ideal.div_coe hl.ne', sum_mul_real _ _ (by positivity)]
  refine Finset.sum_congr rfl fun n _ => ?_
  rw [Ideal.div_coe hl.ne']
  exact mul_right_comm _ _ _

end Cert.KernelIdeal.Att

end
-- ==== Proof.Att.Ref.lean ====
/- The plain attention, at an index. -/
module

public import proofs.«01_k».proof.Proof.Gen.ReferenceIdeal.Run
public import proofs.«01_k».proof.Proof.Att.Soft
public import Idealize.ShloMosaic.Lib.KernelVsHost
public import Idealize.ShloMosaic.Lib.Pointwise

@[expose] public section

set_option maxRecDepth 16384

noncomputable section

namespace Cert.ReferenceIdeal.Att

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The score array's row maxima: a fold from minus infinity. -/
theorem max_at (x : FVec Ideal S2x4x16384x16640 .f32) (b : Fin 2) (h : Fin 4) (t : Fin 16384) :
    Host.reduce FloatOps.maximumf x (constant (F := Ideal) S_ .f32 0xFF800000#32) reducesTo_S2x4x16384x16640_S2x4x16384_d3 h_S_ (ix3 b h t)
      = (Finset.univ : Finset (Fin 16640)).fold max (FloatOps.ofBits (F := Ideal) .f32 0xFF800000#32) fun n => x (ix4 b h t n) := by
  have hr : S2x4x16384x16640.Reduces [3] S2x4x16384 := by decide
  refine (congrFun (hostReduce_maximumf_eq_multiReduction x _ reducesTo_S2x4x16384x16640_S2x4x16384_d3 h_S_ hr (.inl rfl) rfl) (ix3 b h t)).trans ?_
  refine (Ideal.multiReduction_maximumf_single x _ hr (.inl rfl) rfl (ix3 b h t)).trans ?_
  refine Finset.fold_congr fun n _ => ?_
  refine congrArg x ?_
  funext a
  fin_cases a <;> rfl

/-- The scores, at an index. -/
theorem score_at (q : FVec Ideal S2x16384x4x96 .f32) (kc : FVec Ideal S2x256x4x96 .f32) (k : FVec Ideal S2x16384x4x96 .f32)
    (b : Fin 2) (h : Fin 4) (t : Fin 16384) (n : Fin 16640) :
    mulf (Host.dotGeneral (F := Ideal) dot_S2x16384x4x96_S2x16640x4x96_S2x4x16384x16640_3_3_1_1_02_02 none q
      (concatenate S2x16640x4x96 1 [⟨S2x256x4x96, kc⟩, ⟨S2x16384x4x96, k⟩] concatenates_S2x256x4x96_S2x16384x4x96_S2x16640x4x96_d1))
      (broadcastInDim S2x4x16384x16640 ![] bcast_S_S2x4x16384x16640 (constant S_ .f32 0x3DD105EC#32)) (ix4 b h t n)
      = (∑ d : Fin 96, q (ix4 b t h d) * (if hn : n.val < 256 then kc (ix4 b ⟨n.val, hn⟩ h d) else k (ix4 b ⟨n.val - 256, by omega⟩ h d)))
        * FloatOps.ofBits (F := Ideal) .f32 0x3DD105EC#32 := by
  pointwise []

/-- A row quantity at an index of the scores. -/
theorem spread_at (y : FVec Ideal S2x4x16384 .f32) (b : Fin 2) (h : Fin 4) (t : Fin 16384) (n : Fin 16640) :
    broadcastInDim S2x4x16384x16640 ![0, 1, 2, 3] bcast_S2x4x16384x1_S2x4x16384x16640_0_1_2_3 (broadcastInDim S2x4x16384x1 ![0, 1, 2]
      bcast_S2x4x16384_S2x4x16384x1_0_1_2 (maximumf (broadcastInDim S2x4x16384 ![] bcast_S_S2x4x16384 (constant S_ .f32 0xFF800000#32)) y)) (ix4 b h t n)
      = max (FloatOps.ofBits (F := Ideal) .f32 0xFF800000#32) (y (ix3 b h t)) := by
  pointwise []

/-- The row maxima, at an index. -/
theorem rowmax_at (x : FVec Ideal S2x4x16384x16640 .f32) (b : Fin 2) (h : Fin 4) (t : Fin 16384) (n : Fin 16640) :
    broadcastInDim S2x4x16384x16640 ![0, 1, 2, 3] bcast_S2x4x16384x1_S2x4x16384x16640_0_1_2_3 (broadcastInDim S2x4x16384x1 ![0, 1, 2]
      bcast_S2x4x16384_S2x4x16384x1_0_1_2 (maximumf (broadcastInDim S2x4x16384 ![] bcast_S_S2x4x16384 (constant S_ .f32 0xFF800000#32))
        (Host.reduce FloatOps.maximumf x (constant (F := Ideal) S_ .f32 0xFF800000#32) reducesTo_S2x4x16384x16640_S2x4x16384_d3 h_S_))) (ix4 b h t n)
      = max (FloatOps.ofBits (F := Ideal) .f32 0xFF800000#32)
        ((Finset.univ : Finset (Fin 16640)).fold max (FloatOps.ofBits (F := Ideal) .f32 0xFF800000#32) fun n => x (ix4 b h t n)) :=
  (spread_at _ b h t n).trans (congrArg _ (max_at x b h t))

/-- The row sums, at an index. -/
theorem rowsum_at (x : FVec Ideal S2x4x16384x16640 .f32) (b : Fin 2) (h : Fin 4) (t : Fin 16384) (n : Fin 16640) :
    broadcastInDim S2x4x16384x16640 ![0, 1, 2, 3] bcast_S2x4x16384x1_S2x4x16384x16640_0_1_2_3 (broadcastInDim S2x4x16384x1 ![0, 1, 2]
      bcast_S2x4x16384_S2x4x16384x1_0_1_2 (Host.reduceAdd x (constant (F := Ideal) S_ .f32 0x00000000#32) reducesTo_S2x4x16384x16640_S2x4x16384_d3 h_S_)) (ix4 b h t n)
      = 0 + ∑ j : Fin 16640, x (ix4 b h t j) := by
  pointwise []

/-- The weighted values, at an index. -/
theorem out_at (w : FVec Ideal S2x4x16384x16640 .f32) (vc : FVec Ideal S2x256x4x64 .f32) (v : FVec Ideal S2x16384x4x64 .f32)
    (b : Fin 2) (t : Fin 16384) (h : Fin 4) (e : Fin 64) :
    shapeCast S2x16384x256 (transpose S2x16384x4x64 [0, 3, 1, 2] (Host.dotGeneral (F := Ideal) dot_S2x16640x4x64_S2x4x16384x16640_S2x4x64x16384_1_3_3_2_02_01 none
      (concatenate S2x16640x4x64 1 [⟨S2x256x4x64, vc⟩, ⟨S2x16384x4x64, v⟩] concatenates_S2x256x4x64_S2x16384x4x64_S2x16640x4x64_d1) w)
      transposes_S2x4x64x16384_S2x16384x4x64_0_3_1_2) shapeCasts_S2x16384x4x64_S2x16384x256 (ix3 b t (⟨h.val * 64 + e.val, by omega⟩ : Fin 256))
      = ∑ n : Fin 16640, w (ix4 b h t n) * (if hn : n.val < 256 then vc (ix4 b ⟨n.val, hn⟩ h e) else v (ix4 b ⟨n.val - 256, by omega⟩ h e)) := by
  pointwise []
  simp only [mul_comm]

end Cert.ReferenceIdeal.Att

end
-- ==== Proof.Att.Stored.lean ====
/- What a head's store leaves in the output block. -/
module

public import proofs.«01_k».proof.Proof.Att.Values
public import Idealize.ShloMosaic.Lib.WritesUnit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What a head's store leaves in the output block: its 64 columns hold its result, the others what they held. -/
def Stored (o : ℕ) (x0 : Vec Ideal S1x1024x128 .bf16) (x1 x2 : Vec Ideal S1x16640x128 .bf16) (d X : Vec Ideal S1x1024x256 .f32) : Prop :=
  ∀ (r : Fin 1024) (e : Fin 256),
    (∀ e' : Fin 64, (e : ℕ) = o + e' → X (ix3 0 r e) = att x0 x1 x2 r e')
    ∧ (((e : ℕ) < o ∨ o + 64 ≤ (e : ℕ)) → X (ix3 0 r e) = d (ix3 0 r e))

/-- A store of a 64-column slab whose elements are the head's result leaves what `Stored` says. -/
theorem stored_of (arg7 : Memref sig .tc .vmem S1x1024x256 .f32) (harg7 : arg7.IsWhole) (o : ℕ)
    (inb : ∀ a, (![0, 0, o] : Fin 3 → ℕ) a + (![1, 1024, 64] : Fin 3 → ℕ) a ≤ S1x1024x256.size a)
    (x0 : Vec Ideal S1x1024x128 .bf16) (x1 x2 : Vec Ideal S1x16640x128 .bf16) (d : Vec Ideal S1x1024x256 .f32)
    (w : Vec Ideal S1x1024x64 .f32) (hw : ∀ (r : Fin 1024) (e : Fin 64), w (ix3 0 r e) = att x0 x1 x2 r e) :
    Stored o x0 x1 x2 d (arg7.view.read (Elt Ideal)
      (arg7.view.writes (Elt Ideal) (harg7.unread d) [⟨Rect.unit (s := S1x1024x256) ![0, 0, o] ![1, 1024, 64] inb, w⟩])) := by
  intro r e
  refine ⟨fun e' he => ?_, fun he => ?_⟩
  · rw [← hw r e']
    refine View.read_writes_cons_unit_of_mem arg7.view _ inb w [] (ix3 0 r e) (ix3 0 r e') rfl fun a => ?_
    fin_cases a
    · rfl
    · exact (Nat.zero_add _).symm
    · exact he
  · refine (View.read_writes_cons_unit_of_not_mem arg7.view _ inb w [] (ix3 0 r e) rfl 2 ?_).trans ?_
    · exact he
    · exact congrFun (harg7.read_unread d) _

end Cert.KernelIdeal.Att

end
-- ==== Proof.Att.RunA.lean ====
/- The dense attention's body at a point of head 0, with what it stores. -/
module

public import proofs.«01_k».proof.Proof.Att.Stored

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple at a point of head 0: the inputs are handed back as they were, the output block with the head's columns
    written, the scratch at some contents. -/
theorem runA (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : cond0_1 i) (hc2 : ¬cond0_2 i) (hc3 : ¬cond0_3 i) (hc4 : ¬cond0_4 i)
    (x0 : Vec Ideal S1x1024x128 .bf16) (x1 : Vec Ideal S1x16640x128 .bf16) (x2 : Vec Ideal S1x16640x128 .bf16) (d3 : Vec Ideal S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, ⌜Stored 0 x0 x1 x2 d3 X⌝ ∗ owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      · ipureintro
        refine stored_of arg7 harg7 0 _ x0 x1 x2 d3 _ fun r e => ?_
        refine (p2 _ _ r e).trans ?_
        exact congrArg₂ Ideal.div
          (congrFun (v219_eq c arg4 harg4 arg5 harg5 arg6 harg6 arg8 arg10 x0 x1 x2) _)
          (congrFun (v220_eq c arg4 harg4 arg5 harg5 arg8 arg9 x0 x1) _)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Att.RunB.lean ====
/- The dense attention's body at a point of head 1, with what it stores. -/
module

public import proofs.«01_k».proof.Proof.Att.RunA

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple at a point of head 1: the inputs are handed back as they were, the output block with the head's columns
    written, the scratch at some contents. -/
theorem runB (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : cond0_2 i) (hc3 : ¬cond0_3 i) (hc4 : ¬cond0_4 i)
    (x0 : Vec Ideal S1x1024x128 .bf16) (x1 : Vec Ideal S1x16640x128 .bf16) (x2 : Vec Ideal S1x16640x128 .bf16) (d3 : Vec Ideal S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, ⌜Stored 64 x0 x1 x2 d3 X⌝ ∗ owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      · ipureintro
        refine stored_of arg7 harg7 64 _ x0 x1 x2 d3 _ fun r e => ?_
        refine (p3 _ _ r e).trans ?_
        exact congrArg₂ Ideal.div
          (congrFun (v219_eq c arg4 harg4 arg5 harg5 arg6 harg6 arg8 arg10 x0 x1 x2) _)
          (congrFun (v220_eq c arg4 harg4 arg5 harg5 arg8 arg9 x0 x1) _)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Att.RunC.lean ====
/- The dense attention's body at a point of head 2, with what it stores. -/
module

public import proofs.«01_k».proof.Proof.Att.RunB

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple at a point of head 2: the inputs are handed back as they were, the output block with the head's columns
    written, the scratch at some contents. -/
theorem runC (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : ¬cond0_2 i) (hc3 : cond0_3 i) (hc4 : ¬cond0_4 i)
    (x0 : Vec Ideal S1x1024x128 .bf16) (x1 : Vec Ideal S1x16640x128 .bf16) (x2 : Vec Ideal S1x16640x128 .bf16) (d3 : Vec Ideal S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, ⌜Stored 128 x0 x1 x2 d3 X⌝ ∗ owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      · ipureintro
        refine stored_of arg7 harg7 128 _ x0 x1 x2 d3 _ fun r e => ?_
        refine (p4 _ _ r e).trans ?_
        exact congrArg₂ Ideal.div
          (congrFun (v219_eq c arg4 harg4 arg5 harg5 arg6 harg6 arg8 arg10 x0 x1 x2) _)
          (congrFun (v220_eq c arg4 harg4 arg5 harg5 arg8 arg9 x0 x1) _)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Att.RunD.lean ====
/- The dense attention's body at a point of head 3, with what it stores. -/
module

public import proofs.«01_k».proof.Proof.Att.RunC

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- The body's triple at a point of head 3: the inputs are handed back as they were, the output block with the head's columns
    written, the scratch at some contents. -/
theorem runD (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : ¬cond0_2 i) (hc3 : ¬cond0_3 i) (hc4 : cond0_4 i)
    (x0 : Vec Ideal S1x1024x128 .bf16) (x1 : Vec Ideal S1x16640x128 .bf16) (x2 : Vec Ideal S1x16640x128 .bf16) (d3 : Vec Ideal S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, ⌜Stored 192 x0 x1 x2 d3 X⌝ ∗ owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := Ideal)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap
      · iexists _; isplitr; swap; · iexact H3
        ipureintro; rfl
      · ipureintro
        refine stored_of arg7 harg7 192 _ x0 x1 x2 d3 _ fun r e => ?_
        refine (p5 _ _ r e).trans ?_
        exact congrArg₂ Ideal.div
          (congrFun (v219_eq c arg4 harg4 arg5 harg5 arg6 harg6 arg8 arg10 x0 x1 x2) _)
          (congrFun (v220_eq c arg4 harg4 arg5 harg5 arg8 arg9 x0 x1) _)
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Att

end
-- ==== Proof.Att.Data.lean ====
/- The dense attention's proof data, its body at every point, and its run. -/
module

public import proofs.«01_k».proof.Proof.Att.RunD
public import Idealize.ShloMosaic.Lib.Pipeline.DatRel
public import Idealize.ShloMosaic.Lib.Pipeline.ArrRel

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output window is held to a predicate: a point writes 64 of its columns. -/
def held : Fin 4 → Bool := fun w => w.val == 3

/-- The proof data: the arrays as the region finds them; after the body at a point each input's buffer at its block; the
    output not named here. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a point's head works out to, from the point's blocks. -/
def hd (c : Dev nD) (t : Fin cfg0.N) (r : Fin 1024) (e : Fin 64) : EReal :=
  att (iblk m c 0 t) (iblk m c 1 t) (iblk m c 2 t) r e

/-- The output block after a point: the heads of its group of four points done so far hold their results. -/
def Upto (c : Dev nD) (t : Fin cfg0.N) (X : Vec Ideal S1x1024x256 .f32) : Prop :=
  ∀ u : Fin cfg0.N, u.val / 4 = t.val / 4 → u.val ≤ t.val → ∀ (r : Fin 1024) (e : Fin 256) (e' : Fin 64),
    (e : ℕ) = 64 * (u.val % 4) + e' → X (ix3 0 r e) = hd m c u r e'

/-- `Upto` for the output window, nothing for the others. -/
def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun X => Upto m c t X

/-- A head's store carries `Upto` from the point before to its own. -/
theorem upto_step (c : Dev nD) (t : Fin cfg0.N) (o : ℕ) (ho : o = 64 * (t.val % 4)) (d X : Vec Ideal S1x1024x256 .f32)
    (hd' : ∀ s : Fin cfg0.N, s.val + 1 = t.val → t.val % 4 ≠ 0 → Upto m c s d)
    (hX : Stored o (iblk m c 0 t) (iblk m c 1 t) (iblk m c 2 t) d X) : Upto m c t X := by
  intro u hu hle r e e' he
  rcases Nat.lt_or_ge u.val t.val with hlt | hge
  · have hN : t.val < cfg0.N := t.isLt
    have hm : t.val % 4 ≠ 0 := by omega
    have h1 := hd' ⟨t.val - 1, by omega⟩ (by show t.val - 1 + 1 = t.val; omega) hm u (by show u.val / 4 = (t.val - 1) / 4; omega)
      (by show u.val ≤ t.val - 1; omega) r e e' he
    have he' := e'.isLt
    exact ((hX r e).2 (by omega)).trans h1
  · obtain rfl : u = t := Fin.ext (by omega)
    exact (hX r e).1 e' (by omega)

/-- What a point finds in the output block, when it is not the first of its group: what the point before left. -/
theorem finds_upto (c : Dev nD) (t s : Fin cfg0.N) (hs : s.val + 1 = t.val) (hm : t.val % 4 ≠ 0) (Y : Vec Ideal S1x1024x256 .f32)
    (h : ((dats m 0 c).toRRel held (Rl m c)).Finds 3 t Y) : Upto m c s Y := by
  have hf := (((dats m 0 c).toRRel held (Rl m c)).finds_of_pos (w := 3) (t := t) rfl (by omega) Y).mp h
  have es : (⟨t.val - 1, Nat.lt_of_le_of_lt (Nat.sub_le _ _) t.isLt⟩ : Fin cfg0.N) = s := Fin.ext (by show t.val - 1 = s.val; omega)
  rw [es] at hf
  rcases hf with hf | hf
  · have := (flush0_3 s).mp hf
    exfalso; omega
  · exact (dats m 0 c).toRRel_leaves (w := 3) rfl hf

/-- The body's precondition at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜((dats m 0 c).toRRel held (Rl m c)).Finds 3 t Y⌝ ∗ owns (c : Thread nD τ) (ms0_3 t) fullShare Y))

/-- The body's postcondition at a point, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜Upto m c t X⌝ ∗ owns (c : Thread nD τ) (ms0_3 t) fullShare X))

set_option maxHeartbeats 1600000 in
/-- The body at any point, by the head its point is of. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hcases : t.val % 4 = 0 ∨ t.val % 4 = 1 ∨ t.val % 4 = 2 ∨ t.val % 4 = 3 := by omega
  rcases hcases with h | h | h | h
  · iintro ⟨⟨⟨HS0, HS1, HS2⟩, Hg⟩, Ho, ⟨%d0, H0⟩, ⟨%d1, H1⟩, ⟨%d2, H2⟩, ⟨%d3, %hF, H3⟩⟩
    iapply ((runA c (grid0.coords t) _ _ _ _ _ _ _ _ _ _ _ _ _ _ (hcond0_0 t) ((hcond0_1 t).mpr h) (fun hc => by have := (hcond0_2 t).mp hc; omega) (fun hc => by have := (hcond0_3 t).mp hc; omega) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, %hX, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact upto_step m c t 0 (by omega) d3 X (fun s hs hm => finds_upto m c t s hs hm d3 hF) hX
  · iintro ⟨⟨⟨HS0, HS1, HS2⟩, Hg⟩, Ho, ⟨%d0, H0⟩, ⟨%d1, H1⟩, ⟨%d2, H2⟩, ⟨%d3, %hF, H3⟩⟩
    iapply ((runB c (grid0.coords t) _ _ _ _ _ _ _ _ _ _ _ _ _ _ (hcond0_0 t) (fun hc => by have := (hcond0_1 t).mp hc; omega) ((hcond0_2 t).mpr h) (fun hc => by have := (hcond0_3 t).mp hc; omega) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, %hX, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact upto_step m c t 64 (by omega) d3 X (fun s hs hm => finds_upto m c t s hs hm d3 hF) hX
  · iintro ⟨⟨⟨HS0, HS1, HS2⟩, Hg⟩, Ho, ⟨%d0, H0⟩, ⟨%d1, H1⟩, ⟨%d2, H2⟩, ⟨%d3, %hF, H3⟩⟩
    iapply ((runC c (grid0.coords t) _ _ _ _ _ _ _ _ _ _ _ _ _ _ (hcond0_0 t) (fun hc => by have := (hcond0_1 t).mp hc; omega) (fun hc => by have := (hcond0_2 t).mp hc; omega) ((hcond0_3 t).mpr h) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, %hX, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact upto_step m c t 128 (by omega) d3 X (fun s hs hm => finds_upto m c t s hs hm d3 hF) hX
  · iintro ⟨⟨⟨HS0, HS1, HS2⟩, Hg⟩, Ho, ⟨%d0, H0⟩, ⟨%d1, H1⟩, ⟨%d2, H2⟩, ⟨%d3, %hF, H3⟩⟩
    iapply ((runD c (grid0.coords t) _ _ _ _ _ _ _ _ _ _ _ _ _ _ (hcond0_0 t) (fun hc => by have := (hcond0_1 t).mp hc; omega) (fun hc => by have := (hcond0_2 t).mp hc; omega) (fun hc => by have := (hcond0_3 t).mp hc; omega) ((hcond0_4 t).mpr h) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, %hX, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact upto_step m c t 192 (by omega) d3 X (fun s hs hm => finds_upto m c t s hs hm d3 hF) hX

/-- The body table's row at a point's slots is the body at the point. -/
theorem defs₀_row (t : Fin cfg0.N) :
    defs₀ (F := Ideal) .tc cfg0.body (cfg0.bodyArgs t (cfg0.slots t)) = bodyAt0 t := by
  unfold defs₀; rw [Defs.onTc_tc]

/-- The body obligation of the relational proof data. -/
theorem body_obligation (c : Dev nD) :
    Pipeline.BodyObligationRel (dats m 0 c) (defs₀ (F := Ideal)) Variants.none () Set.univ held (Rl m c) := fun t => by
  rw [bigSep_W0, bigSep_W0, defs₀_row]
  exact triple_restated (sound_body m c t) rfl .rfl fun _ => .rfl

set_option backward.isDefEq.respectTransparency.types false in
/-- The launch: every array at what the relational data say of it, and every semaphore counter at zero. -/
theorem run_rel : θ_run defs (onTc (τ := τ) (main (F := Ideal))) (s₀ m ρ) (fun r => (Pipeline.RDat.FramePost (cfgs 0) (fun c => (dats m 0 c).toRRel held (Rl m c)) (V m)) r ∧ r.2.sem = fun _ => 0) :=
  Pipeline.RDat.θ_run_frame (Q' := _) cfgs (0 : Fin 1) launch0 defs₀ Variants.none (fun c => (dats m 0 c).toRRel held (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_rel m ρ)

/-- The frame: the arguments end as they began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_rel m ρ))

end Cert.KernelIdeal.Att

end
-- ==== Proof.Att.Final.lean ====
/- The dense attention's result array. -/
module

public import proofs.«01_k».proof.Proof.Att.Data
public import Idealize.ShloMosaic.Lib.Pipeline.ValueKit

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Every window's block index, by the point. -/
theorem idx : ∀ t : Fin cfg0.N, win0_0.index t = ![t.val / 64, t.val / 4 % 16, t.val % 4] ∧ win0_1.index t = ![t.val / 64, 0, t.val % 4]
    ∧ win0_2.index t = ![t.val / 64, 0, t.val % 4] ∧ win0_3.index t = ![t.val / 64, t.val / 4 % 16, 0] ∧ t.val < 128 :=
  (by decide +kernel : ∀ t : Fin grid0.N, _)

/-- The point of batch `b`, row block `i` and head `h`. -/
def pt (b : Fin 2) (i : Fin 16) (h : Fin 4) : Fin cfg0.N := ⟨b * 64 + i * 4 + h, by have := N_0; show _ < grid0.N; omega⟩

/-- The result array: at batch, token and column, the point's head at the row within the block and the column within the head. -/
def G (c : Dev nD) : Vec Ideal S2x16384x256 .f32 := fun y =>
  hd m c (pt (y 0) ⟨(y 1 : ℕ) / 1024, by have : (y 1 : ℕ) < 16384 := (y 1).isLt; omega⟩ ⟨(y 2 : ℕ) / 64, by have : (y 2 : ℕ) < 256 := (y 2).isLt; omega⟩)
    ⟨(y 1 : ℕ) % 1024, Nat.mod_lt _ (by omega)⟩ ⟨(y 2 : ℕ) % 64, Nat.mod_lt _ (by omega)⟩

/-- What is held at a flushing point, at every row and column. -/
theorem upto_all (c : Dev nD) (t : Fin cfg0.N) (X) (hm : t.val % 4 = 3) (hu : Upto m c t X) (j1 : Fin 1024) (j2 : Fin 256)
    (hb : t.val / 64 < 2) :
    X (ix3 0 j1 j2) = hd m c (pt ⟨t.val / 64, hb⟩ ⟨t.val / 4 % 16, Nat.mod_lt _ (by omega)⟩ ⟨(j2 : ℕ) / 64, by have := j2.isLt; omega⟩) j1
      ⟨(j2 : ℕ) % 64, Nat.mod_lt _ (by omega)⟩ := by
  have h2 := j2.isLt
  refine hu _ ?_ ?_ j1 j2 _ ?_
  · simp only [pt]; omega
  · show (_ : ℕ) ≤ _
    simp only [pt]; omega
  · simp only [pt]; omega

/-- The placed block: its batch, token and column. -/
theorem emb3_0 (t : Fin cfg0.N) (y : ((cfg0.win 3).xblock (cfg0.grid.coords t)).Idx) : (((win0_3.blk t).view.emb y) 0 : ℕ) = t.val / 64 := by
  have y0 : (y 0 : ℕ) < 1 := (y 0).isLt
  blk_simp [idx t]
theorem emb3_1 (t : Fin cfg0.N) (y : ((cfg0.win 3).xblock (cfg0.grid.coords t)).Idx) :
    (((win0_3.blk t).view.emb y) 1 : ℕ) = t.val / 4 % 16 * 1024 + (y 1 : ℕ) := by
  blk_simp [idx t]
theorem emb3_2 (t : Fin cfg0.N) (y : ((cfg0.win 3).xblock (cfg0.grid.coords t)).Idx) : (((win0_3.blk t).view.emb y) 2 : ℕ) = (y 2 : ℕ) := by
  blk_simp [idx t]

/-- The head at a point, a row and a column depends on their numbers alone. -/
theorem hd_congr (c : Dev nD) {t t' : Fin cfg0.N} {r r' : Fin 1024} {e e' : Fin 64} (ht : (t : ℕ) = t') (hr : (r : ℕ) = r') (he : (e : ℕ) = e') :
    hd m c t r e = hd m c t' r' e' := by
  obtain rfl := Fin.ext ht
  obtain rfl := Fin.ext hr
  obtain rfl := Fin.ext he
  rfl

/-- The array the run leaves, from what the body leaves at the flushing points. -/
theorem final (c : Dev nD) (after : (w' : Fin cfg0.W) → Fin cfg0.N → (cfg0.win w').block.Idx → Elt Ideal (cfg0.win w').elt)
    (h : ∀ u : Fin cfg0.N, (cfg0.win 3).flush u = true → Upto m c u (after 3 u)) :
    (((dats m 0 c).toRRel held (Rl m c)).withAfter after).arrAt 3 cfg0.N = G m c := by
  refine Pipeline.Dat.arrAt_eq_of_covers _ 3 _ (by decide +kernel) fun t hf y => ?_
  have hm := (flush0_3 t).mp hf
  have hu := h t hf
  have ht := (idx t).2.2.2.2
  blk_simp
  have E0 := emb3_0 t y
  have E1 := emb3_1 t y
  have E2 := emb3_2 t y
  have y1 : (y 1 : ℕ) < 1024 := (y 1).isLt
  have y2 : (y 2 : ℕ) < 256 := (y 2).isLt
  have ey : y = ix3 (n0 := 1) (n1 := 1024) (n2 := 256) 0 (y 1) (y 2) := by
    funext d
    fin_cases d
    · exact Fin.ext (by have : (y 0 : ℕ) < 1 := (y 0).isLt; show (y 0 : ℕ) = 0; omega)
    · rfl
    · rfl
  have key := upto_all m c t _ hm hu (y 1) (y 2) (by omega)
  refine (congrArg (after 3 t) ey).trans (key.trans ?_)
  refine hd_congr m c ?_ ?_ ?_
  · show t.val / 64 * 64 + t.val / 4 % 16 * 4 + (y 2 : ℕ) / 64 = _ * 64 + _ / 1024 * 4 + _ / 64
    rw [E0, E1, E2]; omega
  · show (y 1 : ℕ) = _ % 1024
    rw [E1]; omega
  · show (y 2 : ℕ) % 64 = _ % 64
    rw [E2]

/-- Every run ends with the result array `G` and the arguments unchanged. -/
theorem run_G : θ_run defs (onTc (τ := τ) (main (F := Ideal))) ⟨m, fun _ => 0, ρ⟩ fun r => ∀ c : Dev nD,
      r.2.mem ((c.tc : Thread nD τ).loc main_v17) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ?_) (run_rel m ρ)
  obtain ⟨after, ha, hw⟩ := hr.1.exists_exact c
  exact ⟨(hw 3).trans (final m c after fun u hu => Pipeline.Dat.toRRel_leaves (dats m 0 c) rfl (ha 3 u hu)),
    ((hr.1 c).2 main_arg0 (Pipeline.mem_restRefs_of main_arg0 (by decide) (by decide))).trans (V_main_arg0 m c),
    ((hr.1 c).2 main_arg1 (Pipeline.mem_restRefs_of main_arg1 (by decide) (by decide))).trans (V_main_arg1 m c),
    ((hr.1 c).2 main_arg2 (Pipeline.mem_restRefs_of main_arg2 (by decide) (by decide))).trans (V_main_arg2 m c),
    ((hr.1 c).2 main_arg3 (Pipeline.mem_restRefs_of main_arg3 (by decide) (by decide))).trans (V_main_arg3 m c),
    ((hr.1 c).2 main_arg4 (Pipeline.mem_restRefs_of main_arg4 (by decide) (by decide))).trans (V_main_arg4 m c)⟩

end Cert.KernelIdeal.Att

end
-- ==== Proof.Att.Host.lean ====
/- What the host code hands to the dense attention. -/
module

public import proofs.«01_k».proof.Proof.Att.Final
public import Idealize.ShloMosaic.Lib.Claim
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- 96 lanes padded to 128 by zeros, at an index. -/
theorem padQ (x : FVec Ideal S2x16384x4x96 .f32) (b : Fin 2) (s : Fin 16384) (h : Fin 4) (d : Fin 128) :
    pad S2x16384x4x128 ![0, 0, 0, 0] ![0, 0, 0, 32] ![0, 0, 0, 0] (truncf (F := Ideal) .bf16 x bitsLt_bf16_f32)
      (sitofp (F := Ideal) .bf16 (constantI S_ 32 0#32)) pads_S2x16384x4x96_S2x16384x4x128_000_000_000_0320 h_S_ (ix4 b s h d)
      = if hd : d.val < 96 then x (ix4 b s h ⟨d.val, hd⟩) else 0 := by
  pointwise []
  refine dite_congr rfl (fun _ => rfl) fun _ => ?_
  show (((((0#32 : BitVec 32).toInt : ℤ) : ℝ)) : EReal) = 0
  simp

/-- 96 lanes padded to 128 by zeros, at an index. -/
theorem padC (x : FVec Ideal S2x256x4x96 .f32) (b : Fin 2) (s : Fin 256) (h : Fin 4) (d : Fin 128) :
    pad S2x256x4x128 ![0, 0, 0, 0] ![0, 0, 0, 32] ![0, 0, 0, 0] (truncf (F := Ideal) .bf16 x bitsLt_bf16_f32)
      (sitofp (F := Ideal) .bf16 (constantI S_ 32 0#32)) pads_S2x256x4x96_S2x256x4x128_000_000_000_0320 h_S_ (ix4 b s h d)
      = if hd : d.val < 96 then x (ix4 b s h ⟨d.val, hd⟩) else 0 := by
  pointwise []
  refine dite_congr rfl (fun _ => rfl) fun _ => ?_
  show (((((0#32 : BitVec 32).toInt : ℤ) : ℝ)) : EReal) = 0
  simp

/-- 64 lanes padded to 128 by zeros, at an index. -/
theorem padVc (x : FVec Ideal S2x256x4x64 .f32) (b : Fin 2) (s : Fin 256) (h : Fin 4) (d : Fin 128) :
    pad S2x256x4x128 ![0, 0, 0, 0] ![0, 0, 0, 64] ![0, 0, 0, 0] (truncf (F := Ideal) .bf16 x bitsLt_bf16_f32)
      (sitofp (F := Ideal) .bf16 (constantI S_ 32 0#32)) pads_S2x256x4x64_S2x256x4x128_000_000_000_0640 h_S_ (ix4 b s h d)
      = if hd : d.val < 64 then x (ix4 b s h ⟨d.val, hd⟩) else 0 := by
  pointwise []
  refine dite_congr rfl (fun _ => rfl) fun _ => ?_
  show (((((0#32 : BitVec 32).toInt : ℤ) : ℝ)) : EReal) = 0
  simp

/-- 64 lanes padded to 128 by zeros, at an index. -/
theorem padV (x : FVec Ideal S2x16384x4x64 .f32) (b : Fin 2) (s : Fin 16384) (h : Fin 4) (d : Fin 128) :
    pad S2x16384x4x128 ![0, 0, 0, 0] ![0, 0, 0, 64] ![0, 0, 0, 0] (truncf (F := Ideal) .bf16 x bitsLt_bf16_f32)
      (sitofp (F := Ideal) .bf16 (constantI S_ 32 0#32)) pads_S2x16384x4x64_S2x16384x4x128_000_000_000_0640 h_S_ (ix4 b s h d)
      = if hd : d.val < 64 then x (ix4 b s h ⟨d.val, hd⟩) else 0 := by
  pointwise []
  refine dite_congr rfl (fun _ => rfl) fun _ => ?_
  show (((((0#32 : BitVec 32).toInt : ℤ) : ℝ)) : EReal) = 0
  simp

/-- The region's queries, as the program lays them out. -/
theorem entry_q (c : Dev nD) (b : Fin 2) (s : Fin 16384) (h : Fin 4) (d : Fin 128) :
    (show EReal from V m c main_v2 (ix3 b s (⟨h.val * 128 + d.val, by omega⟩ : Fin 512)))
      = if hd : d.val < 96 then (show EReal from m ((c.tc : Thread nD τ).loc main_arg0) (ix4 b s h ⟨d.val, hd⟩)) else 0 := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  pointwise []
  exact padQ _ b s h d

/-- The region's keys, the context's first, as the program lays them out. -/
theorem entry_k (c : Dev nD) (b : Fin 2) (n : Fin 16640) (h : Fin 4) (d : Fin 128) :
    (show EReal from V m c main_v9 (ix3 b n (⟨h.val * 128 + d.val, by omega⟩ : Fin 512)))
      = if hd : d.val < 96 then (if hn : n.val < 256 then (show EReal from m ((c.tc : Thread nD τ).loc main_arg1) (ix4 b ⟨n.val, hn⟩ h ⟨d.val, hd⟩))
          else (show EReal from m ((c.tc : Thread nD τ).loc main_arg2) (ix4 b ⟨n.val - 256, by omega⟩ h ⟨d.val, hd⟩))) else 0 := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  pointwise []
  have eh : (⟨(h.val * 128 + d.val) / 128, by omega⟩ : Fin 4) = h := Fin.ext (by simp only; omega)
  have ed : (⟨(h.val * 128 + d.val) % 128, by omega⟩ : Fin 128) = d := Fin.ext (by simp only; omega)
  by_cases hn : n.val < 256
  · simp only [dif_pos hn]
    refine (show _ = _ from padC _ b ⟨n.val, hn⟩ ⟨(h.val * 128 + d.val) / 128, by omega⟩ ⟨(h.val * 128 + d.val) % 128, by omega⟩).trans ?_
    rw [eh, ed]
  · simp only [dif_neg hn]
    refine (show _ = _ from padQ _ b ⟨n.val - 256, by omega⟩ ⟨(h.val * 128 + d.val) / 128, by omega⟩ ⟨(h.val * 128 + d.val) % 128, by omega⟩).trans ?_
    rw [eh, ed]

/-- The region's values, the context's first, as the program lays them out. -/
theorem entry_v (c : Dev nD) (b : Fin 2) (n : Fin 16640) (h : Fin 4) (d : Fin 128) :
    (show EReal from V m c main_v16 (ix3 b n (⟨h.val * 128 + d.val, by omega⟩ : Fin 512)))
      = if hd : d.val < 64 then (if hn : n.val < 256 then (show EReal from m ((c.tc : Thread nD τ).loc main_arg3) (ix4 b ⟨n.val, hn⟩ h ⟨d.val, hd⟩))
          else (show EReal from m ((c.tc : Thread nD τ).loc main_arg4) (ix4 b ⟨n.val - 256, by omega⟩ h ⟨d.val, hd⟩))) else 0 := by
  unfold V
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_results
  pointwise []
  have eh : (⟨(h.val * 128 + d.val) / 128, by omega⟩ : Fin 4) = h := Fin.ext (by simp only; omega)
  have ed : (⟨(h.val * 128 + d.val) % 128, by omega⟩ : Fin 128) = d := Fin.ext (by simp only; omega)
  by_cases hn : n.val < 256
  · simp only [dif_pos hn]
    refine (show _ = _ from padVc _ b ⟨n.val, hn⟩ ⟨(h.val * 128 + d.val) / 128, by omega⟩ ⟨(h.val * 128 + d.val) % 128, by omega⟩).trans ?_
    rw [eh, ed]
  · simp only [dif_neg hn]
    refine (show _ = _ from padV _ b ⟨n.val - 256, by omega⟩ ⟨(h.val * 128 + d.val) / 128, by omega⟩ ⟨(h.val * 128 + d.val) % 128, by omega⟩).trans ?_
    rw [eh, ed]

end Cert.KernelIdeal.Att

end
-- ==== Proof.Att.Read.lean ====
/- The dense attention's result from the arguments. -/
module

public import proofs.«01_k».proof.Proof.Att.Host
public import proofs.«01_k».proof.Proof.Att.Soft

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The context's entries first, then the tokens'. -/
def both {W : ℕ} (xc : (⟨4, ![2, 256, 4, W]⟩ : Shape).Idx → EReal) (x : (⟨4, ![2, 16384, 4, W]⟩ : Shape).Idx → EReal)
    (b : Fin 2) (n : Fin 16640) (h : Fin 4) (d : Fin W) : EReal :=
  if hn : n.val < 256 then xc (ix4 b ⟨n.val, hn⟩ h d) else x (ix4 b ⟨n.val - 256, by omega⟩ h d)

/-- A query's product with a key. -/
def qk (q : (⟨4, ![2, 16384, 4, 96]⟩ : Shape).Idx → EReal) (kc : (⟨4, ![2, 256, 4, 96]⟩ : Shape).Idx → EReal)
    (k : (⟨4, ![2, 16384, 4, 96]⟩ : Shape).Idx → EReal) (b : Fin 2) (s : Fin 16384) (h : Fin 4) (n : Fin 16640) : EReal :=
  ∑ d : Fin 96, q (ix4 b s h d) * both kc k b n h d

/-- A product over padded lanes is the product over the lanes themselves. -/
theorem pad_dot (f g : Fin 96 → EReal) :
    ∑ d : Fin 128, (if hd : d.val < 96 then f ⟨d.val, hd⟩ else 0) * (if hd : d.val < 96 then g ⟨d.val, hd⟩ else 0) = ∑ d : Fin 96, f d * g d := by
  refine (Fin.sum_univ_add (a := 96) (b := 32) (fun d : Fin (96 + 32) =>
    (if hd : d.val < 96 then f ⟨d.val, hd⟩ else 0) * (if hd : d.val < 96 then g ⟨d.val, hd⟩ else 0))).trans ?_
  rw [Finset.sum_eq_zero (s := (Finset.univ : Finset (Fin 32))) (fun i _ => ?_), add_zero]
  · refine Finset.sum_congr rfl fun i _ => ?_
    simp [Fin.castAdd, i.isLt]
  · simp [Fin.natAdd]

/-- Where the blocks lie in their arrays. -/
theorem emb0_1 (t : Fin cfg0.N) (y : ((cfg0.win 0).xblock (cfg0.grid.coords t)).Idx) (r s : ℕ) (hr : (y 1 : ℕ) = r)
    (hs : t.val / 4 % 16 * 1024 + r = s) : (((win0_0.blk t).view.emb y) 1 : ℕ) = s := by
  blk_simp [idx t]
  rw [hr]
  exact hs
theorem emb0_0 (t : Fin cfg0.N) (y : ((cfg0.win 0).xblock (cfg0.grid.coords t)).Idx) : (((win0_0.blk t).view.emb y) 0 : ℕ) = t.val / 64 := by
  have y0 : (y 0 : ℕ) < 1 := (y 0).isLt
  blk_simp [idx t]
theorem emb0_2 (t : Fin cfg0.N) (y : ((cfg0.win 0).xblock (cfg0.grid.coords t)).Idx) :
    (((win0_0.blk t).view.emb y) 2 : ℕ) = t.val % 4 * 128 + (y 2 : ℕ) := by
  blk_simp [idx t]
theorem emb1_0 (t : Fin cfg0.N) (y : ((cfg0.win 1).xblock (cfg0.grid.coords t)).Idx) : (((win0_1.blk t).view.emb y) 0 : ℕ) = t.val / 64 := by
  have y0 : (y 0 : ℕ) < 1 := (y 0).isLt
  blk_simp [idx t]
theorem emb1_1 (t : Fin cfg0.N) (y : ((cfg0.win 1).xblock (cfg0.grid.coords t)).Idx) : (((win0_1.blk t).view.emb y) 1 : ℕ) = (y 1 : ℕ) := by
  blk_simp [idx t]
theorem emb1_2 (t : Fin cfg0.N) (y : ((cfg0.win 1).xblock (cfg0.grid.coords t)).Idx) :
    (((win0_1.blk t).view.emb y) 2 : ℕ) = t.val % 4 * 128 + (y 2 : ℕ) := by
  blk_simp [idx t]
theorem emb2_0 (t : Fin cfg0.N) (y : ((cfg0.win 2).xblock (cfg0.grid.coords t)).Idx) : (((win0_2.blk t).view.emb y) 0 : ℕ) = t.val / 64 := by
  have y0 : (y 0 : ℕ) < 1 := (y 0).isLt
  blk_simp [idx t]
theorem emb2_1 (t : Fin cfg0.N) (y : ((cfg0.win 2).xblock (cfg0.grid.coords t)).Idx) : (((win0_2.blk t).view.emb y) 1 : ℕ) = (y 1 : ℕ) := by
  blk_simp [idx t]
theorem emb2_2 (t : Fin cfg0.N) (y : ((cfg0.win 2).xblock (cfg0.grid.coords t)).Idx) :
    (((win0_2.blk t).view.emb y) 2 : ℕ) = t.val % 4 * 128 + (y 2 : ℕ) := by
  blk_simp [idx t]

theorem emb_q (t : Fin cfg0.N) (y : ((cfg0.win 0).xblock (cfg0.grid.coords t)).Idx) (b : Fin 2) (s : Fin 16384) (h : Fin 4) (r : Fin 1024) (d : Fin 128)
    (hr : (y 1 : ℕ) = r) (hd : (y 2 : ℕ) = d) (hb : t.val / 64 = b)
    (hs : t.val / 4 % 16 * 1024 + r.val = s) (hh : t.val % 4 = h) :
    (win0_0.blk t).view.emb y = ix3 b s (⟨h.val * 128 + d.val, by omega⟩ : Fin 512) := by
  have e2 := (emb0_2 t y).trans (congrArg₂ (fun a b => a * 128 + b) hh hd)
  funext a
  fin_cases a
  · exact Fin.ext ((emb0_0 t y).trans hb)
  · exact Fin.ext (emb0_1 t y r.val s.val hr hs)
  · exact Fin.ext e2

theorem read_q (t : Fin cfg0.N) (y : ((cfg0.win 0).xblock (cfg0.grid.coords t)).Idx) (A : Vec Ideal S2x16384x512 .bf16) :
    ((cfg0.win 0).blk t).view.read (Elt Ideal) A y = A ((win0_0.blk t).view.emb y) := rfl

theorem iblk_q0 (c : Dev nD) (t : Fin cfg0.N) (y : ((cfg0.win 0).xblock (cfg0.grid.coords t)).Idx) :
    iblk m c 0 t y = V m c main_v2 ((win0_0.blk t).view.emb y) := read_q t y (V m c main_v2)

/-- The query block, from the region's queries. -/
theorem iblk_q (c : Dev nD) (t : Fin cfg0.N) (r : Fin 1024) (d : Fin 128) (b : Fin 2) (s : Fin 16384) (h : Fin 4) (hb : t.val / 64 = b)
    (hs : t.val / 4 % 16 * 1024 + r.val = s) (hh : t.val % 4 = h) :
    iblk m c 0 t (ix3 (n0 := 1) (n1 := 1024) (n2 := 128) 0 r d) = V m c main_v2 (ix3 b s (⟨h.val * 128 + d.val, by omega⟩ : Fin 512)) :=
  (iblk_q0 m c t _).trans (congrArg (V m c main_v2) (emb_q t _ b s h r d rfl rfl hb hs hh))

/-- The key block, from the region's keys. -/
theorem iblk_k (c : Dev nD) (t : Fin cfg0.N) (n : Fin 16640) (d : Fin 128) (b : Fin 2) (h : Fin 4) (hb : t.val / 64 = b) (hh : t.val % 4 = h) :
    iblk m c 1 t (ix3 (n0 := 1) (n1 := 16640) (n2 := 128) 0 n d) = V m c main_v9 (ix3 b n (⟨h.val * 128 + d.val, by omega⟩ : Fin 512)) :=
  congrArg (V m c main_v9) (by
    funext a
    fin_cases a
    · exact Fin.ext ((emb1_0 t _).trans hb)
    · exact Fin.ext (emb1_1 t _)
    · exact Fin.ext ((emb1_2 t _).trans (congrArg (· * 128 + d.val) hh)))

/-- The value block, from the region's values. -/
theorem iblk_v (c : Dev nD) (t : Fin cfg0.N) (n : Fin 16640) (d : Fin 128) (b : Fin 2) (h : Fin 4) (hb : t.val / 64 = b) (hh : t.val % 4 = h) :
    iblk m c 2 t (ix3 (n0 := 1) (n1 := 16640) (n2 := 128) 0 n d) = V m c main_v16 (ix3 b n (⟨h.val * 128 + d.val, by omega⟩ : Fin 512)) :=
  congrArg (V m c main_v16) (by
    funext a
    fin_cases a
    · exact Fin.ext ((emb2_0 t _).trans hb)
    · exact Fin.ext (emb2_1 t _)
    · exact Fin.ext ((emb2_2 t _).trans (congrArg (· * 128 + d.val) hh)))

/-- A point's head is the kernel's softmax average of its batch, token and head. -/
theorem hd_eq (c : Dev nD) (t : Fin cfg0.N) (r : Fin 1024) (e : Fin 64) (b : Fin 2) (s : Fin 16384) (h : Fin 4) (hb : t.val / 64 = b)
    (hs : t.val / 4 % 16 * 1024 + r.val = s) (hh : t.val % 4 = h) :
    hd m c t r e = kout (fun n => qk (m ((c.tc : Thread nD τ).loc main_arg0)) (m ((c.tc : Thread nD τ).loc main_arg1))
        (m ((c.tc : Thread nD τ).loc main_arg2)) b s h n * kap)
      (fun n => both (m ((c.tc : Thread nD τ).loc main_arg3)) (m ((c.tc : Thread nD τ).loc main_arg4)) b n h e) := by
  have es : (fun n => sc (iblk m c 0 t) (iblk m c 1 t) r n) = fun n => qk (m ((c.tc : Thread nD τ).loc main_arg0)) (m ((c.tc : Thread nD τ).loc main_arg1))
        (m ((c.tc : Thread nD τ).loc main_arg2)) b s h n * kap := by
    funext n
    refine congrArg (· * kap) ?_
    refine (Finset.sum_congr rfl fun d _ => congrArg₂ (fun x y : EReal => x * y) ((iblk_q m c t r d b s h hb hs hh).trans (entry_q m c b s h d))
      ((iblk_k m c t n d b h hb hh).trans (entry_k m c b n h d))).trans ?_
    exact pad_dot (fun d => m ((c.tc : Thread nD τ).loc main_arg0) (ix4 b s h d)) (fun d => both (m ((c.tc : Thread nD τ).loc main_arg1))
        (m ((c.tc : Thread nD τ).loc main_arg2)) b n h d)
  have ev : (fun n => (iblk m c 2 t (ix3 (n0 := 1) (n1 := 16640) (n2 := 128) 0 n ⟨e.val, by omega⟩) : EReal)) = fun n => both (m ((c.tc : Thread nD τ).loc main_arg3)) (m ((c.tc : Thread nD τ).loc main_arg4))
        b n h e := by
    funext n
    exact ((iblk_v m c t n _ b h hb hh).trans (entry_v m c b n h _)).trans (dif_pos e.isLt)
  rw [← es, ← ev]
  rfl

/-- The result at a batch, token, head and column. -/
theorem G_eq (c : Dev nD) (b : Fin 2) (s : Fin 16384) (h : Fin 4) (e : Fin 64) :
    G m c (ix3 b s (⟨h.val * 64 + e.val, by omega⟩ : Fin 256)) = kout (fun n => qk (m ((c.tc : Thread nD τ).loc main_arg0)) (m ((c.tc : Thread nD τ).loc main_arg1))
        (m ((c.tc : Thread nD τ).loc main_arg2)) b s h n * kap)
      (fun n => both (m ((c.tc : Thread nD τ).loc main_arg3)) (m ((c.tc : Thread nD τ).loc main_arg4)) b n h e) := by
  have e3 : (⟨(h.val * 64 + e.val) % 64, Nat.mod_lt _ (by omega)⟩ : Fin 64) = e := Fin.ext (by simp only; omega)
  have key := hd_eq m c (pt b ⟨s.val / 1024, by omega⟩ ⟨(h.val * 64 + e.val) / 64, by omega⟩) ⟨s.val % 1024, Nat.mod_lt _ (by omega)⟩
    ⟨(h.val * 64 + e.val) % 64, Nat.mod_lt _ (by omega)⟩ b s h (by simp only [pt]; omega) (by simp only [pt]; omega) (by simp only [pt]; omega)
  exact key.trans (congrArg (fun e => kout _ (fun n => both _ _ b n h e)) e3)

end Cert.KernelIdeal.Att

end
-- ==== Proof.Att.RefOut.lean ====
/- The plain attention's result from the arguments. -/
module

public import proofs.«01_k».proof.Proof.Att.Ref
public import proofs.«01_k».proof.Proof.Att.Read

@[expose] public section

set_option maxRecDepth 16384

noncomputable section

namespace Cert.ReferenceIdeal.Att

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The exponentials of the scores less their row's maximum. -/
def exps (x : FVec Ideal S2x4x16384x16640 .f32) : FVec Ideal S2x4x16384x16640 .f32 :=
  Host.exp (subf x (broadcastInDim S2x4x16384x16640 ![0, 1, 2, 3] bcast_S2x4x16384x1_S2x4x16384x16640_0_1_2_3 (broadcastInDim S2x4x16384x1 ![0, 1, 2] bcast_S2x4x16384_S2x4x16384x1_0_1_2 (maximumf (broadcastInDim S2x4x16384 ![] bcast_S_S2x4x16384 (constant S_ .f32 0xFF800000#32)) (Host.reduce FloatOps.maximumf x (constant S_ .f32 0xFF800000#32) reducesTo_S2x4x16384x16640_S2x4x16384_d3 h_S_)))))

/-- The plain softmax weights. -/
def wts (x : FVec Ideal S2x4x16384x16640 .f32) : FVec Ideal S2x4x16384x16640 .f32 :=
  Host.divf (exps x)
    (broadcastInDim S2x4x16384x16640 ![0, 1, 2, 3] bcast_S2x4x16384x1_S2x4x16384x16640_0_1_2_3 (broadcastInDim S2x4x16384x1 ![0, 1, 2] bcast_S2x4x16384_S2x4x16384x1_0_1_2 (Host.reduceAdd (exps x) (constant S_ .f32 0x00000000#32) reducesTo_S2x4x16384x16640_S2x4x16384_d3 h_S_)))

/-- An exponential of a score less its row's maximum, at an index. -/
theorem exp_at (x : FVec Ideal S2x4x16384x16640 .f32) (b : Fin 2) (h : Fin 4) (t : Fin 16384) (n : Fin 16640) :
    exps x (ix4 b h t n)
      = Ideal.exp (x (ix4 b h t n) - max (FloatOps.ofBits (F := Ideal) .f32 0xFF800000#32)
        ((Finset.univ : Finset (Fin 16640)).fold max (FloatOps.ofBits (F := Ideal) .f32 0xFF800000#32) fun n => x (ix4 b h t n))) :=
  congrArg (fun y : EReal => Ideal.exp (x (ix4 b h t n) - y)) (rowmax_at x b h t n)

/-- A quotient of two arrays, at an index. -/
theorem quot_at (x y : FVec Ideal S2x4x16384x16640 .f32) (i : S2x4x16384x16640.Idx) : Host.divf x y i = Ideal.div (x i) (y i) := rfl

/-- The plain softmax weights, at an index. -/
theorem wts_at (x : FVec Ideal S2x4x16384x16640 .f32) (b : Fin 2) (h : Fin 4) (t : Fin 16384) (n : Fin 16640) :
    wts x (ix4 b h t n) = Ideal.div (Ideal.exp (x (ix4 b h t n) - max (FloatOps.ofBits (F := Ideal) .f32 0xFF800000#32)
        ((Finset.univ : Finset (Fin 16640)).fold max (FloatOps.ofBits (F := Ideal) .f32 0xFF800000#32) fun n => x (ix4 b h t n))))
      (0 + ∑ j : Fin 16640, Ideal.exp (x (ix4 b h t j) - max (FloatOps.ofBits (F := Ideal) .f32 0xFF800000#32)
        ((Finset.univ : Finset (Fin 16640)).fold max (FloatOps.ofBits (F := Ideal) .f32 0xFF800000#32) fun n => x (ix4 b h t n)))) :=
  (quot_at _ _ _).trans (congrArg₂ Ideal.div (exp_at x b h t n) ((rowsum_at (exps x) b h t n).trans
    (congrArg (fun y : EReal => 0 + y) (Finset.sum_congr rfl fun j _ => exp_at x b h t j))))

/-- The plain attention at a batch, token, head and column. -/
theorem ref_at (q : FVec Ideal S2x16384x4x96 .f32) (kc : FVec Ideal S2x256x4x96 .f32) (k : FVec Ideal S2x16384x4x96 .f32)
    (vc : FVec Ideal S2x256x4x64 .f32) (v : FVec Ideal S2x16384x4x64 .f32) (b : Fin 2) (t : Fin 16384) (h : Fin 4) (e : Fin 64) :
    shapeCast S2x16384x256 (transpose S2x16384x4x64 [0, 3, 1, 2] (Host.dotGeneral (F := Ideal) dot_S2x16640x4x64_S2x4x16384x16640_S2x4x64x16384_1_3_3_2_02_01 none
      (concatenate S2x16640x4x64 1 [⟨S2x256x4x64, vc⟩, ⟨S2x16384x4x64, v⟩] concatenates_S2x256x4x64_S2x16384x4x64_S2x16640x4x64_d1)
      (wts (mulf (Host.dotGeneral (F := Ideal) dot_S2x16384x4x96_S2x16640x4x96_S2x4x16384x16640_3_3_1_1_02_02 none q
      (concatenate S2x16640x4x96 1 [⟨S2x256x4x96, kc⟩, ⟨S2x16384x4x96, k⟩] concatenates_S2x256x4x96_S2x16384x4x96_S2x16640x4x96_d1))
      (broadcastInDim S2x4x16384x16640 ![] bcast_S_S2x4x16384x16640 (constant S_ .f32 0x3DD105EC#32)))))
      transposes_S2x4x64x16384_S2x16384x4x64_0_3_1_2) shapeCasts_S2x16384x4x64_S2x16384x256 (ix3 b t (⟨h.val * 64 + e.val, by omega⟩ : Fin 256))
      = KernelIdeal.Att.rout (fun n => KernelIdeal.Att.qk q kc k b t h n * ((KernelIdeal.Att.sca : ℝ) : EReal)) (fun n => KernelIdeal.Att.both vc v b n h e) := by
  refine (out_at _ vc v b t h e).trans ?_
  refine Finset.sum_congr rfl fun n _ => ?_
  refine congrArg (· * KernelIdeal.Att.both vc v b n h e) ?_
  refine (wts_at _ b h t n).trans ?_
  have es : ∀ n, _ = KernelIdeal.Att.qk q kc k b t h n * ((KernelIdeal.Att.sca : ℝ) : EReal) := fun n =>
    (score_at q kc k b h t n).trans (congrArg (KernelIdeal.Att.qk q kc k b t h n * ·) KernelIdeal.Att.word_sca)
  simp only [es]
  rfl

end Cert.ReferenceIdeal.Att

end
-- ==== Proof.Att.Finite.lean ====
/- What the precondition says of the queries and the keys. -/
module

public import proofs.«01_k».proof.Proof.Att.RefOut
public import proofs.«01_k».proof.Defs
public import proofs.«01_k».proof.Proof.Gen.Pre_finite_scores
public import Idealize.ShloMosaic.Lib.ReduceAll

@[expose] public section

set_option maxRecDepth 16384

noncomputable section

namespace Cert.Att

open Idealize.ShloMosaic Idealize.ShloMosaic.TcCoe Idealize.ShloMosaic.Tactic Idealize.SL.Sem

/-- The word of plus infinity. -/
theorem word_top : FloatOps.ofBits (F := Ideal) .f32 0x7F800000#32 = (⊤ : EReal) := by
  show Ideal.ofBits .f32 _ = _
  simp [Ideal.ofBits, Ideal.ieee]

/-- An extended real whose absolute value is below infinity is a number. -/
theorem real_of_abs (x : EReal) (h : FloatOps.cmpf (F := Ideal) (φ := .f32) .olt (max x (-x)) (FloatOps.ofBits (F := Ideal) .f32 0x7F800000#32) = 1#1) :
    x = ((x.toReal : ℝ) : EReal) := by
  have h2 : BitVec.ofBool (decide (max x (-x) < (⊤ : EReal))) = 1#1 := by
    rw [← word_top]; exact h
  have h3 : max x (-x) < (⊤ : EReal) := by
    by_contra hn
    rw [decide_eq_false hn] at h2
    exact absurd h2 (by decide)
  refine (EReal.coe_toReal ?_ ?_).symm
  · rintro rfl
    simp at h3
  · rintro rfl
    simp at h3

/-- Under the precondition queries and keys are numbers. -/
theorem finite (q : FVec Ideal Pre_finite_scores.S2x16384x4x96 .f32) (kc : FVec Ideal Pre_finite_scores.S2x256x4x96 .f32)
    (k : FVec Ideal Pre_finite_scores.S2x16384x4x96 .f32) (vc : FVec Ideal Pre_finite_scores.S2x256x4x64 .f32) (v : FVec Ideal Pre_finite_scores.S2x16384x4x64 .f32)
    (h : Pre_finite_scores.fn (F := Ideal) q kc k vc v = fun _ => 1#1) :
    (∀ i, q i = (((q i : EReal).toReal : ℝ) : EReal)) ∧ (∀ i, kc i = (((kc i : EReal).toReal : ℝ) : EReal)) ∧ ∀ i, k i = (((k i : EReal).toReal : ℝ) : EReal) := by
  haveI : Subsingleton Pre_finite_scores.S_.Idx := ⟨fun a b => funext fun d => d.elim0⟩
  have e := congrFun h (fun d => d.elim0)
  obtain ⟨e12, e3⟩ := IntOp.andi_eq_one.mp e
  obtain ⟨e1, e2⟩ := IntOp.andi_eq_one.mp e12
  exact ⟨fun i => real_of_abs _ (Host.reduce_andi_all _ _ _ _ _ e1 i), fun i => real_of_abs _ (Host.reduce_andi_all _ _ _ _ _ e2 i),
    fun i => real_of_abs _ (Host.reduce_andi_all _ _ _ _ _ e3 i)⟩

open Cert.KernelIdeal.Att (qk both kout rout kap sca kout_eq_rout coe_sum)

/-- Finite queries and keys have a finite product. -/
theorem qk_real (q : (⟨4, ![2, 16384, 4, 96]⟩ : Shape).Idx → EReal) (kc : (⟨4, ![2, 256, 4, 96]⟩ : Shape).Idx → EReal)
    (k : (⟨4, ![2, 16384, 4, 96]⟩ : Shape).Idx → EReal) (hq : ∀ i, q i = (((q i).toReal : ℝ) : EReal)) (hc : ∀ i, kc i = (((kc i).toReal : ℝ) : EReal))
    (hk : ∀ i, k i = (((k i).toReal : ℝ) : EReal)) (b : Fin 2) (s : Fin 16384) (h : Fin 4) (n : Fin 16640) :
    ∃ a : ℝ, qk q kc k b s h n = (a : EReal) := by
  have hb : ∀ d : Fin 96, both kc k b n h d = (((both kc k b n h d).toReal : ℝ) : EReal) := fun d => by
    unfold both
    split
    · exact hc _
    · exact hk _
  refine ⟨∑ d : Fin 96, (q (ix4 b s h d)).toReal * (both kc k b n h d).toReal, ?_⟩
  rw [coe_sum]
  refine Finset.sum_congr rfl fun d _ => ?_
  rw [EReal.coe_mul, ← hq, ← hb]

/-- The kernel's average is the plain one. -/
theorem averages (q : (⟨4, ![2, 16384, 4, 96]⟩ : Shape).Idx → EReal) (kc : (⟨4, ![2, 256, 4, 96]⟩ : Shape).Idx → EReal)
    (k : (⟨4, ![2, 16384, 4, 96]⟩ : Shape).Idx → EReal) (hq : ∀ i, q i = (((q i).toReal : ℝ) : EReal)) (hc : ∀ i, kc i = (((kc i).toReal : ℝ) : EReal))
    (hk : ∀ i, k i = (((k i).toReal : ℝ) : EReal)) (b : Fin 2) (s : Fin 16384) (h : Fin 4) (v : Fin 16640 → EReal) :
    kout (fun n => qk q kc k b s h n * kap) v = rout (fun n => qk q kc k b s h n * ((sca : ℝ) : EReal)) v := by
  choose a ha using qk_real q kc k hq hc hk b s h
  simp only [ha]
  exact kout_eq_rout (by norm_num) a v

end Cert.Att

end
-- ==== Proof.Att.KRunA.lean ====
/- The dense attention's body at a point of head 0, for the kernel as written. -/
module

public import proofs.«01_k».proof.Proof.Att.KKit

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple at a point of head 0: the inputs are handed back as they were, the output block at
    some contents, the scratch at some contents. -/
theorem runA (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : cond0_1 i) (hc2 : ¬cond0_2 i) (hc3 : ¬cond0_3 i) (hc4 : ¬cond0_4 i)
    (x0 : Vec F S1x1024x128 .bf16) (x1 : Vec F S1x16640x128 .bf16) (x2 : Vec F S1x16640x128 .bf16) (d3 : Vec F S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Att

end
-- ==== Proof.Att.KRunB.lean ====
/- The dense attention's body at a point of head 1, for the kernel as written. -/
module

public import proofs.«01_k».proof.Proof.Att.KRunA

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple at a point of head 1: the inputs are handed back as they were, the output block at
    some contents, the scratch at some contents. -/
theorem runB (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : cond0_2 i) (hc3 : ¬cond0_3 i) (hc4 : ¬cond0_4 i)
    (x0 : Vec F S1x1024x128 .bf16) (x1 : Vec F S1x16640x128 .bf16) (x2 : Vec F S1x16640x128 .bf16) (d3 : Vec F S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Att

end
-- ==== Proof.Att.KRunC.lean ====
/- The dense attention's body at a point of head 2, for the kernel as written. -/
module

public import proofs.«01_k».proof.Proof.Att.KRunB

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple at a point of head 2: the inputs are handed back as they were, the output block at
    some contents, the scratch at some contents. -/
theorem runC (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : ¬cond0_2 i) (hc3 : cond0_3 i) (hc4 : ¬cond0_4 i)
    (x0 : Vec F S1x1024x128 .bf16) (x1 : Vec F S1x16640x128 .bf16) (x2 : Vec F S1x16640x128 .bf16) (d3 : Vec F S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Att

end
-- ==== Proof.Att.KRunD.lean ====
/- The dense attention's body at a point of head 3, for the kernel as written. -/
module

public import proofs.«01_k».proof.Proof.Att.KRunC

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body's triple at a point of head 3: the inputs are handed back as they were, the output block at
    some contents, the scratch at some contents. -/
theorem runD (c : Dev nD) (i : grid0.Coords) (arg4 : Memref sig .tc .vmem S1x1024x128 .bf16) (harg4 : arg4.IsWhole) (arg5 : Memref sig .tc .vmem S1x16640x128 .bf16) (harg5 : arg5.IsWhole) (arg6 : Memref sig .tc .vmem S1x16640x128 .bf16) (harg6 : arg6.IsWhole) (arg7 : Memref sig .tc .vmem S1x1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x128 .f32) (harg10 : arg10.IsWhole) (hc0 : cond0_0 i) (hc1 : ¬cond0_1 i) (hc2 : ¬cond0_2 i) (hc3 : ¬cond0_3 i) (hc4 : cond0_4 i)
    (x0 : Vec F S1x1024x128 .bf16) (x1 : Vec F S1x16640x128 .bf16) (x2 : Vec F S1x16640x128 .bf16) (d3 : Vec F S1x1024x256 .f32) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare d3 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg4 fullShare x0 ∗ owns (c : Thread nD τ) arg5 fullShare x1 ∗ owns (c : Thread nD τ) arg6 fullShare x2 ∗ (∃ X, owns (c : Thread nD τ) arg7 fullShare X) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__dense_attn_kernel i arg4 harg4 arg5 harg5 arg6 harg6 arg7 harg7 arg8 harg8 arg9 harg9 arg10 harg10) K := by
    intro E K
    simp only [cc0__dense_attn_kernel_eq_skeleton]; unfold cc0__dense_attn_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2 | sl_exact hc3 | sl_exact hc4)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Att

end
-- ==== Proof.Att.KData.lean ====
/- The kernel as written, at any float interpretation: the dense attention's proof data, its body at every point, and its run. -/
module

public import proofs.«01_k».proof.Proof.Att.KRunD
public import Idealize.ShloMosaic.Lib.Pipeline.DatRel
public import Idealize.ShloMosaic.Lib.Pipeline.ArrRel
public import Idealize.ShloMosaic.Lib.Claim

@[expose] public section

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is held to a predicate, here one that always holds. -/
def held : Fin 4 → Bool := fun w => w.val == 3

/-- The proof data: the arrays as the region finds them; after the body at a point each input's buffer at its block; the
    output not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Nothing is stated of any window's contents beyond what the proof data name. -/
def Rl (c : Dev nD) (w : Fin cfg0.W) (t : Fin cfg0.N) : ((cfg0.win w).block.Idx → Elt F (cfg0.win w).elt) → Prop :=
  fun _ => True

/-- The body's precondition at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜((dats m 0 c).toRRel held (Rl c)).Finds 3 t Y⌝ ∗ owns (c : Thread nD τ) (ms0_3 t) fullShare Y))

/-- The body's postcondition at a point, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜True⌝ ∗ owns (c : Thread nD τ) (ms0_3 t) fullShare X))

set_option maxHeartbeats 1600000 in
/-- The body at any point, by the head its point is of. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hcases : t.val % 4 = 0 ∨ t.val % 4 = 1 ∨ t.val % 4 = 2 ∨ t.val % 4 = 3 := by omega
  rcases hcases with h | h | h | h
  · iintro ⟨⟨⟨HS0, HS1, HS2⟩, Hg⟩, Ho, ⟨%d0, H0⟩, ⟨%d1, H1⟩, ⟨%d2, H2⟩, ⟨%d3, %hF, H3⟩⟩
    iapply ((runA c (grid0.coords t) _ _ _ _ _ _ _ _ _ _ _ _ _ _ (hcond0_0 t) ((hcond0_1 t).mpr h) (fun hc => by have := (hcond0_2 t).mp hc; omega) (fun hc => by have := (hcond0_3 t).mp hc; omega) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact trivial
  · iintro ⟨⟨⟨HS0, HS1, HS2⟩, Hg⟩, Ho, ⟨%d0, H0⟩, ⟨%d1, H1⟩, ⟨%d2, H2⟩, ⟨%d3, %hF, H3⟩⟩
    iapply ((runB c (grid0.coords t) _ _ _ _ _ _ _ _ _ _ _ _ _ _ (hcond0_0 t) (fun hc => by have := (hcond0_1 t).mp hc; omega) ((hcond0_2 t).mpr h) (fun hc => by have := (hcond0_3 t).mp hc; omega) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact trivial
  · iintro ⟨⟨⟨HS0, HS1, HS2⟩, Hg⟩, Ho, ⟨%d0, H0⟩, ⟨%d1, H1⟩, ⟨%d2, H2⟩, ⟨%d3, %hF, H3⟩⟩
    iapply ((runC c (grid0.coords t) _ _ _ _ _ _ _ _ _ _ _ _ _ _ (hcond0_0 t) (fun hc => by have := (hcond0_1 t).mp hc; omega) (fun hc => by have := (hcond0_2 t).mp hc; omega) ((hcond0_3 t).mpr h) (fun hc => by have := (hcond0_4 t).mp hc; omega) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact trivial
  · iintro ⟨⟨⟨HS0, HS1, HS2⟩, Hg⟩, Ho, ⟨%d0, H0⟩, ⟨%d1, H1⟩, ⟨%d2, H2⟩, ⟨%d3, %hF, H3⟩⟩
    iapply ((runD c (grid0.coords t) _ _ _ _ _ _ _ _ _ _ _ _ _ _ (hcond0_0 t) (fun hc => by have := (hcond0_1 t).mp hc; omega) (fun hc => by have := (hcond0_2 t).mp hc; omega) (fun hc => by have := (hcond0_3 t).mp hc; omega) ((hcond0_4 t).mpr h) (iblk m c 0 t) (iblk m c 1 t) (iblk m c 2 t) d3) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, ⟨%X, H3⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    iexists X; isplitr; swap; · iexact H3
    ipureintro
    exact trivial

/-- The body table's row at a point's slots is the body at the point. -/
theorem defs₀_row (t : Fin cfg0.N) :
    defs₀ (F := F) .tc cfg0.body (cfg0.bodyArgs t (cfg0.slots t)) = bodyAt0 t := by
  unfold defs₀; rw [Defs.onTc_tc]

/-- The body obligation of the relational proof data. -/
theorem body_obligation (c : Dev nD) :
    Pipeline.BodyObligationRel (dats m 0 c) (defs₀ (F := F)) Variants.none () Set.univ held (Rl c) := fun t => by
  rw [bigSep_W0, bigSep_W0, defs₀_row]
  exact triple_restated (sound_body m c t) rfl .rfl fun _ => .rfl

set_option backward.isDefEq.respectTransparency.types false in
/-- The launch: every array at what the relational data say of it, and every semaphore counter at zero. -/
theorem run_rel : θ_run defs (onTc (τ := τ) (main (F := F))) (s₀ m ρ) (fun r => (Pipeline.RDat.FramePost (cfgs 0) (fun c => (dats m 0 c).toRRel held (Rl c)) (V m)) r ∧ r.2.sem = fun _ => 0) :=
  Pipeline.RDat.θ_run_frame (Q' := _) cfgs (0 : Fin 1) launch0 defs₀ Variants.none (fun c => (dats m 0 c).toRRel held (Rl c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_rel m ρ)

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_rel m ρ))

end Cert.Kernel.Att

end
-- ==== Proof.Att.Claims.lean ====
/- The claims about the dense attention. -/
module

public import proofs.«01_k».proof.Proof.Att.Finite
public import proofs.«01_k».proof.Proof.Att.KData
public import Idealize.ShloMosaic.Lib.Claim

@[expose] public section

set_option maxRecDepth 16384

noncomputable section

namespace Cert.Att

open Idealize.ShloMosaic Idealize.ShloMosaic.TcCoe Idealize.ShloMosaic.Tactic Idealize.SL.Sem

/-- The kernel's frame. -/
theorem frame_p : Cert.quiescent_Kernel := fun m g _ => Cert.Kernel.Att.frame m g

/-- The idealized kernel's frame. -/
theorem frame_pi : Cert.quiescent_KernelIdeal := fun m g _ => Cert.KernelIdeal.Att.frame m g

/-- The same from finite queries and keys. -/
theorem frame_pi_pre : Cert.quiescent_KernelIdeal_pre_finite_scores := fun m g _ => Cert.KernelIdeal.Att.frame m g

/-- The reference's frame. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The same from finite queries and keys. -/
theorem frame_ri_pre : Cert.quiescent_ReferenceIdeal_pre_finite_scores := fun m g _ => frame_ri m g trivial

/-- The one named constant. -/
theorem preserves : Cert.preserves_Kernel_KernelIdeal :=
  IdealRules.named_const.statement Cert.KernelIdeal.κ "scale_log2e" .f32 0x3E16C740#32 (((3424635 / 33554432) * (Real.log 2)⁻¹ : ℝ) : EReal) rfl

/-- A result index, by batch, token, head and column within the head. -/
theorem index_split (i : (⟨3, ![2, 16384, 256]⟩ : Shape).Idx) : ∃ (b : Fin 2) (s : Fin 16384) (h : Fin 4) (e : Fin 64),
    i = ix3 b s (⟨h.val * 64 + e.val, by omega⟩ : Fin 256) := by
  have h2 : (i 2 : ℕ) < 256 := (i 2).isLt
  refine ⟨i 0, i 1, ⟨(i 2 : ℕ) / 64, by omega⟩, ⟨(i 2 : ℕ) % 64, Nat.mod_lt _ (by omega)⟩, ?_⟩
  funext d
  fin_cases d
  · rfl
  · rfl
  · exact Fin.ext (show (i 2 : ℕ) = (i 2 : ℕ) / 64 * 64 + (i 2 : ℕ) % 64 by omega)

/-- On finite queries and keys the kernel computes the reference's attention. -/
theorem algebraic : Cert.algebraic_KernelIdeal_ReferenceIdeal_pre_finite_scores := by
  intro m g m' g' hpre hagree
  refine ⟨fun c => Cert.KernelIdeal.Att.G m c, ?_, ?_⟩
  · exact Cert.KernelIdeal.Att.run_G m g
  · refine (θ_run _ _ _).mono (fun r h c => ⟨(h c).1.trans ?_, (h c).2⟩) (Cert.ReferenceIdeal.Value.run (F := Ideal) m' g')
    obtain ⟨a0, a1, a2, a3, a4⟩ := hagree c
    rw [a0, a1, a2, a3, a4]
    obtain ⟨hq, hc, hk⟩ := finite _ _ _ _ _ (hpre c)
    funext i
    obtain ⟨b, s, h, e, rfl⟩ := index_split i
    refine (Cert.ReferenceIdeal.Att.ref_at _ _ _ _ _ b s h e).trans ?_
    exact ((Cert.KernelIdeal.Att.G_eq m c b s h e).trans (averages _ _ _ hq hc hk b s h _)).symm

end Cert.Att

end
-- ==== Proof.Row.Row.lean ====
/- A row of 1024 numbers, normalised and modulated. -/
module

public import Idealize.ShloMosaic.PureOps.Ideal
public import Idealize.ShloMosaic.Lib.Claim

@[expose] public section

set_option maxRecDepth 16384

noncomputable section

namespace Cert.Row

open Idealize.ShloMosaic Idealize.ShloMosaic.TcCoe Idealize.ShloMosaic.Tactic Idealize.SL.Sem

/-- The row scaled by the reciprocal root of its mean square, by `g` and by `s`, and shifted by `h`. -/
def rms (v g s h : Fin 1024 → EReal) (k : Fin 1024) : EReal :=
  v k * Ideal.rsqrt (Ideal.div (∑ j, v j * v j) (Ideal.ofBits .f32 0x44800000#32) + Ideal.ofBits .f32 0x358637BD#32) * g k * s k + h k

/-- Four rows of 256 side by side. -/
def cat (a b c d : Fin 256 → EReal) (n : Fin 1024) : EReal :=
  if h : n.val < 256 then a ⟨n.val, h⟩
  else if h : n.val - 256 < 256 then b ⟨n.val - 256, h⟩
  else if h : n.val - 256 - 256 < 256 then c ⟨n.val - 256 - 256, h⟩
  else d ⟨n.val - 256 - 256 - 256, by omega⟩

end Cert.Row

end
-- ==== Proof.In.Body.lean ====
/- The input projection's body, at an index. -/
module

public import proofs.«01_k».proof.Proof.Gen.InKernelIdeal.Value
public import proofs.«01_k».proof.Proof.Row.Row
public import Idealize.ShloMosaic.Lib.Claim
public import Idealize.ShloMosaic.Lib.Pointwise

@[expose] public section

set_option maxRecDepth 16384

noncomputable section

namespace Cert.InKernelIdeal.In

open Cert.InKernelIdeal Cert.InKernelIdeal.Gen Idealize.ShloMosaic Idealize.ShloMosaic.TcCoe Idealize.ShloMosaic.Tactic Idealize.SL.Sem

/-- A block's row, normalised and modulated, times a column of the weights. -/
def bcol (md : Vec Ideal S1x8x1024 .f32) (x : Vec Ideal S512x1024 .f32) (w : Vec Ideal S1024x3072 .bf16) (r : Fin 512) (j : Fin 3072) : EReal :=
  ∑ n, Row.rms (fun k => x (ix2 r k)) (fun k => md (ix3 0 0 k)) (fun k => md (ix3 0 1 k)) (fun k => md (ix3 0 2 k)) n * w (ix2 n j)

theorem pay10_at (md : Vec Ideal S1x8x1024 .f32) (x : Vec Ideal S512x1024 .f32) (w : Vec Ideal S1024x3072 .bf16) (r : Fin 512) (j : Fin 3072) :
    k0_pay10 (F := Ideal) md x w (ix2 r j) = bcol md x w r j := by
  unfold k0_pay10
  pointwise []
  rfl

/-- Columns cut from a block's product, at an index. -/
theorem cut_at {α : Type} {wd : ℕ} (X : (⟨2, ![512, 3072]⟩ : Shape).Idx → α) (off : ℕ) (h : (⟨2, ![512, 3072]⟩ : Shape).Slices ![0, off] ⟨2, ![512, wd]⟩)
    (r : Fin 512) (k : Fin wd) (hk : off + k.val < 3072) :
    extractStridedSlice ⟨2, ![512, wd]⟩ ![0, off] X h (ix2 r k) = X (ix2 r ⟨off + k.val, hk⟩) := by
  refine extractStridedSlice_apply _ _ h _ _ fun a => ?_
  fin_cases a
  · exact (Nat.zero_add _).symm
  · rfl

end Cert.InKernelIdeal.In

end
-- ==== Proof.In.Table.lean ====
/- The column of the input weights each column of the kernel's product reads. -/
module

public import proofs.«01_k».proof.Proof.Gen.InKernelIdeal.Value
public import Idealize.ShloMosaic.Lib.Claim

@[expose] public section

set_option maxRecDepth 65536

noncomputable section

namespace Cert.InKernelIdeal.In

open Cert.InKernelIdeal Cert.InKernelIdeal.Gen
open Idealize.ShloMosaic Idealize.ShloMosaic.TcCoe Idealize.ShloMosaic.Tactic Idealize.SL.Sem

/-- The product's columns are the weights' own, but for the gates (16 columns) and the rotary key (32), which are set apart. -/
def place (j : ℕ) : ℕ := if j < 1792 then j else if j < 2176 then j + 16 else j + 48

/-- The table the program carries holds those columns. -/
theorem table : ∀ j : Fin 2688, min (lit1 j).toInt.toNat 2735 = place j.val := by
  decide +kernel

end Cert.InKernelIdeal.In

end
-- ==== Proof.In.Gather.lean ====
/- Columns of a matrix taken by a table. -/
module

public import Idealize.ShloMosaic.Lib.Claim
public import Idealize.ShloMosaic.Lib.Pointwise

@[expose] public section

noncomputable section

namespace Cert.In

open Idealize.ShloMosaic

variable {α : Type} {N C K : ℕ}

/-- Whole columns of an `N × C` matrix, taken by `K` column numbers. -/
abbrev colDims (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- Column `j` of the result is the column the table names, held inside the matrix. -/
theorem gather_cols (hC : 0 < C) (wf : GatherDims.WF ⟨2, ![N, C]⟩ ⟨2, ![K, 1]⟩ ⟨2, ![N, K]⟩ [0] [1] [] [1] [] 1 ![N, 1])
    (x : (⟨2, ![N, C]⟩ : Shape).Idx → α) (t : IVec ⟨2, ![K, 1]⟩ 32) (n : Fin N) (j : Fin K) :
    Host.gather (colDims wf) x t (ix2 n j) = x (ix2 n ⟨min (t (ix2 j 0)).toInt.toNat (C - 1), by omega⟩) := by
  unfold Host.gather
  refine congrArg x (funext fun a => Fin.ext ?_)
  show (colDims wf).start (ix2 n j) t a + (colDims wf).batchCoord (ix2 n j) a + (colDims wf).offCoord (ix2 n j) a = _
  rw [GatherDims.batchCoord_eq_zero _ _ _ (fun h => by simp at h), Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (fun h => absurd (List.mem_singleton.mp h) (show ¬ (0 : Fin 2) = 1 by decide)), Nat.zero_add]
    unfold GatherDims.offCoord
    rw [dif_pos ((GatherDims.mem_sKept _ _).mpr ⟨fun h => absurd (List.mem_singleton.mp h) (show ¬ (0 : Fin 2) = 1 by decide), fun h => by simp at h⟩)]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (colDims wf).startIndexMap from List.mem_singleton.mpr rfl)]
    have hsi : (colDims wf).siIdx (ix2 n j) ⟨List.idxOf (1 : Fin 2) (colDims wf).startIndexMap,
        List.idxOf_lt_length_iff.2 (List.mem_singleton.mpr rfl)⟩ = ix2 j 0 := by
      funext b
      refine Fin.ext ?_
      match b with
      | ⟨0, _⟩ => rfl
      | ⟨1, _⟩ => rfl
    rw [hsi]
    rfl

end Cert.In

end
-- ==== Proof.In.Host.lean ====
/- What the host code hands to the input projection. -/
module

public import proofs.«01_k».proof.Proof.In.Body
public import proofs.«01_k».proof.Proof.In.Table
public import proofs.«01_k».proof.Proof.In.Gather
public import Idealize.ShloMosaic.Lib.Claim
public import Idealize.ShloMosaic.Lib.Pointwise

@[expose] public section

set_option maxRecDepth 16384

noncomputable section

namespace Cert.InKernelIdeal.In

open Cert.InKernelIdeal Cert.InKernelIdeal.Gen Idealize.ShloMosaic Idealize.ShloMosaic.TcCoe Idealize.ShloMosaic.Tactic Idealize.SL.Sem

variable (m : (ℓ : Loc nD τ sig) → Buf (Elt Ideal) ℓ)

/-- The region's array `x`: the argument's tokens, batch after batch. -/
theorem entry_x (c : Dev nD) (p : Fin 32768) (k : Fin 1024) : (show EReal from V m c main_v0 (ix2 p k)) = (show EReal from m ((c.tc : Thread nD τ).loc main_arg0) (ix3 ⟨p.val / 16384, by omega⟩ ⟨p.val % 16384, Nat.mod_lt _ (by omega)⟩ k)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  pointwise []

/-- The rows the host code stacks: the norm's weights, the scale and the shift, padded to eight rows. -/
def rows (g : FVec Ideal S1024 .f32) (sc sh : FVec Ideal S2x1024 .f32) : FVec Ideal S2x8x1024 .f32 :=
  pad S2x8x1024 ![0, 0, 0] ![0, 5, 0] ![0, 0, 0] (concatenate S2x3x1024 1
    [⟨S2x1x1024, broadcastInDim S2x1x1024 ![0, 2] bcast_S2x1024_S2x1x1024_0_2 (broadcastInDim S2x1024 ![1] bcast_S1024_S2x1024_1 g)⟩,
     ⟨S2x1x1024, broadcastInDim S2x1x1024 ![0, 2] bcast_S2x1024_S2x1x1024_0_2 (addf (broadcastInDim S2x1024 ![] bcast_S_S2x1024 (constant S_ .f32 0x3F800000#32)) sc)⟩,
     ⟨S2x1x1024, broadcastInDim S2x1x1024 ![0, 2] bcast_S2x1024_S2x1x1024_0_2 sh⟩]
    concatenates_S2x1x1024_S2x1x1024_S2x1x1024_S2x3x1024_d1) (sitofp (F := Ideal) .f32 (constantI S_ 32 0#32)) pads_S2x3x1024_S2x8x1024_000_050_000 h_S_

theorem entry_rows (c : Dev nD) : V m c main_v8 = rows (m ((c.tc : Thread nD τ).loc main_arg1)) (m ((c.tc : Thread nD τ).loc main_arg2)) (m ((c.tc : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> (try dsimp only [Matrix.cons_val]) <;> (try after_results_simp) <;> rfl

theorem rows_norm (g : FVec Ideal S1024 .f32) (sc sh : FVec Ideal S2x1024 .f32) (b : Fin 2) (k : Fin 1024) :
    rows g sc sh (ix3 b 0 k) = g (ix1 k) := by
  unfold rows
  pointwise []

theorem rows_scale (g : FVec Ideal S1024 .f32) (sc sh : FVec Ideal S2x1024 .f32) (b : Fin 2) (k : Fin 1024) :
    rows g sc sh (ix3 b 1 k) = 1 + sc (ix2 b k) := by
  unfold rows
  pointwise []

theorem rows_shift (g : FVec Ideal S1024 .f32) (sc sh : FVec Ideal S2x1024 .f32) (b : Fin 2) (k : Fin 1024) :
    rows g sc sh (ix3 b 2 k) = sh (ix2 b k) := by
  unfold rows
  pointwise []

/-- The column numbers, as the host code hands them to the gather: none is negative, so none is moved. -/
def numbers (t u : IVec S2688 32) : IVec S2688x1 32 :=
  broadcastInDim S2688x1 ![0] bcast_S2688_S2688x1_0 (select (constantI S2688 1 0#1) u t)

theorem numbers_at (t u : IVec S2688 32) (j : Fin 2688) : numbers t u (ix2 j 0) = t (ix1 j) := by
  unfold numbers
  pointwise []

/-- The weights the host code lays out: the columns taken by number, then three blocks this proof does not look into. -/
def weights (wt : FVec Ideal S1024x2736 .f32) (t u : IVec S2688 32) (P Q R : FVec Ideal S1024x128 .f32) : FVec Ideal S1024x3072 .bf16 :=
  truncf .bf16 (concatenate S1024x3072 1 [⟨S1024x2688, Host.gather gather_S1024x2736_S2688x1_S1024x2688_0_1_n_n_1_1_10241 wt (numbers t u)⟩,
    ⟨S1024x128, P⟩, ⟨S1024x128, Q⟩, ⟨S1024x128, R⟩] concatenates_S1024x2688_S1024x128_S1024x128_S1024x128_S1024x3072_d1) bitsLt_bf16_f32

theorem joined_at (y : FVec Ideal S1024x2688 .f32) (P Q R : FVec Ideal S1024x128 .f32) (n : Fin 1024) (j : Fin 3072) (hj : j.val < 2688) :
    truncf .bf16 (concatenate S1024x3072 1 [⟨S1024x2688, y⟩, ⟨S1024x128, P⟩, ⟨S1024x128, Q⟩, ⟨S1024x128, R⟩]
      concatenates_S1024x2688_S1024x128_S1024x128_S1024x128_S1024x3072_d1) bitsLt_bf16_f32 (ix2 n j) = y (ix2 n ⟨j.val, hj⟩) := by
  pointwise [hj]

theorem weights_at (wt : FVec Ideal S1024x2736 .f32) (t u : IVec S2688 32) (P Q R : FVec Ideal S1024x128 .f32) (n : Fin 1024) (j : Fin 3072) (hj : j.val < 2688) :
    weights wt t u P Q R (ix2 n j) = wt (ix2 n ⟨min (t (ix1 (⟨j.val, hj⟩ : Fin 2688))).toInt.toNat 2735, by omega⟩) := by
  have e := (Cert.In.gather_cols (by decide) gather_S1024x2736_S2688x1_S1024x2688_0_1_n_n_1_1_10241_wf wt (numbers t u) n ⟨j.val, hj⟩).trans
    (congrArg wt (congrArg (ix2 n) (show (⟨min (numbers t u (ix2 (⟨j.val, hj⟩ : Fin 2688) 0)).toInt.toNat (2736 - 1), by omega⟩ : Fin 2736)
        = ⟨min (t (ix1 (⟨j.val, hj⟩ : Fin 2688))).toInt.toNat 2735, by omega⟩ from Fin.ext (congrArg (fun z : BitVec 32 => min z.toInt.toNat 2735) (numbers_at t u ⟨j.val, hj⟩)))))
  exact (joined_at _ P Q R n j hj).trans e

theorem entry_weights (c : Dev nD) : V m c main_v33
    = weights (m ((c.tc : Thread nD τ).loc main_arg4)) (fun i => lit1 (S2688.rowMajor i)) (V m c main_v15) (V m c main_v24) (V m c main_v25) (V m c main_v31) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> (try dsimp only [Matrix.cons_val]) <;> (try after_results_simp) <;> rfl

/-- The region's weights: each column is the argument's at its place. -/
theorem entry_w (c : Dev nD) (n : Fin 1024) (j : Fin 3072) (q : Fin 2736) (hj : j.val < 2688) (hq : place j.val = q.val) :
    (show EReal from V m c main_v33 (ix2 n j)) = (show EReal from (m ((c.tc : Thread nD τ).loc main_arg4)) (ix2 n q)) := by
  refine (congrFun (entry_weights m c) _).trans ((weights_at _ _ _ _ _ _ n j hj).trans ?_)
  refine congrArg (m ((c.tc : Thread nD τ).loc main_arg4)) (congrArg (ix2 n) (Fin.ext ?_))
  refine Eq.trans (congrArg (fun z : Fin 2688 => min (lit1 z).toInt.toNat 2735) (Fin.ext ?_)) ((table ⟨j.val, hj⟩).trans hq)
  exact Shape.rowMajor_val_one _

end Cert.InKernelIdeal.In

end
-- ==== Proof.Out.Ref.lean ====
/- The plain output projection, at an index. -/
module

public import proofs.«01_k».proof.Proof.Gen.OutReferenceIdeal.Run
public import proofs.«01_k».proof.Proof.Row.Row
public import Idealize.ShloMosaic.Lib.Claim
public import Idealize.ShloMosaic.Lib.Pointwise

@[expose] public section

set_option maxRecDepth 16384

noncomputable section

namespace Cert.OutReferenceIdeal.Out

open Cert.OutReferenceIdeal Cert.OutReferenceIdeal.Gen
open Idealize.ShloMosaic Idealize.ShloMosaic.TcCoe Idealize.ShloMosaic.Tactic Idealize.SL.Sem

variable (ya hl mo yc yd : FVec Ideal S2x16384x256 .f32) (x : FVec Ideal S2x16384x1024 .f32) (g1 : FVec Ideal S2x1024 .f32) (w : FVec Ideal S1024x1024 .f32)

/-- The residual stream after the product with the weights, as the reference computes it. -/
def stream : FVec Ideal S2x16384x1024 .f32 :=
  addf x (mulf (broadcastInDim S2x16384x1024 ![0, 1, 2] bcast_S2x1x1024_S2x16384x1024_0_1_2 (broadcastInDim S2x1x1024 ![0, 2] bcast_S2x1024_S2x1x1024_0_2 g1))
    (Host.dotGeneral dot_S2x16384x1024_S1024x1024_S2x16384x1024_2_0_01_1_n_n none (concatenate S2x16384x1024 2 [⟨S2x16384x256, ya⟩,
      ⟨S2x16384x256, mulf hl (Host.divf (broadcastInDim S2x16384x256 ![] bcast_S_S2x16384x256 (constant S_ .f32 0x3F800000#32))
        (addf (broadcastInDim S2x16384x256 ![] bcast_S_S2x16384x256 (constant S_ .f32 0x3F800000#32)) (Host.exp (Host.negf mo))))⟩,
      ⟨S2x16384x256, yc⟩, ⟨S2x16384x256, yd⟩] concatenates_S2x16384x256_S2x16384x256_S2x16384x256_S2x16384x256_S2x16384x1024_d2) w))

/-- A token's row of it. -/
def srow (b : Fin 2) (s : Fin 16384) (k : Fin 1024) : EReal :=
  x (ix3 b s k) + g1 (ix2 b k) * ∑ n, Row.cat (fun j => ya (ix3 b s j)) (fun j => hl (ix3 b s j) * Ideal.logistic (mo (ix3 b s j)))
    (fun j => yc (ix3 b s j)) (fun j => yd (ix3 b s j)) n * w (ix2 n k)

theorem stream_at (b : Fin 2) (s : Fin 16384) (k : Fin 1024) : stream ya hl mo yc yd x g1 w (ix3 b s k) = srow ya hl mo yc yd x g1 w b s k := by
  unfold stream
  pointwise []
  rfl

/-- The reference's normalisation and modulation of an array's rows. -/
def normed (v : FVec Ideal S2x16384x1024 .f32) (g : FVec Ideal S1024 .f32) (sc sh : FVec Ideal S2x1024 .f32) : FVec Ideal S2x16384x1024 .f32 :=
  addf (mulf (mulf (mulf v (broadcastInDim S2x16384x1024 ![0, 1, 2] bcast_S2x16384x1_S2x16384x1024_0_1_2
    (Host.rsqrt (addf (Host.divf (broadcastInDim S2x16384x1 ![0, 1] bcast_S2x16384_S2x16384x1_0_1 (Host.reduceAdd (mulf v v) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S2x1x1024_S2x16384x1024_0_1_2 (addf (broadcastInDim S2x1x1024 ![] bcast_S_S2x1x1024 (constant S_ .f32 0x3F800000#32))
      (broadcastInDim S2x1x1024 ![0, 2] bcast_S2x1024_S2x1x1024_0_2 sc))))
    (broadcastInDim S2x16384x1024 ![0, 1, 2] bcast_S2x1x1024_S2x16384x1024_0_1_2 (broadcastInDim S2x1x1024 ![0, 2] bcast_S2x1024_S2x1x1024_0_2 sh))

theorem normed_at (v : FVec Ideal S2x16384x1024 .f32) (g : FVec Ideal S1024 .f32) (sc sh : FVec Ideal S2x1024 .f32) (b : Fin 2) (s : Fin 16384) (k : Fin 1024) :
    normed v g sc sh (ix3 b s k) = Row.rms (fun j => v (ix3 b s j)) (fun k => g (ix1 k)) (fun k => 1 + sc (ix2 b k)) (fun k => sh (ix2 b k)) k := by
  unfold normed
  pointwise []
  rfl

/-- An array's rows in the order of the batch and the token. -/
theorem rows_at (v : FVec Ideal S2x16384x1024 .f32) (p : Fin 32768) (k : Fin 1024) :
    shapeCast S32768x1024 v shapeCasts_S2x16384x1024_S32768x1024 (ix2 p k)
      = v (ix3 ⟨p.val / 16384, by omega⟩ ⟨p.val % 16384, Nat.mod_lt _ (by omega)⟩ k) := by
  pointwise []

theorem second (m : (ℓ : Loc nD τ sig) → Buf (Elt Ideal) ℓ) (c : Dev nD) : Value.res_main_v35 m c
    = shapeCast S32768x1024 (normed (stream (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)))
      (m ((c.tc : Thread nD τ).loc main_arg7)) (m ((c.tc : Thread nD τ).loc main_arg8)) (m ((c.tc : Thread nD τ).loc main_arg9))) shapeCasts_S2x16384x1024_S32768x1024 := rfl

end Cert.OutReferenceIdeal.Out

end
-- ==== Proof.In.Ref.lean ====
/- The plain input projection, at an index. -/
module

public import proofs.«01_k».proof.Proof.Gen.InReferenceIdeal.Run
public import proofs.«01_k».proof.Proof.Out.Ref
public import Idealize.ShloMosaic.Lib.Claim
public import Idealize.ShloMosaic.Lib.Pointwise

@[expose] public section

set_option maxRecDepth 16384

noncomputable section

namespace Cert.InReferenceIdeal.In

open Cert.InReferenceIdeal Cert.InReferenceIdeal.Gen Idealize.ShloMosaic Idealize.ShloMosaic.TcCoe Idealize.ShloMosaic.Tactic Idealize.SL.Sem

variable (x : FVec Ideal S2x16384x1024 .f32) (g : FVec Ideal S1024 .f32) (sc sh : FVec Ideal S2x1024 .f32) (w : FVec Ideal S1024x2736 .f32)

/-- The normalised rows' product with the weights, as the reference computes it. -/
def prod : FVec Ideal S2x16384x2736 .f32 :=
  Host.dotGeneral dot_S2x16384x1024_S1024x2736_S2x16384x2736_2_0_01_1_n_n none (Cert.OutReferenceIdeal.Out.normed x g sc sh) w

/-- A token's product with a column of the weights. -/
def col (b : Fin 2) (s : Fin 16384) (q : Fin 2736) : EReal :=
  ∑ n, Row.rms (fun j => x (ix3 b s j)) (fun k => g (ix1 k)) (fun k => 1 + sc (ix2 b k)) (fun k => sh (ix2 b k)) n * w (ix2 n q)

theorem prod_at (b : Fin 2) (s : Fin 16384) (q : Fin 2736) : prod x g sc sh w (ix3 b s q) = col x g sc sh w b s q := by
  have e := fun n => Cert.OutReferenceIdeal.Out.normed_at x g sc sh b s n
  unfold prod col
  simp only [← e]
  generalize Cert.OutReferenceIdeal.Out.normed x g sc sh = y
  pointwise []

/-- Columns cut from an array of tokens, the tokens then in one row of batches, at an index. -/
theorem slab_at {α : Type} {wd : ℕ} (X : (⟨3, ![2, 16384, 2736]⟩ : Shape).Idx → α) (off : ℕ)
    (h : (⟨3, ![2, 16384, 2736]⟩ : Shape).Slices ![0, 0, off] ⟨3, ![2, 16384, wd]⟩) (h' : (⟨3, ![2, 16384, wd]⟩ : Shape).ShapeCasts ⟨2, ![32768, wd]⟩)
    (p : Fin 32768) (k : Fin wd) (hk : off + k.val < 2736) :
    shapeCast ⟨2, ![32768, wd]⟩ (extractStridedSlice ⟨3, ![2, 16384, wd]⟩ ![0, 0, off] X h) h' (ix2 p k)
      = X (ix3 ⟨p.val / 16384, by omega⟩ ⟨p.val % 16384, Nat.mod_lt _ (by omega)⟩ ⟨off + k.val, hk⟩) := by
  refine (shapeCast_apply _ h' _ (ix3 ⟨p.val / 16384, by omega⟩ ⟨p.val % 16384, Nat.mod_lt _ (by omega)⟩ k) ?_).trans ?_
  · rw [Shape.rowMajor_val_three, Shape.rowMajor_val_two]
    show (p.val / 16384 * 16384 + p.val % 16384) * wd + k.val = p.val * wd + k.val
    rw [Nat.div_add_mod' p.val 16384]
  · refine extractStridedSlice_apply _ _ h _ _ fun a => ?_
    fin_cases a
    · exact (Nat.zero_add _).symm
    · exact (Nat.zero_add _).symm
    · rfl

/-- A result of the reference: `wd` columns from column `off` on, the tokens batch after batch. -/
def slab {wd : ℕ} {φ : FTy} (off : ℕ) (h : off + wd ≤ 2736) : FVec Ideal ⟨2, ![32768, wd]⟩ φ := fun y =>
  col x g sc sh w ⟨(y 0).val / 16384, Nat.div_lt_of_lt_mul (ValueIdx.idx2_lt0 y)⟩ ⟨(y 0).val % 16384, Nat.mod_lt _ (by omega)⟩
    ⟨off + (y 1).val, lt_of_lt_of_le (Nat.add_lt_add_left (ValueIdx.idx2_lt1 y) off) h⟩

theorem slab_eq {wd : ℕ} (off : ℕ) (h : off + wd ≤ 2736) (hs : (⟨3, ![2, 16384, 2736]⟩ : Shape).Slices ![0, 0, off] ⟨3, ![2, 16384, wd]⟩)
    (hc : (⟨3, ![2, 16384, wd]⟩ : Shape).ShapeCasts ⟨2, ![32768, wd]⟩) :
    shapeCast ⟨2, ![32768, wd]⟩ (extractStridedSlice ⟨3, ![2, 16384, wd]⟩ ![0, 0, off] (prod x g sc sh w) hs) hc = slab (φ := .f32) x g sc sh w off h := by
  funext y
  have ey : y = ix2 (n0 := 32768) (n1 := wd) (y 0) (y 1) := by
    funext d
    fin_cases d <;> rfl
  exact (congrArg _ ey).trans ((slab_at _ off hs hc (y 0) (y 1) (lt_of_lt_of_le (Nat.add_lt_add_left (ValueIdx.idx2_lt1 y) off) h)).trans
    (prod_at x g sc sh w _ _ _))

/-- A result the reference narrows is the result itself, every element being an extended real. -/
theorem slab_narrow {wd : ℕ} (off : ℕ) (h : off + wd ≤ 2736) (hs : (⟨3, ![2, 16384, 2736]⟩ : Shape).Slices ![0, 0, off] ⟨3, ![2, 16384, wd]⟩)
    (hc : (⟨3, ![2, 16384, wd]⟩ : Shape).ShapeCasts ⟨2, ![32768, wd]⟩) (hb : FTy.bf16.bits < FTy.f32.bits) :
    truncf (F := Ideal) .bf16 (shapeCast ⟨2, ![32768, wd]⟩ (extractStridedSlice ⟨3, ![2, 16384, wd]⟩ ![0, 0, off] (prod x g sc sh w) hs) hc) hb
      = slab (φ := .bf16) x g sc sh w off h :=
  (show truncf (F := Ideal) .bf16 _ hb = _ from rfl).trans (slab_eq x g sc sh w off h hs hc)

variable (m : (ℓ : Loc nD τ sig) → Buf (Elt Ideal) ℓ)

/-- A result of the reference, from the arguments. -/
def result {wd : ℕ} {φ : FTy} (c : Dev nD) (off : ℕ) (h : off + wd ≤ 2736) : FVec Ideal ⟨2, ![32768, wd]⟩ φ := slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) off h

theorem result_eq {wd : ℕ} (c : Dev nD) {X : (⟨3, ![2, 16384, 2736]⟩ : Shape).Idx → EReal} (hX : X = prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (off : ℕ) (h : off + wd ≤ 2736)
    (hs : (⟨3, ![2, 16384, 2736]⟩ : Shape).Slices ![0, 0, off] ⟨3, ![2, 16384, wd]⟩) (hc : (⟨3, ![2, 16384, wd]⟩ : Shape).ShapeCasts ⟨2, ![32768, wd]⟩) :
    shapeCast ⟨2, ![32768, wd]⟩ (extractStridedSlice ⟨3, ![2, 16384, wd]⟩ ![0, 0, off] X hs) hc = result (φ := .f32) m c off h := by
  subst hX
  exact slab_eq _ _ _ _ _ off h hs hc

theorem result_narrow {wd : ℕ} (c : Dev nD) {X : (⟨3, ![2, 16384, 2736]⟩ : Shape).Idx → EReal} (hX : X = prod (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (off : ℕ) (h : off + wd ≤ 2736)
    (hs : (⟨3, ![2, 16384, 2736]⟩ : Shape).Slices ![0, 0, off] ⟨3, ![2, 16384, wd]⟩) (hc : (⟨3, ![2, 16384, wd]⟩ : Shape).ShapeCasts ⟨2, ![32768, wd]⟩) (hb : FTy.bf16.bits < FTy.f32.bits) :
    truncf (F := Ideal) .bf16 (shapeCast ⟨2, ![32768, wd]⟩ (extractStridedSlice ⟨3, ![2, 16384, wd]⟩ ![0, 0, off] X hs) hc) hb = result (φ := .bf16) m c off h := by
  subst hX
  exact slab_narrow _ _ _ _ _ off h hs hc hb

end Cert.InReferenceIdeal.In

end
-- ==== Proof.In.Final.lean ====
/- The arrays the input projection leaves. -/
module

public import proofs.«01_k».proof.Proof.In.Host
public import proofs.«01_k».proof.Proof.In.Ref
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.InKernelIdeal.In

open Cert.InKernelIdeal Cert.InKernelIdeal.Gen Idealize.ShloMosaic Idealize.ShloMosaic.TcCoe Idealize.ShloMosaic.Tactic Idealize.SL.Sem

variable (m : (ℓ : Loc nD τ sig) → Buf (Elt Ideal) ℓ) (ρ : Dev nD → PrngReg)

/-- Every window's block index, by the point. -/
theorem idx : ∀ t : Fin cfg0.N, t.val < 64 ∧ win0_0.index t = ![t.val, 0] ∧ win0_1.index t = ![t.val / 32, 0, 0] ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, _)

/-- The token of a point's row. -/
def tok (t : Fin cfg0.N) (r : Fin 512) : Fin 32768 := ⟨t.val * 512 + r.val, by have := (idx t).1; omega⟩

/-- A point's batch. -/
def bat (t : Fin cfg0.N) : Fin 2 := ⟨t.val / 32, by have := (idx t).1; omega⟩

theorem bat_eq (t : Fin cfg0.N) (r : Fin 512) : (⟨(tok t r).val / 16384, by omega⟩ : Fin 2) = bat t :=
  Fin.ext (show (t.val * 512 + r.val) / 16384 = t.val / 32 by omega)

theorem block0 (c : Dev nD) (t : Fin cfg0.N) (r : Fin 512) (k : Fin 1024) : iblk m c 0 t (ix2 (n0 := 512) (n1 := 1024) r k) = V m c main_v0 (ix2 (tok t r) k) :=
  congrArg (V m c main_v0) (by
    funext a
    fin_cases a
    · exact Fin.ext (show (((win0_0.blk t).view.emb (ix2 (n0 := 512) (n1 := 1024) r k)) 0 : ℕ) = t.val * 512 + r.val by blk_simp [idx t])
    · exact Fin.ext (show (((win0_0.blk t).view.emb (ix2 (n0 := 512) (n1 := 1024) r k)) 1 : ℕ) = k.val by blk_simp [idx t]))

theorem block1 (c : Dev nD) (t : Fin cfg0.N) (j : Fin 8) (k : Fin 1024) : iblk m c 1 t (ix3 (n0 := 1) (n1 := 8) (n2 := 1024) 0 j k) = V m c main_v8 (ix3 (bat t) j k) :=
  congrArg (V m c main_v8) (by
    funext a
    fin_cases a
    · exact Fin.ext (show (((win0_1.blk t).view.emb (ix3 (n0 := 1) (n1 := 8) (n2 := 1024) 0 j k)) 0 : ℕ) = t.val / 32 by blk_simp [idx t]; rfl)
    · exact Fin.ext (show (((win0_1.blk t).view.emb (ix3 (n0 := 1) (n1 := 8) (n2 := 1024) 0 j k)) 1 : ℕ) = j.val by blk_simp [idx t])
    · exact Fin.ext (show (((win0_1.blk t).view.emb (ix3 (n0 := 1) (n1 := 8) (n2 := 1024) 0 j k)) 2 : ℕ) = k.val by blk_simp [idx t]))

theorem block2 (c : Dev nD) (t : Fin cfg0.N) (n : Fin 1024) (k : Fin 3072) : iblk m c 2 t (ix2 (n0 := 1024) (n1 := 3072) n k) = V m c main_v33 (ix2 n k) :=
  congrArg (V m c main_v33) (by
    funext a
    fin_cases a
    · exact Fin.ext (show (((win0_2.blk t).view.emb (ix2 (n0 := 1024) (n1 := 3072) n k)) 0 : ℕ) = n.val by blk_simp [idx t])
    · exact Fin.ext (show (((win0_2.blk t).view.emb (ix2 (n0 := 1024) (n1 := 3072) n k)) 1 : ℕ) = k.val by blk_simp [idx t]))

/-- A token's product with a column of the weights, from the arguments. -/
def kcol (c : Dev nD) (p : Fin 32768) (q : Fin 2736) : EReal :=
  Cert.InReferenceIdeal.In.col (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ⟨p.val / 16384, by omega⟩ ⟨p.val % 16384, Nat.mod_lt _ (by omega)⟩ q

/-- A result array: `wd` columns from column `off` on. -/
def G {wd : ℕ} {φ : FTy} (off : ℕ) (h : off + wd ≤ 2736) (c : Dev nD) : FVec Ideal ⟨2, ![32768, wd]⟩ φ :=
  Cert.InReferenceIdeal.In.slab (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) off h

/-- A point's column of the product is its token's, at the column's place. -/
theorem bcol_eq (c : Dev nD) (t : Fin cfg0.N) (r : Fin 512) (j : Fin 3072) (q : Fin 2736) (hj : j.val < 2688) (hq : place j.val = q.val) :
    bcol (iblk m c 1 t) (iblk m c 0 t) (iblk m c 2 t) r j = kcol m c (tok t r) q := by
  have e0 := fun k => (block0 m c t r k).trans (entry_x m c (tok t r) k)
  have e1 := fun k => (block1 m c t 0 k).trans ((congrFun (entry_rows m c) _).trans (rows_norm _ _ _ (bat t) k))
  have e2 := fun k => (block1 m c t 1 k).trans ((congrFun (entry_rows m c) _).trans (rows_scale _ _ _ (bat t) k))
  have e3 := fun k => (block1 m c t 2 k).trans ((congrFun (entry_rows m c) _).trans (rows_shift _ _ _ (bat t) k))
  have e4 := fun n => (block2 m c t n j).trans (entry_w m c n j q hj hq)
  unfold bcol kcol Cert.InReferenceIdeal.In.col
  rw [bat_eq t r] at e0 ⊢
  refine Finset.sum_congr rfl fun n _ => congrArg₂ (fun x y : EReal => x * y) ?_ (e4 n)
  exact congrFun (congr (congr (congr (congrArg Row.rms (funext e0)) (funext e1)) (funext e2)) (funext e3)) n

theorem kcol_congr (c : Dev nD) {p p' : Fin 32768} {q q' : Fin 2736} (hp : (p : ℕ) = p') (hq : (q : ℕ) = q') : kcol m c p q = kcol m c p' q' := by
  obtain rfl := Fin.ext hp
  obtain rfl := Fin.ext hq
  rfl

/-- Columns cut from a point's product are a block of a result array, where the columns cut lie side by side in the weights. -/
theorem piece {wd : ℕ} {φ : FTy} (at_ off : ℕ)
    (ho : at_ + wd ≤ 1792 ∧ off = at_ ∨ 1792 ≤ at_ ∧ at_ + wd ≤ 2176 ∧ off = at_ + 16 ∨ 2176 ≤ at_ ∧ at_ + wd ≤ 2688 ∧ off = at_ + 48)
    (h : off + wd ≤ 2736) (hs : (⟨2, ![512, 3072]⟩ : Shape).Slices ![0, at_] ⟨2, ![512, wd]⟩) (c : Dev nD) (t : Fin cfg0.N)
    (y : (⟨2, ![512, wd]⟩ : Shape).Idx) (z : (⟨2, ![32768, wd]⟩ : Shape).Idx) (E0 : ((z 0).val : ℕ) = t.val * 512 + (y 0).val) (E1 : ((z 1).val : ℕ) = (y 1).val) :
    extractStridedSlice ⟨2, ![512, wd]⟩ ![0, at_] (k0_pay10 (F := Ideal) (iblk m c 1 t) (iblk m c 0 t) (iblk m c 2 t)) hs y = G (φ := φ) m off h c z := by
  have ey : y = ix2 (n0 := 512) (n1 := wd) (y 0) (y 1) := by
    funext d
    fin_cases d <;> rfl
  have hy : (y 1).val < wd := ValueIdx.idx2_lt1 y
  refine (congrArg _ ey).trans ((cut_at _ at_ hs (y 0) (y 1) (by omega)).trans ((pay10_at _ _ _ _ _).trans
    ((bcol_eq m c t (y 0) _ ⟨off + (y 1).val, by omega⟩ (by show at_ + (y 1).val < 2688; omega) ?_).trans ?_)))
  · show place (at_ + (y 1).val) = off + (y 1).val
    unfold place
    split_ifs <;> omega
  · exact kcol_congr m c E0.symm (congrArg (off + ·) E1.symm)

/-- A load of a whole block is the block. -/
theorem ld0 (X : Vec Ideal S1x8x1024 .f32) : View.ld X r0_0 = X := View.ld_unit_lit _ X (by decide)
theorem ld1 (X : Vec Ideal S512x1024 .f32) : View.ld X r0_1 = X := View.ld_unit_lit _ X (by decide)
theorem ld2 (X : Vec Ideal S1024x3072 .bf16) : View.ld X r0_2 = X := View.ld_unit_lit _ X (by decide)

theorem final3 (c : Dev nD) : (dats m 0 c).arrAt 3 cfg0.N = G (wd := 256) (φ := .f32) m 0 (by decide) c := by
  refine (dats m 0 c).arrAt_eq_of_covers 3 _ (by decide +kernel) fun t hf y => ?_
  have E0 : (((win0_3.blk t).view.emb y) 0 : ℕ) = t.val * 512 + (y 0 : ℕ) := by blk_simp [idx t]
  have E1 : (((win0_3.blk t).view.emb y) 1 : ℕ) = (y 1 : ℕ) := by blk_simp [idx t]
  blk_simp
  rw [after0_3, out0_3, View.canon_cons_unit_lit _ _ _ (by decide), ld0, ld1, ld2]
  exact piece m 0 0 (by decide) (by decide) slices_S512x3072_o0_0_S512x256 c t y _ E0 E1

theorem final4 (c : Dev nD) : (dats m 0 c).arrAt 4 cfg0.N = G (wd := 256) (φ := .bf16) m 256 (by decide) c := by
  refine (dats m 0 c).arrAt_eq_of_covers 4 _ (by decide +kernel) fun t hf y => ?_
  have E0 : (((win0_4.blk t).view.emb y) 0 : ℕ) = t.val * 512 + (y 0 : ℕ) := by blk_simp [idx t]
  have E1 : (((win0_4.blk t).view.emb y) 1 : ℕ) = (y 1 : ℕ) := by blk_simp [idx t]
  blk_simp
  rw [after0_4, out0_4, View.canon_cons_unit_lit _ _ _ (by decide), ld0, ld1, ld2]
  exact piece m 256 256 (by decide) (by decide) slices_S512x3072_o0_256_S512x256 c t y _ E0 E1

theorem final5 (c : Dev nD) : (dats m 0 c).arrAt 5 cfg0.N = G (wd := 256) (φ := .bf16) m 512 (by decide) c := by
  refine (dats m 0 c).arrAt_eq_of_covers 5 _ (by decide +kernel) fun t hf y => ?_
  have E0 : (((win0_5.blk t).view.emb y) 0 : ℕ) = t.val * 512 + (y 0 : ℕ) := by blk_simp [idx t]
  have E1 : (((win0_5.blk t).view.emb y) 1 : ℕ) = (y 1 : ℕ) := by blk_simp [idx t]
  blk_simp
  rw [after0_5, out0_5, View.canon_cons_unit_lit _ _ _ (by decide), ld0, ld1, ld2]
  exact piece m 512 512 (by decide) (by decide) slices_S512x3072_o0_512_S512x256 c t y _ E0 E1

theorem final6 (c : Dev nD) : (dats m 0 c).arrAt 6 cfg0.N = G (wd := 512) (φ := .f32) m 768 (by decide) c := by
  refine (dats m 0 c).arrAt_eq_of_covers 6 _ (by decide +kernel) fun t hf y => ?_
  have E0 : (((win0_6.blk t).view.emb y) 0 : ℕ) = t.val * 512 + (y 0 : ℕ) := by blk_simp [idx t]
  have E1 : (((win0_6.blk t).view.emb y) 1 : ℕ) = (y 1 : ℕ) := by blk_simp [idx t]
  blk_simp
  rw [after0_6, out0_6, View.canon_cons_unit_lit _ _ _ (by decide), ld0, ld1, ld2]
  exact piece m 768 768 (by decide) (by decide) slices_S512x3072_o0_768_S512x512 c t y _ E0 E1

theorem final7 (c : Dev nD) : (dats m 0 c).arrAt 7 cfg0.N = G (wd := 256) (φ := .bf16) m 1280 (by decide) c := by
  refine (dats m 0 c).arrAt_eq_of_covers 7 _ (by decide +kernel) fun t hf y => ?_
  have E0 : (((win0_7.blk t).view.emb y) 0 : ℕ) = t.val * 512 + (y 0 : ℕ) := by blk_simp [idx t]
  have E1 : (((win0_7.blk t).view.emb y) 1 : ℕ) = (y 1 : ℕ) := by blk_simp [idx t]
  blk_simp
  rw [after0_7, out0_7, View.canon_cons_unit_lit _ _ _ (by decide), k0_pay15, ld0, ld1, ld2]
  exact piece m 1280 1280 (by decide) (by decide) slices_S512x3072_o0_1280_S512x256 c t y _ E0 E1

theorem final8 (c : Dev nD) : (dats m 0 c).arrAt 8 cfg0.N = G (wd := 256) (φ := .f32) m 1536 (by decide) c := by
  refine (dats m 0 c).arrAt_eq_of_covers 8 _ (by decide +kernel) fun t hf y => ?_
  have E0 : (((win0_8.blk t).view.emb y) 0 : ℕ) = t.val * 512 + (y 0 : ℕ) := by blk_simp [idx t]
  have E1 : (((win0_8.blk t).view.emb y) 1 : ℕ) = (y 1 : ℕ) := by blk_simp [idx t]
  blk_simp
  rw [after0_8, out0_8, View.canon_cons_unit_lit _ _ _ (by decide), k0_pay15, ld0, ld1, ld2]
  exact piece m 1536 1536 (by decide) (by decide) slices_S512x3072_o0_1536_S512x256 c t y _ E0 E1

theorem final9 (c : Dev nD) : (dats m 0 c).arrAt 9 cfg0.N = G (wd := 256) (φ := .f32) m 1808 (by decide) c := by
  refine (dats m 0 c).arrAt_eq_of_covers 9 _ (by decide +kernel) fun t hf y => ?_
  have E0 : (((win0_9.blk t).view.emb y) 0 : ℕ) = t.val * 512 + (y 0 : ℕ) := by blk_simp [idx t]
  have E1 : (((win0_9.blk t).view.emb y) 1 : ℕ) = (y 1 : ℕ) := by blk_simp [idx t]
  blk_simp
  rw [after0_9, out0_9, View.canon_cons_unit_lit _ _ _ (by decide), k0_pay15, ld0, ld1, ld2]
  exact piece m 1792 1808 (by decide) (by decide) slices_S512x3072_o0_1792_S512x256 c t y _ E0 E1

theorem final10 (c : Dev nD) : (dats m 0 c).arrAt 10 cfg0.N = G (wd := 128) (φ := .f32) m 2064 (by decide) c := by
  refine (dats m 0 c).arrAt_eq_of_covers 10 _ (by decide +kernel) fun t hf y => ?_
  have E0 : (((win0_10.blk t).view.emb y) 0 : ℕ) = t.val * 512 + (y 0 : ℕ) := by blk_simp [idx t]
  have E1 : (((win0_10.blk t).view.emb y) 1 : ℕ) = (y 1 : ℕ) := by blk_simp [idx t]
  blk_simp
  rw [after0_10, out0_10, View.canon_cons_unit_lit _ _ _ (by decide), k0_pay15, ld0, ld1, ld2]
  exact piece m 2048 2064 (by decide) (by decide) slices_S512x3072_o0_2048_S512x128 c t y _ E0 E1

theorem final11 (c : Dev nD) : (dats m 0 c).arrAt 11 cfg0.N = G (wd := 256) (φ := .f32) m 2224 (by decide) c := by
  refine (dats m 0 c).arrAt_eq_of_covers 11 _ (by decide +kernel) fun t hf y => ?_
  have E0 : (((win0_11.blk t).view.emb y) 0 : ℕ) = t.val * 512 + (y 0 : ℕ) := by blk_simp [idx t]
  have E1 : (((win0_11.blk t).view.emb y) 1 : ℕ) = (y 1 : ℕ) := by blk_simp [idx t]
  blk_simp
  rw [after0_11, out0_11, View.canon_cons_unit_lit _ _ _ (by decide), k0_pay15, ld0, ld1, ld2]
  exact piece m 2176 2224 (by decide) (by decide) slices_S512x3072_o0_2176_S512x256 c t y _ E0 E1

theorem final12 (c : Dev nD) : (dats m 0 c).arrAt 12 cfg0.N = G (wd := 128) (φ := .f32) m 2480 (by decide) c := by
  refine (dats m 0 c).arrAt_eq_of_covers 12 _ (by decide +kernel) fun t hf y => ?_
  have E0 : (((win0_12.blk t).view.emb y) 0 : ℕ) = t.val * 512 + (y 0 : ℕ) := by blk_simp [idx t]
  have E1 : (((win0_12.blk t).view.emb y) 1 : ℕ) = (y 1 : ℕ) := by blk_simp [idx t]
  blk_simp
  rw [after0_12, out0_12, View.canon_cons_unit_lit _ _ _ (by decide), k0_pay15, ld0, ld1, ld2]
  exact piece m 2432 2480 (by decide) (by decide) slices_S512x3072_o0_2432_S512x128 c t y _ E0 E1

theorem final13 (c : Dev nD) : (dats m 0 c).arrAt 13 cfg0.N = G (wd := 128) (φ := .bf16) m 2608 (by decide) c := by
  refine (dats m 0 c).arrAt_eq_of_covers 13 _ (by decide +kernel) fun t hf y => ?_
  have E0 : (((win0_13.blk t).view.emb y) 0 : ℕ) = t.val * 512 + (y 0 : ℕ) := by blk_simp [idx t]
  have E1 : (((win0_13.blk t).view.emb y) 1 : ℕ) = (y 1 : ℕ) := by blk_simp [idx t]
  blk_simp
  rw [after0_13, out0_13, View.canon_cons_unit_lit _ _ _ (by decide), k0_pay15, ld0, ld1, ld2]
  exact piece m 2560 2608 (by decide) (by decide) slices_S512x3072_o0_2560_S512x128 c t y _ E0 E1

end Cert.InKernelIdeal.In

end
-- ==== Proof.In.Claims.lean ====
/- The claims about the input projection. -/
module

public import proofs.«01_k».proof.Proof.In.Final
public import proofs.«01_k».proof.Proof.Gen.InKernel.Frame
public import proofs.«01_k».proof.Defs
public import Idealize.ShloMosaic.Lib.Claim

@[expose] public section

set_option maxRecDepth 16384

noncomputable section

namespace Cert.In

open Idealize.ShloMosaic Idealize.ShloMosaic.TcCoe Idealize.ShloMosaic.Tactic Idealize.SL.Sem

/-- The kernel's frame. -/
theorem frame_p : Cert.quiescent_InKernel := fun m g _ => Cert.InKernel.Gen.frame m g

/-- The idealized kernel's frame. -/
theorem frame_pi : Cert.quiescent_InKernelIdeal := fun m g _ => Cert.InKernelIdeal.Gen.frame m g

/-- The reference's frame. -/
theorem frame_ri : Cert.quiescent_InReferenceIdeal := fun m g _ =>
  (θ_run Cert.InReferenceIdeal.defs _ _).mono (fun r h => ⟨fun c => by obtain ⟨_, _, _, _, _, _, _, _, _, _, _, e⟩ := h c; exact e,
      Idealize.ShloMosaic.sem_eq_zero_of_no_sems (by decide) r.2⟩)
    (Cert.InReferenceIdeal.Value.run (F := Ideal) m g)

/-- No constant is named. -/
theorem preserves : Cert.preserves_InKernel_InKernelIdeal := trivial

set_option maxHeartbeats 4000000 in
/-- The kernel computes the reference's eleven results. -/
theorem algebraic : Cert.algebraic_InKernelIdeal_InReferenceIdeal := by
  intro m g m' g' _ hagree
  refine ⟨fun c => Cert.InKernelIdeal.In.G (wd := 256) (φ := .f32) m 0 (by decide) c,
      fun c => Cert.InKernelIdeal.In.G (wd := 256) (φ := .bf16) m 256 (by decide) c,
      fun c => Cert.InKernelIdeal.In.G (wd := 256) (φ := .bf16) m 512 (by decide) c,
      fun c => Cert.InKernelIdeal.In.G (wd := 512) (φ := .f32) m 768 (by decide) c,
      fun c => Cert.InKernelIdeal.In.G (wd := 256) (φ := .bf16) m 1280 (by decide) c,
      fun c => Cert.InKernelIdeal.In.G (wd := 256) (φ := .f32) m 1536 (by decide) c,
      fun c => Cert.InKernelIdeal.In.G (wd := 256) (φ := .f32) m 1808 (by decide) c,
      fun c => Cert.InKernelIdeal.In.G (wd := 128) (φ := .f32) m 2064 (by decide) c,
      fun c => Cert.InKernelIdeal.In.G (wd := 256) (φ := .f32) m 2224 (by decide) c,
      fun c => Cert.InKernelIdeal.In.G (wd := 128) (φ := .f32) m 2480 (by decide) c,
      fun c => Cert.InKernelIdeal.In.G (wd := 128) (φ := .bf16) m 2608 (by decide) c, ?_, ?_⟩
  · refine (θ_run _ _ _).mono (fun r h c => ?_) (Cert.InKernelIdeal.Value.run_blocks (F := Ideal) m g)
    obtain ⟨h0, h1, h2, h3, h4, h5, h6, h7, h8, h9, h10, _, _, e⟩ := h c
    exact ⟨h0.trans (Cert.InKernelIdeal.In.final3 m c), h1.trans (Cert.InKernelIdeal.In.final4 m c), h2.trans (Cert.InKernelIdeal.In.final5 m c), h3.trans (Cert.InKernelIdeal.In.final6 m c), h4.trans (Cert.InKernelIdeal.In.final7 m c), h5.trans (Cert.InKernelIdeal.In.final8 m c), h6.trans (Cert.InKernelIdeal.In.final9 m c), h7.trans (Cert.InKernelIdeal.In.final10 m c), h8.trans (Cert.InKernelIdeal.In.final11 m c), h9.trans (Cert.InKernelIdeal.In.final12 m c), h10.trans (Cert.InKernelIdeal.In.final13 m c), e⟩
  · refine (θ_run _ _ _).mono (fun r h c => ?_) (Cert.InReferenceIdeal.Value.run (F := Ideal) m' g')
    obtain ⟨a0, a1, a2, a3, a4⟩ := hagree c
    have e : ∀ {wd : ℕ} {φ : FTy} (off : ℕ) (h : off + wd ≤ 2736), Cert.InReferenceIdeal.In.result (wd := wd) (φ := φ) m' c off h
        = Cert.InKernelIdeal.In.G (wd := wd) (φ := φ) m off h c := by
      intro wd φ off h
      unfold Cert.InReferenceIdeal.In.result
      rw [a0, a1, a2, a3, a4]
      rfl
    obtain ⟨h0, h1, h2, h3, h4, h5, h6, h7, h8, h9, h10, z⟩ := h c
    exact ⟨(h0.trans (Cert.InReferenceIdeal.In.result_eq m' c rfl 0 (by decide) _ _)).trans (e 0 _), (h1.trans (Cert.InReferenceIdeal.In.result_narrow m' c rfl 256 (by decide) _ _ _)).trans (e 256 _), (h2.trans (Cert.InReferenceIdeal.In.result_narrow m' c rfl 512 (by decide) _ _ _)).trans (e 512 _), (h3.trans (Cert.InReferenceIdeal.In.result_eq m' c rfl 768 (by decide) _ _)).trans (e 768 _), (h4.trans (Cert.InReferenceIdeal.In.result_narrow m' c rfl 1280 (by decide) _ _ _)).trans (e 1280 _), (h5.trans (Cert.InReferenceIdeal.In.result_eq m' c rfl 1536 (by decide) _ _)).trans (e 1536 _), (h6.trans (Cert.InReferenceIdeal.In.result_eq m' c rfl 1808 (by decide) _ _)).trans (e 1808 _), (h7.trans (Cert.InReferenceIdeal.In.result_eq m' c rfl 2064 (by decide) _ _)).trans (e 2064 _), (h8.trans (Cert.InReferenceIdeal.In.result_eq m' c rfl 2224 (by decide) _ _)).trans (e 2224 _), (h9.trans (Cert.InReferenceIdeal.In.result_eq m' c rfl 2480 (by decide) _ _)).trans (e 2480 _), (h10.trans (Cert.InReferenceIdeal.In.result_narrow m' c rfl 2608 (by decide) _ _ _)).trans (e 2608 _), z⟩

end Cert.In

end
-- ==== Proof.Out.Body.lean ====
/- The output projection's body, at an index. -/
module

public import proofs.«01_k».proof.Proof.Gen.OutKernelIdeal.Value
public import proofs.«01_k».proof.Proof.Row.Row
public import Idealize.ShloMosaic.Lib.Claim
public import Idealize.ShloMosaic.Lib.Pointwise

@[expose] public section

set_option maxRecDepth 16384

noncomputable section

namespace Cert.OutKernelIdeal.Out

open Cert.OutKernelIdeal Cert.OutKernelIdeal.Gen
open Idealize.ShloMosaic Idealize.ShloMosaic.TcCoe Idealize.ShloMosaic.Tactic Idealize.SL.Sem

variable (hl mo ya yc yd : Vec Ideal S512x256 .f32) (md : Vec Ideal S1x8x1024 .f32) (x : Vec Ideal S512x1024 .f32) (w : Vec Ideal S1024x1024 .bf16)

/-- A block's row of the residual stream, after the product with the weights. -/
def brow (r : Fin 512) (k : Fin 1024) : EReal :=
  x (ix2 r k) + md (ix3 0 0 k) * ∑ n, Row.cat (fun j => ya (ix2 r j)) (fun j => hl (ix2 r j) * Ideal.logistic (mo (ix2 r j)))
    (fun j => yc (ix2 r j)) (fun j => yd (ix2 r j)) n * w (ix2 n k)

theorem pay3_at (r : Fin 512) (k : Fin 1024) : k0_pay3 (F := Ideal) hl mo ya yc yd md x w (ix2 r k) = brow hl mo ya yc yd md x w r k := by
  unfold k0_pay3 k0_pay2
  pointwise []
  rfl

theorem pay4_at (k : Fin 1024) : k0_pay4 (F := Ideal) md (ix2 0 k) = md (ix3 0 1 k) := by
  unfold k0_pay4 k0_pay2
  pointwise []

theorem pay5_at (k : Fin 1024) : k0_pay5 (F := Ideal) md (ix2 0 k) = md (ix3 0 2 k) := by
  unfold k0_pay5 k0_pay2
  pointwise []

theorem pay6_at (k : Fin 1024) : k0_pay6 (F := Ideal) md (ix2 0 k) = md (ix3 0 3 k) := by
  unfold k0_pay6 k0_pay2
  pointwise []

theorem pay7_at (r : Fin 512) : k0_pay7 (F := Ideal) hl mo ya yc yd md x w (ix2 r 0)
    = Ideal.div (∑ j, brow hl mo ya yc yd md x w r j * brow hl mo ya yc yd md x w r j) (Ideal.ofBits .f32 0x44800000#32) := by
  have e := fun j => pay3_at hl mo ya yc yd md x w r j
  unfold k0_pay7
  generalize k0_pay3 (F := Ideal) hl mo ya yc yd md x w = y at e ⊢
  simp only [← e]
  pointwise []

theorem scale_at (y : FVec Ideal S512x1024 .f32) (g s h : FVec Ideal S1x1024 .f32) (q e : FVec Ideal S512x1 .f32) (r : Fin 512) (k : Fin 1024) :
    k0_pay1 (F := Ideal) y g s h q e (ix2 r k)
      = y (ix2 r k) * Ideal.rsqrt (q (ix2 r 0) + e (ix2 r 0)) * g (ix2 0 k) * s (ix2 0 k) + h (ix2 0 k) := by
  unfold k0_pay1
  pointwise []

/-- The second result: the row normalised and modulated. -/
theorem pay1_at (r : Fin 512) (k : Fin 1024) :
    k0_pay1 (F := Ideal) (k0_pay3 (F := Ideal) hl mo ya yc yd md x w) (k0_pay4 (F := Ideal) md) (k0_pay5 (F := Ideal) md) (k0_pay6 (F := Ideal) md)
      (k0_pay7 (F := Ideal) hl mo ya yc yd md x w) (k0_pay8 (F := Ideal)) (ix2 r k)
      = Row.rms (brow hl mo ya yc yd md x w r) (fun k => md (ix3 0 1 k)) (fun k => md (ix3 0 2 k)) (fun k => md (ix3 0 3 k)) k := by
  rw [scale_at, pay3_at, pay4_at, pay5_at, pay6_at, pay7_at]
  rfl

end Cert.OutKernelIdeal.Out

end
-- ==== Proof.Out.Host.lean ====
/- What the host code hands to the output projection. -/
module

public import proofs.«01_k».proof.Proof.Out.Body
public import Idealize.ShloMosaic.Lib.Claim
public import Idealize.ShloMosaic.Lib.Pointwise

@[expose] public section

set_option maxRecDepth 16384

noncomputable section

namespace Cert.OutKernelIdeal.Out

open Cert.OutKernelIdeal Cert.OutKernelIdeal.Gen
open Idealize.ShloMosaic Idealize.ShloMosaic.TcCoe Idealize.ShloMosaic.Tactic Idealize.SL.Sem

variable (m : (ℓ : Loc nD τ sig) → Buf (Elt Ideal) ℓ)

/-- The region's array `ya`: the argument's tokens, batch after batch. -/
theorem entry_ya (c : Dev nD) (p : Fin 32768) (k : Fin 256) : (show EReal from V m c main_v0 (ix2 p k)) = (show EReal from m ((c.tc : Thread nD τ).loc main_arg0) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's array `hl`: the argument's tokens, batch after batch. -/
theorem entry_hl (c : Dev nD) (p : Fin 32768) (k : Fin 256) : (show EReal from V m c main_v1 (ix2 p k)) = (show EReal from m ((c.tc : Thread nD τ).loc main_arg1) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's array `mo`: the argument's tokens, batch after batch. -/
theorem entry_mo (c : Dev nD) (p : Fin 32768) (k : Fin 256) : (show EReal from V m c main_v2 (ix2 p k)) = (show EReal from m ((c.tc : Thread nD τ).loc main_arg2) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's array `yc`: the argument's tokens, batch after batch. -/
theorem entry_yc (c : Dev nD) (p : Fin 32768) (k : Fin 256) : (show EReal from V m c main_v3 (ix2 p k)) = (show EReal from m ((c.tc : Thread nD τ).loc main_arg3) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's array `yd`: the argument's tokens, batch after batch. -/
theorem entry_yd (c : Dev nD) (p : Fin 32768) (k : Fin 256) : (show EReal from V m c main_v4 (ix2 p k)) = (show EReal from m ((c.tc : Thread nD τ).loc main_arg4) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's array `x`: the argument's tokens, batch after batch. -/
theorem entry_x (c : Dev nD) (p : Fin 32768) (k : Fin 1024) : (show EReal from V m c main_v5 (ix2 p k)) = (show EReal from m ((c.tc : Thread nD τ).loc main_arg5) (ix3 ⟨p.val / 16384, by omega⟩ ⟨p.val % 16384, Nat.mod_lt _ (by omega)⟩ k)) := by
  unfold V
  simp only [hostOps0, hostOps0_1, hostOps0_2, List.flatten_cons, List.flatten_nil, List.append_nil, List.cons_append, List.nil_append]
  after_results
  pointwise []

/-- The region's weights. -/
theorem entry_w (c : Dev nD) (n k : Fin 1024) : (show EReal from V m c main_v15 (ix2 n k)) = (show EReal from m ((c.tc : Thread nD τ).loc main_arg10) (ix2 n k)) := by
  unfold V
  simp only [hostOps0, hostOps0_1, hostOps0_2, List.flatten_cons, List.flatten_nil, List.append_nil, List.cons_append, List.nil_append]
  after_results
  pointwise []

/-- The rows the host code stacks: the gate, the norm's weights, the scale and the shift, padded to eight rows. -/
def rows (g1 : FVec Ideal S2x1024 .f32) (g : FVec Ideal S1024 .f32) (sc sh : FVec Ideal S2x1024 .f32) : FVec Ideal S2x8x1024 .f32 :=
  pad S2x8x1024 ![0, 0, 0] ![0, 4, 0] ![0, 0, 0] (concatenate S2x4x1024 1
    [⟨S2x1x1024, broadcastInDim S2x1x1024 ![0, 2] bcast_S2x1024_S2x1x1024_0_2 g1⟩,
     ⟨S2x1x1024, broadcastInDim S2x1x1024 ![0, 2] bcast_S2x1024_S2x1x1024_0_2 (broadcastInDim S2x1024 ![1] bcast_S1024_S2x1024_1 g)⟩,
     ⟨S2x1x1024, broadcastInDim S2x1x1024 ![0, 2] bcast_S2x1024_S2x1x1024_0_2 (addf (broadcastInDim S2x1024 ![] bcast_S_S2x1024 (constant S_ .f32 0x3F800000#32)) sc)⟩,
     ⟨S2x1x1024, broadcastInDim S2x1x1024 ![0, 2] bcast_S2x1024_S2x1x1024_0_2 sh⟩]
    concatenates_S2x1x1024_S2x1x1024_S2x1x1024_S2x1x1024_S2x4x1024_d1) (sitofp (F := Ideal) .f32 (constantI S_ 32 0#32)) pads_S2x4x1024_S2x8x1024_000_040_000 h_S_

theorem entry_rows (c : Dev nD) : V m c main_v14 = rows (m ((c.tc : Thread nD τ).loc main_arg6)) (m ((c.tc : Thread nD τ).loc main_arg7)) (m ((c.tc : Thread nD τ).loc main_arg8)) (m ((c.tc : Thread nD τ).loc main_arg9)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

theorem rows_gate (g1 : FVec Ideal S2x1024 .f32) (g : FVec Ideal S1024 .f32) (sc sh : FVec Ideal S2x1024 .f32) (b : Fin 2) (k : Fin 1024) :
    rows g1 g sc sh (ix3 b 0 k) = g1 (ix2 b k) := by
  unfold rows
  pointwise []

theorem rows_norm (g1 : FVec Ideal S2x1024 .f32) (g : FVec Ideal S1024 .f32) (sc sh : FVec Ideal S2x1024 .f32) (b : Fin 2) (k : Fin 1024) :
    rows g1 g sc sh (ix3 b 1 k) = g (ix1 k) := by
  unfold rows
  pointwise []

theorem rows_scale (g1 : FVec Ideal S2x1024 .f32) (g : FVec Ideal S1024 .f32) (sc sh : FVec Ideal S2x1024 .f32) (b : Fin 2) (k : Fin 1024) :
    rows g1 g sc sh (ix3 b 2 k) = 1 + sc (ix2 b k) := by
  unfold rows
  pointwise []

theorem rows_shift (g1 : FVec Ideal S2x1024 .f32) (g : FVec Ideal S1024 .f32) (sc sh : FVec Ideal S2x1024 .f32) (b : Fin 2) (k : Fin 1024) :
    rows g1 g sc sh (ix3 b 3 k) = sh (ix2 b k) := by
  unfold rows
  pointwise []

end Cert.OutKernelIdeal.Out

end
-- ==== Proof.Out.Final.lean ====
/- The arrays the output projection leaves. -/
module

public import proofs.«01_k».proof.Proof.Out.Host
public import proofs.«01_k».proof.Proof.Out.Ref
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.OutKernelIdeal.Out

open Cert.OutKernelIdeal Cert.OutKernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- Every window's block index, by the point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val / 32, 0, 0]
    ∧ win0_7.index t = ![0, 0] ∧ win0_8.index t = ![t.val, 0] ∧ win0_9.index t = ![t.val, 0] ∧ t.val < 64 :=
  (by decide +kernel : ∀ t : Fin grid0.N, _)

/-- The token of a point's row. -/
def tok (t : Fin cfg0.N) (r : Fin 512) : Fin 32768 := ⟨t.val * 512 + r.val, by have := (idx t).2.2.2.2.2.2.2.2.2.2; omega⟩

/-- A point's batch. -/
def bat (t : Fin cfg0.N) : Fin 2 := ⟨t.val / 32, by have := (idx t).2.2.2.2.2.2.2.2.2.2; omega⟩

theorem block0 (c : Dev nD) (t : Fin cfg0.N) (r : Fin 512) (k : Fin 256) : iblk m c 0 t (ix2 (n0 := 512) (n1 := 256) r k) = V m c main_v0 (ix2 (tok t r) k) :=
  congrArg (V m c main_v0) (by
    funext a
    fin_cases a
    · exact Fin.ext (show (((win0_0.blk t).view.emb (ix2 (n0 := 512) (n1 := 256) r k)) 0 : ℕ) = t.val * 512 + r.val by blk_simp [idx t])
    · exact Fin.ext (show (((win0_0.blk t).view.emb (ix2 (n0 := 512) (n1 := 256) r k)) 1 : ℕ) = k.val by blk_simp [idx t]))

theorem block1 (c : Dev nD) (t : Fin cfg0.N) (r : Fin 512) (k : Fin 256) : iblk m c 1 t (ix2 (n0 := 512) (n1 := 256) r k) = V m c main_v1 (ix2 (tok t r) k) :=
  congrArg (V m c main_v1) (by
    funext a
    fin_cases a
    · exact Fin.ext (show (((win0_1.blk t).view.emb (ix2 (n0 := 512) (n1 := 256) r k)) 0 : ℕ) = t.val * 512 + r.val by blk_simp [idx t])
    · exact Fin.ext (show (((win0_1.blk t).view.emb (ix2 (n0 := 512) (n1 := 256) r k)) 1 : ℕ) = k.val by blk_simp [idx t]))

theorem block2 (c : Dev nD) (t : Fin cfg0.N) (r : Fin 512) (k : Fin 256) : iblk m c 2 t (ix2 (n0 := 512) (n1 := 256) r k) = V m c main_v2 (ix2 (tok t r) k) :=
  congrArg (V m c main_v2) (by
    funext a
    fin_cases a
    · exact Fin.ext (show (((win0_2.blk t).view.emb (ix2 (n0 := 512) (n1 := 256) r k)) 0 : ℕ) = t.val * 512 + r.val by blk_simp [idx t])
    · exact Fin.ext (show (((win0_2.blk t).view.emb (ix2 (n0 := 512) (n1 := 256) r k)) 1 : ℕ) = k.val by blk_simp [idx t]))

theorem block3 (c : Dev nD) (t : Fin cfg0.N) (r : Fin 512) (k : Fin 256) : iblk m c 3 t (ix2 (n0 := 512) (n1 := 256) r k) = V m c main_v3 (ix2 (tok t r) k) :=
  congrArg (V m c main_v3) (by
    funext a
    fin_cases a
    · exact Fin.ext (show (((win0_3.blk t).view.emb (ix2 (n0 := 512) (n1 := 256) r k)) 0 : ℕ) = t.val * 512 + r.val by blk_simp [idx t])
    · exact Fin.ext (show (((win0_3.blk t).view.emb (ix2 (n0 := 512) (n1 := 256) r k)) 1 : ℕ) = k.val by blk_simp [idx t]))

theorem block4 (c : Dev nD) (t : Fin cfg0.N) (r : Fin 512) (k : Fin 256) : iblk m c 4 t (ix2 (n0 := 512) (n1 := 256) r k) = V m c main_v4 (ix2 (tok t r) k) :=
  congrArg (V m c main_v4) (by
    funext a
    fin_cases a
    · exact Fin.ext (show (((win0_4.blk t).view.emb (ix2 (n0 := 512) (n1 := 256) r k)) 0 : ℕ) = t.val * 512 + r.val by blk_simp [idx t])
    · exact Fin.ext (show (((win0_4.blk t).view.emb (ix2 (n0 := 512) (n1 := 256) r k)) 1 : ℕ) = k.val by blk_simp [idx t]))

theorem block5 (c : Dev nD) (t : Fin cfg0.N) (r : Fin 512) (k : Fin 1024) : iblk m c 5 t (ix2 (n0 := 512) (n1 := 1024) r k) = V m c main_v5 (ix2 (tok t r) k) :=
  congrArg (V m c main_v5) (by
    funext a
    fin_cases a
    · exact Fin.ext (show (((win0_5.blk t).view.emb (ix2 (n0 := 512) (n1 := 1024) r k)) 0 : ℕ) = t.val * 512 + r.val by blk_simp [idx t])
    · exact Fin.ext (show (((win0_5.blk t).view.emb (ix2 (n0 := 512) (n1 := 1024) r k)) 1 : ℕ) = k.val by blk_simp [idx t]))

theorem block6 (c : Dev nD) (t : Fin cfg0.N) (j : Fin 8) (k : Fin 1024) : iblk m c 6 t (ix3 (n0 := 1) (n1 := 8) (n2 := 1024) 0 j k) = V m c main_v14 (ix3 (bat t) j k) :=
  congrArg (V m c main_v14) (by
    funext a
    fin_cases a
    · exact Fin.ext (show (((win0_6.blk t).view.emb (ix3 (n0 := 1) (n1 := 8) (n2 := 1024) 0 j k)) 0 : ℕ) = t.val / 32 by blk_simp [idx t]; rfl)
    · exact Fin.ext (show (((win0_6.blk t).view.emb (ix3 (n0 := 1) (n1 := 8) (n2 := 1024) 0 j k)) 1 : ℕ) = j.val by blk_simp [idx t])
    · exact Fin.ext (show (((win0_6.blk t).view.emb (ix3 (n0 := 1) (n1 := 8) (n2 := 1024) 0 j k)) 2 : ℕ) = k.val by blk_simp [idx t]))

theorem block7 (c : Dev nD) (t : Fin cfg0.N) (n k : Fin 1024) : iblk m c 7 t (ix2 (n0 := 1024) (n1 := 1024) n k) = V m c main_v15 (ix2 n k) :=
  congrArg (V m c main_v15) (by
    funext a
    fin_cases a
    · exact Fin.ext (show (((win0_7.blk t).view.emb (ix2 (n0 := 1024) (n1 := 1024) n k)) 0 : ℕ) = n.val by blk_simp [idx t])
    · exact Fin.ext (show (((win0_7.blk t).view.emb (ix2 (n0 := 1024) (n1 := 1024) n k)) 1 : ℕ) = k.val by blk_simp [idx t]))

/-- A token's row of the residual stream, from the arguments. -/
def row (c : Dev nD) (p : Fin 32768) (k : Fin 1024) : EReal :=
  OutReferenceIdeal.Out.srow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))
    ⟨p.val / 16384, by omega⟩ ⟨p.val % 16384, Nat.mod_lt _ (by omega)⟩ k

/-- A token's normalised row, from the arguments. -/
def nrow (c : Dev nD) (p : Fin 32768) (k : Fin 1024) : EReal :=
  Row.rms (row m c p) (fun k => (show EReal from m ((c.tc : Thread nD τ).loc main_arg7) (ix1 k))) (fun k => 1 + (show EReal from m ((c.tc : Thread nD τ).loc main_arg8) (ix2 (⟨p.val / 16384, by omega⟩ : Fin 2) k)))
    (fun k => (show EReal from m ((c.tc : Thread nD τ).loc main_arg9) (ix2 (⟨p.val / 16384, by omega⟩ : Fin 2) k))) k

/-- The results as arrays. -/
def G8 (c : Dev nD) : Vec Ideal S32768x1024 .f32 := fun y => row m c (y 0) (y 1)
def G9 (c : Dev nD) : Vec Ideal S32768x1024 .f32 := fun y => nrow m c (y 0) (y 1)

theorem bat_eq (t : Fin cfg0.N) (r : Fin 512) : (⟨(tok t r).val / 16384, by omega⟩ : Fin 2) = bat t :=
  Fin.ext (show (t.val * 512 + r.val) / 16384 = t.val / 32 by omega)

/-- A point's row is its token's. -/
theorem brow_eq (c : Dev nD) (t : Fin cfg0.N) (r : Fin 512) :
    brow (iblk m c 1 t) (iblk m c 2 t) (iblk m c 0 t) (iblk m c 3 t) (iblk m c 4 t) (iblk m c 6 t) (iblk m c 5 t) (iblk m c 7 t) r = row m c (tok t r) := by
  funext k
  have e0 := fun j => (block0 m c t r j).trans (entry_ya m c (tok t r) j)
  have e1 := fun j => (block1 m c t r j).trans (entry_hl m c (tok t r) j)
  have e2 := fun j => (block2 m c t r j).trans (entry_mo m c (tok t r) j)
  have e3 := fun j => (block3 m c t r j).trans (entry_yc m c (tok t r) j)
  have e4 := fun j => (block4 m c t r j).trans (entry_yd m c (tok t r) j)
  have e5 := (block5 m c t r k).trans (entry_x m c (tok t r) k)
  have e6 := (block6 m c t 0 k).trans ((congrFun (entry_rows m c) _).trans (rows_gate _ _ _ _ (bat t) k))
  have e7 := fun n => (block7 m c t n k).trans (entry_w m c n k)
  rw [← bat_eq t r] at e6
  unfold brow
  refine congrArg₂ (fun x y : EReal => x + y) e5 (congrArg₂ (fun x y : EReal => x * y) e6 (Finset.sum_congr rfl fun n _ => congrArg₂ (fun x y : EReal => x * y) ?_ (e7 n)))
  exact congrFun (congr (congr (congr (congrArg Row.cat (funext e0)) (funext fun j => congrArg₂ (fun x y : EReal => x * Ideal.logistic y) (e1 j) (e2 j)))
    (funext e3)) (funext e4)) n

/-- A point's modulation rows are its token's. -/
theorem norm_eq (c : Dev nD) (t : Fin cfg0.N) (k : Fin 1024) : iblk m c 6 t (ix3 (n0 := 1) (n1 := 8) (n2 := 1024) 0 1 k) = (show EReal from m ((c.tc : Thread nD τ).loc main_arg7) (ix1 k)) :=
  (block6 m c t 1 k).trans ((congrFun (entry_rows m c) _).trans (rows_norm _ _ _ _ (bat t) k))
theorem scale_eq (c : Dev nD) (t : Fin cfg0.N) (k : Fin 1024) : iblk m c 6 t (ix3 (n0 := 1) (n1 := 8) (n2 := 1024) 0 2 k) = 1 + (show EReal from m ((c.tc : Thread nD τ).loc main_arg8) (ix2 (bat t) k)) :=
  (block6 m c t 2 k).trans ((congrFun (entry_rows m c) _).trans (rows_scale _ _ _ _ (bat t) k))
theorem shift_eq (c : Dev nD) (t : Fin cfg0.N) (k : Fin 1024) : iblk m c 6 t (ix3 (n0 := 1) (n1 := 8) (n2 := 1024) 0 3 k) = (show EReal from m ((c.tc : Thread nD τ).loc main_arg9) (ix2 (bat t) k)) :=
  (block6 m c t 3 k).trans ((congrFun (entry_rows m c) _).trans (rows_shift _ _ _ _ (bat t) k))

/-- A load of a whole block is the block. -/
theorem ld0 (X : Vec Ideal S512x256 .f32) : View.ld X r0_0 = X := View.ld_unit_lit _ X (by decide)
theorem ld1 (X : Vec Ideal S1x8x1024 .f32) : View.ld X r0_1 = X := View.ld_unit_lit _ X (by decide)
theorem ld2 (X : Vec Ideal S512x1024 .f32) : View.ld X r0_2 = X := View.ld_unit_lit _ X (by decide)
theorem ld3 (X : Vec Ideal S1024x1024 .bf16) : View.ld X r0_3 = X := View.ld_unit_lit _ X (by decide)

/-- What a point leaves in the first result's block. -/
theorem out8_eq (c : Dev nD) (t : Fin cfg0.N) (r : Fin 512) (k : Fin 1024) :
    out0_8 (iblk m c 0 t) (iblk m c 1 t) (iblk m c 2 t) (iblk m c 3 t) (iblk m c 4 t) (iblk m c 5 t) (iblk m c 6 t) (iblk m c 7 t) (ix2 (n0 := 512) (n1 := 1024) r k)
      = row m c (tok t r) k := by
  unfold out0_8
  rw [View.canon_cons_unit_lit _ _ _ (by decide)]
  simp only [ld0, ld1, ld2, ld3]
  exact (pay3_at _ _ _ _ _ _ _ _ r k).trans (congrFun (brow_eq m c t r) k)

/-- What a point leaves in the second result's block. -/
theorem out9_eq (c : Dev nD) (t : Fin cfg0.N) (r : Fin 512) (k : Fin 1024) :
    out0_9 (iblk m c 0 t) (iblk m c 1 t) (iblk m c 2 t) (iblk m c 3 t) (iblk m c 4 t) (iblk m c 5 t) (iblk m c 6 t) (iblk m c 7 t) (ix2 (n0 := 512) (n1 := 1024) r k)
      = nrow m c (tok t r) k := by
  unfold out0_9
  rw [View.canon_cons_unit_lit _ _ _ (by decide)]
  simp only [ld0, ld1, ld2, ld3]
  refine (pay1_at _ _ _ _ _ _ _ _ r k).trans ?_
  unfold nrow
  rw [bat_eq t r, brow_eq m c t r]
  exact congrFun (congr (congr (congrArg (Row.rms _) (funext (norm_eq m c t))) (funext (scale_eq m c t))) (funext (shift_eq m c t))) k

theorem row_congr (c : Dev nD) {p p' : Fin 32768} {k k' : Fin 1024} (hp : (p : ℕ) = p') (hk : (k : ℕ) = k') : row m c p k = row m c p' k' := by
  obtain rfl := Fin.ext hp
  obtain rfl := Fin.ext hk
  rfl
theorem nrow_congr (c : Dev nD) {p p' : Fin 32768} {k k' : Fin 1024} (hp : (p : ℕ) = p') (hk : (k : ℕ) = k') : nrow m c p k = nrow m c p' k' := by
  obtain rfl := Fin.ext hp
  obtain rfl := Fin.ext hk
  rfl

/-- The first result array the run leaves. -/
theorem final8 (c : Dev nD) : (dats m 0 c).arrAt 8 cfg0.N = G8 m c := by
  refine (dats m 0 c).arrAt_eq_of_covers 8 _ (by decide +kernel) fun t hf y => ?_
  have ey : y = ix2 (n0 := 512) (n1 := 1024) (y 0) (y 1) := by
    funext d
    fin_cases d <;> rfl
  have E0 : (((win0_8.blk t).view.emb y) 0 : ℕ) = t.val * 512 + (y 0 : ℕ) := by blk_simp [idx t]
  have E1 : (((win0_8.blk t).view.emb y) 1 : ℕ) = (y 1 : ℕ) := by blk_simp [idx t]
  blk_simp
  rw [after0_8]
  refine (congrArg _ ey).trans ((out8_eq m c t (y 0) (y 1)).trans ?_)
  exact row_congr m c E0.symm E1.symm

/-- The second result array the run leaves. -/
theorem final9 (c : Dev nD) : (dats m 0 c).arrAt 9 cfg0.N = G9 m c := by
  refine (dats m 0 c).arrAt_eq_of_covers 9 _ (by decide +kernel) fun t hf y => ?_
  have ey : y = ix2 (n0 := 512) (n1 := 1024) (y 0) (y 1) := by
    funext d
    fin_cases d <;> rfl
  have E0 : (((win0_9.blk t).view.emb y) 0 : ℕ) = t.val * 512 + (y 0 : ℕ) := by blk_simp [idx t]
  have E1 : (((win0_9.blk t).view.emb y) 1 : ℕ) = (y 1 : ℕ) := by blk_simp [idx t]
  blk_simp
  rw [after0_9]
  refine (congrArg _ ey).trans ((out9_eq m c t (y 0) (y 1)).trans ?_)
  exact nrow_congr m c E0.symm E1.symm

end Cert.OutKernelIdeal.Out

end
-- ==== Proof.Out.Claims.lean ====
/- The claims about the output projection. -/
module

public import proofs.«01_k».proof.Proof.Out.Final
public import proofs.«01_k».proof.Proof.Gen.OutKernel.Frame
public import proofs.«01_k».proof.Defs
public import Idealize.ShloMosaic.Lib.Claim

@[expose] public section

set_option maxRecDepth 16384

noncomputable section

namespace Cert.Out

open Idealize.ShloMosaic Idealize.ShloMosaic.TcCoe Idealize.ShloMosaic.Tactic Idealize.SL.Sem

/-- The kernel's frame. -/
theorem frame_p : Cert.quiescent_OutKernel := fun m g _ => Cert.OutKernel.Gen.frame m g

/-- The idealized kernel's frame. -/
theorem frame_pi : Cert.quiescent_OutKernelIdeal := fun m g _ => Cert.OutKernelIdeal.Gen.frame m g

/-- The reference's frame. -/
theorem frame_ri : Cert.quiescent_OutReferenceIdeal := fun m g _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m g)

/-- No constant is named. -/
theorem preserves : Cert.preserves_OutKernel_OutKernelIdeal := trivial

/-- A result index is its token and its column. -/
theorem index_split (y : (⟨2, ![32768, 1024]⟩ : Shape).Idx) : y = ix2 (y 0) (y 1) := by
  funext d
  fin_cases d <;> rfl

/-- The kernel computes the reference's residual stream and its normalised rows. -/
theorem algebraic : Cert.algebraic_OutKernelIdeal_OutReferenceIdeal := by
  intro m g m' g' _ hagree
  refine ⟨fun c => Cert.OutKernelIdeal.Out.G8 m c, fun c => Cert.OutKernelIdeal.Out.G9 m c, ?_, ?_⟩
  · refine (θ_run _ _ _).mono (fun r h c => ?_) (Cert.OutKernelIdeal.Value.run_blocks (F := Ideal) m g)
    exact ⟨(h c).1.trans (Cert.OutKernelIdeal.Out.final8 m c), (h c).2.1.trans (Cert.OutKernelIdeal.Out.final9 m c), (h c).2.2⟩
  · refine (θ_run _ _ _).mono (fun r h c => ⟨(h c).1.trans ?_, (h c).2.1.trans ?_, (h c).2.2⟩) (Cert.OutReferenceIdeal.Value.run (F := Ideal) m' g')
    · obtain ⟨a0, a1, a2, a3, a4, a5, a6, a7, a8, a9, a10⟩ := hagree c
      rw [a0, a1, a2, a3, a4, a5, a6, a10]
      funext y
      refine (congrArg _ (index_split y)).trans ((Cert.OutReferenceIdeal.Out.rows_at _ (y 0) (y 1)).trans ?_)
      exact Cert.OutReferenceIdeal.Out.stream_at _ _ _ _ _ _ _ _ _ _ _
    · obtain ⟨a0, a1, a2, a3, a4, a5, a6, a7, a8, a9, a10⟩ := hagree c
      rw [Cert.OutReferenceIdeal.Out.second, a0, a1, a2, a3, a4, a5, a6, a7, a8, a9, a10]
      funext y
      refine (congrArg _ (index_split y)).trans ((Cert.OutReferenceIdeal.Out.rows_at _ (y 0) (y 1)).trans ((Cert.OutReferenceIdeal.Out.normed_at _ _ _ _ _ _ _).trans ?_))
      exact congrFun (congrFun (congrFun (congrFun (congrArg Row.rms (funext fun j => Cert.OutReferenceIdeal.Out.stream_at _ _ _ _ _ _ _ _ _ _ _)) _) _) _) _

end Cert.Out

end
-- ==== Proof.Peer.Pick.lean ====
/- Taking a row's greatest entry again and again, and the stable sort of the row. -/
module

public import Idealize.ShloMosaic.Lib.SortPrefix
public import Idealize.ShloMosaic.Lib.PlanTiles.StableSort
public import Mathlib.Data.EReal.Operations

@[expose] public section

noncomputable section

namespace Peer

open Idealize.ShloMosaic

variable {n : ℕ}

/-- The position holds the row's greatest entry, and none before it does. -/
def IsFirst (g : Fin n → EReal) (i : Fin n) : Prop := (∀ p, g p ≤ g i) ∧ ∀ p, p < i → g p < g i

theorem exists_first [NeZero n] (g : Fin n → EReal) : ∃ i, IsFirst g i := by
  obtain ⟨m, -, hm'⟩ := Finset.exists_max_image Finset.univ g ⟨0, Finset.mem_univ _⟩
  have hm : ∀ p, g p ≤ g m := fun p => hm' p (Finset.mem_univ _)
  have hne : (Finset.univ.filter fun i => g i = g m).Nonempty := ⟨m, by simp⟩
  refine ⟨(Finset.univ.filter fun i => g i = g m).min' hne, ?_, ?_⟩
  · have h : g _ = g m := (Finset.mem_filter.mp (Finset.min'_mem _ hne)).2
    exact fun p => (hm p).trans h.ge
  · intro p hp
    have h : g _ = g m := (Finset.mem_filter.mp (Finset.min'_mem _ hne)).2
    refine lt_of_le_of_ne ((hm p).trans h.ge) fun e => ?_
    exact absurd (Finset.min'_le _ p (Finset.mem_filter.mpr ⟨Finset.mem_univ _, e.trans h⟩)) (not_le.mpr hp)

theorem IsFirst.unique {g : Fin n → EReal} {i j : Fin n} (hi : IsFirst g i) (hj : IsFirst g j) : i = j := by
  rcases lt_trichotomy i j with h | h | h
  · exact absurd (hj.2 i h) (not_lt.mpr (hi.1 j))
  · exact h
  · exact absurd (hi.2 j h) (not_lt.mpr (hj.1 i))

variable [NeZero n]

/-- The first position of the row's greatest entry. -/
def first (g : Fin n → EReal) : Fin n := (exists_first g).choose

theorem first_spec (g : Fin n → EReal) : IsFirst g (first g) := (exists_first g).choose_spec

/-- The row after `r` takings, a taken entry made `−∞`. -/
def left (f : Fin n → EReal) : ℕ → Fin n → EReal
  | 0 => f
  | r + 1 => Function.update (left f r) (first (left f r)) ⊥

/-- The position taken at round `r`. -/
def pick (f : Fin n → EReal) (r : ℕ) : Fin n := first (left f r)

variable {f : Fin n → EReal}

theorem left_of_not (r : ℕ) (p : Fin n) (h : ∀ j, j < r → pick f j ≠ p) : left f r p = f p := by
  induction r with
  | zero => rfl
  | succ r ih =>
    have hr : p ≠ first (left f r) := fun e => h r (Nat.lt_succ_self r) e.symm
    rw [left, Function.update_of_ne hr]
    exact ih fun j hj => h j (Nat.lt_succ_of_lt hj)

theorem left_of_taken (r j : ℕ) (h : j < r) : left f r (pick f j) = ⊥ := by
  induction r with
  | zero => omega
  | succ r ih =>
    by_cases e : pick f j = first (left f r)
    · rw [left, e, Function.update_self]
    · rw [left, Function.update_of_ne e]
      exact ih (lt_of_le_of_ne (Nat.lt_succ_iff.mp h) fun h' => e (h' ▸ rfl))

/-- Before every position is taken, the next is one not taken yet. -/
theorem pick_new (hf : ∀ p, ⊥ < f p) (r : ℕ) (hr : r < n) (j : ℕ) (hj : j < r) : pick f j ≠ pick f r := by
  intro e
  have hb : left f r (pick f r) = ⊥ := e ▸ left_of_taken r j hj
  have hex : ∃ p, ∀ j, j < r → pick f j ≠ p := by
    by_contra hc
    push Not at hc
    choose k hk1 hk2 using hc
    have hinj : Function.Injective (fun p => (⟨k p, hk1 p⟩ : Fin r)) := fun p q h => by
      have h' : k p = k q := congrArg Fin.val h
      rw [← hk2 p, ← hk2 q, h']
    have := Fintype.card_le_of_injective _ hinj
    simp at this
    omega
  obtain ⟨p, hp⟩ := hex
  have h1 := (first_spec (left f r)).1 p
  rw [left_of_not r p hp] at h1
  exact absurd (lt_of_lt_of_le (hf p) h1) (by rw [show left f r (first (left f r)) = ⊥ from hb]; exact lt_irrefl _)

theorem pick_ne (hf : ∀ p, ⊥ < f p) (i j : ℕ) (hi : i < n) (hj : j < n) (h : i ≠ j) : pick f i ≠ pick f j := by
  rcases lt_or_gt_of_ne h with h | h
  · exact pick_new hf j hj i h
  · exact (pick_new hf i hi j h).symm

theorem left_pick (hf : ∀ p, ⊥ < f p) (r : ℕ) (hr : r < n) : left f r (pick f r) = f (pick f r) :=
  left_of_not r _ fun j hj => pick_new hf r hr j hj

/-- `a` is taken before `b`: a greater entry, or an equal one further to the front. -/
def before (f : Fin n → EReal) (a b : Fin n) : Bool := decide (f b < f a) || (decide (f a = f b) && decide (a < b))

theorem before_total (f : Fin n → EReal) : StrictTotalBefore (before f) :=
  StrictTotalBefore.of_key_then_position (fun x y : EReal => decide (y < x)) f (by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

theorem before_iff (a b : Fin n) : before f a b = true ↔ f b < f a ∨ (f a = f b ∧ a < b) := by
  simp [before]

/-- What is before the position taken at round `r` has been taken. -/
theorem taken_of_before (hf : ∀ p, ⊥ < f p) (r : ℕ) (hr : r < n) (p : Fin n) (h : before f p (pick f r) = true) : ∃ j, j < r ∧ pick f j = p := by
  by_contra hc
  push Not at hc
  have h0 := left_of_not r p hc
  have h1 := (first_spec (left f r)).1 p
  have h2 := (first_spec (left f r)).2 p
  have h3 := left_pick hf r hr
  change left f r p ≤ left f r (pick f r) at h1
  change p < pick f r → left f r p < left f r (pick f r) at h2
  rw [h0, h3] at h1 h2
  rcases (before_iff p _).mp h with h | ⟨h, h'⟩
  · exact absurd h (not_lt.mpr h1)
  · exact absurd (h2 h') (not_lt.mpr h.symm.le)

/-- A later taking's entry is not greater. -/
theorem pick_le (hf : ∀ p, ⊥ < f p) (i j : ℕ) (hj : j < n) (h : i ≤ j) : f (pick f j) ≤ f (pick f i) := by
  by_contra hc
  obtain ⟨k, hk, e⟩ := taken_of_before hf i (lt_of_le_of_lt h hj) (pick f j) ((before_iff _ _).mpr (Or.inl (not_le.mp hc)))
  exact pick_new hf j hj k (lt_of_lt_of_le hk h) e

/-- The stable sort by a descending key is the sort by the key and then the position. -/
theorem sortedFrom_key (f : Fin n → EReal) (i : Fin n) : sortedFrom (fun a b => decide (f b < f a)) i = sortedFrom (before f) i := by
  classical
  let G : Fin n → ℕ := fun a => (Finset.univ.filter fun b => f b < f a).card
  have hG : ∀ a b, G b < G a ↔ f b < f a := by
    intro a b
    constructor
    · intro h
      by_contra hc
      refine absurd (Finset.card_le_card fun x hx => ?_) (not_le.mpr h)
      exact Finset.mem_filter.mpr ⟨Finset.mem_univ _, lt_of_lt_of_le (Finset.mem_filter.mp hx).2 (not_lt.mp hc)⟩
    · intro h
      refine Finset.card_lt_card (Finset.ssubset_iff_subset_ne.mpr ⟨fun x hx => ?_, fun e => ?_⟩)
      · exact Finset.mem_filter.mpr ⟨Finset.mem_univ _, lt_trans (Finset.mem_filter.mp hx).2 h⟩
      · have hb : b ∈ Finset.univ.filter fun c => f c < f b := e ▸ Finset.mem_filter.mpr ⟨Finset.mem_univ _, h⟩
        exact lt_irrefl _ (Finset.mem_filter.mp hb).2
  have hfun : (fun a b : Fin n => decide (f b < f a)) = fun a b => decide (G b < G a) := by
    funext a b
    exact decide_eq_decide.mpr (hG a b).symm
  have hl : sortPositions n (fun a b => decide (f b < f a)) = sortPositions n (before f) := by
    rw [hfun]
    refine (before_total f).eq_stableSort_of_sorted (perm_stableSort _ _) ?_
    refine (PlanTiles.pairwise_stableSort_lex G (· < ·) (List.finRange n) (List.pairwise_lt_finRange n)).imp fun {a b} h => ?_
    refine (before_total f).asymm a b ((before_iff a b).mpr ?_)
    rcases h with h | ⟨h, h'⟩
    · exact Or.inl ((hG a b).mp h)
    · refine Or.inr ⟨le_antisymm (not_lt.mp fun c => ?_) (not_lt.mp fun c => ?_), h'⟩
      · exact absurd ((hG a b).mpr c) (by omega)
      · exact absurd ((hG b a).mpr c) (by omega)
  unfold sortedFrom
  simp only [List.get_eq_getElem]
  congr 1

/-- The sort's first positions are the ones taken. -/
theorem sorted_pick (hf : ∀ p, ⊥ < f p) {k : ℕ} (hk : k ≤ n) (i : Fin k) :
    sortedFrom (fun a b => decide (f b < f a)) (i.castLE hk) = pick f i := by
  rw [sortedFrom_key]
  refine (before_total f).sortedFrom_eq_of_prefix hk (fun i : Fin k => pick f i) (fun a b h => ?_) (fun a b h => ?_) (fun a p h => ?_) i
  · by_contra hc
    exact pick_ne hf a b (by omega) (by omega) (fun e => hc (Fin.ext e)) h
  · by_contra hc
    obtain ⟨j, hj, e⟩ := taken_of_before hf a (by omega) _ (Bool.not_eq_false _ ▸ hc)
    exact pick_ne hf j b (by omega) (by omega) (by have : a.val < b.val := h; omega) e
  · by_contra hc
    obtain ⟨j, hj, e⟩ := taken_of_before hf a (by omega) _ (Bool.not_eq_false _ ▸ hc)
    exact h ⟨j, by omega⟩ e

/-- The same with some of the positions left out, each behind `k` kept ones. -/
theorem sorted_pick_of_kept {m : ℕ} [NeZero m] {k : ℕ} (hf : ∀ p, ⊥ < f p) (e : Fin m → Fin n) (he : StrictMono e) (hk : k ≤ n) (hkm : k ≤ m)
    (hd : ∀ p, (∀ q, e q ≠ p) → ∃ d : Fin k → Fin m, Function.Injective d ∧ ∀ t, f p ≤ f (e (d t)) ∧ e (d t) < p) (i : Fin k) :
    sortedFrom (fun a b => decide (f b < f a)) (i.castLE hk) = e (pick (f ∘ e) i) := by
  have hg : ∀ q, ⊥ < (f ∘ e) q := fun q => hf (e q)
  have hbe : ∀ a b, before f (e a) (e b) = before (f ∘ e) a b := fun a b => by
    simp only [before, Function.comp_apply, he.lt_iff_lt]
  rw [sortedFrom_key]
  refine (before_total f).sortedFrom_eq_of_prefix hk (fun i : Fin k => e (pick (f ∘ e) i)) (fun a b h => ?_) (fun a b h => ?_) (fun a p h => ?_) i
  · by_contra hc
    exact pick_ne hg a b (by omega) (by omega) (fun e => hc (Fin.ext e)) (he.injective h)
  · by_contra hc
    obtain ⟨j, hj, e⟩ := taken_of_before hg a (by omega) _ (hbe _ _ ▸ Bool.not_eq_false _ ▸ hc)
    exact pick_ne hg j b (by omega) (by omega) (by have : a.val < b.val := h; omega) e
  · by_contra hc
    have hc' : before f p (e (pick (f ∘ e) a)) = true := Bool.not_eq_false _ ▸ hc
    by_cases hp : ∃ q, e q = p
    · obtain ⟨q, rfl⟩ := hp
      obtain ⟨j, hj, e'⟩ := taken_of_before hg a (by omega) q (hbe _ _ ▸ hc')
      exact h ⟨j, by omega⟩ (congrArg e e')
    · push Not at hp
      obtain ⟨d, hinj, hdom⟩ := hd p hp
      have hall : ∀ t, ∃ j, j < a.val ∧ pick (f ∘ e) j = d t := fun t => by
        refine taken_of_before hg a (by omega) _ (hbe _ _ ▸ (before_total f).trans _ p _ ((before_iff _ _).mpr ?_) hc')
        rcases lt_or_eq_of_le (hdom t).1 with h' | h'
        · exact Or.inl h'
        · exact Or.inr ⟨h'.symm, (hdom t).2⟩
      choose j hj1 hj2 using hall
      have hji : Function.Injective (fun t => (⟨j t, hj1 t⟩ : Fin a.val)) := fun s t hst => by
        have h' : j s = j t := congrArg Fin.val hst
        exact hinj (by rw [← hj2 s, ← hj2 t, h'])
      have := Fintype.card_le_of_injective _ hji
      simp at this
      omega

end Peer

end
-- ==== Proof.Peer.Rounds.lean ====
/- The routing kernel's rounds, as the body computes them. -/
module

public import proofs.«01_k».proof.Proof.Gen.PeerKernelIdeal.Value
public import proofs.«01_k».proof.Proof.Peer.Pick
public import Idealize.ShloMosaic.Lib.Claim
public import Idealize.ShloMosaic.Lib.Pointwise

@[expose] public section

set_option maxRecDepth 16384

noncomputable section

namespace Cert.PeerKernelIdeal.Peer

open Cert.PeerKernelIdeal Cert.PeerKernelIdeal.Gen Idealize.ShloMosaic Idealize.ShloMosaic.TcCoe Idealize.ShloMosaic.Tactic Idealize.SL.Sem

/-- The columns' greatest entries, of a block of 128 rows. -/
def mxV (s : FVec Ideal S128x1024 .f32) : FVec Ideal S1x1024 .f32 :=
  shapeCast S1x1024 (multiReduction .maximumf [0] S1024 s 0xFF800000#32 reduces_S128x1024_S1024 (.inl rfl) rfl) shapeCasts_S1024_S1x1024

/-- The first rows that hold them, as words. -/
def pkV (s : FVec Ideal S128x1024 .f32) : IVec S1x1024 32 :=
  shapeCast S1x1024 (multiReductionI .minsi [0] S1024
    (select (cmpf .oeq s (broadcastTo S128x1024 (mxV s) broadcasts_S1x1024_S128x1024)) (iota .tc S128x1024 32 [0] iota_S128x1024_d0_w32)
      (broadcast S128x1024 128#32))
    2147483647#32 reduces_S128x1024_S1024 rfl) shapeCasts_S1024_S1x1024

/-- Which entries those are. -/
def hitV (s : FVec Ideal S128x1024 .f32) : IVec S128x1024 1 :=
  cmpi .eq (iota .tc S128x1024 32 [0] iota_S128x1024_d0_w32) (broadcastTo S128x1024 (pkV s) broadcasts_S1x1024_S128x1024)

/-- The block with those entries made `−∞`. -/
def nxV (s : FVec Ideal S128x1024 .f32) : FVec Ideal S128x1024 .f32 :=
  select (hitV s) (broadcast S128x1024 (Scalar.ofBits .f32 0xFF800000#32)) s

/-- The block after `r` rounds. -/
def rnV (s : FVec Ideal S128x1024 .f32) : ℕ → FVec Ideal S128x1024 .f32
  | 0 => s
  | r + 1 => nxV (rnV s r)

/-- The columns' greatest entries, of a block of 80 rows. -/
def mxV' (s : FVec Ideal S80x1024 .f32) : FVec Ideal S1x1024 .f32 :=
  shapeCast S1x1024 (multiReduction .maximumf [0] S1024 s 0xFF800000#32 reduces_S80x1024_S1024 (.inl rfl) rfl) shapeCasts_S1024_S1x1024

/-- The first rows that hold them, as words. -/
def pkV' (s : FVec Ideal S80x1024 .f32) : IVec S1x1024 32 :=
  shapeCast S1x1024 (multiReductionI .minsi [0] S1024
    (select (cmpf .oeq s (broadcastTo S80x1024 (mxV' s) broadcasts_S1x1024_S80x1024)) (iota .tc S80x1024 32 [0] iota_S80x1024_d0_w32)
      (broadcast S80x1024 80#32))
    2147483647#32 reduces_S80x1024_S1024 rfl) shapeCasts_S1024_S1x1024

/-- Which entries those are. -/
def hitV' (s : FVec Ideal S80x1024 .f32) : IVec S80x1024 1 :=
  cmpi .eq (iota .tc S80x1024 32 [0] iota_S80x1024_d0_w32) (broadcastTo S80x1024 (pkV' s) broadcasts_S1x1024_S80x1024)

/-- The block with those entries made `−∞`. -/
def nxV' (s : FVec Ideal S80x1024 .f32) : FVec Ideal S80x1024 .f32 :=
  select (hitV' s) (broadcast S80x1024 (Scalar.ofBits .f32 0xFF800000#32)) s

/-- The block after `r` rounds. -/
def rnV' (s : FVec Ideal S80x1024 .f32) : ℕ → FVec Ideal S80x1024 .f32
  | 0 => s
  | r + 1 => nxV' (rnV' s r)

/-- Sixteen rows, one under the other. -/
def rows {α : Type} (x : ℕ → S1x1024.Idx → α) : S16x1024.Idx → α :=
  concatenate S16x1024 0 [⟨S1x1024, x 0⟩, ⟨S1x1024, x 1⟩, ⟨S1x1024, x 2⟩, ⟨S1x1024, x 3⟩, ⟨S1x1024, x 4⟩, ⟨S1x1024, x 5⟩, ⟨S1x1024, x 6⟩, ⟨S1x1024, x 7⟩, ⟨S1x1024, x 8⟩, ⟨S1x1024, x 9⟩, ⟨S1x1024, x 10⟩, ⟨S1x1024, x 11⟩, ⟨S1x1024, x 12⟩, ⟨S1x1024, x 13⟩, ⟨S1x1024, x 14⟩, ⟨S1x1024, x 15⟩] concatenates_S1x1024_S1x1024_S1x1024_S1x1024_S1x1024_S1x1024_S1x1024_S1x1024_S1x1024_S1x1024_S1x1024_S1x1024_S1x1024_S1x1024_S1x1024_S1x1024_S16x1024_d0

/-- The word each column's hit carries. -/
def wdV (ce : IVec S80x1024 32) (s : FVec Ideal S80x1024 .f32) : IVec S1x1024 32 :=
  shapeCast S1x1024 (multiReductionI .maxsi [0] S1024 (select (hitV' s) ce (broadcast S80x1024 4294967295#32)) 2147483648#32 reduces_S80x1024_S1024 rfl)
    shapeCasts_S1024_S1x1024

section
variable (x0 : Vec Ideal S1024x1024 .f32) (x1 : Vec Ideal S1024x256 .bf16) (x2 : Vec Ideal S1x2x128x128 .bf16)

/-- The scores under the first keys. -/
def s0V : FVec Ideal S128x1024 .f32 := k0_pay3 (View.ld x0 r0_0) (View.ld x1 r0_1) (View.ld x2 r0_2)

/-- The scores under the second keys. -/
def s1V : FVec Ideal S128x1024 .f32 := k0_pay55 (k0_pay2 (View.ld x0 r0_0) (View.ld x1 r0_1)) (View.ld x2 r0_3)

theorem sv0 : k0_pay200 x0 x1 x2 = rows fun r => mxV (rnV (s0V x0 x1 x2) r) := by
  unfold k0_pay200 rows
  rfl

theorem si0 : k0_pay201 x0 x1 x2 = rows fun r => pkV (rnV (s0V x0 x1 x2) r) := by
  unfold k0_pay201 rows
  rfl

theorem sv1 : k0_pay209 x0 x1 x2 = rows fun r => mxV (rnV (s1V x0 x1 x2) r) := by
  unfold k0_pay209 rows
  rfl

theorem si1 : k0_pay210 x0 x1 x2 = rows fun r => pkV (rnV (s1V x0 x1 x2) r) := by
  unfold k0_pay210 rows
  rfl

theorem top : k0_pay239 x0 x1 x2
    = k0_pay187 (F := Ideal) (mxV' (rnV' (k0_pay225 x0 x1 x2) 0)) (mxV' (rnV' (k0_pay225 x0 x1 x2) 1)) (mxV' (rnV' (k0_pay225 x0 x1 x2) 2)) (mxV' (rnV' (k0_pay225 x0 x1 x2) 3)) (mxV' (rnV' (k0_pay225 x0 x1 x2) 4)) (mxV' (rnV' (k0_pay225 x0 x1 x2) 5)) (mxV' (rnV' (k0_pay225 x0 x1 x2) 6)) (mxV' (rnV' (k0_pay225 x0 x1 x2) 7)) (mxV' (rnV' (k0_pay225 x0 x1 x2) 8)) (mxV' (rnV' (k0_pay225 x0 x1 x2) 9)) (mxV' (rnV' (k0_pay225 x0 x1 x2) 10)) (mxV' (rnV' (k0_pay225 x0 x1 x2) 11)) (mxV' (rnV' (k0_pay225 x0 x1 x2) 12)) (mxV' (rnV' (k0_pay225 x0 x1 x2) 13)) (mxV' (rnV' (k0_pay225 x0 x1 x2) 14)) (mxV' (rnV' (k0_pay225 x0 x1 x2) 15)) := by
  unfold k0_pay239
  rfl

theorem out3 : out0_3 x0 x1 x2 = View.canon [⟨r0_4, shapeCast S1x16x1024
    (rows fun r => wdV (k0_pay226 x0 x1 x2) (rnV' (k0_pay225 x0 x1 x2) r)) shapeCasts_S16x1024_S1x16x1024⟩] := by
  unfold out0_3 rows
  rfl

end

end Cert.PeerKernelIdeal.Peer

end
-- ==== Proof.Peer.Fold.lean ====
/- Folds down a column: the greatest entry, the least position, and the word a position carries. -/
module

public import proofs.«01_k».proof.Proof.Peer.Pick
public import Idealize.ShloMosaic.Lib.SortNet.Extract
public import Idealize.ShloMosaic.Lib.Claim
public import Idealize.ShloMosaic.Lib.Pointwise

@[expose] public section

noncomputable section

namespace Peer

open Idealize.ShloMosaic

variable {n : ℕ}

theorem fold_max [NeZero n] (b : EReal) (hb : b = ⊥) (f : Fin n → EReal) : Finset.univ.fold max b f = f (first f) := by
  subst hb
  refine le_antisymm (Finset.fold_max_le _ |>.mpr ⟨bot_le, fun p _ => (first_spec f).1 p⟩) ?_
  exact Finset.le_fold_max _ |>.mpr (Or.inr ⟨_, Finset.mem_univ _, le_rfl⟩)

theorem toInt_small (k : ℕ) (hk : k < 2 ^ 31) : (BitVec.ofNat 32 k).toInt = k := by
  rw [BitVec.toInt_ofNat']
  have : k % 2 ^ 32 = k := Nat.mod_eq_of_lt (by omega)
  rw [Int.bmod_def]
  omega

/-- The least of the positions at which a property holds. -/
theorem fold_min (hn : n < 2 ^ 31) (P : Fin n → Prop) [DecidablePred P] (i : Fin n) (hi : P i) (hmin : ∀ p, P p → i ≤ p) :
    Finset.univ.fold IntOp.minsi 2147483647#32 (fun x : Fin n => if P x then BitVec.ofNat 32 x.val else BitVec.ofNat 32 n) = BitVec.ofNat 32 i.val := by
  apply BitVec.eq_of_toInt_eq
  have hit : (BitVec.ofNat 32 i.val).toInt = i.val := toInt_small _ (by omega)
  rw [← Finset.fold_hom (op' := min) (m := BitVec.toInt) SortNet.toInt_minsi]
  refine le_antisymm ?_ ?_
  · refine Finset.fold_min_le _ |>.mpr (Or.inr ⟨i, Finset.mem_univ _, ?_⟩)
    rw [if_pos hi]
  · refine Finset.le_fold_min _ |>.mpr ⟨?_, fun p _ => ?_⟩
    · exact hit ▸ (by decide : (2147483647 : ℤ) ≤ (2147483647#32).toInt).trans' (by omega)
    · by_cases hp : P p
      · rw [if_pos hp, hit, toInt_small _ (by omega)]; exact_mod_cast hmin p hp
      · rw [if_neg hp, hit, toInt_small _ hn]; omega

theorem eq_word (hn : n < 2 ^ 31) (p i : Fin n) : BitVec.ofNat 32 p.val = BitVec.ofNat 32 i.val ↔ p = i := by
  refine ⟨fun h => ?_, fun h => h ▸ rfl⟩
  have := congrArg BitVec.toInt h
  rw [toInt_small _ (by omega), toInt_small _ (by omega)] at this
  exact Fin.ext (by exact_mod_cast this)

theorem select_word {α : Type} (hn : n < 2 ^ 31) (p i : Fin n) (a b : α) :
    Scalar.select (IntOp.cmpi .eq (BitVec.ofNat 32 p.val) (BitVec.ofNat 32 i.val)) a b = if p = i then a else b := by
  by_cases h : p = i
  · subst h
    simp [Scalar.select, IntOp.cmpi]
  · rw [if_neg h]
    have hc : IntOp.cmpi .eq (BitVec.ofNat 32 p.val) (BitVec.ofNat 32 i.val) = 0#1 := by
      show BitVec.ofBool (BitVec.ofNat 32 p.val == BitVec.ofNat 32 i.val) = 0#1
      rw [beq_eq_false_iff_ne.mpr fun e => h ((eq_word hn p i).mp e)]
      rfl
    rw [hc]
    rfl

/-- The word at one position, all others `−1`. -/
theorem fold_word (hn : n < 2 ^ 31) (i : Fin n) (w : Fin n → BitVec 32) (hw : 0 ≤ (w i).toInt) :
    Finset.univ.fold IntOp.maxsi 2147483648#32
      (fun x : Fin n => Scalar.select (IntOp.cmpi .eq (BitVec.ofNat 32 x.val) (BitVec.ofNat 32 i.val)) (w x) 4294967295#32) = w i := by
  simp only [select_word hn]
  apply BitVec.eq_of_toInt_eq
  rw [← Finset.fold_hom (op' := max) (m := BitVec.toInt) SortNet.toInt_maxsi]
  refine le_antisymm ?_ ?_
  · refine Finset.fold_max_le _ |>.mpr ⟨?_, fun p _ => ?_⟩
    · rw [show (2147483648#32).toInt = -2147483648 by decide]; omega
    · by_cases hp : p = i
      · rw [if_pos hp, hp]
      · rw [if_neg hp, show (4294967295#32).toInt = -1 by decide]; omega
  · exact Finset.le_fold_max _ |>.mpr (Or.inr ⟨i, Finset.mem_univ _, by rw [if_pos rfl]⟩)

theorem ofBits_ninf : Ideal.ofBits FTy.f32 4286578688#32 = ⊥ := by
  simp [Ideal.ofBits, Ideal.ieee]

end Peer

end
-- ==== Proof.Peer.Col.lean ====
/- The routing kernel's rounds, at a column. -/
module

public import proofs.«01_k».proof.Proof.Peer.Rounds
public import proofs.«01_k».proof.Proof.Peer.Fold

@[expose] public section

set_option maxRecDepth 16384

noncomputable section

namespace Cert.PeerKernelIdeal.Peer

open Cert.PeerKernelIdeal Cert.PeerKernelIdeal.Gen Idealize.ShloMosaic Idealize.ShloMosaic.TcCoe Idealize.ShloMosaic.Tactic Idealize.SL.Sem

/-- A block's column. -/
abbrev col (s : FVec Ideal S128x1024 .f32) (t : Fin 1024) : Fin 128 → EReal := fun p => s (ix2 p t)

theorem mxV_at (s : FVec Ideal S128x1024 .f32) (t : Fin 1024) : mxV s (ix2 0 t) = s (ix2 (Peer.first (col s t)) t) := by
  unfold mxV
  pointwise []
  exact Peer.fold_max _ Peer.ofBits_ninf (col s t)

theorem pkV_at (s : FVec Ideal S128x1024 .f32) (t : Fin 1024) : pkV s (ix2 0 t) = BitVec.ofNat 32 (Peer.first (col s t)).val := by
  unfold pkV
  pointwise [mxV_at]
  refine Peer.fold_min (n := 128) (by omega) (fun x => s (ix2 x t) = s (ix2 (Peer.first (col s t)) t)) _ rfl fun p hp => ?_
  by_contra hc
  exact absurd hp ((Peer.first_spec (col s t)).2 p (not_le.mp hc)).ne

theorem nxV_at (s : FVec Ideal S128x1024 .f32) (p : Fin 128) (t : Fin 1024) :
    nxV s (ix2 p t) = Function.update (col s t) (Peer.first (col s t)) ⊥ p := by
  unfold nxV hitV
  pointwise [pkV_at]
  rw [Peer.select_word (by omega), Peer.ofBits_ninf, Function.update_apply]

theorem rnV_at (s : FVec Ideal S128x1024 .f32) (r : ℕ) (t : Fin 1024) : col (rnV s r) t = Peer.left (col s t) r := by
  induction r with
  | zero => rfl
  | succ r ih =>
    funext p
    exact (nxV_at (rnV s r) p t).trans (by rw [ih]; rfl)

/-- A round's greatest entry is the one taken at it. -/
theorem val_at (s : FVec Ideal S128x1024 .f32) (t : Fin 1024) (hs : ∀ p, ⊥ < s (ix2 p t)) (r : ℕ) (hr : r < 128) :
    mxV (rnV s r) (ix2 0 t) = s (ix2 (Peer.pick (col s t) r) t) := by
  rw [mxV_at, rnV_at]
  exact (congrFun (rnV_at s r t) _).trans (Peer.left_pick (f := col s t) hs r hr)

theorem pos_at (s : FVec Ideal S128x1024 .f32) (t : Fin 1024) (r : ℕ) :
    pkV (rnV s r) (ix2 0 t) = BitVec.ofNat 32 (Peer.pick (col s t) r).val := by
  rw [pkV_at, rnV_at]
  rfl

/-- A block's column. -/
abbrev col' (s : FVec Ideal S80x1024 .f32) (t : Fin 1024) : Fin 80 → EReal := fun p => s (ix2 p t)

theorem mxV_at' (s : FVec Ideal S80x1024 .f32) (t : Fin 1024) : mxV' s (ix2 0 t) = s (ix2 (Peer.first (col' s t)) t) := by
  unfold mxV'
  pointwise []
  exact Peer.fold_max _ Peer.ofBits_ninf (col' s t)

theorem pkV_at' (s : FVec Ideal S80x1024 .f32) (t : Fin 1024) : pkV' s (ix2 0 t) = BitVec.ofNat 32 (Peer.first (col' s t)).val := by
  unfold pkV'
  pointwise [mxV_at']
  refine Peer.fold_min (n := 80) (by omega) (fun x => s (ix2 x t) = s (ix2 (Peer.first (col' s t)) t)) _ rfl fun p hp => ?_
  by_contra hc
  exact absurd hp ((Peer.first_spec (col' s t)).2 p (not_le.mp hc)).ne

theorem nxV_at' (s : FVec Ideal S80x1024 .f32) (p : Fin 80) (t : Fin 1024) :
    nxV' s (ix2 p t) = Function.update (col' s t) (Peer.first (col' s t)) ⊥ p := by
  unfold nxV' hitV'
  pointwise [pkV_at']
  rw [Peer.select_word (by omega), Peer.ofBits_ninf, Function.update_apply]

theorem rnV_at' (s : FVec Ideal S80x1024 .f32) (r : ℕ) (t : Fin 1024) : col' (rnV' s r) t = Peer.left (col' s t) r := by
  induction r with
  | zero => rfl
  | succ r ih =>
    funext p
    exact (nxV_at' (rnV' s r) p t).trans (by rw [ih]; rfl)

/-- A round's greatest entry is the one taken at it. -/
theorem val_at' (s : FVec Ideal S80x1024 .f32) (t : Fin 1024) (hs : ∀ p, ⊥ < s (ix2 p t)) (r : ℕ) (hr : r < 80) :
    mxV' (rnV' s r) (ix2 0 t) = s (ix2 (Peer.pick (col' s t) r) t) := by
  rw [mxV_at', rnV_at']
  exact (congrFun (rnV_at' s r t) _).trans (Peer.left_pick (f := col' s t) hs r hr)

theorem pos_at' (s : FVec Ideal S80x1024 .f32) (t : Fin 1024) (r : ℕ) :
    pkV' (rnV' s r) (ix2 0 t) = BitVec.ofNat 32 (Peer.pick (col' s t) r).val := by
  rw [pkV_at', rnV_at']
  rfl

/-- The word a round writes is the one at the position taken. -/
theorem wdV_at (ce : IVec S80x1024 32) (s : FVec Ideal S80x1024 .f32) (t : Fin 1024) (r : ℕ) (hc : ∀ p, 0 ≤ (ce (ix2 p t)).toInt) :
    wdV ce (rnV' s r) (ix2 0 t) = ce (ix2 (Peer.pick (col' s t) r) t) := by
  unfold wdV hitV'
  pointwise [pos_at']
  exact Peer.fold_word (by omega) (Peer.pick (col' s t) r) (fun x => ce (ix2 x t)) (hc _)

theorem rows_at {α : Type} (x : ℕ → S1x1024.Idx → α) (r : Fin 16) (t : Fin 1024) : rows x (ix2 r t) = x r (ix2 0 t) := by
  unfold rows
  fin_cases r <;> pointwise []

/-- The candidates' rows: the first value with every second one, the next seven with the first eight, the rest with the first. -/
def pa (q : Fin 80) : Fin 16 := ⟨if q.val < 16 then 0 else if q.val < 72 then 1 + (q.val - 16) / 8 else q.val - 64, by split <;> [skip; split] <;> omega⟩
def pb (q : Fin 80) : Fin 16 := ⟨if q.val < 16 then q.val else if q.val < 72 then (q.val - 16) % 8 else 0, by split <;> [skip; split] <;> omega⟩

theorem cs_at (v0 v1 : FVec Ideal S16x1024 .f32) (q : Fin 80) (t : Fin 1024) :
    k0_pay120 v0 v1 (k0_pay107 v0 v1) (k0_pay109 v0 v1) (k0_pay111 v0 v1) (k0_pay113 v0 v1) (k0_pay115 v0 v1) (k0_pay117 v0 v1) (ix2 q t)
      = v0 (ix2 (pa q) t) + v1 (ix2 (pb q) t) := by
  unfold k0_pay120 k0_pay107 k0_pay109 k0_pay111 k0_pay113 k0_pay115 k0_pay117
  pointwise []
  fin_cases q <;> rfl

theorem ce_at (v0 v1 : IVec S16x1024 32) (q : Fin 80) (t : Fin 1024) :
    k0_pay121 v0 v1 (k0_pay108 v0 v1) (k0_pay110 v0 v1) (k0_pay112 v0 v1) (k0_pay114 v0 v1) (k0_pay116 v0 v1) (k0_pay118 v0) k0_pay119 (ix2 q t)
      = v0 (ix2 (pa q) t) * 128#32 + v1 (ix2 (pb q) t) := by
  unfold k0_pay121 k0_pay108 k0_pay110 k0_pay112 k0_pay114 k0_pay116 k0_pay118 k0_pay119
  pointwise []
  fin_cases q <;> rfl

end Cert.PeerKernelIdeal.Peer

end
-- ==== Proof.Peer.TopK.lean ====
/- The reference's top-k, at an index, and its gather along the last axis. -/
module

public import proofs.«01_k».proof.Proof.Peer.Fold
public import Idealize.ShloMosaic.Lib.Claim
public import Idealize.ShloMosaic.Lib.Pointwise

@[expose] public section

noncomputable section

namespace Peer

open Idealize.ShloMosaic

/-- A row's positions, the greatest entry's first. -/
def ord {n : ℕ} (f : Fin n → EReal) (i : Fin n) : Fin n := sortedFrom (fun a b => decide (f b < f a)) i

theorem gt_eq (a b : EReal) : (FloatOps.cmpfTotal (F := Ideal) (φ := .f32) .gt a b == 1#1) = decide (b < a) := by
  show (BitVec.ofBool (decide (b < a)) == 1#1) = decide (b < a)
  cases decide (b < a) <;> rfl

section
variable {A B C N K : ℕ}

theorem along4 (a : Fin A) (b : Fin B) (c : Fin C) (k p : Fin N) : (ix4 a b c k).along (3 : Fin 4) p = ix4 a b c p := by
  funext d
  fin_cases d <;> rfl

theorem topK4 (x : FVec Ideal ⟨4, ![A, B, C, N]⟩ .f32) (h : (⟨4, ![A, B, C, N]⟩ : Shape).Slices (fun _ => 0) ⟨4, ![A, B, C, K]⟩) (hk : K ≤ N)
    (a : Fin A) (b : Fin B) (c : Fin C) (k : Fin K) :
    (Host.topK ⟨4, ![A, B, C, K]⟩ 3 (FloatOps.cmpfTotal (F := Ideal) .gt) x h).1 (ix4 a b c k)
        = x (ix4 a b c (ord (fun p => x (ix4 a b c p)) (k.castLE hk)))
      ∧ (Host.topK ⟨4, ![A, B, C, K]⟩ 3 (FloatOps.cmpfTotal (F := Ideal) .gt) x h).2 (ix4 a b c k)
        = BitVec.ofNat 32 (ord (fun p => x (ix4 a b c p)) (k.castLE hk)).val := by
  have e : ∀ {α : Type} (y : (⟨4, ![A, B, C, N]⟩ : Shape).Idx → α),
      extractStridedSlice ⟨4, ![A, B, C, K]⟩ (fun _ => 0) y h (ix4 a b c k) = y (ix4 a b c (k.castLE hk)) := fun y =>
    extractStridedSlice_apply _ _ h _ _ fun d => by
      fin_cases d <;> exact (Nat.zero_add _).symm
  have eo : sortedFrom (n := N) (fun p q => decide (x ((ix4 a b c (k.castLE hk)).along (3 : Fin 4) q)
      < x ((ix4 a b c (k.castLE hk)).along (3 : Fin 4) p))) (k.castLE hk) = ord (fun p => x (ix4 a b c p)) (k.castLE hk) :=
    congrFun (congrArg sortedFrom (funext fun p => funext fun q => by rw [along4, along4])) _
  unfold Host.topK Host.sort2
  simp only [e]
  rw [dif_pos (show 3 < 4 by decide)]
  simp only [gt_eq]
  refine ⟨congrArg x ((along4 a b c _ _).trans (congrArg (ix4 a b c) eo)), ?_⟩
  rw [dif_pos (show 3 < 4 by decide)]
  exact (congrArg (iotaInDim ⟨4, ![A, B, C, N]⟩ 32 (3 : Fin 4)) ((along4 a b c _ _).trans (congrArg (ix4 a b c) eo))).trans rfl

theorem along3 (a : Fin A) (b : Fin B) (k p : Fin N) : (ix3 a b k).along (2 : Fin 3) p = ix3 a b p := by
  funext d
  fin_cases d <;> rfl

theorem topK3 (x : FVec Ideal ⟨3, ![A, B, N]⟩ .f32) (h : (⟨3, ![A, B, N]⟩ : Shape).Slices (fun _ => 0) ⟨3, ![A, B, K]⟩) (hk : K ≤ N)
    (a : Fin A) (b : Fin B) (k : Fin K) :
    (Host.topK ⟨3, ![A, B, K]⟩ 2 (FloatOps.cmpfTotal (F := Ideal) .gt) x h).1 (ix3 a b k)
        = x (ix3 a b (ord (fun p => x (ix3 a b p)) (k.castLE hk)))
      ∧ (Host.topK ⟨3, ![A, B, K]⟩ 2 (FloatOps.cmpfTotal (F := Ideal) .gt) x h).2 (ix3 a b k)
        = BitVec.ofNat 32 (ord (fun p => x (ix3 a b p)) (k.castLE hk)).val := by
  have e : ∀ {α : Type} (y : (⟨3, ![A, B, N]⟩ : Shape).Idx → α),
      extractStridedSlice ⟨3, ![A, B, K]⟩ (fun _ => 0) y h (ix3 a b k) = y (ix3 a b (k.castLE hk)) := fun y =>
    extractStridedSlice_apply _ _ h _ _ fun d => by
      fin_cases d <;> exact (Nat.zero_add _).symm
  have eo : sortedFrom (n := N) (fun p q => decide (x ((ix3 a b (k.castLE hk)).along (2 : Fin 3) q)
      < x ((ix3 a b (k.castLE hk)).along (2 : Fin 3) p))) (k.castLE hk) = ord (fun p => x (ix3 a b p)) (k.castLE hk) :=
    congrFun (congrArg sortedFrom (funext fun p => funext fun q => by rw [along3, along3])) _
  unfold Host.topK Host.sort2
  simp only [e]
  rw [dif_pos (show 2 < 3 by decide)]
  simp only [gt_eq]
  refine ⟨congrArg x ((along3 a b _ _).trans (congrArg (ix3 a b) eo)), ?_⟩
  rw [dif_pos (show 2 < 3 by decide)]
  exact (congrArg (iotaInDim ⟨3, ![A, B, N]⟩ 32 (2 : Fin 3)) ((along3 a b _ _).trans (congrArg (ix3 a b) eo))).trans rfl

/-- Taking along the last axis: one start word per result entry, held inside the axis. -/
abbrev alongDims (wf : GatherDims.WF ⟨3, ![A, B, N]⟩ ⟨4, ![A, B, K, 1]⟩ ⟨3, ![A, B, K]⟩ [] [2] [0, 1] [2] [0, 1] 3 ![1, 1, 1]) :
    GatherDims ⟨3, ![A, B, N]⟩ ⟨4, ![A, B, K, 1]⟩ ⟨3, ![A, B, K]⟩ where
  offsetDims := []
  collapsedSliceDims := [2]
  operandBatchingDims := [0, 1]
  startIndicesBatchingDims := [0, 1]
  startIndexMap := [2]
  indexVectorDim := 3
  sliceSizes := ![1, 1, 1]
  wf := wf

theorem gather_along {α : Type} (hN : 0 < N)
    (wf : GatherDims.WF ⟨3, ![A, B, N]⟩ ⟨4, ![A, B, K, 1]⟩ ⟨3, ![A, B, K]⟩ [] [2] [0, 1] [2] [0, 1] 3 ![1, 1, 1])
    (x : (⟨3, ![A, B, N]⟩ : Shape).Idx → α) (t : IVec ⟨4, ![A, B, K, 1]⟩ 32) (a : Fin A) (b : Fin B) (k : Fin K) :
    Host.gather (alongDims wf) x t (ix3 a b k) = x (ix3 a b ⟨min (t (ix4 a b k 0)).toInt.toNat (N - 1), by omega⟩) := by
  unfold Host.gather
  refine congrArg x (funext fun d => Fin.ext ?_)
  show (alongDims wf).start (ix3 a b k) t d + (alongDims wf).batchCoord (ix3 a b k) d + (alongDims wf).offCoord (ix3 a b k) d = _
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  have hoff : (alongDims wf).offCoord (ix3 a b k) d = 0 := by
    refine GatherDims.offCoord_eq_zero _ _ _ fun h => ?_
    have h' := (GatherDims.mem_sKept _ _).mp h
    rcases h012 with rfl | rfl | rfl
    · exact h'.2 (by simp)
    · exact h'.2 (by simp)
    · exact h'.1 (by simp)
  rw [hoff, Nat.add_zero]
  rcases h012 with rfl | rfl | rfl
  · unfold GatherDims.start
    rw [dif_neg (fun h => absurd (List.mem_singleton.mp h) (show ¬ (0 : Fin 3) = 2 by decide)), Nat.zero_add]
    rfl
  · unfold GatherDims.start
    rw [dif_neg (fun h => absurd (List.mem_singleton.mp h) (show ¬ (1 : Fin 3) = 2 by decide)), Nat.zero_add]
    rfl
  · rw [GatherDims.batchCoord_eq_zero _ _ _ (fun h => by simp at h), Nat.add_zero]
    unfold GatherDims.start
    rw [dif_pos (show (2 : Fin 3) ∈ (alongDims wf).startIndexMap from List.mem_singleton.mpr rfl)]
    have hsi : (alongDims wf).siIdx (ix3 a b k) ⟨List.idxOf (2 : Fin 3) (alongDims wf).startIndexMap,
        List.idxOf_lt_length_iff.2 (List.mem_singleton.mpr rfl)⟩ = ix4 a b k 0 := by
      funext c
      refine Fin.ext ?_
      match c with
      | ⟨0, _⟩ => rfl
      | ⟨1, _⟩ => rfl
      | ⟨2, _⟩ => rfl
      | ⟨3, _⟩ => rfl
    rw [hsi]
    rfl

end

end Peer

end
-- ==== Proof.Peer.Route.lean ====
/- The routing of one token in one head, from its scores. -/
module

public import proofs.«01_k».proof.Proof.Peer.Pick
public import proofs.«01_k».proof.Proof.Peer.TopK
public import proofs.«01_k».proof.Proof.Peer.Fold

@[expose] public section

set_option maxRecDepth 16384

noncomputable section

namespace Peer

open Idealize.ShloMosaic

variable (a b : Fin 128 → EReal)

/-- The sums of every one of the sixteen greatest of `a` with every one of `b`. -/
def sums (q : Fin 256) : EReal := a (pick a (q.val / 16)) + b (pick b (q.val % 16))

/-- The expert of each sum. -/
def experts (q : Fin 256) : BitVec 32 := BitVec.ofNat 32 (pick a (q.val / 16)).val * 128#32 + BitVec.ofNat 32 (pick b (q.val % 16)).val

/-- The sums the kernel keeps: all of the first row, the first eight of the next seven, the first of the rest. -/
def kept (q : Fin 80) : Fin 256 :=
  ⟨if q.val < 16 then q.val else if q.val < 72 then 16 * (1 + (q.val - 16) / 8) + (q.val - 16) % 8 else 16 * (q.val - 64), by
    split <;> [skip; split] <;> omega⟩

theorem kept_mono : StrictMono kept := by
  intro q r h
  rw [Fin.lt_def] at h ⊢
  simp only [kept]
  split_ifs <;> omega

/-- A sum not kept lies right of eight columns and below one row, or below eight rows and right of one column. -/
theorem not_kept : ∀ p : Fin 256, (∀ q, kept q ≠ p) → 1 ≤ p.val / 16 ∧ 8 ≤ p.val % 16 ∨ 8 ≤ p.val / 16 ∧ 1 ≤ p.val % 16 := by
  decide +kernel

/-- The first eight sums of the first two rows. -/
def wide (t : Fin 16) : Fin 80 := ⟨if t.val < 8 then t.val else 8 + t.val, by split <;> omega⟩

/-- The first two sums of the first eight rows. -/
def tall (t : Fin 16) : Fin 80 :=
  ⟨if t.val = 0 then 0 else if t.val < 8 then 8 + 8 * t.val else if t.val = 8 then 1 else 8 * t.val - 55, by
    split <;> [skip; split <;> [skip; split]] <;> omega⟩

theorem wide_spec : Function.Injective wide ∧ ∀ t, (kept (wide t)).val / 16 ≤ 1 ∧ (kept (wide t)).val % 16 ≤ 7 := by
  decide +kernel

theorem tall_spec : Function.Injective tall ∧ ∀ t, (kept (tall t)).val / 16 ≤ 7 ∧ (kept (tall t)).val % 16 ≤ 1 := by
  decide +kernel

variable {a b}

theorem sums_pos (ha : ∀ p, ⊥ < a p) (hb : ∀ p, ⊥ < b p) (q : Fin 256) : ⊥ < sums a b q :=
  EReal.bot_lt_add_iff.mpr ⟨ha _, hb _⟩

theorem sums_le (ha : ∀ p, ⊥ < a p) (hb : ∀ p, ⊥ < b p) (p q : Fin 256) (h : q.val / 16 ≤ p.val / 16) (h' : q.val % 16 ≤ p.val % 16) :
    sums a b p ≤ sums a b q :=
  add_le_add (pick_le ha _ _ (by omega) h) (pick_le hb _ _ (by omega) h')

/-- The sixteen greatest of all the sums are the sixteen greatest of those kept. -/
theorem ord_sums (ha : ∀ p, ⊥ < a p) (hb : ∀ p, ⊥ < b p) (i : Fin 16) (h : 16 ≤ 256) : ord (sums a b) (i.castLE h) = kept (pick (sums a b ∘ kept) i) := by
  refine sorted_pick_of_kept (sums_pos ha hb) kept kept_mono h (by decide) (fun p hp => ?_) i
  rcases not_kept p hp with ⟨h1, h2⟩ | ⟨h1, h2⟩
  · refine ⟨wide, wide_spec.1, fun t => ?_⟩
    have := wide_spec.2 t
    exact ⟨sums_le ha hb _ _ (by omega) (by omega), Fin.lt_def.mpr (by omega)⟩
  · refine ⟨tall, tall_spec.1, fun t => ?_⟩
    have := tall_spec.2 t
    exact ⟨sums_le ha hb _ _ (by omega) (by omega), Fin.lt_def.mpr (by omega)⟩

variable (a b)

/-- The `i`-th position taken. -/
def place (i : ℕ) : Fin 256 := kept (pick (sums a b ∘ kept) i)

/-- The `i`-th expert. -/
def expert (i : ℕ) : BitVec 32 := experts a b (place a b i)

/-- The `i`-th sum, below the greatest, as an exponential. -/
def weight (i : ℕ) : EReal := Ideal.exp (sums a b (place a b i) - sums a b (place a b 0))

/-- The `i`-th gate. -/
def gate (i : ℕ) : EReal := Ideal.div (weight a b i) (∑ j : Fin 16, weight a b j.val)

variable {a b}

/-- No sum taken exceeds the first. -/
theorem place_le (ha : ∀ p, ⊥ < a p) (hb : ∀ p, ⊥ < b p) (i : Fin 16) : sums a b (place a b i) ≤ sums a b (place a b 0) :=
  pick_le (f := sums a b ∘ kept) (fun q => sums_pos ha hb _) 0 i.val (by omega) (Nat.zero_le _)

/-- A word of two positions is not negative. -/
theorem experts_nonneg (q : Fin 256) : 0 ≤ (experts a b q).toInt := by
  have h : ∀ x y : Fin 128, 0 ≤ (BitVec.ofNat 32 x.val * 128#32 + BitVec.ofNat 32 y.val).toInt := fun x y => by
    have e : BitVec.ofNat 32 x.val * 128#32 + BitVec.ofNat 32 y.val = BitVec.ofNat 32 (x.val * 128 + y.val) := by
      apply BitVec.eq_of_toNat_eq
      simp [BitVec.toNat_add, BitVec.toNat_mul]
    rw [e, toInt_small _ (by have := x.isLt; have := y.isLt; omega)]
    exact Int.natCast_nonneg _
  exact h _ _

/-- A token's score under a key: the key's product with the token's query. -/
def score (x : (⟨2, ![32768, 1024]⟩ : Shape).Idx → EReal) (w : (⟨2, ![1024, 2048]⟩ : Shape).Idx → EReal)
    (k : (⟨4, ![8, 2, 128, 128]⟩ : Shape).Idx → EReal) (n : Fin 32768) (e : Fin 8) (p : Fin 2) (j : Fin 128) : EReal :=
  ∑ d : Fin 128, k (ix4 e p j d) * ∑ c : Fin 1024, x (ix2 n c) * w (ix2 c ⟨e.val * 256 + p.val * 128 + d.val, by omega⟩)

theorem coe_sum {n : ℕ} (f : Fin n → ℝ) : ((∑ i, f i : ℝ) : EReal) = ∑ i, (f i : EReal) :=
  map_sum (⟨⟨((↑) : ℝ → EReal), EReal.coe_zero⟩, EReal.coe_add⟩ : ℝ →+ EReal) _ _

/-- The score of numbers is a number. -/
theorem score_pos (x : (⟨2, ![32768, 1024]⟩ : Shape).Idx → EReal) (w : (⟨2, ![1024, 2048]⟩ : Shape).Idx → EReal)
    (k : (⟨4, ![8, 2, 128, 128]⟩ : Shape).Idx → EReal) (hx : ∀ i, x i = (((x i).toReal : ℝ) : EReal)) (hw : ∀ i, w i = (((w i).toReal : ℝ) : EReal))
    (hk : ∀ i, k i = (((k i).toReal : ℝ) : EReal)) (n : Fin 32768) (e : Fin 8) (p : Fin 2) (j : Fin 128) : ⊥ < score x w k n e p j := by
  have h : score x w k n e p j = ((∑ d : Fin 128, (k (ix4 e p j d)).toReal
      * ∑ c : Fin 1024, (x (ix2 n c)).toReal * (w (ix2 c ⟨e.val * 256 + p.val * 128 + d.val, by omega⟩)).toReal : ℝ) : EReal) := by
    unfold score
    rw [coe_sum]
    refine Finset.sum_congr rfl fun d _ => ?_
    rw [EReal.coe_mul, coe_sum, ← hk]
    refine congrArg (k (ix4 e p j d) * ·) (Finset.sum_congr rfl fun c _ => ?_)
    rw [EReal.coe_mul, ← hx, ← hw]
  rw [h]
  exact EReal.bot_lt_coe _

end Peer

end
-- ==== Proof.Peer.Body.lean ====
/- What a point of the routing kernel leaves, at an index. -/
module

public import proofs.«01_k».proof.Proof.Peer.Col
public import proofs.«01_k».proof.Proof.Peer.Route
public import Idealize.ShloMosaic.Lib.Pipeline.ValueKit.Basic
public import Idealize.ShloMosaic.Lib.Pipeline.ValueKit.Geometry

@[expose] public section

set_option maxRecDepth 16384

noncomputable section

namespace Cert.PeerKernelIdeal.Peer

open Cert.PeerKernelIdeal Cert.PeerKernelIdeal.Gen Idealize.ShloMosaic Idealize.ShloMosaic.TcCoe Idealize.ShloMosaic.Tactic Idealize.SL.Sem

/-- A block's score under a key of a plane: the key's product with the token's query. -/
def bscore (x0 : Vec Ideal S1024x1024 .f32) (x1 : Vec Ideal S1024x256 .bf16) (x2 : Vec Ideal S1x2x128x128 .bf16) (p : Fin 2) (j : Fin 128) (t : Fin 1024) : EReal :=
  ∑ d : Fin 128, x2 (ix4 0 p j d) * ∑ c : Fin 1024, x0 (ix2 t c) * x1 (ix2 c ⟨p.val * 128 + d.val, by omega⟩)

theorem query_at (v0 : Vec Ideal S1024x1024 .f32) (v2 : Vec Ideal S1024x256 .bf16) (t : Fin 1024) (d : Fin 256) :
    k0_pay2 (F := Ideal) v0 v2 (ix2 t d) = ∑ c : Fin 1024, v0 (ix2 t c) * v2 (ix2 c d) := by
  unfold k0_pay2
  refine Eq.trans (b := 0 + ∑ c : Fin 1024, v0 (ix2 t c) * v2 (ix2 c d)) ?_ (zero_add _)
  pointwise []

theorem first_at (v0 : Vec Ideal S1024x1024 .f32) (v2 : Vec Ideal S1024x256 .bf16) (v7 : Vec Ideal S1x1x128x128 .bf16) (j : Fin 128) (t : Fin 1024) :
    k0_pay3 (F := Ideal) v0 v2 v7 (ix2 j t) = ∑ d : Fin 128, v7 (ix4 0 0 j d) * ∑ c : Fin 1024, v0 (ix2 t c) * v2 (ix2 c ⟨d.val, by omega⟩) := by
  have h := fun d : Fin 128 => query_at v0 v2 t ⟨d.val, by omega⟩
  unfold k0_pay3
  simp only [← h]
  generalize k0_pay2 (F := Ideal) v0 v2 = y
  pointwise []

theorem second_at (v4 : FVec Ideal S1024x256 .f32) (v7 : Vec Ideal S1x1x128x128 .bf16) (j : Fin 128) (t : Fin 1024) :
    k0_pay55 (F := Ideal) v4 v7 (ix2 j t) = ∑ d : Fin 128, v7 (ix4 0 0 j d) * v4 (ix2 t ⟨128 + d.val, by omega⟩) := by
  unfold k0_pay55
  pointwise []

section
variable (x0 : Vec Ideal S1024x1024 .f32) (x1 : Vec Ideal S1024x256 .bf16) (x2 : Vec Ideal S1x2x128x128 .bf16)

theorem ld0 : View.ld x0 r0_0 = x0 := View.ld_unit_lit _ x0 (by decide)
theorem ld1 : View.ld x1 r0_1 = x1 := View.ld_unit_lit _ x1 (by decide)

theorem ld2 (j d : Fin 128) : (View.ld x2 r0_2 : Vec Ideal S1x1x128x128 .bf16) (ix4 0 0 j d) = x2 (ix4 0 0 j d) :=
  congrArg x2 (by funext a; fin_cases a <;> exact Fin.ext (by simp [r0_2]))

theorem ld3 (j d : Fin 128) : (View.ld x2 r0_3 : Vec Ideal S1x1x128x128 .bf16) (ix4 0 0 j d) = x2 (ix4 0 1 j d) :=
  congrArg x2 (by funext a; fin_cases a <;> exact Fin.ext (by simp [r0_3]))

theorem s0V_at (j : Fin 128) (t : Fin 1024) : s0V x0 x1 x2 (ix2 j t) = bscore x0 x1 x2 0 j t := by
  unfold s0V bscore
  rw [first_at, ld0, ld1]
  refine Finset.sum_congr rfl fun d _ => congrArg₂ (fun u v : EReal => u * v) (ld2 x2 j d)
    (Finset.sum_congr rfl fun c _ => congrArg (fun z => x0 (ix2 t c) * x1 (ix2 c z)) (Fin.ext ?_))
  show d.val = 0 * 128 + d.val
  omega

theorem s1V_at (j : Fin 128) (t : Fin 1024) : s1V x0 x1 x2 (ix2 j t) = bscore x0 x1 x2 1 j t := by
  unfold s1V bscore
  rw [second_at, ld0, ld1]
  exact Finset.sum_congr rfl fun d _ => congrArg₂ (fun u v : EReal => u * v) (ld3 x2 j d) ((query_at _ _ _ _).trans
    (Finset.sum_congr rfl fun c _ => congrArg (fun z => x0 (ix2 t c) * x1 (ix2 c z)) (Fin.ext rfl)))

variable (t : Fin 1024) (ha : ∀ j, ⊥ < bscore x0 x1 x2 0 j t) (hb : ∀ j, ⊥ < bscore x0 x1 x2 1 j t)

theorem col0 : col (s0V x0 x1 x2) t = fun j => bscore x0 x1 x2 0 j t := funext fun j => s0V_at x0 x1 x2 j t
theorem col1 : col (s1V x0 x1 x2) t = fun j => bscore x0 x1 x2 1 j t := funext fun j => s1V_at x0 x1 x2 j t

theorem kept_row (q : Fin 80) : (Peer.kept q).val / 16 = (pa q).val := by
  revert q
  decide +kernel

theorem kept_col (q : Fin 80) : (Peer.kept q).val % 16 = (pb q).val := by
  revert q
  decide +kernel

include ha hb in
/-- The sums kept, down a column. -/
theorem sum_at (q : Fin 80) : k0_pay225 x0 x1 x2 (ix2 q t)
    = Peer.sums (fun j => bscore x0 x1 x2 0 j t) (fun j => bscore x0 x1 x2 1 j t) (Peer.kept q) := by
  have h0 : ∀ r : Fin 16, k0_pay200 x0 x1 x2 (ix2 r t) = bscore x0 x1 x2 0 (Peer.pick (fun j => bscore x0 x1 x2 0 j t) r) t := fun r => by
    rw [sv0, rows_at, val_at _ t (fun p => by rw [s0V_at]; exact ha p) _ (by omega), col0, s0V_at]
  have h1 : ∀ r : Fin 16, k0_pay209 x0 x1 x2 (ix2 r t) = bscore x0 x1 x2 1 (Peer.pick (fun j => bscore x0 x1 x2 1 j t) r) t := fun r => by
    rw [sv1, rows_at, val_at _ t (fun p => by rw [s1V_at]; exact hb p) _ (by omega), col1, s1V_at]
  refine (show k0_pay225 x0 x1 x2 (ix2 q t) = _ from cs_at _ _ q t).trans ?_
  rw [h0, h1]
  unfold Peer.sums
  rw [kept_row, kept_col]

/-- Their experts. -/
theorem expert_at (q : Fin 80) : k0_pay226 x0 x1 x2 (ix2 q t)
    = Peer.experts (fun j => bscore x0 x1 x2 0 j t) (fun j => bscore x0 x1 x2 1 j t) (Peer.kept q) := by
  have h0 : ∀ r : Fin 16, k0_pay201 x0 x1 x2 (ix2 r t) = BitVec.ofNat 32 (Peer.pick (fun j => bscore x0 x1 x2 0 j t) r).val := fun r => by
    rw [si0, rows_at, pos_at, col0]
  have h1 : ∀ r : Fin 16, k0_pay210 x0 x1 x2 (ix2 r t) = BitVec.ofNat 32 (Peer.pick (fun j => bscore x0 x1 x2 1 j t) r).val := fun r => by
    rw [si1, rows_at, pos_at, col1]
  refine (show k0_pay226 x0 x1 x2 (ix2 q t) = _ from ce_at _ _ q t).trans ?_
  rw [h0, h1]
  unfold Peer.experts
  rw [kept_row, kept_col]

include ha hb in
theorem colK : col' (k0_pay225 x0 x1 x2) t
    = Peer.sums (fun j => bscore x0 x1 x2 0 j t) (fun j => bscore x0 x1 x2 1 j t) ∘ Peer.kept := funext fun q => sum_at x0 x1 x2 t ha hb q

include ha hb in
/-- The expert a round writes. -/
theorem word_at (i : Fin 16) : rows (fun r => wdV (k0_pay226 x0 x1 x2) (rnV' (k0_pay225 x0 x1 x2) r)) (ix2 i t)
    = Peer.expert (fun j => bscore x0 x1 x2 0 j t) (fun j => bscore x0 x1 x2 1 j t) i := by
  rw [rows_at, wdV_at _ _ t _ (fun p => by rw [expert_at]; exact Peer.experts_nonneg _), colK x0 x1 x2 t ha hb, expert_at]
  rfl

include ha hb in
/-- A round's greatest sum. -/
theorem best_at (r : ℕ) (hr : r < 80) : mxV' (rnV' (k0_pay225 x0 x1 x2) r) (ix2 0 t)
    = Peer.sums (fun j => bscore x0 x1 x2 0 j t) (fun j => bscore x0 x1 x2 1 j t)
      (Peer.place (fun j => bscore x0 x1 x2 0 j t) (fun j => bscore x0 x1 x2 1 j t) r) := by
  rw [val_at' _ t (fun p => by rw [sum_at x0 x1 x2 t ha hb]; exact Peer.sums_pos ha hb _) _ hr, colK x0 x1 x2 t ha hb, sum_at x0 x1 x2 t ha hb]
  rfl

/-- The exponentials of sixteen rows less the first. -/
theorem exp_rows (y : FVec Ideal S16x1024 .f32) (i : Fin 16) :
    exp (subf y (broadcastTo S16x1024 (extractStridedSlice S1x1024 ![0, 0] y slices_S16x1024_o0_0_S1x1024) broadcasts_S1x1024_S16x1024)) (ix2 i t)
      = Ideal.exp (y (ix2 i t) - y (ix2 0 t)) := by
  pointwise []

theorem quot_rows (y : FVec Ideal S16x1024 .f32) (i : Fin 16) :
    k0_pay1 (F := Ideal) y (k0_pay189 y) (ix3 0 i t) = Ideal.div (y (ix2 i t)) (∑ j : Fin 16, y (ix2 j t)) := by
  refine Eq.trans (b := Ideal.div (y (ix2 i t)) (0 + ∑ j : Fin 16, y (ix2 j t))) ?_ (by rw [zero_add])
  unfold k0_pay1 k0_pay189
  pointwise []

include ha hb in
theorem top_at (i : Fin 16) : k0_pay239 x0 x1 x2 (ix2 i t)
    = Peer.weight (fun j => bscore x0 x1 x2 0 j t) (fun j => bscore x0 x1 x2 1 j t) i := by
  have h : k0_pay239 x0 x1 x2 = exp (subf (rows fun r => mxV' (rnV' (k0_pay225 x0 x1 x2) r))
      (broadcastTo S16x1024 (extractStridedSlice S1x1024 ![0, 0] (rows fun r => mxV' (rnV' (k0_pay225 x0 x1 x2) r)) slices_S16x1024_o0_0_S1x1024)
        broadcasts_S1x1024_S16x1024)) := by
    rw [top]
    rfl
  rw [h, exp_rows, rows_at, rows_at, best_at x0 x1 x2 t ha hb _ (by omega), best_at x0 x1 x2 t ha hb _ (by decide)]
  rfl

include ha hb in
theorem gate_at (i : Fin 16) : k0_pay1 (F := Ideal) (k0_pay239 x0 x1 x2) (k0_pay189 (k0_pay239 x0 x1 x2)) (ix3 0 i t)
    = Peer.gate (fun j => bscore x0 x1 x2 0 j t) (fun j => bscore x0 x1 x2 1 j t) i := by
  rw [quot_rows]
  simp only [top_at x0 x1 x2 t ha hb]
  rfl

end

end Cert.PeerKernelIdeal.Peer

end
-- ==== Proof.Peer.Ref.lean ====
/- The plain routing, at an index. -/
module

public import proofs.«01_k».proof.Proof.Gen.PeerReferenceIdeal.Run
public import proofs.«01_k».proof.Proof.Peer.Route
public import Idealize.ShloMosaic.Lib.KernelVsHost
public import Idealize.ShloMosaic.Lib.ReduceAll
public import Idealize.ShloMosaic.Lib.Pointwise

@[expose] public section

set_option maxRecDepth 16384

noncomputable section

namespace Cert.PeerReferenceIdeal.Peer

open Cert.PeerReferenceIdeal Cert.PeerReferenceIdeal.Gen Idealize.ShloMosaic Idealize.ShloMosaic.TcCoe Idealize.ShloMosaic.Tactic Idealize.SL.Sem

section
variable (x : FVec Ideal S32768x1024 .f32) (w : FVec Ideal S1024x2048 .f32) (k : FVec Ideal S8x2x128x128 .f32)

/-- Every token's query in every head, in two halves. -/
def queries : FVec Ideal S32768x8x2x128 .f32 :=
  shapeCast _ (Host.dotGeneral dot_S32768x1024_S1024x2048_S32768x2048_1_0_0_1_n_n none x w) shapeCasts_S32768x2048_S32768x8x2x128

theorem queries_at (n : Fin 32768) (e : Fin 8) (p : Fin 2) (d : Fin 128) :
    queries x w (ix4 n e p d) = ∑ c : Fin 1024, x (ix2 n c) * w (ix2 c ⟨e.val * 256 + p.val * 128 + d.val, by omega⟩) := by
  unfold queries
  refine (shapeCast_apply _ shapeCasts_S32768x2048_S32768x8x2x128 _ (ix2 (n0 := 32768) (n1 := 2048) n ⟨e.val * 256 + p.val * 128 + d.val, by omega⟩) ?_).trans ?_
  · rw [Shape.rowMajor_val_two, Shape.rowMajor_val_four]
    show n.val * 2048 + (e.val * 256 + p.val * 128 + d.val) = ((n.val * 8 + e.val) * 2 + p.val) * 128 + d.val
    omega
  · pointwise []

/-- Every score. -/
def scores : FVec Ideal S32768x8x2x128 .f32 :=
  transpose S32768x8x2x128 [3, 0, 1, 2] (Host.dotGeneral dot_S8x2x128x128_S32768x8x2x128_S8x2x128x32768_3_3_2_0_01_12 none k (queries x w))
    transposes_S8x2x128x32768_S32768x8x2x128_3_0_1_2

theorem scores_at (n : Fin 32768) (e : Fin 8) (p : Fin 2) (j : Fin 128) : scores x w k (ix4 n e p j) = Peer.score x w k n e p j := by
  have h := fun d => queries_at x w n e p d
  unfold scores Peer.score
  simp only [← h]
  generalize queries x w = y
  pointwise []

end

/-- Sixteen by sixteen laid out as 256, at an index. -/
theorem flat_at {α : Type} (y : S32768x8x16x16.Idx → α) (n : Fin 32768) (e : Fin 8) (q : Fin 256) :
    shapeCast S32768x8x256 y shapeCasts_S32768x8x16x16_S32768x8x256 (ix3 n e q) = y (ix4 n e ⟨q.val / 16, by omega⟩ ⟨q.val % 16, by omega⟩) := by
  refine shapeCast_apply _ shapeCasts_S32768x8x16x16_S32768x8x256 _ (ix4 (n0 := 32768) (n1 := 8) (n2 := 16) (n3 := 16) n e ⟨q.val / 16, by omega⟩ ⟨q.val % 16, by omega⟩) ?_
  rw [Shape.rowMajor_val_three, Shape.rowMajor_val_four]
  show ((n.val * 8 + e.val) * 16 + q.val / 16) * 16 + q.val % 16 = (n.val * 8 + e.val) * 256 + q.val
  omega

/-- All the sums of a first and a second value. -/
def pairSums (y : FVec Ideal S32768x8x2x16 .f32) : FVec Ideal S32768x8x256 .f32 :=
  shapeCast _ (addf
    (broadcastInDim S32768x8x16x16 ![0, 1, 2, 3] bcast_S32768x8x16x1_S32768x8x16x16_0_1_2_3 (broadcastInDim S32768x8x16x1 ![0, 1, 2] bcast_S32768x8x16_S32768x8x16x1_0_1_2
      (shapeCast _ (extractStridedSlice S32768x8x1x16 ![0, 0, 0, 0] y slices_S32768x8x2x16_S32768x8x1x16_0_0_0_0) shapeCasts_S32768x8x1x16_S32768x8x16)))
    (broadcastInDim S32768x8x16x16 ![0, 1, 2, 3] bcast_S32768x8x1x16_S32768x8x16x16_0_1_2_3 (broadcastInDim S32768x8x1x16 ![0, 1, 3] bcast_S32768x8x16_S32768x8x1x16_0_1_3
      (shapeCast _ (extractStridedSlice S32768x8x1x16 ![0, 0, 1, 0] y slices_S32768x8x2x16_S32768x8x1x16_0_0_1_0) shapeCasts_S32768x8x1x16_S32768x8x16))))
    shapeCasts_S32768x8x16x16_S32768x8x256

theorem pairSums_at (y : FVec Ideal S32768x8x2x16 .f32) (n : Fin 32768) (e : Fin 8) (q : Fin 256) :
    pairSums y (ix3 n e q) = y (ix4 n e 0 ⟨q.val / 16, by omega⟩) + y (ix4 n e 1 ⟨q.val % 16, by omega⟩) := by
  unfold pairSums
  refine (flat_at _ n e q).trans ?_
  pointwise []

/-- The expert of each sum. -/
def words (y : IVec S32768x8x2x16 32) : IVec S32768x8x256 32 :=
  shapeCast _ (addi
    (broadcastInDim S32768x8x16x16 ![0, 1, 2, 3] bcast_S32768x8x16x1_S32768x8x16x16_0_1_2_3 (muli (broadcastInDim S32768x8x16x1 ![0, 1, 2] bcast_S32768x8x16_S32768x8x16x1_0_1_2
      (shapeCast _ (extractStridedSlice S32768x8x1x16 ![0, 0, 0, 0] y slices_S32768x8x2x16_S32768x8x1x16_0_0_0_0) shapeCasts_S32768x8x1x16_S32768x8x16))
      (broadcastInDim S32768x8x16x1 ![] bcast_S_S32768x8x16x1 (constantI S_ 32 128#32))))
    (broadcastInDim S32768x8x16x16 ![0, 1, 2, 3] bcast_S32768x8x1x16_S32768x8x16x16_0_1_2_3 (broadcastInDim S32768x8x1x16 ![0, 1, 3] bcast_S32768x8x16_S32768x8x1x16_0_1_3
      (shapeCast _ (extractStridedSlice S32768x8x1x16 ![0, 0, 1, 0] y slices_S32768x8x2x16_S32768x8x1x16_0_0_1_0) shapeCasts_S32768x8x1x16_S32768x8x16))))
    shapeCasts_S32768x8x16x16_S32768x8x256

theorem words_at (y : IVec S32768x8x2x16 32) (n : Fin 32768) (e : Fin 8) (q : Fin 256) :
    words y (ix3 n e q) = y (ix4 n e 0 ⟨q.val / 16, by omega⟩) * 128#32 + y (ix4 n e 1 ⟨q.val % 16, by omega⟩) := by
  unfold words
  refine (flat_at _ n e q).trans ?_
  pointwise []
  rfl

/-- The positions, a negative one counted from the end. -/
def wrapped (t : IVec S32768x8x16 32) : IVec S32768x8x16x1 32 :=
  shapeCast _ (select (cmpi .slt t (broadcastInDim S32768x8x16 ![] bcast_S_S32768x8x16 (constantI S_ 32 0#32)))
    (addi t (broadcastInDim S32768x8x16 ![] bcast_S_S32768x8x16 (constantI S_ 32 256#32))) t) shapeCasts_S32768x8x16_S32768x8x16x1

theorem wrapped_at (t : IVec S32768x8x16 32) (n : Fin 32768) (e : Fin 8) (i : Fin 16) (P : Fin 256) (h : t (ix3 n e i) = BitVec.ofNat 32 P.val) :
    wrapped t (ix4 n e i 0) = BitVec.ofNat 32 P.val := by
  unfold wrapped
  refine (shapeCast_apply _ shapeCasts_S32768x8x16_S32768x8x16x1 _ (ix3 (n0 := 32768) (n1 := 8) (n2 := 16) n e i) ?_).trans ?_
  · rw [Shape.rowMajor_val_three, Shape.rowMajor_val_four]
    show (n.val * 8 + e.val) * 16 + i.val = ((n.val * 8 + e.val) * 16 + i.val) * 1 + 0
    omega
  · show Scalar.select (IntOp.cmpi .slt (t (ix3 n e i)) 0#32) (IntOp.addi (t (ix3 n e i)) 256#32) (t (ix3 n e i)) = _
    rw [h]
    have hc : ∀ Q : Fin 256, IntOp.cmpi .slt (BitVec.ofNat 32 Q.val) 0#32 = 0#1 := by decide +kernel
    rw [hc]
    rfl

/-- The words at the positions. -/
def taken (y : IVec S32768x8x256 32) (t : IVec S32768x8x16 32) : IVec S32768x8x16 32 :=
  select (Host.reduce IntOp.andi (andi (cmpi .sge (wrapped t) (broadcastInDim S32768x8x16x1 ![] bcast_S_S32768x8x16x1 (constantI S_ 32 0#32)))
      (cmpi .sle (wrapped t) (broadcastInDim S32768x8x16x1 ![0, 1, 2, 3] bcast_S1x1x1x1_S32768x8x16x1_0_1_2_3 (broadcastInDim S1x1x1x1 ![3] bcast_S1_S1x1x1x1_3 (constantI S1 32 255#32)))))
      (constantI S_ 1 1#1) reducesTo_S32768x8x16x1_S32768x8x16_d3 h_S_)
    (Host.gather gather_S32768x8x256_S32768x8x16x1_S32768x8x16_n_2_01_01_2_3_111 y (wrapped t))
    (broadcastInDim S32768x8x16 ![] bcast_S_S32768x8x16 (constantI S_ 32 2147483648#32))

theorem taken_at (y : IVec S32768x8x256 32) (t : IVec S32768x8x16 32)
    (P : Fin 32768 → Fin 8 → Fin 16 → Fin 256) (h : ∀ n e i, t (ix3 n e i) = BitVec.ofNat 32 (P n e i).val) (n : Fin 32768) (e : Fin 8) (i : Fin 16) :
    taken y t (ix3 n e i) = y (ix3 n e (P n e i)) := by
  have hw := fun n e i => wrapped_at t n e i _ (h n e i)
  have hr : Host.reduce IntOp.andi (andi (cmpi .sge (wrapped t) (broadcastInDim S32768x8x16x1 ![] bcast_S_S32768x8x16x1 (constantI S_ 32 0#32)))
      (cmpi .sle (wrapped t) (broadcastInDim S32768x8x16x1 ![0, 1, 2, 3] bcast_S1x1x1x1_S32768x8x16x1_0_1_2_3 (broadcastInDim S1x1x1x1 ![3] bcast_S1_S1x1x1x1_3 (constantI S1 32 255#32)))))
      (constantI S_ 1 1#1) reducesTo_S32768x8x16x1_S32768x8x16_d3 h_S_ (ix3 n e i) = 1#1 := by
    refine Host.reduce_andi_one _ _ _ _ _ rfl fun z => ?_
    have ez : z = ix4 (n0 := 32768) (n1 := 8) (n2 := 16) (n3 := 1) (z 0) (z 1) (z 2) 0 := by
      funext d
      match d with
      | ⟨0, _⟩ => rfl
      | ⟨1, _⟩ => rfl
      | ⟨2, _⟩ => rfl
      | ⟨3, _⟩ => exact Subsingleton.elim (α := Fin 1) _ _
    have hz : wrapped t z = BitVec.ofNat 32 (P (z 0) (z 1) (z 2)).val := (congrArg (wrapped t) ez).trans (hw (z 0) (z 1) (z 2))
    show IntOp.andi (IntOp.cmpi .sge (wrapped t z) 0#32) (IntOp.cmpi .sle (wrapped t z) 255#32) = 1#1
    rw [hz]
    generalize P (z 0) (z 1) (z 2) = Q
    revert Q
    decide +kernel
  have hg := Peer.gather_along (by decide) gather_S32768x8x256_S32768x8x16x1_S32768x8x16_n_2_01_01_2_3_111.wf y (wrapped t) n e i
  unfold taken
  show Scalar.select (Host.reduce IntOp.andi _ _ reducesTo_S32768x8x16x1_S32768x8x16_d3 h_S_ (ix3 n e i)) _ _ = _
  rw [hr]
  refine (show _ = Host.gather _ y (wrapped t) (ix3 n e i) from rfl).trans (hg.trans (congrArg (fun z => y (ix3 n e z)) (Fin.ext ?_)))
  show min (wrapped t (ix4 n e i 0)).toInt.toNat 255 = (P n e i).val
  rw [hw, Peer.toInt_small _ (by omega), Int.toNat_natCast]
  omega

/-- The exponentials of the sums less their token's greatest. -/
def exps (y : FVec Ideal S32768x8x16 .f32) : FVec Ideal S32768x8x16 .f32 :=
  Host.exp (subf y (broadcastInDim S32768x8x16 ![0, 1, 2] bcast_S32768x8x1_S32768x8x16_0_1_2 (broadcastInDim S32768x8x1 ![0, 1] bcast_S32768x8_S32768x8x1_0_1
    (maximumf (broadcastInDim S32768x8 ![] bcast_S_S32768x8 (constant S_ .f32 0xFF800000#32))
      (Host.reduce FloatOps.maximumf y (constant S_ .f32 0xFF800000#32) reducesTo_S32768x8x16_S32768x8_d2 h_S_)))))

/-- The softmax of the sums. -/
def gates (y : FVec Ideal S32768x8x16 .f32) : FVec Ideal S32768x8x16 .f32 :=
  Host.divf (exps y) (broadcastInDim S32768x8x16 ![0, 1, 2] bcast_S32768x8x1_S32768x8x16_0_1_2 (broadcastInDim S32768x8x1 ![0, 1] bcast_S32768x8_S32768x8x1_0_1
    (Host.reduceAdd (exps y) (constant S_ .f32 0x00000000#32) reducesTo_S32768x8x16_S32768x8_d2 h_S_)))

theorem max_at (y : FVec Ideal S32768x8x16 .f32) (n : Fin 32768) (e : Fin 8) (h : ∀ i, y (ix3 n e i) ≤ y (ix3 n e 0)) :
    Host.reduce FloatOps.maximumf y (constant (F := Ideal) S_ .f32 0xFF800000#32) reducesTo_S32768x8x16_S32768x8_d2 h_S_ (ix2 n e) = y (ix3 n e 0) := by
  have hr : S32768x8x16.Reduces [2] S32768x8 := by decide
  refine (congrFun (hostReduce_maximumf_eq_multiReduction y _ reducesTo_S32768x8x16_S32768x8_d2 h_S_ hr (.inl rfl) rfl) (ix2 n e)).trans ?_
  refine (Ideal.multiReduction_maximumf_single y _ hr (.inl rfl) rfl (ix2 n e)).trans ?_
  refine (show _ = (Finset.univ : Finset (Fin 16)).fold max (FloatOps.ofBits (F := Ideal) .f32 0xFF800000#32) fun i => y (ix3 n e i) from
    Finset.fold_congr fun i _ => congrArg y (by funext a; fin_cases a <;> rfl)).trans ?_
  refine (Peer.fold_max _ Peer.ofBits_ninf _).trans (le_antisymm (h _) ((Peer.first_spec fun i => y (ix3 n e i)).1 0))

theorem spread_at (u : FVec Ideal S32768x8 .f32) (n : Fin 32768) (e : Fin 8) (i : Fin 16) :
    broadcastInDim S32768x8x16 ![0, 1, 2] bcast_S32768x8x1_S32768x8x16_0_1_2 (broadcastInDim S32768x8x1 ![0, 1] bcast_S32768x8_S32768x8x1_0_1
      (maximumf (broadcastInDim S32768x8 ![] bcast_S_S32768x8 (constant S_ .f32 0xFF800000#32)) u)) (ix3 n e i)
      = max (FloatOps.ofBits (F := Ideal) .f32 0xFF800000#32) (u (ix2 n e)) := by
  pointwise []

theorem rowmax_at (y : FVec Ideal S32768x8x16 .f32) (n : Fin 32768) (e : Fin 8) (h : ∀ i, y (ix3 n e i) ≤ y (ix3 n e 0)) (i : Fin 16) :
    broadcastInDim S32768x8x16 ![0, 1, 2] bcast_S32768x8x1_S32768x8x16_0_1_2 (broadcastInDim S32768x8x1 ![0, 1] bcast_S32768x8_S32768x8x1_0_1
      (maximumf (broadcastInDim S32768x8 ![] bcast_S_S32768x8 (constant S_ .f32 0xFF800000#32))
        (Host.reduce FloatOps.maximumf y (constant (F := Ideal) S_ .f32 0xFF800000#32) reducesTo_S32768x8x16_S32768x8_d2 h_S_))) (ix3 n e i)
      = y (ix3 n e 0) := by
  have hb : FloatOps.ofBits (F := Ideal) .f32 0xFF800000#32 = (⊥ : EReal) := Peer.ofBits_ninf
  rw [spread_at, max_at y n e h, hb]
  exact max_eq_right bot_le

theorem rowsum_at (y : FVec Ideal S32768x8x16 .f32) (n : Fin 32768) (e : Fin 8) (i : Fin 16) :
    broadcastInDim S32768x8x16 ![0, 1, 2] bcast_S32768x8x1_S32768x8x16_0_1_2 (broadcastInDim S32768x8x1 ![0, 1] bcast_S32768x8_S32768x8x1_0_1
      (Host.reduceAdd y (constant (F := Ideal) S_ .f32 0x00000000#32) reducesTo_S32768x8x16_S32768x8_d2 h_S_)) (ix3 n e i)
      = 0 + ∑ j : Fin 16, y (ix3 n e j) := by
  pointwise []

theorem exps_at (y : FVec Ideal S32768x8x16 .f32) (n : Fin 32768) (e : Fin 8) (h : ∀ i, y (ix3 n e i) ≤ y (ix3 n e 0)) (i : Fin 16) :
    exps y (ix3 n e i) = Ideal.exp (y (ix3 n e i) - y (ix3 n e 0)) :=
  congrArg (fun z : EReal => Ideal.exp (y (ix3 n e i) - z)) (rowmax_at y n e h i)

/-- A quotient of two arrays, at an index. -/
theorem quot_at (x y : FVec Ideal S32768x8x16 .f32) (i : S32768x8x16.Idx) : Host.divf x y i = Ideal.div (x i) (y i) := rfl

theorem gates_at (y : FVec Ideal S32768x8x16 .f32) (n : Fin 32768) (e : Fin 8) (h : ∀ i, y (ix3 n e i) ≤ y (ix3 n e 0)) (i : Fin 16) :
    gates y (ix3 n e i) = Ideal.div (Ideal.exp (y (ix3 n e i) - y (ix3 n e 0))) (∑ j : Fin 16, Ideal.exp (y (ix3 n e j) - y (ix3 n e 0))) :=
  (quot_at _ _ _).trans (congrArg₂ Ideal.div (exps_at y n e h i) ((rowsum_at (exps y) n e i).trans ((zero_add _).trans
    (Finset.sum_congr rfl fun j _ => exps_at y n e h j))))

end Cert.PeerReferenceIdeal.Peer

end
-- ==== Proof.Peer.RefOut.lean ====
/- The plain routing's two results. -/
module

public import proofs.«01_k».proof.Proof.Peer.Ref

@[expose] public section

set_option maxRecDepth 16384

noncomputable section

namespace Cert.PeerReferenceIdeal.Peer

open Cert.PeerReferenceIdeal Cert.PeerReferenceIdeal.Gen Idealize.ShloMosaic Idealize.ShloMosaic.TcCoe Idealize.ShloMosaic.Tactic Idealize.SL.Sem

variable (x : FVec Ideal S32768x1024 .f32) (w : FVec Ideal S1024x2048 .f32) (k : FVec Ideal S8x2x128x128 .f32)

/-- The experts, by head, round and token. -/
def expertsOut : IVec S8x16x32768 32 := fun y =>
  Peer.expert (Peer.score x w k (y 2) (y 0) 0) (Peer.score x w k (y 2) (y 0) 1) (y 1).val

/-- The gates, by head, round and token. -/
def gatesOut : FVec Ideal S8x16x32768 .f32 := fun y =>
  Peer.gate (Peer.score x w k (y 2) (y 0) 0) (Peer.score x w k (y 2) (y 0) 1) (y 1).val

/-- The sixteen greatest scores under each half's keys, and their positions. -/
def best : FVec Ideal S32768x8x2x16 .f32 × IVec S32768x8x2x16 32 :=
  Host.topK S32768x8x2x16 3 (FloatOps.cmpfTotal (F := Ideal) .gt) (scores x w k) sliceFits_S32768x8x2x128_S32768x8x2x16

/-- The sixteen greatest sums, and their positions. -/
def final : FVec Ideal S32768x8x16 .f32 × IVec S32768x8x16 32 :=
  Host.topK S32768x8x16 2 (FloatOps.cmpfTotal (F := Ideal) .gt) (pairSums (best x w k).1) sliceFits_S32768x8x256_S32768x8x16

variable (hs : ∀ n e p j, ⊥ < Peer.score x w k n e p j)

include hs in
theorem best_at (n : Fin 32768) (e : Fin 8) (p : Fin 2) (i : Fin 16) :
    (best x w k).1 (ix4 n e p i) = Peer.score x w k n e p (Peer.pick (Peer.score x w k n e p) i)
      ∧ (best x w k).2 (ix4 n e p i) = BitVec.ofNat 32 (Peer.pick (Peer.score x w k n e p) i).val := by
  have h := Peer.topK4 (scores x w k) sliceFits_S32768x8x2x128_S32768x8x2x16 (by decide) n e p i
  have e1 : (fun j => scores x w k (ix4 n e p j)) = Peer.score x w k n e p := funext fun j => scores_at x w k n e p j
  have e2 : Peer.ord (Peer.score x w k n e p) (i.castLE (by decide)) = Peer.pick (Peer.score x w k n e p) i :=
    Peer.sorted_pick (hs n e p) (by decide) i
  rw [e1, e2, scores_at] at h
  exact h

include hs in
theorem sums_eq (n : Fin 32768) (e : Fin 8) :
    (fun q => pairSums (best x w k).1 (ix3 n e q)) = Peer.sums (Peer.score x w k n e 0) (Peer.score x w k n e 1) := by
  funext q
  rw [pairSums_at, (best_at x w k hs n e 0 _).1, (best_at x w k hs n e 1 _).1]
  rfl

include hs in
theorem words_eq (n : Fin 32768) (e : Fin 8) (q : Fin 256) :
    words (best x w k).2 (ix3 n e q) = Peer.experts (Peer.score x w k n e 0) (Peer.score x w k n e 1) q := by
  rw [words_at, (best_at x w k hs n e 0 _).2, (best_at x w k hs n e 1 _).2]
  rfl

include hs in
theorem final_at (n : Fin 32768) (e : Fin 8) (i : Fin 16) :
    (final x w k).1 (ix3 n e i) = Peer.sums (Peer.score x w k n e 0) (Peer.score x w k n e 1) (Peer.place (Peer.score x w k n e 0) (Peer.score x w k n e 1) i)
      ∧ (final x w k).2 (ix3 n e i) = BitVec.ofNat 32 (Peer.place (Peer.score x w k n e 0) (Peer.score x w k n e 1) i).val := by
  have h := Peer.topK3 (pairSums (best x w k).1) sliceFits_S32768x8x256_S32768x8x16 (by decide) n e i
  have e2 := Peer.ord_sums (hs n e 0) (hs n e 1) i (by decide)
  rw [sums_eq x w k hs n e, e2] at h
  exact ⟨h.1.trans (congrFun (sums_eq x w k hs n e) _), h.2⟩

include hs in
theorem experts_eq : transpose S8x16x32768 [1, 2, 0] (taken (words (best x w k).2) (final x w k).2) transposes_S32768x8x16_S8x16x32768_1_2_0
    = expertsOut x w k := by
  funext y
  have h := taken_at (words (best x w k).2) (final x w k).2 (fun n e i => Peer.place (Peer.score x w k n e 0) (Peer.score x w k n e 1) i)
    (fun n e i => (final_at x w k hs n e i).2) (y 2) (y 0) (y 1)
  refine Eq.trans (congrArg (taken (words (best x w k).2) (final x w k).2) ?_) (h.trans (words_eq x w k hs _ _ _))
  funext d
  fin_cases d <;> rfl

include hs in
theorem gate_at (n : Fin 32768) (e : Fin 8) (i : Fin 16) :
    gates (final x w k).1 (ix3 n e i) = Peer.gate (Peer.score x w k n e 0) (Peer.score x w k n e 1) i := by
  have hf := fun i => (final_at x w k hs n e i).1
  refine (gates_at (final x w k).1 n e (fun i => ?_) i).trans ?_
  · rw [hf, hf]
    exact Peer.place_le (hs _ _ 0) (hs _ _ 1) i
  · simp only [hf]
    rfl

include hs in
theorem gates_eq : transpose S8x16x32768 [1, 2, 0] (gates (final x w k).1) transposes_S32768x8x16_S8x16x32768_1_2_0 = gatesOut x w k := by
  funext y
  refine Eq.trans (congrArg (gates (final x w k).1) ?_) (gate_at x w k hs (y 2) (y 0) (y 1))
  funext d
  fin_cases d <;> rfl

variable (m : (ℓ : Loc nD τ sig) → Buf (Elt Ideal) ℓ) (c : Dev nD)

theorem res0 : Value.res_main_v38 (F := Ideal) m c = transpose S8x16x32768 [1, 2, 0] (taken
      (words (best (m ((c.tc : Thread nD τ).loc main_arg0)) (m ((c.tc : Thread nD τ).loc main_arg1)) (m ((c.tc : Thread nD τ).loc main_arg2))).2)
      (final (m ((c.tc : Thread nD τ).loc main_arg0)) (m ((c.tc : Thread nD τ).loc main_arg1)) (m ((c.tc : Thread nD τ).loc main_arg2))).2)
      transposes_S32768x8x16_S8x16x32768_1_2_0 := by
  unfold Value.res_main_v38 taken wrapped words final best pairSums scores queries
  rfl

theorem res1 : Value.res_main_v39 (F := Ideal) m c = transpose S8x16x32768 [1, 2, 0] (gates
      (final (m ((c.tc : Thread nD τ).loc main_arg0)) (m ((c.tc : Thread nD τ).loc main_arg1)) (m ((c.tc : Thread nD τ).loc main_arg2))).1)
      transposes_S32768x8x16_S8x16x32768_1_2_0 := by
  unfold Value.res_main_v39 gates exps final best pairSums scores queries
  rfl

end Cert.PeerReferenceIdeal.Peer

end
-- ==== Proof.Peer.Final.lean ====
/- The arrays the routing leaves. -/
module

public import proofs.«01_k».proof.Proof.Peer.Body
public import proofs.«01_k».proof.Proof.Peer.RefOut
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.PeerKernelIdeal.Peer

open Cert.PeerKernelIdeal Cert.PeerKernelIdeal.Gen Idealize.ShloMosaic Idealize.ShloMosaic.TcCoe Idealize.ShloMosaic.Tactic Idealize.SL.Sem

variable (m : (ℓ : Loc nD τ sig) → Buf (Elt Ideal) ℓ)

/-- The host code narrows the weights: every element is itself. -/
theorem entry_w (c : Dev nD) (i : Fin 1024) (j : Fin 2048) :
    (show EReal from V m c main_v0 (ix2 i j)) = (show EReal from m ((c.tc : Thread nD τ).loc main_arg1) (ix2 i j)) := by
  unfold V
  simp only [hostOps0, List.flatten_cons, List.flatten_nil, List.append_nil, List.cons_append, List.nil_append]
  after_results
  rfl

/-- The host code narrows the keys: every element is itself. -/
theorem entry_k (c : Dev nD) (e : Fin 8) (p : Fin 2) (j d : Fin 128) :
    (show EReal from V m c main_v1 (ix4 e p j d)) = (show EReal from m ((c.tc : Thread nD τ).loc main_arg2) (ix4 e p j d)) := by
  unfold V
  simp only [hostOps0, List.flatten_cons, List.flatten_nil, List.append_nil, List.cons_append, List.nil_append]
  after_results
  rfl

/-- Every window's block index, by the point. -/
theorem idx : ∀ t : Fin cfg0.N, t.val < 256 ∧ win0_0.index t = ![t.val / 8, 0] ∧ win0_1.index t = ![0, t.val % 8]
    ∧ win0_2.index t = ![t.val % 8, 0, 0, 0] ∧ win0_3.index t = ![t.val % 8, 0, t.val / 8] ∧ win0_4.index t = ![t.val % 8, 0, t.val / 8] :=
  (by decide +kernel : ∀ t : Fin grid0.N, _)

/-- The token of a point's column. -/
def tok (t : Fin cfg0.N) (r : Fin 1024) : Fin 32768 := ⟨t.val / 8 * 1024 + r.val, by have := (idx t).1; omega⟩

/-- A point's head. -/
def head (t : Fin cfg0.N) : Fin 8 := ⟨t.val % 8, Nat.mod_lt _ (by decide)⟩

theorem block0 (c : Dev nD) (t : Fin cfg0.N) (r k : Fin 1024) : iblk m c 0 t (ix2 (n0 := 1024) (n1 := 1024) r k) = V m c main_arg0 (ix2 (tok t r) k) :=
  congrArg (V m c main_arg0) (by
    funext a
    fin_cases a
    · exact Fin.ext (show (((win0_0.blk t).view.emb (ix2 (n0 := 1024) (n1 := 1024) r k)) 0 : ℕ) = t.val / 8 * 1024 + r.val by blk_simp [idx t])
    · exact Fin.ext (show (((win0_0.blk t).view.emb (ix2 (n0 := 1024) (n1 := 1024) r k)) 1 : ℕ) = k.val by blk_simp [idx t]))

theorem block1 (c : Dev nD) (t : Fin cfg0.N) (i : Fin 1024) (j : Fin 256) :
    iblk m c 1 t (ix2 (n0 := 1024) (n1 := 256) i j) = V m c main_v0 (ix2 i ⟨(head t).val * 256 + j.val, by omega⟩) :=
  congrArg (V m c main_v0) (by
    funext a
    fin_cases a
    · exact Fin.ext (show (((win0_1.blk t).view.emb (ix2 (n0 := 1024) (n1 := 256) i j)) 0 : ℕ) = i.val by blk_simp [idx t])
    · exact Fin.ext (show (((win0_1.blk t).view.emb (ix2 (n0 := 1024) (n1 := 256) i j)) 1 : ℕ) = t.val % 8 * 256 + j.val by blk_simp [idx t]))

theorem block2 (c : Dev nD) (t : Fin cfg0.N) (p : Fin 2) (j d : Fin 128) :
    iblk m c 2 t (ix4 (n0 := 1) (n1 := 2) (n2 := 128) (n3 := 128) 0 p j d) = V m c main_v1 (ix4 (head t) p j d) :=
  congrArg (V m c main_v1) (by
    funext a
    fin_cases a
    · exact Fin.ext (show (((win0_2.blk t).view.emb (ix4 (n0 := 1) (n1 := 2) (n2 := 128) (n3 := 128) 0 p j d)) 0 : ℕ) = t.val % 8 by blk_simp [idx t]; rfl)
    · exact Fin.ext (show (((win0_2.blk t).view.emb (ix4 (n0 := 1) (n1 := 2) (n2 := 128) (n3 := 128) 0 p j d)) 1 : ℕ) = p.val by blk_simp [idx t])
    · exact Fin.ext (show (((win0_2.blk t).view.emb (ix4 (n0 := 1) (n1 := 2) (n2 := 128) (n3 := 128) 0 p j d)) 2 : ℕ) = j.val by blk_simp [idx t])
    · exact Fin.ext (show (((win0_2.blk t).view.emb (ix4 (n0 := 1) (n1 := 2) (n2 := 128) (n3 := 128) 0 p j d)) 3 : ℕ) = d.val by blk_simp [idx t]))

/-- The scores, from the arguments. -/
def kscore (c : Dev nD) : Fin 32768 → Fin 8 → Fin 2 → Fin 128 → EReal :=
  Peer.score (m ((c.tc : Thread nD τ).loc main_arg0)) (m ((c.tc : Thread nD τ).loc main_arg1)) (m ((c.tc : Thread nD τ).loc main_arg2))

/-- A point's score is its token's in its head. -/
theorem bscore_eq (c : Dev nD) (t : Fin cfg0.N) (p : Fin 2) (j : Fin 128) (r : Fin 1024) :
    bscore (iblk m c 0 t) (iblk m c 1 t) (iblk m c 2 t) p j r = kscore m c (tok t r) (head t) p j := by
  have e0 := fun k => (block0 m c t r k).trans (congrFun (V_main_arg0 m c) (ix2 (tok t r) k))
  have e1 := fun i j => (block1 m c t i j).trans (entry_w m c i _)
  have e2 := fun d => (block2 m c t p j d).trans (entry_k m c (head t) p j d)
  unfold bscore kscore Peer.score
  refine Finset.sum_congr rfl fun d _ => congrArg₂ (fun u v : EReal => u * v) (e2 d) (Finset.sum_congr rfl fun i _ =>
    congrArg₂ (fun u v : EReal => u * v) (e0 i) ((e1 i _).trans (congrArg (fun z => m ((c.tc : Thread nD τ).loc main_arg1) (ix2 i z)) (Fin.ext ?_))))
  show (head t).val * 256 + (p.val * 128 + d.val) = (head t).val * 256 + p.val * 128 + d.val
  omega

/-- The experts, from the arguments. -/
def G3 (c : Dev nD) : IVec S8x16x32768 32 :=
  Cert.PeerReferenceIdeal.Peer.expertsOut (m ((c.tc : Thread nD τ).loc main_arg0)) (m ((c.tc : Thread nD τ).loc main_arg1)) (m ((c.tc : Thread nD τ).loc main_arg2))

/-- The gates, from the arguments. -/
def G4 (c : Dev nD) : FVec Ideal S8x16x32768 .f32 :=
  Cert.PeerReferenceIdeal.Peer.gatesOut (m ((c.tc : Thread nD τ).loc main_arg0)) (m ((c.tc : Thread nD τ).loc main_arg1)) (m ((c.tc : Thread nD τ).loc main_arg2))

variable (hs : ∀ c n e p j, ⊥ < kscore m c n e p j)

/-- An index of a point's block, and its place. -/
theorem place3 (y : S1x16x1024.Idx) : y = ix3 (n0 := 1) (n1 := 16) (n2 := 1024) 0 (y 1) (y 2) := by
  funext d
  match d with
  | ⟨0, _⟩ => exact Subsingleton.elim (α := Fin 1) _ _
  | ⟨1, _⟩ => rfl
  | ⟨2, _⟩ => rfl

theorem stack_at {α : Type} (X : S16x1024.Idx → α) (i : Fin 16) (t : Fin 1024) :
    shapeCast S1x16x1024 X shapeCasts_S16x1024_S1x16x1024 (ix3 0 i t) = X (ix2 i t) := by
  refine shapeCast_apply _ shapeCasts_S16x1024_S1x16x1024 _ (ix2 (n0 := 16) (n1 := 1024) i t) ?_
  rw [Shape.rowMajor_val_two, Shape.rowMajor_val_three]
  show i.val * 1024 + t.val = (0 * 16 + i.val) * 1024 + t.val
  omega

theorem bscore_row (c : Dev nD) (t : Fin cfg0.N) (p : Fin 2) (r : Fin 1024) :
    (fun j => bscore (iblk m c 0 t) (iblk m c 1 t) (iblk m c 2 t) p j r) = kscore m c (tok t r) (head t) p :=
  funext fun j => bscore_eq m c t p j r

include hs in
theorem piece3 (c : Dev nD) (t : Fin cfg0.N) (y : S1x16x1024.Idx) (z : S8x16x32768.Idx) (E0 : ((z 0).val : ℕ) = t.val % 8 + (y 0).val)
    (E1 : ((z 1).val : ℕ) = (y 1).val) (E2 : ((z 2).val : ℕ) = t.val / 8 * 1024 + (y 2).val) :
    shapeCast S1x16x1024 (rows fun r => wdV (k0_pay226 (iblk m c 0 t) (iblk m c 1 t) (iblk m c 2 t)) (rnV' (k0_pay225 (iblk m c 0 t) (iblk m c 1 t) (iblk m c 2 t)) r)) shapeCasts_S16x1024_S1x16x1024 y = G3 m c z := by
  have Y0 : (y 0).val < 1 := (y 0).isLt
  have z0 : z 0 = head t := Fin.ext (E0.trans (show t.val % 8 + (y 0).val = t.val % 8 by omega))
  have z2 : z 2 = tok t (y 2) := Fin.ext E2
  have e := word_at (iblk m c 0 t) (iblk m c 1 t) (iblk m c 2 t) (y 2) (fun j => (bscore_eq m c t 0 j (y 2)).symm ▸ hs c _ _ _ _)
    (fun j => (bscore_eq m c t 1 j (y 2)).symm ▸ hs c _ _ _ _) (y 1)
  refine (congrArg _ (place3 y)).trans ((stack_at _ _ _).trans (e.trans ?_))
  refine (congrArg₂ (fun a b => Peer.expert a b (y 1).val) (bscore_row m c t 0 (y 2)) (bscore_row m c t 1 (y 2))).trans ?_
  show _ = Peer.expert (kscore m c (z 2) (z 0) 0) (kscore m c (z 2) (z 0) 1) (z 1).val
  rw [z0, z2, E1]

include hs in
theorem final3 (c : Dev nD) : (dats m 0 c).arrAt 3 cfg0.N = G3 m c := by
  refine (dats m 0 c).arrAt_eq_of_covers 3 _ (by decide +kernel) fun t hf y => ?_
  have E0 : (((win0_3.blk t).view.emb y) 0 : ℕ) = t.val % 8 + (y 0 : ℕ) := by blk_simp [idx t]
  have E1 : (((win0_3.blk t).view.emb y) 1 : ℕ) = (y 1 : ℕ) := by blk_simp [idx t]
  have E2 : (((win0_3.blk t).view.emb y) 2 : ℕ) = t.val / 8 * 1024 + (y 2 : ℕ) := by blk_simp [idx t]
  blk_simp
  rw [after0_3, out3, View.canon_cons_unit_lit _ _ _ (by decide)]
  exact piece3 m hs c t y _ E0 E1 E2

include hs in
theorem piece4 (c : Dev nD) (t : Fin cfg0.N) (y : S1x16x1024.Idx) (z : S8x16x32768.Idx) (E0 : ((z 0).val : ℕ) = t.val % 8 + (y 0).val)
    (E1 : ((z 1).val : ℕ) = (y 1).val) (E2 : ((z 2).val : ℕ) = t.val / 8 * 1024 + (y 2).val) :
    k0_pay1 (F := Ideal) (k0_pay239 (iblk m c 0 t) (iblk m c 1 t) (iblk m c 2 t)) (k0_pay189 (k0_pay239 (iblk m c 0 t) (iblk m c 1 t) (iblk m c 2 t))) y = G4 m c z := by
  have Y0 : (y 0).val < 1 := (y 0).isLt
  have z0 : z 0 = head t := Fin.ext (E0.trans (show t.val % 8 + (y 0).val = t.val % 8 by omega))
  have z2 : z 2 = tok t (y 2) := Fin.ext E2
  have e := gate_at (iblk m c 0 t) (iblk m c 1 t) (iblk m c 2 t) (y 2) (fun j => (bscore_eq m c t 0 j (y 2)).symm ▸ hs c _ _ _ _)
    (fun j => (bscore_eq m c t 1 j (y 2)).symm ▸ hs c _ _ _ _) (y 1)
  refine (congrArg _ (place3 y)).trans ((e.trans ?_))
  refine (congrArg₂ (fun a b => Peer.gate a b (y 1).val) (bscore_row m c t 0 (y 2)) (bscore_row m c t 1 (y 2))).trans ?_
  show _ = Peer.gate (kscore m c (z 2) (z 0) 0) (kscore m c (z 2) (z 0) 1) (z 1).val
  rw [z0, z2, E1]

include hs in
theorem final4 (c : Dev nD) : (dats m 0 c).arrAt 4 cfg0.N = G4 m c := by
  refine (dats m 0 c).arrAt_eq_of_covers 4 _ (by decide +kernel) fun t hf y => ?_
  have E0 : (((win0_4.blk t).view.emb y) 0 : ℕ) = t.val % 8 + (y 0 : ℕ) := by blk_simp [idx t]
  have E1 : (((win0_4.blk t).view.emb y) 1 : ℕ) = (y 1 : ℕ) := by blk_simp [idx t]
  have E2 : (((win0_4.blk t).view.emb y) 2 : ℕ) = t.val / 8 * 1024 + (y 2 : ℕ) := by blk_simp [idx t]
  blk_simp
  rw [after0_4, out0_4, View.canon_cons_unit_lit _ _ _ (by decide)]
  exact piece4 m hs c t y _ E0 E1 E2

end Cert.PeerKernelIdeal.Peer

end
-- ==== Proof.Peer.Claims.lean ====
/- The claims about the experts' routing. -/
module

public import proofs.«01_k».proof.Proof.Peer.Final
public import proofs.«01_k».proof.Proof.Att.Finite
public import proofs.«01_k».proof.Proof.Gen.PeerKernel.Frame
public import proofs.«01_k».proof.Proof.Gen.Pre_finite_scores_peer
public import proofs.«01_k».proof.Defs
public import Idealize.ShloMosaic.Lib.Claim
public import Idealize.ShloMosaic.Lib.ReduceAll

@[expose] public section

set_option maxRecDepth 16384

noncomputable section

namespace Cert.Routing

open Idealize.ShloMosaic Idealize.ShloMosaic.TcCoe Idealize.ShloMosaic.Tactic Idealize.SL.Sem

/-- The kernel's frame. -/
theorem frame_p : Cert.quiescent_PeerKernel := fun m g _ => Cert.PeerKernel.Gen.frame m g

/-- The idealized kernel's frame. -/
theorem frame_pi : Cert.quiescent_PeerKernelIdeal := fun m g _ => Cert.PeerKernelIdeal.Gen.frame m g

/-- The same from finite tokens, weights and sub-keys. -/
theorem frame_pi_pre : Cert.quiescent_PeerKernelIdeal_pre_finite_scores_peer := fun m g _ => Cert.PeerKernelIdeal.Gen.frame m g

/-- The reference's frame. -/
theorem frame_ri : Cert.quiescent_PeerReferenceIdeal := fun m g _ =>
  (θ_run Cert.PeerReferenceIdeal.defs _ _).mono (fun r h => ⟨fun c => by obtain ⟨_, _, e⟩ := h c; exact e,
      Idealize.ShloMosaic.sem_eq_zero_of_no_sems (by decide) r.2⟩)
    (Cert.PeerReferenceIdeal.Value.run (F := Ideal) m g)

/-- The same from finite tokens, weights and sub-keys. -/
theorem frame_ri_pre : Cert.quiescent_PeerReferenceIdeal_pre_finite_scores_peer := fun m g _ => frame_ri m g trivial

/-- No constant is named. -/
theorem preserves : Cert.preserves_PeerKernel_PeerKernelIdeal := trivial

/-- Under the precondition every score lies above minus infinity. -/
theorem above (x : FVec Ideal Pre_finite_scores_peer.S32768x1024 .f32) (w : FVec Ideal Pre_finite_scores_peer.S1024x2048 .f32)
    (k : FVec Ideal Pre_finite_scores_peer.S8x2x128x128 .f32) (h : Pre_finite_scores_peer.fn (F := Ideal) x w k = fun _ => 1#1)
    (n : Fin 32768) (e : Fin 8) (p : Fin 2) (j : Fin 128) : ⊥ < Peer.score x w k n e p j := by
  haveI : Subsingleton Pre_finite_scores_peer.S_.Idx := ⟨fun a b => funext fun d => d.elim0⟩
  have e := congrFun h (fun d => d.elim0)
  obtain ⟨e12, e3⟩ := IntOp.andi_eq_one.mp e
  obtain ⟨e1, e2⟩ := IntOp.andi_eq_one.mp e12
  exact Peer.score_pos x w k (fun i => Att.real_of_abs _ (Host.reduce_andi_all _ _ _ _ _ e1 i))
    (fun i => Att.real_of_abs _ (Host.reduce_andi_all _ _ _ _ _ e2 i))
    (fun i => Att.real_of_abs _ (Host.reduce_andi_all _ _ _ _ _ e3 i)) _ _ _ _

/-- On finite tokens, weights and sub-keys the kernel picks the reference's experts with the reference's gates. -/
theorem algebraic : Cert.algebraic_PeerKernelIdeal_PeerReferenceIdeal_pre_finite_scores_peer := by
  intro m g m' g' hpre hagree
  have hs : ∀ c n e p j, ⊥ < Cert.PeerKernelIdeal.Peer.kscore m c n e p j := fun c => above _ _ _ (hpre c)
  refine ⟨fun c => Cert.PeerKernelIdeal.Peer.G3 m c, fun c => Cert.PeerKernelIdeal.Peer.G4 m c, ?_, ?_⟩
  · refine (θ_run _ _ _).mono (fun r h c => ?_) (Cert.PeerKernelIdeal.Value.run_blocks (F := Ideal) m g)
    obtain ⟨h0, h1, e⟩ := h c
    exact ⟨h0.trans (Cert.PeerKernelIdeal.Peer.final3 m hs c), h1.trans (Cert.PeerKernelIdeal.Peer.final4 m hs c), e⟩
  · refine (θ_run _ _ _).mono (fun r h c => ?_) (Cert.PeerReferenceIdeal.Value.run (F := Ideal) m' g')
    obtain ⟨a0, a1, a2⟩ := hagree c
    obtain ⟨h0, h1, e⟩ := h c
    refine ⟨(h0.trans (Cert.PeerReferenceIdeal.Peer.res0 m' c)).trans ?_, (h1.trans (Cert.PeerReferenceIdeal.Peer.res1 m' c)).trans ?_, e⟩
    · rw [a0, a1, a2]
      exact Cert.PeerReferenceIdeal.Peer.experts_eq _ _ _ (hs c)
    · rw [a0, a1, a2]
      exact Cert.PeerReferenceIdeal.Peer.gates_eq _ _ _ (hs c)

end Cert.Routing

end
-- ==== Proof.Mla.Rot.lean ====
/- A token's normalised row and a head with its rotary columns. -/
module

public import Idealize.ShloMosaic.Lib.Claim
public import Idealize.ShloMosaic.Lib.Pointwise

@[expose] public section

set_option maxRecDepth 16384

noncomputable section

namespace Cert.Mla

open Idealize.ShloMosaic

/-- The number nought is nought. -/
theorem sitofp_zero (φ : FTy) : FloatOps.sitofp (F := Ideal) φ (0#32) = (0 : EReal) := by
  show (((0#32 : BitVec 32).toInt : ℝ) : EReal) = 0
  simp

/-- A row over its root mean square, times the weights. -/
def norm {n : ℕ} (N : EReal) (v g : Fin n → EReal) (k : Fin n) : EReal :=
  v k * Ideal.rsqrt (Ideal.div (∑ j, v j * v j) N + Ideal.ofBits .f32 0x358637BD#32) * g k

/-- Sixteen columns turned: column `i` and column `8 + i` by angle `i`, of cosine `c i` and sine `s i`. -/
def turn (x : Fin 16 → EReal) (c s : Fin 8 → EReal) (k : Fin 16) : EReal :=
  if h : k.val < 8 then x ⟨k.val, k.isLt⟩ * c ⟨k.val, h⟩ - x ⟨8 + k.val, by omega⟩ * s ⟨k.val, h⟩
  else x ⟨k.val - 8, by omega⟩ * s ⟨k.val - 8, by omega⟩ + x ⟨8 + (k.val - 8), by omega⟩ * c ⟨k.val - 8, by omega⟩

/-- Thirty-two rotary columns: the first half turned by the rows' angles, the second by the columns'. -/
def rot (x : Fin 32 → EReal) (cr sr cc sc : Fin 8 → EReal) (k : Fin 32) : EReal :=
  if h : k.val < 16 then turn (fun i => x ⟨i.val, by omega⟩) cr sr ⟨k.val, h⟩
  else turn (fun i => x ⟨16 + i.val, by omega⟩) cc sc ⟨k.val - 16, by omega⟩

/-- A head on 128 columns: 64 that aren't turned, 32 that are, and zeros. -/
def head (nope : Fin 64 → EReal) (x : Fin 32 → EReal) (cr sr cc sc : Fin 8 → EReal) (l : Fin 128) : EReal :=
  if h : l.val < 64 then nope ⟨l.val, h⟩ else if h' : l.val < 96 then rot x cr sr cc sc ⟨l.val - 64, by omega⟩ else 0

/-- The column a rotary column is turned with. -/
def partner (k : ℕ) : ℕ := if k < 8 then 8 + k else if k < 16 then k - 8 else if k < 24 then 8 + k else k - 8

theorem partner_lt (k : Fin 32) : partner k.val < 32 := by
  unfold partner
  split_ifs <;> omega

/-- The kernel's table of cosines, on a head's columns. -/
def cosines (cr cc : Fin 8 → EReal) (l : Fin 128) : EReal :=
  if h : l.val < 64 then 1 else if h1 : l.val < 72 then cr ⟨l.val - 64, by omega⟩ else if h2 : l.val < 80 then cr ⟨l.val - 72, by omega⟩
  else if h3 : l.val < 88 then cc ⟨l.val - 80, by omega⟩ else if h4 : l.val < 96 then cc ⟨l.val - 88, by omega⟩ else 0

/-- The kernel's table of sines: negated under the first column of each pair. -/
def sines (sr sc : Fin 8 → EReal) (l : Fin 128) : EReal :=
  if h : l.val < 64 then 0 else if h1 : l.val < 72 then -sr ⟨l.val - 64, by omega⟩ else if h2 : l.val < 80 then sr ⟨l.val - 72, by omega⟩
  else if h3 : l.val < 88 then -sc ⟨l.val - 80, by omega⟩ else if h4 : l.val < 96 then sc ⟨l.val - 88, by omega⟩ else 0

/-- A head's columns as they stand. -/
def own (nope : Fin 64 → EReal) (x : Fin 32 → EReal) (l : Fin 128) : EReal :=
  if h : l.val < 64 then nope ⟨l.val, h⟩ else if h' : l.val < 96 then x ⟨l.val - 64, by omega⟩ else 0

/-- Each rotary column's partner, in its place. -/
def other (x : Fin 32 → EReal) (l : Fin 128) : EReal :=
  if h : 64 ≤ l.val ∧ l.val < 96 then x ⟨partner (l.val - 64), partner_lt ⟨l.val - 64, by omega⟩⟩ else 0

/-- The kernel's turn by the two tables is the rotary embedding. -/
theorem turned (nope : Fin 64 → EReal) (x : Fin 32 → EReal) (cr sr cc sc : Fin 8 → EReal) (l : Fin 128) :
    own nope x l * cosines cr cc l + other x l * sines sr sc l = head nope x cr sr cc sc l := by
  have cut : l.val < 64 ∨ (64 ≤ l.val ∧ l.val < 72) ∨ (72 ≤ l.val ∧ l.val < 80) ∨ (80 ≤ l.val ∧ l.val < 88) ∨ (88 ≤ l.val ∧ l.val < 96) ∨ 96 ≤ l.val := by omega
  unfold own other cosines sines head rot turn
  rcases cut with h | h | h | h | h | h
  · simp [h, show ¬ 64 ≤ l.val by omega]
  · have e : partner (l.val - 64) = 8 + (l.val - 64) := by unfold partner; rw [if_pos (by omega)]
    simp only [e, h, and_self, dif_pos, dif_neg, show ¬ l.val < 64 by omega, show l.val < 72 by omega, show l.val < 96 by omega, show l.val - 64 < 16 by omega, show l.val - 64 < 8 by omega, not_false_eq_true]
    rw [mul_neg, sub_eq_add_neg]
  · have e : partner (l.val - 64) = l.val - 64 - 8 := by unfold partner; rw [if_neg (by omega), if_pos (by omega)]
    have e2 : l.val - 64 - 8 = l.val - 72 := by omega
    have e3 : 8 + (l.val - 72) = l.val - 64 := by omega
    simp only [e, e2, e3, h, and_self, dif_pos, dif_neg, show ¬ l.val < 64 by omega, show ¬ l.val < 72 by omega, show l.val < 80 by omega, show l.val < 96 by omega, show 64 ≤ l.val by omega, show l.val - 64 < 16 by omega, show ¬ l.val - 64 < 8 by omega, not_false_eq_true]
    rw [add_comm]
  · have e : partner (l.val - 64) = 8 + (l.val - 64) := by unfold partner; rw [if_neg (by omega), if_neg (by omega), if_pos (by omega)]
    have e2 : l.val - 64 - 16 = l.val - 80 := by omega
    have e3 : 16 + (l.val - 80) = l.val - 64 := by omega
    have e4 : 16 + (8 + (l.val - 80)) = 8 + (l.val - 64) := by omega
    simp only [e, e2, e3, e4, h, and_self, dif_pos, dif_neg, show ¬ l.val < 64 by omega, show ¬ l.val < 72 by omega, show ¬ l.val < 80 by omega, show l.val < 88 by omega, show l.val < 96 by omega, show 64 ≤ l.val by omega, show ¬ l.val - 64 < 16 by omega, show l.val - 80 < 8 by omega, not_false_eq_true]
    rw [mul_neg, sub_eq_add_neg]
  · have e : partner (l.val - 64) = l.val - 64 - 8 := by unfold partner; rw [if_neg (by omega), if_neg (by omega), if_neg (by omega)]
    have e2 : l.val - 64 - 16 = l.val - 80 := by omega
    have e3 : 16 + (l.val - 80) = l.val - 64 := by omega
    have e4 : l.val - 80 - 8 = l.val - 88 := by omega
    have e5 : 16 + (l.val - 88) = l.val - 64 - 8 := by omega
    have e6 : 16 + (8 + (l.val - 88)) = l.val - 64 := by omega
    simp only [e, e2, e3, e4, e5, e6, h, and_self, dif_pos, dif_neg, show ¬ l.val < 64 by omega, show ¬ l.val < 72 by omega, show ¬ l.val < 80 by omega, show ¬ l.val < 88 by omega, show l.val < 96 by omega, show 64 ≤ l.val by omega, show ¬ l.val - 64 < 16 by omega, show ¬ l.val - 80 < 8 by omega, not_false_eq_true]
    rw [add_comm]
  · simp [show ¬ l.val < 64 by omega, show ¬ l.val < 72 by omega, show ¬ l.val < 80 by omega, show ¬ l.val < 88 by omega, show ¬ l.val < 96 by omega]

/-- The columns that aren't turned may be added after the turn. -/
theorem head_add (nope : Fin 64 → EReal) (x : Fin 32 → EReal) (cr sr cc sc : Fin 8 → EReal) (l : Fin 128) :
    own nope (fun _ => 0) l + head (fun _ => 0) x cr sr cc sc l = head nope x cr sr cc sc l := by
  unfold own head
  split_ifs <;> simp

/-- A product with columns laid out on a head's 128 is the products laid out. -/
theorem own_sum {n : ℕ} (a : Fin n → EReal) (f : Fin n → Fin 64 → EReal) (g : Fin n → Fin 32 → EReal) (l : Fin 128) :
    ∑ k, a k * own (f k) (g k) l = own (fun i => ∑ k, a k * f k i) (fun i => ∑ k, a k * g k i) l := by
  unfold own
  split_ifs <;> simp

theorem other_sum {n : ℕ} (a : Fin n → EReal) (g : Fin n → Fin 32 → EReal) (l : Fin 128) :
    ∑ k, a k * other (g k) l = other (fun i => ∑ k, a k * g k i) l := by
  unfold other
  split_ifs <;> simp

end Cert.Mla

end
-- ==== Proof.Mla.Gather.lean ====
/- The last axis of an array of three taken by a table. -/
module

public import Idealize.ShloMosaic.Lib.Claim
public import Idealize.ShloMosaic.Lib.Pointwise

@[expose] public section

set_option maxRecDepth 16384

noncomputable section

namespace Cert.Mla

open Idealize.ShloMosaic

variable {α : Type} {N H C K : ℕ}

/-- The last axis of an `N × H × C` array, taken by `K` numbers. -/
abbrev lastDims (wf : GatherDims.WF ⟨3, ![N, H, C]⟩ ⟨2, ![K, 1]⟩ ⟨3, ![N, H, K]⟩ [0, 1] [2] [] [2] [] 1 ![N, H, 1]) :
    GatherDims ⟨3, ![N, H, C]⟩ ⟨2, ![K, 1]⟩ ⟨3, ![N, H, K]⟩ where
  offsetDims := [0, 1]
  collapsedSliceDims := [2]
  operandBatchingDims := []
  startIndicesBatchingDims := []
  startIndexMap := [2]
  indexVectorDim := 1
  sliceSizes := ![N, H, 1]
  wf := wf

/-- Place `j` of the result's last axis is the place the table names, held inside the array. -/
theorem gather_last (hC : 0 < C) (wf : GatherDims.WF ⟨3, ![N, H, C]⟩ ⟨2, ![K, 1]⟩ ⟨3, ![N, H, K]⟩ [0, 1] [2] [] [2] [] 1 ![N, H, 1])
    (x : (⟨3, ![N, H, C]⟩ : Shape).Idx → α) (t : IVec ⟨2, ![K, 1]⟩ 32) (n : Fin N) (h : Fin H) (j : Fin K) :
    Host.gather (lastDims wf) x t (ix3 n h j) = x (ix3 n h ⟨min (t (ix2 j 0)).toInt.toNat (C - 1), by omega⟩) := by
  unfold Host.gather
  refine congrArg x (funext fun a => Fin.ext ?_)
  show (lastDims wf).start (ix3 n h j) t a + (lastDims wf).batchCoord (ix3 n h j) a + (lastDims wf).offCoord (ix3 n h j) a = _
  rw [GatherDims.batchCoord_eq_zero _ _ _ (fun h => by simp at h), Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (fun h => absurd (List.mem_singleton.mp h) (show ¬ (0 : Fin 3) = 2 by decide)), Nat.zero_add]
    unfold GatherDims.offCoord
    rw [dif_pos ((GatherDims.mem_sKept _ _).mpr ⟨fun h => absurd (List.mem_singleton.mp h) (show ¬ (0 : Fin 3) = 2 by decide), fun h => by simp at h⟩)]
    rfl
  · unfold GatherDims.start
    rw [dif_neg (fun h => absurd (List.mem_singleton.mp h) (show ¬ (1 : Fin 3) = 2 by decide)), Nat.zero_add]
    unfold GatherDims.offCoord
    rw [dif_pos ((GatherDims.mem_sKept _ _).mpr ⟨fun h => absurd (List.mem_singleton.mp h) (show ¬ (1 : Fin 3) = 2 by decide), fun h => by simp at h⟩)]
    rfl
  · rw [GatherDims.offCoord_eq_zero _ _ _ (fun h => ((GatherDims.mem_sKept _ _).mp h).1 (List.mem_singleton.mpr rfl)), Nat.add_zero]
    unfold GatherDims.start
    rw [dif_pos (show (2 : Fin 3) ∈ (lastDims wf).startIndexMap from List.mem_singleton.mpr rfl)]
    have hsi : (lastDims wf).siIdx (ix3 n h j) ⟨List.idxOf (2 : Fin 3) (lastDims wf).startIndexMap,
        List.idxOf_lt_length_iff.2 (List.mem_singleton.mpr rfl)⟩ = ix2 j 0 := by
      funext b
      refine Fin.ext ?_
      match b with
      | ⟨0, _⟩ => rfl
      | ⟨1, _⟩ => rfl
    rw [hsi]
    rfl

end Cert.Mla

end
-- ==== Proof.Mla.Host.lean ====
/- What the host code hands to the latent's kernel. -/
module

public import proofs.«01_k».proof.Proof.Gen.MlaKernelIdeal.Value
public import proofs.«01_k».proof.Proof.Mla.Rot
public import proofs.«01_k».proof.Proof.Mla.Gather
public import proofs.«01_k».proof.Proof.In.Gather
public import Idealize.ShloMosaic.Lib.Claim
public import Idealize.ShloMosaic.Lib.Pointwise

@[expose] public section

set_option maxRecDepth 16384

noncomputable section

namespace Cert.MlaKernelIdeal.Mla

open Cert.MlaKernelIdeal Cert.MlaKernelIdeal.Gen Idealize.ShloMosaic Idealize.ShloMosaic.TcCoe Idealize.ShloMosaic.Tactic Idealize.SL.Sem

variable (m : (ℓ : Loc nD τ sig) → Buf (Elt Ideal) ℓ)

/-- The places a table names, as the host code hands them to the gather: none is negative, so none is moved. -/
def numbers (t u : IVec S32 32) : IVec S32x1 32 :=
  broadcastInDim S32x1 ![0] bcast_S32_S32x1_0 (select (constantI S32 1 0#1) u t)

theorem numbers_at (t u : IVec S32 32) (j : Fin 32) : numbers t u (ix2 j 0) = t (ix1 j) := by
  unfold numbers
  pointwise []

/-- The first table holds each rotary column's partner. -/
theorem table0 : ∀ j : Fin 32, min (lit0 j).toInt.toNat 31 = Mla.partner j.val := by
  decide +kernel

/-- The second table holds the partner's place in a head of 96 columns. -/
theorem table1 : ∀ j : Fin 32, min (lit1 j).toInt.toNat 95 = 64 + Mla.partner j.val := by
  decide +kernel

/-- The rotary columns and beside them their partners, each on 128 columns. -/
def ropes (x y : FVec Ideal S32768x32 .f32) : FVec Ideal S32768x256 .f32 :=
  concatenate S32768x256 1 [⟨S32768x128, pad S32768x128 ![0, 64] ![0, 32] ![0, 0] x (sitofp .f32 (constantI S_ 32 0#32)) pads_S32768x32_S32768x128_000_64320 h_S_⟩,
    ⟨S32768x128, pad S32768x128 ![0, 64] ![0, 32] ![0, 0] y (sitofp .f32 (constantI S_ 32 0#32)) pads_S32768x32_S32768x128_000_64320 h_S_⟩] concatenates_S32768x128_S32768x128_S32768x256_d1

theorem ropes_own (x y : FVec Ideal S32768x32 .f32) (p : Fin 32768) (l : Fin 128) :
    ropes x y (ix2 p ⟨l.val, by omega⟩) = Mla.own (fun _ => 0) (fun i => x (ix2 p i)) l := by
  have hl : l.val < 128 := l.isLt
  unfold ropes Mla.own
  pointwise [hl]
  split_ifs <;> first | rfl | exact Mla.sitofp_zero _ | (exfalso; omega)

theorem ropes_other (x y : FVec Ideal S32768x32 .f32) (p : Fin 32768) (l : Fin 128) :
    ropes x y (ix2 p ⟨128 + l.val, by omega⟩) = if h : 64 ≤ l.val ∧ l.val < 96 then y (ix2 p ⟨l.val - 64, by omega⟩) else 0 := by
  have hl : ¬ 128 + l.val < 128 := by omega
  unfold ropes
  pointwise [hl]
  split_ifs <;> first | rfl | exact Mla.sitofp_zero _ | (exfalso; omega)

/-- The table of cosines, as the host code computes it. -/
def cosTable (A B : FVec Ideal S16384x8 .f32) : FVec Ideal S16384x128 .f32 :=
  concatenate S16384x128 1 [⟨S16384x64, broadcastInDim S16384x64 ![] bcast_S_S16384x64 (constant S_ .f32 0x3F800000#32)⟩,
    ⟨S16384x32, concatenate S16384x32 1 [⟨S16384x8, Host.cos A⟩, ⟨S16384x8, Host.cos A⟩, ⟨S16384x8, Host.cos B⟩, ⟨S16384x8, Host.cos B⟩] concatenates_S16384x8_S16384x8_S16384x8_S16384x8_S16384x32_d1⟩,
    ⟨S16384x32, broadcastInDim S16384x32 ![] bcast_S_S16384x32 (constant S_ .f32 0x00000000#32)⟩] concatenates_S16384x64_S16384x32_S16384x32_S16384x128_d1

theorem cosTable_at (A B : FVec Ideal S16384x8 .f32) (s : Fin 16384) (l : Fin 128) :
    cosTable A B (ix2 s l) = Mla.cosines (fun i => Ideal.cos (A (ix2 s i))) (fun i => Ideal.cos (B (ix2 s i))) l := by
  have cut : l.val < 64 ∨ (64 ≤ l.val ∧ l.val < 72) ∨ (72 ≤ l.val ∧ l.val < 80) ∨ (80 ≤ l.val ∧ l.val < 88) ∨ (88 ≤ l.val ∧ l.val < 96) ∨ 96 ≤ l.val := by omega
  have past : ∀ {k : ℕ}, k ≤ l.val → ¬ l.val < k := fun h => by omega
  unfold cosTable
  rcases cut with h | h | h | h | h | h
  · pointwise [h]
    unfold Mla.cosines
    rw [dif_pos h]
  · have h0 : ¬ l.val < 64 := by omega
    have h1 : l.val - 64 < 32 := by omega
    have g0 : l.val - 64 < 8 := by omega
    pointwise [h0, h1, g0]
    unfold Mla.cosines
    rw [dif_neg (past (show 64 ≤ l.val by omega)), dif_pos h.2]
  · have h0 : ¬ l.val < 64 := by omega
    have h1 : l.val - 64 < 32 := by omega
    have g0 : ¬ l.val - 64 < 8 := by omega
    have g1 : l.val - 64 - 8 < 8 := by omega
    pointwise [h0, h1, g0, g1]
    simp only [Nat.sub_sub, Nat.reduceAdd]
    unfold Mla.cosines
    rw [dif_neg (past (show 64 ≤ l.val by omega)), dif_neg (past (show 72 ≤ l.val by omega)), dif_pos h.2]
  · have h0 : ¬ l.val < 64 := by omega
    have h1 : l.val - 64 < 32 := by omega
    have g0 : ¬ l.val - 64 < 8 := by omega
    have g1 : ¬ l.val - 64 - 8 < 8 := by omega
    have g2 : l.val - 64 - 8 - 8 < 8 := by omega
    pointwise [h0, h1, g0, g1, g2]
    simp only [Nat.sub_sub, Nat.reduceAdd]
    unfold Mla.cosines
    rw [dif_neg (past (show 64 ≤ l.val by omega)), dif_neg (past (show 72 ≤ l.val by omega)), dif_neg (past (show 80 ≤ l.val by omega)), dif_pos h.2]
  · have h0 : ¬ l.val < 64 := by omega
    have h1 : l.val - 64 < 32 := by omega
    have g0 : ¬ l.val - 64 < 8 := by omega
    have g1 : ¬ l.val - 64 - 8 < 8 := by omega
    have g2 : ¬ l.val - 64 - 8 - 8 < 8 := by omega
    have g3 : l.val - 64 - 8 - 8 - 8 < 8 := by omega
    pointwise [h0, h1, g0, g1, g2, g3]
    simp only [Nat.sub_sub, Nat.reduceAdd]
    unfold Mla.cosines
    rw [dif_neg (past (show 64 ≤ l.val by omega)), dif_neg (past (show 72 ≤ l.val by omega)), dif_neg (past (show 80 ≤ l.val by omega)), dif_neg (past (show 88 ≤ l.val by omega)), dif_pos h.2]
  · have h0 : ¬ l.val < 64 := by omega
    have h1 : ¬ l.val - 64 < 32 := by omega
    pointwise [h0, h1]
    unfold Mla.cosines
    rw [dif_neg (past (show 64 ≤ l.val by omega)), dif_neg (past (show 72 ≤ l.val by omega)), dif_neg (past (show 80 ≤ l.val by omega)), dif_neg (past (show 88 ≤ l.val by omega)), dif_neg (past (show 96 ≤ l.val by omega))]

/-- The table of sines, as the host code computes it. -/
def sinTable (A B : FVec Ideal S16384x8 .f32) : FVec Ideal S16384x128 .f32 :=
  concatenate S16384x128 1 [⟨S16384x64, broadcastInDim S16384x64 ![] bcast_S_S16384x64 (constant S_ .f32 0x00000000#32)⟩,
    ⟨S16384x32, concatenate S16384x32 1 [⟨S16384x8, Host.negf (Host.sin A)⟩, ⟨S16384x8, Host.sin A⟩, ⟨S16384x8, Host.negf (Host.sin B)⟩, ⟨S16384x8, Host.sin B⟩] concatenates_S16384x8_S16384x8_S16384x8_S16384x8_S16384x32_d1⟩,
    ⟨S16384x32, broadcastInDim S16384x32 ![] bcast_S_S16384x32 (constant S_ .f32 0x00000000#32)⟩] concatenates_S16384x64_S16384x32_S16384x32_S16384x128_d1

theorem sinTable_at (A B : FVec Ideal S16384x8 .f32) (s : Fin 16384) (l : Fin 128) :
    sinTable A B (ix2 s l) = Mla.sines (fun i => Ideal.sin (A (ix2 s i))) (fun i => Ideal.sin (B (ix2 s i))) l := by
  have cut : l.val < 64 ∨ (64 ≤ l.val ∧ l.val < 72) ∨ (72 ≤ l.val ∧ l.val < 80) ∨ (80 ≤ l.val ∧ l.val < 88) ∨ (88 ≤ l.val ∧ l.val < 96) ∨ 96 ≤ l.val := by omega
  have past : ∀ {k : ℕ}, k ≤ l.val → ¬ l.val < k := fun h => by omega
  unfold sinTable
  rcases cut with h | h | h | h | h | h
  · pointwise [h]
    unfold Mla.sines
    rw [dif_pos h]
  · have h0 : ¬ l.val < 64 := by omega
    have h1 : l.val - 64 < 32 := by omega
    have g0 : l.val - 64 < 8 := by omega
    pointwise [h0, h1, g0]
    unfold Mla.sines
    rw [dif_neg (past (show 64 ≤ l.val by omega)), dif_pos h.2]
  · have h0 : ¬ l.val < 64 := by omega
    have h1 : l.val - 64 < 32 := by omega
    have g0 : ¬ l.val - 64 < 8 := by omega
    have g1 : l.val - 64 - 8 < 8 := by omega
    pointwise [h0, h1, g0, g1]
    simp only [Nat.sub_sub, Nat.reduceAdd]
    unfold Mla.sines
    rw [dif_neg (past (show 64 ≤ l.val by omega)), dif_neg (past (show 72 ≤ l.val by omega)), dif_pos h.2]
  · have h0 : ¬ l.val < 64 := by omega
    have h1 : l.val - 64 < 32 := by omega
    have g0 : ¬ l.val - 64 < 8 := by omega
    have g1 : ¬ l.val - 64 - 8 < 8 := by omega
    have g2 : l.val - 64 - 8 - 8 < 8 := by omega
    pointwise [h0, h1, g0, g1, g2]
    simp only [Nat.sub_sub, Nat.reduceAdd]
    unfold Mla.sines
    rw [dif_neg (past (show 64 ≤ l.val by omega)), dif_neg (past (show 72 ≤ l.val by omega)), dif_neg (past (show 80 ≤ l.val by omega)), dif_pos h.2]
  · have h0 : ¬ l.val < 64 := by omega
    have h1 : l.val - 64 < 32 := by omega
    have g0 : ¬ l.val - 64 < 8 := by omega
    have g1 : ¬ l.val - 64 - 8 < 8 := by omega
    have g2 : ¬ l.val - 64 - 8 - 8 < 8 := by omega
    have g3 : l.val - 64 - 8 - 8 - 8 < 8 := by omega
    pointwise [h0, h1, g0, g1, g2, g3]
    simp only [Nat.sub_sub, Nat.reduceAdd]
    unfold Mla.sines
    rw [dif_neg (past (show 64 ≤ l.val by omega)), dif_neg (past (show 72 ≤ l.val by omega)), dif_neg (past (show 80 ≤ l.val by omega)), dif_neg (past (show 88 ≤ l.val by omega)), dif_pos h.2]
  · have h0 : ¬ l.val < 64 := by omega
    have h1 : ¬ l.val - 64 < 32 := by omega
    pointwise [h0, h1]
    unfold Mla.sines
    rw [dif_neg (past (show 64 ≤ l.val by omega)), dif_neg (past (show 72 ≤ l.val by omega)), dif_neg (past (show 80 ≤ l.val by omega)), dif_neg (past (show 88 ≤ l.val by omega)), dif_neg (past (show 96 ≤ l.val by omega))]

/-- The query weights: every head on 128 columns, and beside them the rotary columns' partners. -/
def qweights (w : FVec Ideal S256x4x96 .f32) (y : FVec Ideal S256x4x32 .f32) : FVec Ideal S256x1024 .bf16 :=
  truncf .bf16 (concatenate S256x1024 1
    [⟨S256x512, shapeCast S256x512 (pad S256x4x128 ![0, 0, 0] ![0, 0, 32] ![0, 0, 0] w (sitofp .f32 (constantI S_ 32 0#32)) pads_S256x4x96_S256x4x128_000_000_0320 h_S_) shapeCasts_S256x4x128_S256x512⟩,
     ⟨S256x512, shapeCast S256x512 (pad S256x4x128 ![0, 0, 64] ![0, 0, 32] ![0, 0, 0] y (sitofp .f32 (constantI S_ 32 0#32)) pads_S256x4x32_S256x4x128_000_000_64320 h_S_) shapeCasts_S256x4x128_S256x512⟩]
    concatenates_S256x512_S256x512_S256x1024_d1) bitsLt_bf16_f32

theorem qweights_own (w : FVec Ideal S256x4x96 .f32) (y : FVec Ideal S256x4x32 .f32) (n : Fin 256) (j : Fin 512) :
    qweights w y (ix2 n ⟨j.val, by omega⟩) = Mla.own (fun i => w (ix3 n ⟨j.val / 128, by omega⟩ ⟨i.val, by omega⟩))
      (fun i => w (ix3 n ⟨j.val / 128, by omega⟩ ⟨64 + i.val, by omega⟩)) ⟨j.val % 128, Nat.mod_lt _ (by omega)⟩ := by
  have hj : j.val < 512 := j.isLt
  unfold qweights Mla.own
  pointwise [hj]
  split_ifs <;> first | rfl | exact Mla.sitofp_zero _ | (exfalso; omega) | exact congrArg w (congrArg (ix3 n _) (Fin.ext (by show j.val % 128 = 64 + (j.val % 128 - 64); omega)))

theorem qweights_other (w : FVec Ideal S256x4x96 .f32) (y : FVec Ideal S256x4x32 .f32) (n : Fin 256) (j : Fin 512) :
    qweights w y (ix2 n ⟨512 + j.val, by omega⟩) = if h : 64 ≤ j.val % 128 ∧ j.val % 128 < 96 then y (ix3 n ⟨j.val / 128, by omega⟩ ⟨j.val % 128 - 64, by omega⟩) else 0 := by
  have hj : ¬ 512 + j.val < 512 := by omega
  unfold qweights
  pointwise [hj]
  split_ifs <;> first | rfl | exact Mla.sitofp_zero _ | (exfalso; omega)

/-- The key and value weights: every head's keys on 128 columns, and beside them its values. -/
def kvweights (w : FVec Ideal S128x4x128 .f32) : FVec Ideal S128x1024 .bf16 :=
  truncf .bf16 (concatenate S128x1024 1
    [⟨S128x512, shapeCast S128x512 (pad S128x4x128 ![0, 0, 0] ![0, 0, 64] ![0, 0, 0] (extractStridedSlice S128x4x64 ![0, 0, 0] w slices_S128x4x128_S128x4x64_0_0_0) (sitofp .f32 (constantI S_ 32 0#32)) pads_S128x4x64_S128x4x128_000_000_0640 h_S_) shapeCasts_S128x4x128_S128x512⟩,
     ⟨S128x512, shapeCast S128x512 (pad S128x4x128 ![0, 0, 0] ![0, 0, 64] ![0, 0, 0] (extractStridedSlice S128x4x64 ![0, 0, 64] w slices_S128x4x128_S128x4x64_0_0_64) (sitofp .f32 (constantI S_ 32 0#32)) pads_S128x4x64_S128x4x128_000_000_0640 h_S_) shapeCasts_S128x4x128_S128x512⟩]
    concatenates_S128x512_S128x512_S128x1024_d1) bitsLt_bf16_f32

theorem kvweights_keys (w : FVec Ideal S128x4x128 .f32) (n : Fin 128) (j : Fin 512) :
    kvweights w (ix2 n ⟨j.val, by omega⟩) = Mla.own (fun i => w (ix3 n ⟨j.val / 128, by omega⟩ ⟨i.val, by omega⟩)) (fun _ => 0) ⟨j.val % 128, Nat.mod_lt _ (by omega)⟩ := by
  have hj : j.val < 512 := j.isLt
  unfold kvweights Mla.own
  pointwise [hj]
  split_ifs <;> first | rfl | exact Mla.sitofp_zero _ | (exfalso; omega)

theorem kvweights_values (w : FVec Ideal S128x4x128 .f32) (n : Fin 128) (j : Fin 512) :
    kvweights w (ix2 n ⟨512 + j.val, by omega⟩) = Mla.own (fun i => w (ix3 n ⟨j.val / 128, by omega⟩ ⟨64 + i.val, by omega⟩)) (fun _ => 0) ⟨j.val % 128, Nat.mod_lt _ (by omega)⟩ := by
  have hj : ¬ 512 + j.val < 512 := by omega
  unfold kvweights Mla.own
  pointwise [hj]
  split_ifs <;> first | rfl | exact Mla.sitofp_zero _ | (exfalso; omega)

theorem entry_ropes (c : Dev nD) : V m c main_v7 = ropes (m ((c.tc : Thread nD τ).loc main_arg2))
    (Host.gather gather_S32768x32_S32x1_S32768x32_0_1_n_n_1_1_327681 (m ((c.tc : Thread nD τ).loc main_arg2)) (numbers (fun i => lit0 (S32.rowMajor i)) (V m c main_v2))) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_cos (c : Dev nD) : V m c main_v20 = cosTable (m ((c.tc : Thread nD τ).loc main_arg7)) (m ((c.tc : Thread nD τ).loc main_arg8)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_sin (c : Dev nD) : V m c main_v23 = sinTable (m ((c.tc : Thread nD τ).loc main_arg7)) (m ((c.tc : Thread nD τ).loc main_arg8)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_wq (c : Dev nD) : V m c main_v36 = qweights (shapeCast S256x4x96 (m ((c.tc : Thread nD τ).loc main_arg4)) shapeCasts_S256x384_S256x4x96)
    (Host.gather gather_S256x4x96_S32x1_S256x4x32_01_2_n_n_2_1_25641 (shapeCast S256x4x96 (m ((c.tc : Thread nD τ).loc main_arg4)) shapeCasts_S256x384_S256x4x96) (numbers (fun i => lit1 (S32.rowMajor i)) (V m c main_v26))) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_wkv (c : Dev nD) : V m c main_v46 = kvweights (shapeCast S128x4x128 (m ((c.tc : Thread nD τ).loc main_arg6)) shapeCasts_S128x512_S128x4x128) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_qnorm (c : Dev nD) : V m c main_v47 = broadcastInDim S1x256 ![1] bcast_S256_S1x256_1 (m ((c.tc : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_kvnorm (c : Dev nD) : V m c main_v48 = broadcastInDim S1x128 ![1] bcast_S128_S1x128_1 (m ((c.tc : Thread nD τ).loc main_arg5)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_cq (c : Dev nD) : V m c main_arg0 = (m ((c.tc : Thread nD τ).loc main_arg0)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

theorem entry_ckv (c : Dev nD) : V m c main_arg1 = (m ((c.tc : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> (try dsimp only [Matrix.cons_val]) <;> (try after_results_simp) <;> rfl

end Cert.MlaKernelIdeal.Mla

end
-- ==== Proof.Mla.Body.lean ====
/- The latent's kernel's body, at an index. -/
module

public import proofs.«01_k».proof.Proof.Gen.MlaKernelIdeal.Value
public import proofs.«01_k».proof.Proof.Mla.Rot
public import Idealize.ShloMosaic.Lib.Claim
public import Idealize.ShloMosaic.Lib.Pointwise

@[expose] public section

set_option maxRecDepth 16384

noncomputable section

namespace Cert.MlaKernelIdeal.Mla

open Cert.MlaKernelIdeal Cert.MlaKernelIdeal.Gen Idealize.ShloMosaic Idealize.ShloMosaic.TcCoe Idealize.ShloMosaic.Tactic Idealize.SL.Sem

/-- A table on one head's columns, laid out four times side by side. -/
theorem tile_at (T : FVec Ideal S512x128 .f32) (r : Fin 512) (j : Fin 512) :
    concatenate S512x512 1 [⟨S512x128, T⟩, ⟨S512x128, T⟩, ⟨S512x128, T⟩, ⟨S512x128, T⟩] concatenates_S512x128_S512x128_S512x128_S512x128_S512x512_d1 (ix2 r j)
      = T (ix2 r ⟨j.val % 128, Nat.mod_lt _ (by omega)⟩) := by
  have hj : j.val < 512 := j.isLt
  have cut : j.val < 128 ∨ (128 ≤ j.val ∧ j.val < 256) ∨ (256 ≤ j.val ∧ j.val < 384) ∨ 384 ≤ j.val := by omega
  rcases cut with h | h | h | h
  · have g0 : j.val < 128 := by omega
    pointwise [g0]
    exact congrArg T (congrArg (ix2 r) (Fin.ext (by show j.val = j.val % 128; omega)))
  · have g0 : ¬ j.val < 128 := by omega
    have g1 : j.val - 128 < 128 := by omega
    pointwise [g0, g1]
    exact congrArg T (congrArg (ix2 r) (Fin.ext (by show j.val - 128 = j.val % 128; omega)))
  · have g0 : ¬ j.val < 128 := by omega
    have g1 : ¬ j.val - 128 < 128 := by omega
    have g2 : j.val - 128 - 128 < 128 := by omega
    pointwise [g0, g1, g2]
    exact congrArg T (congrArg (ix2 r) (Fin.ext (by show j.val - 128 - 128 = j.val % 128; omega)))
  · have g0 : ¬ j.val < 128 := by omega
    have g1 : ¬ j.val - 128 < 128 := by omega
    have g2 : ¬ j.val - 128 - 128 < 128 := by omega
    pointwise [g0, g1, g2]
    exact congrArg T (congrArg (ix2 r) (Fin.ext (by show j.val - 128 - 128 - 128 = j.val % 128; omega)))

/-- A block's row of the query latent, normalised, times a column of the weights. -/
def bq (x : Vec Ideal S512x256 .f32) (g : Vec Ideal S1x256 .f32) (w : Vec Ideal S256x1024 .bf16) (r : Fin 512) (j : Fin 1024) : EReal :=
  ∑ n, Mla.norm (Ideal.ofBits .f32 0x43800000#32) (fun k => x (ix2 r k)) (fun k => g (ix2 0 k)) n * w (ix2 n j)

/-- A block's row of the key and value latent, normalised, times a column of the weights. -/
def bkv (x : Vec Ideal S512x128 .f32) (g : Vec Ideal S1x128 .f32) (w : Vec Ideal S128x1024 .bf16) (r : Fin 512) (j : Fin 1024) : EReal :=
  ∑ n, Mla.norm (Ideal.ofBits .f32 0x43000000#32) (fun k => x (ix2 r k)) (fun k => g (ix2 0 k)) n * w (ix2 n j)

/-- The queries of a block. -/
theorem pay6_at (cs sn : Vec Ideal S512x128 .f32) (x : Vec Ideal S512x256 .f32) (g : Vec Ideal S1x256 .f32) (w : Vec Ideal S256x1024 .bf16) (r : Fin 512) (j : Fin 512) :
    k0_pay6 (F := Ideal) cs sn x g w (ix2 r j) = bq x g w r ⟨j.val, by omega⟩ * cs (ix2 r ⟨j.val % 128, Nat.mod_lt _ (by omega)⟩)
      + bq x g w r ⟨512 + j.val, by omega⟩ * sn (ix2 r ⟨j.val % 128, Nat.mod_lt _ (by omega)⟩) := by
  unfold k0_pay6 k0_pay4 k0_pay5
  pointwise [tile_at]
  rfl

theorem pay1_at (x : Vec Ideal S512x128 .f32) (g : Vec Ideal S1x128 .f32) (w : Vec Ideal S128x1024 .bf16) (r : Fin 512) (j : Fin 1024) :
    k0_pay1 (F := Ideal) x (k0_pay7 (F := Ideal) g) (k0_pay8 (F := Ideal) x) w (ix2 r j) = bkv x g w r j := by
  unfold k0_pay1 k0_pay7 k0_pay8
  pointwise []
  rfl

/-- The keys of a block. -/
theorem pay2_at (cs sn : Vec Ideal S512x128 .f32) (x : Vec Ideal S512x128 .f32) (g : Vec Ideal S1x128 .f32) (w : Vec Ideal S128x1024 .bf16) (z : Vec Ideal S512x256 .f32) (r : Fin 512) (j : Fin 512) :
    k0_pay2 (F := Ideal) (k0_pay4 (F := Ideal) cs) (k0_pay5 (F := Ideal) sn) x (k0_pay7 (F := Ideal) g) (k0_pay8 (F := Ideal) x) w z (ix2 r j)
      = bkv x g w r ⟨j.val, by omega⟩ + (z (ix2 r ⟨j.val % 128, by omega⟩) * cs (ix2 r ⟨j.val % 128, Nat.mod_lt _ (by omega)⟩)
        + z (ix2 r ⟨128 + j.val % 128, by omega⟩) * sn (ix2 r ⟨j.val % 128, Nat.mod_lt _ (by omega)⟩)) := by
  have e := fun j => pay1_at x g w r j
  unfold k0_pay2 k0_pay4 k0_pay5
  generalize k0_pay1 (F := Ideal) x (k0_pay7 (F := Ideal) g) (k0_pay8 (F := Ideal) x) w = y at e ⊢
  simp only [← e]
  pointwise [tile_at]

/-- The values of a block. -/
theorem pay3_at (x : Vec Ideal S512x128 .f32) (g : Vec Ideal S1x128 .f32) (w : Vec Ideal S128x1024 .bf16) (r : Fin 512) (j : Fin 512) :
    k0_pay3 (F := Ideal) x (k0_pay7 (F := Ideal) g) (k0_pay8 (F := Ideal) x) w (ix2 r j) = bkv x g w r ⟨512 + j.val, by omega⟩ := by
  have e := fun j => pay1_at x g w r j
  unfold k0_pay3
  generalize k0_pay1 (F := Ideal) x (k0_pay7 (F := Ideal) g) (k0_pay8 (F := Ideal) x) w = y at e ⊢
  simp only [← e]
  pointwise []

end Cert.MlaKernelIdeal.Mla

end
-- ==== Proof.Mla.Entry.lean ====
/- The arrays the latent's kernel reads, at an index. -/
module

public import proofs.«01_k».proof.Proof.Mla.Host
public import proofs.«01_k».proof.Proof.Mla.Body
public import Idealize.ShloMosaic.Lib.Claim
public import Idealize.ShloMosaic.Lib.Pointwise

@[expose] public section

set_option maxRecDepth 16384

noncomputable section

namespace Cert.MlaKernelIdeal.Mla

open Cert.MlaKernelIdeal Cert.MlaKernelIdeal.Gen Idealize.ShloMosaic Idealize.ShloMosaic.TcCoe Idealize.ShloMosaic.Tactic Idealize.SL.Sem

variable (m : (ℓ : Loc nD τ sig) → Buf (Elt Ideal) ℓ)

/-- The rotary columns taken by the first table are the partners. -/
theorem taken0 (x : FVec Ideal S32768x32 .f32) (u : IVec S32 32) (p : Fin 32768) (j : Fin 32) :
    Host.gather gather_S32768x32_S32x1_S32768x32_0_1_n_n_1_1_327681 x (numbers (fun i => lit0 (S32.rowMajor i)) u) (ix2 p j)
      = x (ix2 p ⟨Mla.partner j.val, Mla.partner_lt j⟩) := by
  refine (Cert.In.gather_cols (by decide) gather_S32768x32_S32x1_S32768x32_0_1_n_n_1_1_327681_wf x _ p j).trans (congrArg x (congrArg (ix2 p) (Fin.ext ?_)))
  refine (congrArg (fun z : BitVec 32 => min z.toInt.toNat 31) (numbers_at _ u j)).trans (Eq.trans ?_ (table0 j))
  exact congrArg (fun z : Fin 32 => min (lit0 z).toInt.toNat 31) (Fin.ext (Shape.rowMajor_val_one _))

/-- The weights' columns taken by the second table are the partners'. -/
theorem taken1 (x : FVec Ideal S256x4x96 .f32) (u : IVec S32 32) (n : Fin 256) (h : Fin 4) (j : Fin 32) :
    Host.gather gather_S256x4x96_S32x1_S256x4x32_01_2_n_n_2_1_25641 x (numbers (fun i => lit1 (S32.rowMajor i)) u) (ix3 n h j)
      = x (ix3 n h ⟨64 + Mla.partner j.val, by have := Mla.partner_lt j; omega⟩) := by
  refine (Cert.Mla.gather_last (by decide) gather_S256x4x96_S32x1_S256x4x32_01_2_n_n_2_1_25641_wf x _ n h j).trans (congrArg x (congrArg (ix3 n h) (Fin.ext ?_)))
  refine (congrArg (fun z : BitVec 32 => min z.toInt.toNat 95) (numbers_at _ u j)).trans (Eq.trans ?_ (table1 j))
  exact congrArg (fun z : Fin 32 => min (lit1 z).toInt.toNat 95) (Fin.ext (Shape.rowMajor_val_one _))

theorem rope_own (c : Dev nD) (p : Fin 32768) (l : Fin 128) : (show EReal from V m c main_v7 (ix2 p ⟨l.val, by omega⟩))
    = Mla.own (fun _ => 0) (fun i => (show EReal from (m ((c.tc : Thread nD τ).loc main_arg2)) (ix2 p i))) l :=
  (congrFun (entry_ropes m c) _).trans (ropes_own _ _ p l)

theorem rope_other (c : Dev nD) (p : Fin 32768) (l : Fin 128) : (show EReal from V m c main_v7 (ix2 p ⟨128 + l.val, by omega⟩))
    = Mla.other (fun i => (show EReal from (m ((c.tc : Thread nD τ).loc main_arg2)) (ix2 p i))) l := by
  refine (congrFun (entry_ropes m c) _).trans ((ropes_other _ _ p l).trans ?_)
  unfold Mla.other
  split_ifs with h
  · exact taken0 _ _ p ⟨l.val - 64, by omega⟩
  · rfl

theorem split_q (w : FVec Ideal S256x384 .f32) (n : Fin 256) (h : Fin 4) (l : Fin 96) :
    shapeCast S256x4x96 w shapeCasts_S256x384_S256x4x96 (ix3 n h l) = w (ix2 n ⟨h.val * 96 + l.val, by omega⟩) := by
  pointwise []

theorem split_kv (w : FVec Ideal S128x512 .f32) (n : Fin 128) (h : Fin 4) (l : Fin 128) :
    shapeCast S128x4x128 w shapeCasts_S128x512_S128x4x128 (ix3 n h l) = w (ix2 n ⟨h.val * 128 + l.val, by omega⟩) := by
  pointwise []

theorem wq_own (c : Dev nD) (n : Fin 256) (j : Fin 512) : (show EReal from V m c main_v36 (ix2 n ⟨j.val, by omega⟩))
    = Mla.own (fun i => (show EReal from (m ((c.tc : Thread nD τ).loc main_arg4)) (ix2 n ⟨j.val / 128 * 96 + i.val, by omega⟩)))
      (fun i => (show EReal from (m ((c.tc : Thread nD τ).loc main_arg4)) (ix2 n ⟨j.val / 128 * 96 + (64 + i.val), by omega⟩))) ⟨j.val % 128, Nat.mod_lt _ (by omega)⟩ := by
  refine (congrFun (entry_wq m c) _).trans ((qweights_own _ _ n j).trans ?_)
  simp only [split_q]

theorem wq_other (c : Dev nD) (n : Fin 256) (j : Fin 512) : (show EReal from V m c main_v36 (ix2 n ⟨512 + j.val, by omega⟩))
    = Mla.other (fun i => (show EReal from (m ((c.tc : Thread nD τ).loc main_arg4)) (ix2 n ⟨j.val / 128 * 96 + (64 + i.val), by omega⟩))) ⟨j.val % 128, Nat.mod_lt _ (by omega)⟩ := by
  refine (congrFun (entry_wq m c) _).trans ((qweights_other _ _ n j).trans ?_)
  unfold Mla.other
  split_ifs with h
  · exact (taken1 _ _ n ⟨j.val / 128, by omega⟩ ⟨j.val % 128 - 64, by omega⟩).trans (split_q _ n _ _)
  · rfl

theorem wkv_keys (c : Dev nD) (n : Fin 128) (j : Fin 512) : (show EReal from V m c main_v46 (ix2 n ⟨j.val, by omega⟩))
    = Mla.own (fun i => (show EReal from (m ((c.tc : Thread nD τ).loc main_arg6)) (ix2 n ⟨j.val / 128 * 128 + i.val, by omega⟩))) (fun _ => 0) ⟨j.val % 128, Nat.mod_lt _ (by omega)⟩ := by
  refine (congrFun (entry_wkv m c) _).trans ((kvweights_keys _ n j).trans ?_)
  simp only [split_kv]

theorem wkv_values (c : Dev nD) (n : Fin 128) (j : Fin 512) : (show EReal from V m c main_v46 (ix2 n ⟨512 + j.val, by omega⟩))
    = Mla.own (fun i => (show EReal from (m ((c.tc : Thread nD τ).loc main_arg6)) (ix2 n ⟨j.val / 128 * 128 + (64 + i.val), by omega⟩))) (fun _ => 0) ⟨j.val % 128, Nat.mod_lt _ (by omega)⟩ := by
  refine (congrFun (entry_wkv m c) _).trans ((kvweights_values _ n j).trans ?_)
  simp only [split_kv]

theorem row_q (g : FVec Ideal S256 .f32) (k : Fin 256) : broadcastInDim S1x256 ![1] bcast_S256_S1x256_1 g (ix2 0 k) = g (ix1 k) := by
  pointwise []

theorem row_kv (g : FVec Ideal S128 .f32) (k : Fin 128) : broadcastInDim S1x128 ![1] bcast_S128_S1x128_1 g (ix2 0 k) = g (ix1 k) := by
  pointwise []

end Cert.MlaKernelIdeal.Mla

end
-- ==== Proof.Mla.Ref.lean ====
/- The plain up-projections of the latent, at an index. -/
module

public import proofs.«01_k».proof.Proof.Gen.MlaReferenceIdeal.Run
public import proofs.«01_k».proof.Proof.Mla.Rot
public import Idealize.ShloMosaic.Lib.Claim
public import Idealize.ShloMosaic.Lib.Pointwise

@[expose] public section

set_option maxRecDepth 16384

noncomputable section

namespace Cert.MlaReferenceIdeal.Mla

open Cert.MlaReferenceIdeal Cert.MlaReferenceIdeal.Gen Idealize.ShloMosaic Idealize.ShloMosaic.TcCoe Idealize.ShloMosaic.Tactic Idealize.SL.Sem

/-- Sixteen columns of every head turned, as the reference computes it. -/
def qturn (x : FVec Ideal S2x16384x4x16 .f32) (A : FVec Ideal S16384x8 .f32) : FVec Ideal S2x16384x4x16 .f32 :=
  concatenate S2x16384x4x16 3
    [⟨S2x16384x4x8, subf (mulf (extractStridedSlice S2x16384x4x8 ![0, 0, 0, 0] x slices_S2x16384x4x16_S2x16384x4x8_0_0_0_0) (broadcastInDim S2x16384x4x8 ![0, 1, 2, 3] bcast_S1x16384x1x8_S2x16384x4x8_0_1_2_3 (broadcastInDim S1x16384x1x8 ![1, 3] bcast_S16384x8_S1x16384x1x8_1_3 (Host.cos A))))
      (mulf (extractStridedSlice S2x16384x4x8 ![0, 0, 0, 8] x slices_S2x16384x4x16_S2x16384x4x8_0_0_0_8) (broadcastInDim S2x16384x4x8 ![0, 1, 2, 3] bcast_S1x16384x1x8_S2x16384x4x8_0_1_2_3 (broadcastInDim S1x16384x1x8 ![1, 3] bcast_S16384x8_S1x16384x1x8_1_3 (Host.sin A))))⟩,
     ⟨S2x16384x4x8, addf (mulf (extractStridedSlice S2x16384x4x8 ![0, 0, 0, 0] x slices_S2x16384x4x16_S2x16384x4x8_0_0_0_0) (broadcastInDim S2x16384x4x8 ![0, 1, 2, 3] bcast_S1x16384x1x8_S2x16384x4x8_0_1_2_3 (broadcastInDim S1x16384x1x8 ![1, 3] bcast_S16384x8_S1x16384x1x8_1_3 (Host.sin A))))
      (mulf (extractStridedSlice S2x16384x4x8 ![0, 0, 0, 8] x slices_S2x16384x4x16_S2x16384x4x8_0_0_0_8) (broadcastInDim S2x16384x4x8 ![0, 1, 2, 3] bcast_S1x16384x1x8_S2x16384x4x8_0_1_2_3 (broadcastInDim S1x16384x1x8 ![1, 3] bcast_S16384x8_S1x16384x1x8_1_3 (Host.cos A))))⟩] concatenates_S2x16384x4x8_S2x16384x4x8_S2x16384x4x16_d3

/-- The rotary columns of every head turned. -/
def qrot (x : FVec Ideal S2x16384x4x32 .f32) (A B : FVec Ideal S16384x8 .f32) : FVec Ideal S2x16384x4x32 .f32 :=
  concatenate S2x16384x4x32 3
    [⟨S2x16384x4x16, qturn (extractStridedSlice S2x16384x4x16 ![0, 0, 0, 0] x slices_S2x16384x4x32_S2x16384x4x16_0_0_0_0) A⟩,
     ⟨S2x16384x4x16, qturn (extractStridedSlice S2x16384x4x16 ![0, 0, 0, 16] x slices_S2x16384x4x32_S2x16384x4x16_0_0_0_16) B⟩] concatenates_S2x16384x4x16_S2x16384x4x16_S2x16384x4x32_d3

theorem qturn_at (x : FVec Ideal S2x16384x4x16 .f32) (A : FVec Ideal S16384x8 .f32) (b : Fin 2) (s : Fin 16384) (h : Fin 4) (k : Fin 16) :
    qturn x A (ix4 b s h k) = Mla.turn (fun i => x (ix4 b s h i)) (fun i => Ideal.cos (A (ix2 s i))) (fun i => Ideal.sin (A (ix2 s i))) k := by
  unfold qturn
  pointwise []
  rfl

theorem qrot_at (x : FVec Ideal S2x16384x4x32 .f32) (A B : FVec Ideal S16384x8 .f32) (b : Fin 2) (s : Fin 16384) (h : Fin 4) (k : Fin 32) :
    qrot x A B (ix4 b s h k) = Mla.rot (fun i => x (ix4 b s h i)) (fun i => Ideal.cos (A (ix2 s i))) (fun i => Ideal.sin (A (ix2 s i)))
      (fun i => Ideal.cos (B (ix2 s i))) (fun i => Ideal.sin (B (ix2 s i))) k := by
  unfold qrot
  pointwise [qturn_at]
  rfl

/-- Sixteen columns of every head turned, as the reference computes it. -/
def kturn (x : FVec Ideal S2x16384x1x16 .f32) (A : FVec Ideal S16384x8 .f32) : FVec Ideal S2x16384x1x16 .f32 :=
  concatenate S2x16384x1x16 3
    [⟨S2x16384x1x8, subf (mulf (extractStridedSlice S2x16384x1x8 ![0, 0, 0, 0] x slices_S2x16384x1x16_S2x16384x1x8_0_0_0_0) (broadcastInDim S2x16384x1x8 ![0, 1, 2, 3] bcast_S1x16384x1x8_S2x16384x1x8_0_1_2_3 (broadcastInDim S1x16384x1x8 ![1, 3] bcast_S16384x8_S1x16384x1x8_1_3 (Host.cos A))))
      (mulf (extractStridedSlice S2x16384x1x8 ![0, 0, 0, 8] x slices_S2x16384x1x16_S2x16384x1x8_0_0_0_8) (broadcastInDim S2x16384x1x8 ![0, 1, 2, 3] bcast_S1x16384x1x8_S2x16384x1x8_0_1_2_3 (broadcastInDim S1x16384x1x8 ![1, 3] bcast_S16384x8_S1x16384x1x8_1_3 (Host.sin A))))⟩,
     ⟨S2x16384x1x8, addf (mulf (extractStridedSlice S2x16384x1x8 ![0, 0, 0, 0] x slices_S2x16384x1x16_S2x16384x1x8_0_0_0_0) (broadcastInDim S2x16384x1x8 ![0, 1, 2, 3] bcast_S1x16384x1x8_S2x16384x1x8_0_1_2_3 (broadcastInDim S1x16384x1x8 ![1, 3] bcast_S16384x8_S1x16384x1x8_1_3 (Host.sin A))))
      (mulf (extractStridedSlice S2x16384x1x8 ![0, 0, 0, 8] x slices_S2x16384x1x16_S2x16384x1x8_0_0_0_8) (broadcastInDim S2x16384x1x8 ![0, 1, 2, 3] bcast_S1x16384x1x8_S2x16384x1x8_0_1_2_3 (broadcastInDim S1x16384x1x8 ![1, 3] bcast_S16384x8_S1x16384x1x8_1_3 (Host.cos A))))⟩] concatenates_S2x16384x1x8_S2x16384x1x8_S2x16384x1x16_d3

/-- The rotary columns of every head turned. -/
def krot (x : FVec Ideal S2x16384x1x32 .f32) (A B : FVec Ideal S16384x8 .f32) : FVec Ideal S2x16384x1x32 .f32 :=
  concatenate S2x16384x1x32 3
    [⟨S2x16384x1x16, kturn (extractStridedSlice S2x16384x1x16 ![0, 0, 0, 0] x slices_S2x16384x1x32_S2x16384x1x16_0_0_0_0) A⟩,
     ⟨S2x16384x1x16, kturn (extractStridedSlice S2x16384x1x16 ![0, 0, 0, 16] x slices_S2x16384x1x32_S2x16384x1x16_0_0_0_16) B⟩] concatenates_S2x16384x1x16_S2x16384x1x16_S2x16384x1x32_d3

theorem kturn_at (x : FVec Ideal S2x16384x1x16 .f32) (A : FVec Ideal S16384x8 .f32) (b : Fin 2) (s : Fin 16384) (k : Fin 16) :
    kturn x A (ix4 b s 0 k) = Mla.turn (fun i => x (ix4 b s 0 i)) (fun i => Ideal.cos (A (ix2 s i))) (fun i => Ideal.sin (A (ix2 s i))) k := by
  unfold kturn
  pointwise []
  rfl

theorem krot_at (x : FVec Ideal S2x16384x1x32 .f32) (A B : FVec Ideal S16384x8 .f32) (b : Fin 2) (s : Fin 16384) (k : Fin 32) :
    krot x A B (ix4 b s 0 k) = Mla.rot (fun i => x (ix4 b s 0 i)) (fun i => Ideal.cos (A (ix2 s i))) (fun i => Ideal.sin (A (ix2 s i)))
      (fun i => Ideal.cos (B (ix2 s i))) (fun i => Ideal.sin (B (ix2 s i))) k := by
  unfold krot
  pointwise [kturn_at]
  rfl

/-- The query latent's rows normalised and multiplied by the weights, a head's columns together. -/
def qprod (v : FVec Ideal S32768x256 .f32) (g : FVec Ideal S256 .f32) (w : FVec Ideal S256x384 .f32) : FVec Ideal S2x16384x4x96 .f32 :=
  shapeCast S2x16384x4x96 (Host.dotGeneral dot_S2x16384x256_S256x384_S2x16384x384_2_0_01_1_n_n none (mulf (mulf (shapeCast S2x16384x256 v shapeCasts_S32768x256_S2x16384x256)
    (broadcastInDim S2x16384x256 ![0, 1, 2] bcast_S2x16384x1_S2x16384x256_0_1_2 (Host.rsqrt (addf (Host.divf (broadcastInDim S2x16384x1 ![0, 1] bcast_S2x16384_S2x16384x1_0_1
      (Host.reduceAdd (mulf (shapeCast S2x16384x256 v shapeCasts_S32768x256_S2x16384x256) (shapeCast S2x16384x256 v shapeCasts_S32768x256_S2x16384x256)) (constant S_ .f32 0x00000000#32) reducesTo_S2x16384x256_S2x16384_d2 h_S_))
      (broadcastInDim S2x16384x1 ![] bcast_S_S2x16384x1 (constant S_ .f32 0x43800000#32))) (broadcastInDim S2x16384x1 ![] bcast_S_S2x16384x1 (constant S_ .f32 0x358637BD#32))))))
    (broadcastInDim S2x16384x256 ![0, 1, 2] bcast_S1x1x256_S2x16384x256_0_1_2 (broadcastInDim S1x1x256 ![2] bcast_S256_S1x1x256_2 g))) w) shapeCasts_S2x16384x384_S2x16384x4x96

/-- A token's product with a column of the weights. -/
def qcol (v : FVec Ideal S32768x256 .f32) (g : FVec Ideal S256 .f32) (w : FVec Ideal S256x384 .f32) (p : Fin 32768) (j : Fin 384) : EReal :=
  ∑ n, Mla.norm (Ideal.ofBits .f32 0x43800000#32) (fun n => v (ix2 p n)) (fun n => g (ix1 n)) n * w (ix2 n j)

theorem qprod_at (v : FVec Ideal S32768x256 .f32) (g : FVec Ideal S256 .f32) (w : FVec Ideal S256x384 .f32) (p : Fin 32768) (h : Fin 4) (l : Fin 96) :
    qprod v g w (ix4 ⟨p.val / 16384, by omega⟩ ⟨p.val % 16384, Nat.mod_lt _ (by omega)⟩ h l) = qcol v g w p ⟨h.val * 96 + l.val, by omega⟩ := by
  unfold qprod qcol Mla.norm
  pointwise []

/-- The key and value latent's rows normalised and multiplied by the weights, a head's columns together. -/
def kvprod (v : FVec Ideal S32768x128 .f32) (g : FVec Ideal S128 .f32) (w : FVec Ideal S128x512 .f32) : FVec Ideal S2x16384x4x128 .f32 :=
  shapeCast S2x16384x4x128 (Host.dotGeneral dot_S2x16384x128_S128x512_S2x16384x512_2_0_01_1_n_n none (mulf (mulf (shapeCast S2x16384x128 v shapeCasts_S32768x128_S2x16384x128)
    (broadcastInDim S2x16384x128 ![0, 1, 2] bcast_S2x16384x1_S2x16384x128_0_1_2 (Host.rsqrt (addf (Host.divf (broadcastInDim S2x16384x1 ![0, 1] bcast_S2x16384_S2x16384x1_0_1
      (Host.reduceAdd (mulf (shapeCast S2x16384x128 v shapeCasts_S32768x128_S2x16384x128) (shapeCast S2x16384x128 v shapeCasts_S32768x128_S2x16384x128)) (constant S_ .f32 0x00000000#32) reducesTo_S2x16384x128_S2x16384_d2 h_S_))
      (broadcastInDim S2x16384x1 ![] bcast_S_S2x16384x1 (constant S_ .f32 0x43000000#32))) (broadcastInDim S2x16384x1 ![] bcast_S_S2x16384x1 (constant S_ .f32 0x358637BD#32))))))
    (broadcastInDim S2x16384x128 ![0, 1, 2] bcast_S1x1x128_S2x16384x128_0_1_2 (broadcastInDim S1x1x128 ![2] bcast_S128_S1x1x128_2 g))) w) shapeCasts_S2x16384x512_S2x16384x4x128

/-- A token's product with a column of the weights. -/
def kvcol (v : FVec Ideal S32768x128 .f32) (g : FVec Ideal S128 .f32) (w : FVec Ideal S128x512 .f32) (p : Fin 32768) (j : Fin 512) : EReal :=
  ∑ n, Mla.norm (Ideal.ofBits .f32 0x43000000#32) (fun n => v (ix2 p n)) (fun n => g (ix1 n)) n * w (ix2 n j)

theorem kvprod_at (v : FVec Ideal S32768x128 .f32) (g : FVec Ideal S128 .f32) (w : FVec Ideal S128x512 .f32) (p : Fin 32768) (h : Fin 4) (l : Fin 128) :
    kvprod v g w (ix4 ⟨p.val / 16384, by omega⟩ ⟨p.val % 16384, Nat.mod_lt _ (by omega)⟩ h l) = kvcol v g w p ⟨h.val * 128 + l.val, by omega⟩ := by
  unfold kvprod kvcol Mla.norm
  pointwise []

/-- A head's columns side by side with the other heads'. -/
def lanes (y : FVec Ideal S2x16384x4x128 .bf16) : FVec Ideal S32768x512 .bf16 :=
  shapeCast S32768x512 (shapeCast S2x16384x512 y shapeCasts_S2x16384x4x128_S2x16384x512) shapeCasts_S2x16384x512_S32768x512

theorem lanes_at (y : FVec Ideal S2x16384x4x128 .bf16) (p : Fin 32768) (j : Fin 512) :
    lanes y (ix2 p j) = y (ix4 ⟨p.val / 16384, by omega⟩ ⟨p.val % 16384, Nat.mod_lt _ (by omega)⟩ ⟨j.val / 128, by omega⟩ ⟨j.val % 128, Nat.mod_lt _ (by omega)⟩) := by
  unfold lanes
  pointwise []

/-- The queries. -/
def queries (u : FVec Ideal S2x16384x4x96 .f32) (A B : FVec Ideal S16384x8 .f32) : FVec Ideal S2x16384x4x128 .bf16 :=
  pad S2x16384x4x128 ![0, 0, 0, 0] ![0, 0, 0, 32] ![0, 0, 0, 0] (truncf .bf16 (concatenate S2x16384x4x96 3
    [⟨S2x16384x4x64, extractStridedSlice S2x16384x4x64 ![0, 0, 0, 0] u slices_S2x16384x4x96_S2x16384x4x64_0_0_0_0⟩,
     ⟨S2x16384x4x32, qrot (extractStridedSlice S2x16384x4x32 ![0, 0, 0, 64] u slices_S2x16384x4x96_S2x16384x4x32_0_0_0_64) A B⟩]
    concatenates_S2x16384x4x64_S2x16384x4x32_S2x16384x4x96_d3) bitsLt_bf16_f32) (sitofp .bf16 (constantI S_ 32 0#32)) pads_S2x16384x4x96_S2x16384x4x128_000_000_000_0320 h_S_

theorem queries_at (u : FVec Ideal S2x16384x4x96 .f32) (A B : FVec Ideal S16384x8 .f32) (b : Fin 2) (s : Fin 16384) (h : Fin 4) (l : Fin 128) :
    queries u A B (ix4 b s h l) = Mla.head (fun i => u (ix4 b s h ⟨i.val, by omega⟩)) (fun i => u (ix4 b s h ⟨64 + i.val, by omega⟩))
      (fun i => Ideal.cos (A (ix2 s i))) (fun i => Ideal.sin (A (ix2 s i))) (fun i => Ideal.cos (B (ix2 s i))) (fun i => Ideal.sin (B (ix2 s i))) l := by
  unfold queries Mla.head
  pointwise [qrot_at]
  split_ifs <;> first | rfl | exact Mla.sitofp_zero _ | (exfalso; omega)

/-- The keys: the rotary columns are the same for every head. -/
def keys (u : FVec Ideal S2x16384x4x128 .f32) (r : FVec Ideal S2x16384x1x32 .f32) (A B : FVec Ideal S16384x8 .f32) : FVec Ideal S2x16384x4x128 .bf16 :=
  pad S2x16384x4x128 ![0, 0, 0, 0] ![0, 0, 0, 32] ![0, 0, 0, 0] (truncf .bf16 (concatenate S2x16384x4x96 3
    [⟨S2x16384x4x64, extractStridedSlice S2x16384x4x64 ![0, 0, 0, 0] u slices_S2x16384x4x128_S2x16384x4x64_0_0_0_0⟩,
     ⟨S2x16384x4x32, broadcastInDim S2x16384x4x32 ![0, 1, 2, 3] bcast_S2x16384x1x32_S2x16384x4x32_0_1_2_3 (krot r A B)⟩]
    concatenates_S2x16384x4x64_S2x16384x4x32_S2x16384x4x96_d3) bitsLt_bf16_f32) (sitofp .bf16 (constantI S_ 32 0#32)) pads_S2x16384x4x96_S2x16384x4x128_000_000_000_0320 h_S_

theorem keys_at (u : FVec Ideal S2x16384x4x128 .f32) (r : FVec Ideal S2x16384x1x32 .f32) (A B : FVec Ideal S16384x8 .f32) (b : Fin 2) (s : Fin 16384) (h : Fin 4) (l : Fin 128) :
    keys u r A B (ix4 b s h l) = Mla.head (fun i => u (ix4 b s h ⟨i.val, by omega⟩)) (fun i => r (ix4 b s 0 i))
      (fun i => Ideal.cos (A (ix2 s i))) (fun i => Ideal.sin (A (ix2 s i))) (fun i => Ideal.cos (B (ix2 s i))) (fun i => Ideal.sin (B (ix2 s i))) l := by
  unfold keys Mla.head
  pointwise [krot_at]
  split_ifs <;> first | rfl | exact Mla.sitofp_zero _ | (exfalso; omega)

/-- The rotary key of a token. -/
def rope (k : FVec Ideal S32768x32 .f32) : FVec Ideal S2x16384x1x32 .f32 :=
  broadcastInDim S2x16384x1x32 ![0, 1, 3] bcast_S2x16384x32_S2x16384x1x32_0_1_3 (shapeCast S2x16384x32 k shapeCasts_S32768x32_S2x16384x32)

theorem rope_at (k : FVec Ideal S32768x32 .f32) (p : Fin 32768) (i : Fin 32) :
    rope k (ix4 ⟨p.val / 16384, by omega⟩ ⟨p.val % 16384, Nat.mod_lt _ (by omega)⟩ 0 i) = k (ix2 p i) := by
  unfold rope
  pointwise []

/-- The values. -/
def values (u : FVec Ideal S2x16384x4x128 .f32) : FVec Ideal S2x16384x4x128 .bf16 :=
  pad S2x16384x4x128 ![0, 0, 0, 0] ![0, 0, 0, 64] ![0, 0, 0, 0] (truncf .bf16 (extractStridedSlice S2x16384x4x64 ![0, 0, 0, 64] u slices_S2x16384x4x128_S2x16384x4x64_0_0_0_64) bitsLt_bf16_f32) (sitofp .bf16 (constantI S_ 32 0#32)) pads_S2x16384x4x64_S2x16384x4x128_000_000_000_0640 h_S_

theorem values_at (u : FVec Ideal S2x16384x4x128 .f32) (b : Fin 2) (s : Fin 16384) (h : Fin 4) (l : Fin 128) :
    values u (ix4 b s h l) = Mla.own (fun i => u (ix4 b s h ⟨64 + i.val, by omega⟩)) (fun _ => 0) l := by
  unfold values Mla.own
  pointwise []
  split_ifs <;> first | rfl | exact Mla.sitofp_zero _ | (exfalso; omega)

theorem first (m : (ℓ : Loc nD τ sig) → Buf (Elt Ideal) ℓ) (c : Dev nD) : Value.res_out0 m c
    = lanes (queries (qprod (m ((c.tc : Thread nD τ).loc main_arg0)) (m ((c.tc : Thread nD τ).loc main_arg3)) (m ((c.tc : Thread nD τ).loc main_arg4))) (m ((c.tc : Thread nD τ).loc main_arg7)) (m ((c.tc : Thread nD τ).loc main_arg8))) := rfl

theorem second (m : (ℓ : Loc nD τ sig) → Buf (Elt Ideal) ℓ) (c : Dev nD) : Value.res_out1 m c
    = lanes (keys (kvprod (m ((c.tc : Thread nD τ).loc main_arg1)) (m ((c.tc : Thread nD τ).loc main_arg5)) (m ((c.tc : Thread nD τ).loc main_arg6))) (rope (m ((c.tc : Thread nD τ).loc main_arg2))) (m ((c.tc : Thread nD τ).loc main_arg7)) (m ((c.tc : Thread nD τ).loc main_arg8))) := rfl

/-- The queries of a token, one head after another. -/
def qrow (v : FVec Ideal S32768x256 .f32) (g : FVec Ideal S256 .f32) (w : FVec Ideal S256x384 .f32) (A B : FVec Ideal S16384x8 .f32) (p : Fin 32768) (s : Fin 16384) (h : Fin 4) (l : Fin 128) : EReal :=
  Mla.head (fun i => qcol v g w p ⟨h.val * 96 + i.val, by omega⟩) (fun i => qcol v g w p ⟨h.val * 96 + (64 + i.val), by omega⟩)
    (fun i => Ideal.cos (A (ix2 s i))) (fun i => Ideal.sin (A (ix2 s i))) (fun i => Ideal.cos (B (ix2 s i))) (fun i => Ideal.sin (B (ix2 s i))) l

/-- The keys of a token, one head after another. -/
def krow (v : FVec Ideal S32768x128 .f32) (r : FVec Ideal S32768x32 .f32) (g : FVec Ideal S128 .f32) (w : FVec Ideal S128x512 .f32) (A B : FVec Ideal S16384x8 .f32) (p : Fin 32768) (s : Fin 16384) (h : Fin 4) (l : Fin 128) : EReal :=
  Mla.head (fun i => kvcol v g w p ⟨h.val * 128 + i.val, by omega⟩) (fun i => r (ix2 p i))
    (fun i => Ideal.cos (A (ix2 s i))) (fun i => Ideal.sin (A (ix2 s i))) (fun i => Ideal.cos (B (ix2 s i))) (fun i => Ideal.sin (B (ix2 s i))) l

/-- The values of a token, one head after another. -/
def vrow (v : FVec Ideal S32768x128 .f32) (g : FVec Ideal S128 .f32) (w : FVec Ideal S128x512 .f32) (p : Fin 32768) (h : Fin 4) (l : Fin 128) : EReal :=
  Mla.own (fun i => kvcol v g w p ⟨h.val * 128 + (64 + i.val), by omega⟩) (fun _ => 0) l

theorem first_at (v : FVec Ideal S32768x256 .f32) (g : FVec Ideal S256 .f32) (w : FVec Ideal S256x384 .f32) (A B : FVec Ideal S16384x8 .f32) (p : Fin 32768) (j : Fin 512) :
    lanes (queries (qprod v g w) A B) (ix2 p j)
      = qrow v g w A B p ⟨p.val % 16384, Nat.mod_lt _ (by omega)⟩ ⟨j.val / 128, by omega⟩ ⟨j.val % 128, Nat.mod_lt _ (by omega)⟩ := by
  rw [lanes_at, queries_at]
  simp only [qprod_at]
  rfl

theorem second_at (v : FVec Ideal S32768x128 .f32) (r : FVec Ideal S32768x32 .f32) (g : FVec Ideal S128 .f32) (w : FVec Ideal S128x512 .f32) (A B : FVec Ideal S16384x8 .f32) (p : Fin 32768) (j : Fin 512) :
    lanes (keys (kvprod v g w) (rope r) A B) (ix2 p j)
      = krow v r g w A B p ⟨p.val % 16384, Nat.mod_lt _ (by omega)⟩ ⟨j.val / 128, by omega⟩ ⟨j.val % 128, Nat.mod_lt _ (by omega)⟩ := by
  rw [lanes_at, keys_at]
  simp only [kvprod_at, rope_at]
  rfl

theorem third_at (v : FVec Ideal S32768x128 .f32) (g : FVec Ideal S128 .f32) (w : FVec Ideal S128x512 .f32) (p : Fin 32768) (j : Fin 512) :
    lanes (values (kvprod v g w)) (ix2 p j) = vrow v g w p ⟨j.val / 128, by omega⟩ ⟨j.val % 128, Nat.mod_lt _ (by omega)⟩ := by
  rw [lanes_at, values_at]
  simp only [kvprod_at]
  rfl

end Cert.MlaReferenceIdeal.Mla

end
-- ==== Proof.Mla.Final.lean ====
/- The arrays the latent's kernel leaves. -/
module

public import proofs.«01_k».proof.Proof.Mla.Entry
public import proofs.«01_k».proof.Proof.Mla.Ref
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.MlaKernelIdeal.Mla

open Cert.MlaKernelIdeal Cert.MlaKernelIdeal.Gen Idealize.ShloMosaic Idealize.ShloMosaic.TcCoe Idealize.ShloMosaic.Tactic Idealize.SL.Sem

variable (m : (ℓ : Loc nD τ sig) → Buf (Elt Ideal) ℓ) (ρ : Dev nD → PrngReg)

/-- Every window's block index, by the point. -/
theorem idx : ∀ t : Fin cfg0.N, t.val < 64 ∧ win0_0.index t = ![t.val, 0] ∧ win0_1.index t = ![t.val, 0] ∧ win0_2.index t = ![t.val, 0]
    ∧ win0_3.index t = ![t.val % 32, 0] ∧ win0_4.index t = ![t.val % 32, 0] ∧ win0_5.index t = ![0, 0] ∧ win0_6.index t = ![0, 0]
    ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, _)

/-- The token of a point's row. -/
def tok (t : Fin cfg0.N) (r : Fin 512) : Fin 32768 := ⟨t.val * 512 + r.val, by have := (idx t).1; omega⟩

/-- The place of a point's row in its sequence. -/
def pos (t : Fin cfg0.N) (r : Fin 512) : Fin 16384 := ⟨t.val % 32 * 512 + r.val, by omega⟩

theorem pos_eq (t : Fin cfg0.N) (r : Fin 512) : pos t r = ⟨(tok t r).val % 16384, Nat.mod_lt _ (by omega)⟩ :=
  Fin.ext (show t.val % 32 * 512 + r.val = (t.val * 512 + r.val) % 16384 by omega)

theorem block0 (c : Dev nD) (t : Fin cfg0.N) (r : Fin 512) (k : Fin 256) : iblk m c 0 t (ix2 (n0 := 512) (n1 := 256) r k) = V m c main_arg0 (ix2 (tok t r) k) :=
  congrArg (V m c main_arg0) (by
    funext a
    fin_cases a
    · exact Fin.ext (show (((win0_0.blk t).view.emb (ix2 (n0 := 512) (n1 := 256) r k)) 0 : ℕ) = t.val * 512 + r.val by blk_simp [idx t])
    · exact Fin.ext (show (((win0_0.blk t).view.emb (ix2 (n0 := 512) (n1 := 256) r k)) 1 : ℕ) = k.val by blk_simp [idx t]))

theorem block1 (c : Dev nD) (t : Fin cfg0.N) (r : Fin 512) (k : Fin 128) : iblk m c 1 t (ix2 (n0 := 512) (n1 := 128) r k) = V m c main_arg1 (ix2 (tok t r) k) :=
  congrArg (V m c main_arg1) (by
    funext a
    fin_cases a
    · exact Fin.ext (show (((win0_1.blk t).view.emb (ix2 (n0 := 512) (n1 := 128) r k)) 0 : ℕ) = t.val * 512 + r.val by blk_simp [idx t])
    · exact Fin.ext (show (((win0_1.blk t).view.emb (ix2 (n0 := 512) (n1 := 128) r k)) 1 : ℕ) = k.val by blk_simp [idx t]))

theorem block2 (c : Dev nD) (t : Fin cfg0.N) (r : Fin 512) (k : Fin 256) : iblk m c 2 t (ix2 (n0 := 512) (n1 := 256) r k) = V m c main_v7 (ix2 (tok t r) k) :=
  congrArg (V m c main_v7) (by
    funext a
    fin_cases a
    · exact Fin.ext (show (((win0_2.blk t).view.emb (ix2 (n0 := 512) (n1 := 256) r k)) 0 : ℕ) = t.val * 512 + r.val by blk_simp [idx t])
    · exact Fin.ext (show (((win0_2.blk t).view.emb (ix2 (n0 := 512) (n1 := 256) r k)) 1 : ℕ) = k.val by blk_simp [idx t]))

theorem block3 (c : Dev nD) (t : Fin cfg0.N) (r : Fin 512) (k : Fin 128) : iblk m c 3 t (ix2 (n0 := 512) (n1 := 128) r k) = V m c main_v20 (ix2 (pos t r) k) :=
  congrArg (V m c main_v20) (by
    funext a
    fin_cases a
    · exact Fin.ext (show (((win0_3.blk t).view.emb (ix2 (n0 := 512) (n1 := 128) r k)) 0 : ℕ) = t.val % 32 * 512 + r.val by blk_simp [idx t])
    · exact Fin.ext (show (((win0_3.blk t).view.emb (ix2 (n0 := 512) (n1 := 128) r k)) 1 : ℕ) = k.val by blk_simp [idx t]))

theorem block4 (c : Dev nD) (t : Fin cfg0.N) (r : Fin 512) (k : Fin 128) : iblk m c 4 t (ix2 (n0 := 512) (n1 := 128) r k) = V m c main_v23 (ix2 (pos t r) k) :=
  congrArg (V m c main_v23) (by
    funext a
    fin_cases a
    · exact Fin.ext (show (((win0_4.blk t).view.emb (ix2 (n0 := 512) (n1 := 128) r k)) 0 : ℕ) = t.val % 32 * 512 + r.val by blk_simp [idx t])
    · exact Fin.ext (show (((win0_4.blk t).view.emb (ix2 (n0 := 512) (n1 := 128) r k)) 1 : ℕ) = k.val by blk_simp [idx t]))

theorem block5 (c : Dev nD) (t : Fin cfg0.N) (r : Fin 1) (k : Fin 256) : iblk m c 5 t (ix2 (n0 := 1) (n1 := 256) r k) = V m c main_v47 (ix2 r k) :=
  congrArg (V m c main_v47) (by
    funext a
    fin_cases a
    · exact Fin.ext (show (((win0_5.blk t).view.emb (ix2 (n0 := 1) (n1 := 256) r k)) 0 : ℕ) = r.val by blk_simp [idx t])
    · exact Fin.ext (show (((win0_5.blk t).view.emb (ix2 (n0 := 1) (n1 := 256) r k)) 1 : ℕ) = k.val by blk_simp [idx t]))

theorem block6 (c : Dev nD) (t : Fin cfg0.N) (r : Fin 1) (k : Fin 128) : iblk m c 6 t (ix2 (n0 := 1) (n1 := 128) r k) = V m c main_v48 (ix2 r k) :=
  congrArg (V m c main_v48) (by
    funext a
    fin_cases a
    · exact Fin.ext (show (((win0_6.blk t).view.emb (ix2 (n0 := 1) (n1 := 128) r k)) 0 : ℕ) = r.val by blk_simp [idx t])
    · exact Fin.ext (show (((win0_6.blk t).view.emb (ix2 (n0 := 1) (n1 := 128) r k)) 1 : ℕ) = k.val by blk_simp [idx t]))

theorem block7 (c : Dev nD) (t : Fin cfg0.N) (r : Fin 256) (k : Fin 1024) : iblk m c 7 t (ix2 (n0 := 256) (n1 := 1024) r k) = V m c main_v36 (ix2 r k) :=
  congrArg (V m c main_v36) (by
    funext a
    fin_cases a
    · exact Fin.ext (show (((win0_7.blk t).view.emb (ix2 (n0 := 256) (n1 := 1024) r k)) 0 : ℕ) = r.val by blk_simp [idx t])
    · exact Fin.ext (show (((win0_7.blk t).view.emb (ix2 (n0 := 256) (n1 := 1024) r k)) 1 : ℕ) = k.val by blk_simp [idx t]))

theorem block8 (c : Dev nD) (t : Fin cfg0.N) (r : Fin 128) (k : Fin 1024) : iblk m c 8 t (ix2 (n0 := 128) (n1 := 1024) r k) = V m c main_v46 (ix2 r k) :=
  congrArg (V m c main_v46) (by
    funext a
    fin_cases a
    · exact Fin.ext (show (((win0_8.blk t).view.emb (ix2 (n0 := 128) (n1 := 1024) r k)) 0 : ℕ) = r.val by blk_simp [idx t])
    · exact Fin.ext (show (((win0_8.blk t).view.emb (ix2 (n0 := 128) (n1 := 1024) r k)) 1 : ℕ) = k.val by blk_simp [idx t]))

/-- A row's columns at a place of the heads: the head is `j / 128`, the column of the head `j % 128`. -/
def G9 (c : Dev nD) : FVec Ideal S32768x512 .bf16 := fun z =>
  Cert.MlaReferenceIdeal.Mla.qrow (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) (z 0) ⟨(z 0).val % 16384, Nat.mod_lt _ (by omega)⟩
    ⟨(z 1).val / 128, by have := ValueIdx.idx2_lt1 z; omega⟩ ⟨(z 1).val % 128, Nat.mod_lt _ (by omega)⟩

def G10 (c : Dev nD) : FVec Ideal S32768x512 .bf16 := fun z =>
  Cert.MlaReferenceIdeal.Mla.krow (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (z 0) ⟨(z 0).val % 16384, Nat.mod_lt _ (by omega)⟩
    ⟨(z 1).val / 128, by have := ValueIdx.idx2_lt1 z; omega⟩ ⟨(z 1).val % 128, Nat.mod_lt _ (by omega)⟩

def G11 (c : Dev nD) : FVec Ideal S32768x512 .bf16 := fun z =>
  Cert.MlaReferenceIdeal.Mla.vrow (m ((c.tc : Thread nD τ).loc main_arg1)) (m ((c.tc : Thread nD τ).loc main_arg5)) (m ((c.tc : Thread nD τ).loc main_arg6)) (z 0)
    ⟨(z 1).val / 128, by have := ValueIdx.idx2_lt1 z; omega⟩ ⟨(z 1).val % 128, Nat.mod_lt _ (by omega)⟩

/-- A block's normalised row of the query latent is its token's. -/
theorem norm_q (c : Dev nD) (t : Fin cfg0.N) (r : Fin 512) (n : Fin 256) :
    Mla.norm (Ideal.ofBits .f32 0x43800000#32) (fun k => iblk m c 0 t (ix2 (n0 := 512) (n1 := 256) r k)) (fun k => iblk m c 5 t (ix2 (n0 := 1) (n1 := 256) 0 k)) n
      = Mla.norm (Ideal.ofBits .f32 0x43800000#32) (fun k => (show EReal from (m ((c.tc : Thread nD τ).loc main_arg0)) (ix2 (tok t r) k))) (fun k => (show EReal from (m ((c.tc : Thread nD τ).loc main_arg3)) (ix1 k))) n :=
  congrFun (congr (congrArg (Mla.norm _) (funext fun k => (block0 m c t r k).trans (congrFun (entry_cq m c) _)))
    (funext fun k => (block5 m c t 0 k).trans ((congrFun (entry_qnorm m c) _).trans (row_q _ k)))) n

/-- A block's normalised row of the key and value latent is its token's. -/
theorem norm_kv (c : Dev nD) (t : Fin cfg0.N) (r : Fin 512) (n : Fin 128) :
    Mla.norm (Ideal.ofBits .f32 0x43000000#32) (fun k => iblk m c 1 t (ix2 (n0 := 512) (n1 := 128) r k)) (fun k => iblk m c 6 t (ix2 (n0 := 1) (n1 := 128) 0 k)) n
      = Mla.norm (Ideal.ofBits .f32 0x43000000#32) (fun k => (show EReal from (m ((c.tc : Thread nD τ).loc main_arg1)) (ix2 (tok t r) k))) (fun k => (show EReal from (m ((c.tc : Thread nD τ).loc main_arg5)) (ix1 k))) n :=
  congrFun (congr (congrArg (Mla.norm _) (funext fun k => (block1 m c t r k).trans (congrFun (entry_ckv m c) _)))
    (funext fun k => (block6 m c t 0 k).trans ((congrFun (entry_kvnorm m c) _).trans (row_kv _ k)))) n

theorem bq_own (c : Dev nD) (t : Fin cfg0.N) (r : Fin 512) (j : Fin 512) :
    bq (iblk m c 0 t) (iblk m c 5 t) (iblk m c 7 t) r ⟨j.val, by omega⟩
      = Mla.own (fun i => Cert.MlaReferenceIdeal.Mla.qcol (m ((c.tc : Thread nD τ).loc main_arg0)) (m ((c.tc : Thread nD τ).loc main_arg3)) (m ((c.tc : Thread nD τ).loc main_arg4)) (tok t r) ⟨j.val / 128 * 96 + i.val, by omega⟩)
        (fun i => Cert.MlaReferenceIdeal.Mla.qcol (m ((c.tc : Thread nD τ).loc main_arg0)) (m ((c.tc : Thread nD τ).loc main_arg3)) (m ((c.tc : Thread nD τ).loc main_arg4)) (tok t r) ⟨j.val / 128 * 96 + (64 + i.val), by omega⟩) ⟨j.val % 128, Nat.mod_lt _ (by omega)⟩ :=
  (Finset.sum_congr rfl fun n _ => congrArg₂ (fun x y : EReal => x * y) (norm_q m c t r n) ((block7 m c t n ⟨j.val, by omega⟩).trans (wq_own m c n j))).trans
    (Mla.own_sum _ _ _ _)

theorem bq_other (c : Dev nD) (t : Fin cfg0.N) (r : Fin 512) (j : Fin 512) :
    bq (iblk m c 0 t) (iblk m c 5 t) (iblk m c 7 t) r ⟨512 + j.val, by omega⟩
      = Mla.other (fun i => Cert.MlaReferenceIdeal.Mla.qcol (m ((c.tc : Thread nD τ).loc main_arg0)) (m ((c.tc : Thread nD τ).loc main_arg3)) (m ((c.tc : Thread nD τ).loc main_arg4)) (tok t r) ⟨j.val / 128 * 96 + (64 + i.val), by omega⟩) ⟨j.val % 128, Nat.mod_lt _ (by omega)⟩ :=
  (Finset.sum_congr rfl fun n _ => congrArg₂ (fun x y : EReal => x * y) (norm_q m c t r n) ((block7 m c t n ⟨512 + j.val, by omega⟩).trans (wq_other m c n j))).trans
    (Mla.other_sum _ _ _)

theorem bkv_keys (c : Dev nD) (t : Fin cfg0.N) (r : Fin 512) (j : Fin 512) :
    bkv (iblk m c 1 t) (iblk m c 6 t) (iblk m c 8 t) r ⟨j.val, by omega⟩
      = Mla.own (fun i => Cert.MlaReferenceIdeal.Mla.kvcol (m ((c.tc : Thread nD τ).loc main_arg1)) (m ((c.tc : Thread nD τ).loc main_arg5)) (m ((c.tc : Thread nD τ).loc main_arg6)) (tok t r) ⟨j.val / 128 * 128 + i.val, by omega⟩) (fun _ => 0) ⟨j.val % 128, Nat.mod_lt _ (by omega)⟩ :=
  (Finset.sum_congr rfl fun n _ => congrArg₂ (fun x y : EReal => x * y) (norm_kv m c t r n) ((block8 m c t n ⟨j.val, by omega⟩).trans (wkv_keys m c n j))).trans
    ((Mla.own_sum _ _ _ _).trans (congrArg (fun g => Mla.own _ g _) (funext fun i => by simp)))

theorem bkv_values (c : Dev nD) (t : Fin cfg0.N) (r : Fin 512) (j : Fin 512) :
    bkv (iblk m c 1 t) (iblk m c 6 t) (iblk m c 8 t) r ⟨512 + j.val, by omega⟩
      = Mla.own (fun i => Cert.MlaReferenceIdeal.Mla.kvcol (m ((c.tc : Thread nD τ).loc main_arg1)) (m ((c.tc : Thread nD τ).loc main_arg5)) (m ((c.tc : Thread nD τ).loc main_arg6)) (tok t r) ⟨j.val / 128 * 128 + (64 + i.val), by omega⟩) (fun _ => 0) ⟨j.val % 128, Nat.mod_lt _ (by omega)⟩ :=
  (Finset.sum_congr rfl fun n _ => congrArg₂ (fun x y : EReal => x * y) (norm_kv m c t r n) ((block8 m c t n ⟨512 + j.val, by omega⟩).trans (wkv_values m c n j))).trans
    ((Mla.own_sum _ _ _ _).trans (congrArg (fun g => Mla.own _ g _) (funext fun i => by simp)))

/-- The cosines and sines a block reads are those of its tokens' angles. -/
theorem cos_at (c : Dev nD) (t : Fin cfg0.N) (r : Fin 512) (l : Fin 128) : iblk m c 3 t (ix2 (n0 := 512) (n1 := 128) r l)
    = Mla.cosines (fun i => Ideal.cos (show EReal from (m ((c.tc : Thread nD τ).loc main_arg7)) (ix2 (pos t r) i))) (fun i => Ideal.cos (show EReal from (m ((c.tc : Thread nD τ).loc main_arg8)) (ix2 (pos t r) i))) l :=
  (block3 m c t r l).trans ((congrFun (entry_cos m c) _).trans (cosTable_at _ _ _ l))

theorem sin_at (c : Dev nD) (t : Fin cfg0.N) (r : Fin 512) (l : Fin 128) : iblk m c 4 t (ix2 (n0 := 512) (n1 := 128) r l)
    = Mla.sines (fun i => Ideal.sin (show EReal from (m ((c.tc : Thread nD τ).loc main_arg7)) (ix2 (pos t r) i))) (fun i => Ideal.sin (show EReal from (m ((c.tc : Thread nD τ).loc main_arg8)) (ix2 (pos t r) i))) l :=
  (block4 m c t r l).trans ((congrFun (entry_sin m c) _).trans (sinTable_at _ _ _ l))

theorem queries_eq (c : Dev nD) (t : Fin cfg0.N) (r : Fin 512) (j : Fin 512) :
    k0_pay6 (F := Ideal) (iblk m c 3 t) (iblk m c 4 t) (iblk m c 0 t) (iblk m c 5 t) (iblk m c 7 t) (ix2 r j) = G9 m c (ix2 (tok t r) j) := by
  refine (pay6_at _ _ _ _ _ r j).trans ?_
  refine (congrArg₂ (fun x y : EReal => x + y) (congrArg₂ (fun x y : EReal => x * y) (bq_own m c t r j) (cos_at m c t r _))
    (congrArg₂ (fun x y : EReal => x * y) (bq_other m c t r j) (sin_at m c t r _))).trans ((Mla.turned _ _ _ _ _ _ _).trans ?_)
  rw [pos_eq]
  rfl

theorem keys_eq (c : Dev nD) (t : Fin cfg0.N) (r : Fin 512) (j : Fin 512) :
    k0_pay2 (F := Ideal) (k0_pay4 (F := Ideal) (iblk m c 3 t)) (k0_pay5 (F := Ideal) (iblk m c 4 t)) (iblk m c 1 t) (k0_pay7 (F := Ideal) (iblk m c 6 t))
      (k0_pay8 (F := Ideal) (iblk m c 1 t)) (iblk m c 8 t) (iblk m c 2 t) (ix2 r j) = G10 m c (ix2 (tok t r) j) := by
  refine (pay2_at _ _ _ _ _ _ r j).trans ?_
  have e2 := (block2 m c t r ⟨j.val % 128, by omega⟩).trans (rope_own m c (tok t r) ⟨j.val % 128, Nat.mod_lt _ (by omega)⟩)
  have e3 := (block2 m c t r ⟨128 + j.val % 128, by omega⟩).trans (rope_other m c (tok t r) ⟨j.val % 128, Nat.mod_lt _ (by omega)⟩)
  refine (congrArg₂ (fun x y : EReal => x + y) (bkv_keys m c t r j) ((congrArg₂ (fun x y : EReal => x + y)
    (congrArg₂ (fun x y : EReal => x * y) e2 (cos_at m c t r _)) (congrArg₂ (fun x y : EReal => x * y) e3 (sin_at m c t r _))).trans
      (Mla.turned _ _ _ _ _ _ _))).trans ((Mla.head_add _ _ _ _ _ _ _).trans ?_)
  rw [pos_eq]
  rfl

theorem values_eq (c : Dev nD) (t : Fin cfg0.N) (r : Fin 512) (j : Fin 512) :
    k0_pay3 (F := Ideal) (iblk m c 1 t) (k0_pay7 (F := Ideal) (iblk m c 6 t)) (k0_pay8 (F := Ideal) (iblk m c 1 t)) (iblk m c 8 t) (ix2 r j) = G11 m c (ix2 (tok t r) j) :=
  (pay3_at _ _ _ r j).trans (bkv_values m c t r j)

/-- A block of a result array, from its entries. -/
theorem piece (t : Fin cfg0.N) (K : FVec Ideal S512x512 .bf16) (G : FVec Ideal S32768x512 .bf16) (h : ∀ r j, K (ix2 r j) = G (ix2 (tok t r) j))
    (y : S512x512.Idx) (z : S32768x512.Idx) (E0 : ((z 0).val : ℕ) = t.val * 512 + (y 0).val) (E1 : ((z 1).val : ℕ) = (y 1).val) : K y = G z := by
  have ey : y = ix2 (n0 := 512) (n1 := 512) (y 0) (y 1) := by
    funext d
    fin_cases d <;> rfl
  have ez : z = ix2 (n0 := 32768) (n1 := 512) (tok t (y 0)) (y 1) := by
    funext d
    fin_cases d
    · exact Fin.ext E0
    · exact Fin.ext E1
  exact (congrArg K ey).trans ((h (y 0) (y 1)).trans (congrArg G ez.symm))

/-- A load of a whole block is the block. -/
theorem ld0 (X : Vec Ideal S512x128 .f32) : View.ld X r0_0 = X := View.ld_unit_lit _ X (by decide)
theorem ld1 (X : Vec Ideal S512x256 .f32) : View.ld X r0_1 = X := View.ld_unit_lit _ X (by decide)
theorem ld2 (X : Vec Ideal S1x256 .f32) : View.ld X r0_2 = X := View.ld_unit_lit _ X (by decide)
theorem ld3 (X : Vec Ideal S256x1024 .bf16) : View.ld X r0_3 = X := View.ld_unit_lit _ X (by decide)
theorem ld5 (X : Vec Ideal S1x128 .f32) : View.ld X r0_5 = X := View.ld_unit_lit _ X (by decide)
theorem ld6 (X : Vec Ideal S128x1024 .bf16) : View.ld X r0_6 = X := View.ld_unit_lit _ X (by decide)

theorem final9 (c : Dev nD) : (dats m 0 c).arrAt 9 cfg0.N = G9 m c := by
  refine (dats m 0 c).arrAt_eq_of_covers 9 _ (by decide +kernel) fun t hf y => ?_
  have E0 : (((win0_9.blk t).view.emb y) 0 : ℕ) = t.val * 512 + (y 0 : ℕ) := by blk_simp [idx t]
  have E1 : (((win0_9.blk t).view.emb y) 1 : ℕ) = (y 1 : ℕ) := by blk_simp [idx t]
  blk_simp
  rw [after0_9, out0_9, View.canon_cons_unit_lit _ _ _ (by decide)]
  simp only [ld0, ld1, ld2, ld3, ld5, ld6]
  exact piece t _ _ (queries_eq m c t) y _ E0 E1

theorem final10 (c : Dev nD) : (dats m 0 c).arrAt 10 cfg0.N = G10 m c := by
  refine (dats m 0 c).arrAt_eq_of_covers 10 _ (by decide +kernel) fun t hf y => ?_
  have E0 : (((win0_10.blk t).view.emb y) 0 : ℕ) = t.val * 512 + (y 0 : ℕ) := by blk_simp [idx t]
  have E1 : (((win0_10.blk t).view.emb y) 1 : ℕ) = (y 1 : ℕ) := by blk_simp [idx t]
  blk_simp
  rw [after0_10, out0_10, k0_pay9, k0_pay10, View.canon_cons_unit_lit _ _ _ (by decide)]
  simp only [ld0, ld1, ld2, ld3, ld5, ld6]
  exact piece t _ _ (keys_eq m c t) y _ E0 E1

theorem final11 (c : Dev nD) : (dats m 0 c).arrAt 11 cfg0.N = G11 m c := by
  refine (dats m 0 c).arrAt_eq_of_covers 11 _ (by decide +kernel) fun t hf y => ?_
  have E0 : (((win0_11.blk t).view.emb y) 0 : ℕ) = t.val * 512 + (y 0 : ℕ) := by blk_simp [idx t]
  have E1 : (((win0_11.blk t).view.emb y) 1 : ℕ) = (y 1 : ℕ) := by blk_simp [idx t]
  blk_simp
  rw [after0_11, out0_11, k0_pay9, k0_pay10, View.canon_cons_unit_lit _ _ _ (by decide)]
  simp only [ld0, ld1, ld2, ld3, ld5, ld6]
  exact piece t _ _ (values_eq m c t) y _ E0 E1

end Cert.MlaKernelIdeal.Mla

end
-- ==== Proof.Mla.Claims.lean ====
/- The claims about the latent's up-projections. -/
module

public import proofs.«01_k».proof.Proof.Mla.Final
public import proofs.«01_k».proof.Proof.Gen.MlaKernel.Frame
public import proofs.«01_k».proof.Defs
public import Idealize.ShloMosaic.Lib.Claim

@[expose] public section

set_option maxRecDepth 16384

noncomputable section

namespace Cert.Latent

open Idealize.ShloMosaic Idealize.ShloMosaic.TcCoe Idealize.ShloMosaic.Tactic Idealize.SL.Sem

/-- The kernel's frame. -/
theorem frame_p : Cert.quiescent_MlaKernel := fun m g _ => Cert.MlaKernel.Gen.frame m g

/-- The idealized kernel's frame. -/
theorem frame_pi : Cert.quiescent_MlaKernelIdeal := fun m g _ => Cert.MlaKernelIdeal.Gen.frame m g

/-- The reference's frame. -/
theorem frame_ri : Cert.quiescent_MlaReferenceIdeal := fun m g _ =>
  (θ_run Cert.MlaReferenceIdeal.defs _ _).mono (fun r h => ⟨fun c => (h c).2.2.2, Idealize.ShloMosaic.sem_eq_zero_of_no_sems (by decide) r.2⟩)
    (Cert.MlaReferenceIdeal.Value.run (F := Ideal) m g)

/-- No constant is named. -/
theorem preserves : Cert.preserves_MlaKernel_MlaKernelIdeal := trivial

/-- A result index is its token and its column. -/
theorem index_split (y : (⟨2, ![32768, 512]⟩ : Shape).Idx) : y = ix2 (y 0) (y 1) := by
  funext d
  fin_cases d <;> rfl

/-- The kernel computes the reference's queries, keys and values. -/
theorem algebraic : Cert.algebraic_MlaKernelIdeal_MlaReferenceIdeal := by
  intro m g m' g' _ hagree
  refine ⟨fun c => Cert.MlaKernelIdeal.Mla.G9 m c, fun c => Cert.MlaKernelIdeal.Mla.G10 m c, fun c => Cert.MlaKernelIdeal.Mla.G11 m c, ?_, ?_⟩
  · refine (θ_run _ _ _).mono (fun r h c => ?_) (Cert.MlaKernelIdeal.Value.run_blocks (F := Ideal) m g)
    exact ⟨(h c).1.trans (Cert.MlaKernelIdeal.Mla.final9 m c), (h c).2.1.trans (Cert.MlaKernelIdeal.Mla.final10 m c), (h c).2.2.1.trans (Cert.MlaKernelIdeal.Mla.final11 m c), (h c).2.2.2⟩
  · refine (θ_run _ _ _).mono (fun r h c => ⟨(h c).1.trans ?_, (h c).2.1.trans ?_, (h c).2.2.1.trans ?_, (h c).2.2.2⟩) (Cert.MlaReferenceIdeal.Value.run (F := Ideal) m' g')
    · obtain ⟨a0, a1, a2, a3, a4, a5, a6, a7, a8⟩ := hagree c
      refine (Cert.MlaReferenceIdeal.Mla.first m' c).trans ?_
      funext y
      refine (congrArg _ (index_split y)).trans ((Cert.MlaReferenceIdeal.Mla.first_at _ _ _ _ _ (y 0) (y 1)).trans ?_)
      rw [a0, a3, a4, a7, a8]
      rfl
    · obtain ⟨a0, a1, a2, a3, a4, a5, a6, a7, a8⟩ := hagree c
      refine (Cert.MlaReferenceIdeal.Mla.second m' c).trans ?_
      funext y
      refine (congrArg _ (index_split y)).trans ((Cert.MlaReferenceIdeal.Mla.second_at _ _ _ _ _ _ (y 0) (y 1)).trans ?_)
      rw [a1, a2, a5, a6, a7, a8]
      rfl
    · obtain ⟨a0, a1, a2, a3, a4, a5, a6, a7, a8⟩ := hagree c
      funext y
      refine (congrArg _ (index_split y)).trans ((Cert.MlaReferenceIdeal.Mla.third_at _ _ _ (y 0) (y 1)).trans ?_)
      rw [a1, a5, a6]
      rfl

end Cert.Latent

end
-- ==== Proof.Last.Ref.lean ====
/- The plain last norm, at an index. -/
module

public import proofs.«01_k».proof.Proof.Gen.FinalReferenceIdeal.Run
public import proofs.«01_k».proof.Proof.Mla.Rot
public import Idealize.ShloMosaic.Lib.Claim
public import Idealize.ShloMosaic.Lib.Pointwise

@[expose] public section

set_option maxRecDepth 16384

noncomputable section

namespace Cert.FinalReferenceIdeal.Last

open Cert.FinalReferenceIdeal Cert.FinalReferenceIdeal.Gen
open Idealize.ShloMosaic Idealize.ShloMosaic.TcCoe Idealize.ShloMosaic.Tactic Idealize.SL.Sem

variable (x : FVec Ideal S2x16384x1024 .f32) (g : FVec Ideal S1024 .f32)

/-- The rows normalised, as the reference computes them. -/
def normed : FVec Ideal S2x16384x1024 .f32 :=
  mulf (mulf x (broadcastInDim S2x16384x1024 ![0, 1, 2] bcast_S2x16384x1_S2x16384x1024_0_1_2
    (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_))
      (broadcastInDim S2x16384x1 ![] bcast_S_S2x16384x1 (constant S_ .f32 0x44800000#32))) (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- A token's normalised row. -/
def nrow (p : Fin 32768) (k : Fin 1024) : EReal :=
  Mla.norm (Ideal.ofBits .f32 0x44800000#32) (fun j => x (ix3 ⟨p.val / 16384, by omega⟩ ⟨p.val % 16384, Nat.mod_lt _ (by omega)⟩ j)) (fun j => g (ix1 j)) k

theorem normed_at (b : Fin 2) (s : Fin 16384) (k : Fin 1024) :
    normed x g (ix3 b s k) = Mla.norm (Ideal.ofBits .f32 0x44800000#32) (fun j => x (ix3 b s j)) (fun j => g (ix1 j)) k := by
  unfold normed
  pointwise []
  rfl

/-- The reference's array at a token and a column. -/
theorem result_at (p : Fin 32768) (k : Fin 1024) :
    shapeCast S32768x1024 (normed x g) shapeCasts_S2x16384x1024_S32768x1024 (ix2 p k) = nrow x g p k := by
  refine Eq.trans ?_ (normed_at x g ⟨p.val / 16384, by omega⟩ ⟨p.val % 16384, Nat.mod_lt _ (by omega)⟩ k)
  generalize normed x g = v
  pointwise []

end Cert.FinalReferenceIdeal.Last

end
-- ==== Proof.Last.Final.lean ====
/- The array the last norm leaves. -/
module

public import proofs.«01_k».proof.Proof.Gen.FinalKernelIdeal.Value
public import proofs.«01_k».proof.Proof.Last.Ref
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.FinalKernelIdeal.Last

open Cert.FinalKernelIdeal Cert.FinalKernelIdeal.Gen
open Idealize.ShloMosaic Idealize.ShloMosaic.TcCoe Idealize.ShloMosaic.Tactic Idealize.SL.Sem

/-- A block's row, normalised. -/
theorem pay1_at (x : Vec Ideal S1024x1024 .f32) (g : Vec Ideal S1x1024 .f32) (r k : Fin 1024) :
    k0_pay1 (F := Ideal) x g (ix2 r k) = Mla.norm (Ideal.ofBits .f32 0x44800000#32) (fun j => x (ix2 r j)) (fun j => g (ix2 0 j)) k := by
  unfold k0_pay1
  pointwise []
  rfl

variable (m : (ℓ : Loc nD τ sig) → Buf (Elt Ideal) ℓ)

/-- The region's rows: the argument's tokens, batch after batch. -/
theorem entry_x (c : Dev nD) (p : Fin 32768) (k : Fin 1024) : (show EReal from V m c main_v0 (ix2 p k))
    = (show EReal from m ((c.tc : Thread nD τ).loc main_arg0) (ix3 ⟨p.val / 16384, by omega⟩ ⟨p.val % 16384, Nat.mod_lt _ (by omega)⟩ k)) := by
  unfold V
  simp only [hostOps0, List.flatten_cons, List.flatten_nil, List.append_nil, List.cons_append, List.nil_append]
  after_results
  pointwise []

/-- The region's weights: the argument as one row. -/
theorem entry_g (c : Dev nD) (k : Fin 1024) : (show EReal from V m c main_v1 (ix2 0 k)) = (show EReal from m ((c.tc : Thread nD τ).loc main_arg1) (ix1 k)) := by
  unfold V
  simp only [hostOps0, List.flatten_cons, List.flatten_nil, List.append_nil, List.cons_append, List.nil_append]
  after_results
  pointwise []

/-- Every window's block index, by the point. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- The token of a point's row. -/
def tok (t : Fin cfg0.N) (r : Fin 1024) : Fin 32768 := ⟨t.val * 1024 + r.val, by have := (idx t).2.2.2; omega⟩

theorem block0 (c : Dev nD) (t : Fin cfg0.N) (r k : Fin 1024) : iblk m c 0 t (ix2 (n0 := 1024) (n1 := 1024) r k) = V m c main_v0 (ix2 (tok t r) k) :=
  congrArg (V m c main_v0) (by
    funext a
    fin_cases a
    · exact Fin.ext (show (((win0_0.blk t).view.emb (ix2 (n0 := 1024) (n1 := 1024) r k)) 0 : ℕ) = t.val * 1024 + r.val by blk_simp [idx t])
    · exact Fin.ext (show (((win0_0.blk t).view.emb (ix2 (n0 := 1024) (n1 := 1024) r k)) 1 : ℕ) = k.val by blk_simp [idx t]))

theorem block1 (c : Dev nD) (t : Fin cfg0.N) (k : Fin 1024) : iblk m c 1 t (ix2 (n0 := 1) (n1 := 1024) 0 k) = V m c main_v1 (ix2 0 k) :=
  congrArg (V m c main_v1) (by
    funext a
    fin_cases a
    · exact Fin.ext (show (((win0_1.blk t).view.emb (ix2 (n0 := 1) (n1 := 1024) 0 k)) 0 : ℕ) = 0 by blk_simp [idx t]; rfl)
    · exact Fin.ext (show (((win0_1.blk t).view.emb (ix2 (n0 := 1) (n1 := 1024) 0 k)) 1 : ℕ) = k.val by blk_simp [idx t]))

/-- The normalised rows, from the arguments, as an array. -/
def G2 (c : Dev nD) : Vec Ideal S32768x1024 .f32 := fun y =>
  FinalReferenceIdeal.Last.nrow (m ((c.tc : Thread nD τ).loc main_arg0)) (m ((c.tc : Thread nD τ).loc main_arg1)) (y 0) (y 1)

/-- A load of a whole block is the block. -/
theorem ld0 (X : Vec Ideal S1024x1024 .f32) : View.ld X r0_0 = X := View.ld_unit_lit _ X (by decide)
theorem ld1 (X : Vec Ideal S1x1024 .f32) : View.ld X r0_1 = X := View.ld_unit_lit _ X (by decide)

/-- What a point leaves in its block. -/
theorem out2_eq (c : Dev nD) (t : Fin cfg0.N) (r k : Fin 1024) :
    out0_2 (iblk m c 0 t) (iblk m c 1 t) (ix2 (n0 := 1024) (n1 := 1024) r k) = G2 m c (ix2 (tok t r) k) := by
  unfold out0_2
  rw [View.canon_cons_unit_lit _ _ _ (by decide)]
  simp only [ld0, ld1]
  refine (pay1_at _ _ r k).trans ?_
  exact congrFun (congrArg₂ (Mla.norm _) (funext fun j => (block0 m c t r j).trans (entry_x m c (tok t r) j))
    (funext fun j => (block1 m c t j).trans (entry_g m c j))) k

/-- The result array the run leaves. -/
theorem final2 (c : Dev nD) : (dats m 0 c).arrAt 2 cfg0.N = G2 m c := by
  refine (dats m 0 c).arrAt_eq_of_covers 2 _ (by decide +kernel) fun t hf y => ?_
  have ey : y = ix2 (n0 := 1024) (n1 := 1024) (y 0) (y 1) := by
    funext d
    fin_cases d <;> rfl
  have E0 : (((win0_2.blk t).view.emb y) 0 : ℕ) = t.val * 1024 + (y 0 : ℕ) := by blk_simp [idx t]
  have E1 : (((win0_2.blk t).view.emb y) 1 : ℕ) = (y 1 : ℕ) := by blk_simp [idx t]
  blk_simp
  rw [after0_2]
  refine (congrArg _ ey).trans ((out2_eq m c t (y 0) (y 1)).trans (congrArg (G2 m c) ?_))
  funext d
  fin_cases d
  · exact Fin.ext E0.symm
  · exact Fin.ext E1.symm

end Cert.FinalKernelIdeal.Last

end
-- ==== Proof.Last.Claims.lean ====
/- The claims about the last norm. -/
module

public import proofs.«01_k».proof.Proof.Last.Final
public import proofs.«01_k».proof.Proof.Gen.FinalKernel.Frame
public import proofs.«01_k».proof.Defs
public import Idealize.ShloMosaic.Lib.Claim

@[expose] public section

set_option maxRecDepth 16384

noncomputable section

namespace Cert.Last

open Idealize.ShloMosaic Idealize.ShloMosaic.TcCoe Idealize.ShloMosaic.Tactic Idealize.SL.Sem

/-- The kernel's frame. -/
theorem frame_p : Cert.quiescent_FinalKernel := fun m g _ => Cert.FinalKernel.Gen.frame m g

/-- The idealized kernel's frame. -/
theorem frame_pi : Cert.quiescent_FinalKernelIdeal := fun m g _ => Cert.FinalKernelIdeal.Gen.frame m g

/-- The reference's frame. -/
theorem frame_ri : Cert.quiescent_FinalReferenceIdeal := fun m g _ =>
  (θ_run Cert.FinalReferenceIdeal.defs _ _).mono (fun r h => ⟨fun c => (h c).2, Idealize.ShloMosaic.sem_eq_zero_of_no_sems (by decide) r.2⟩)
    (Cert.FinalReferenceIdeal.Value.run (F := Ideal) m g)

/-- No constant is named. -/
theorem preserves : Cert.preserves_FinalKernel_FinalKernelIdeal := trivial

/-- The kernel computes the reference's normalised rows. -/
theorem algebraic : Cert.algebraic_FinalKernelIdeal_FinalReferenceIdeal := by
  intro m g m' g' _ hagree
  refine ⟨fun c => Cert.FinalKernelIdeal.Last.G2 m c, ?_, ?_⟩
  · refine (θ_run _ _ _).mono (fun r h c => ?_) (Cert.FinalKernelIdeal.Value.run_blocks (F := Ideal) m g)
    exact ⟨(h c).1.trans (Cert.FinalKernelIdeal.Last.final2 m c), (h c).2⟩
  · refine (θ_run _ _ _).mono (fun r h c => ⟨(h c).1.trans ?_, (h c).2⟩) (Cert.FinalReferenceIdeal.Value.run (F := Ideal) m' g')
    obtain ⟨a0, a1⟩ := hagree c
    funext y
    have ey : y = ix2 (n0 := 32768) (n1 := 1024) (y 0) (y 1) := by
      funext d
      fin_cases d <;> rfl
    refine (congrArg _ ey).trans ((Cert.FinalReferenceIdeal.Last.result_at _ _ (y 0) (y 1)).trans ?_)
    rw [a0, a1]
    rfl

end Cert.Last

end
-- ==== Proof.Ada.Ref.lean ====
/- The plain linear map of the modulation, at an index. -/
module

public import proofs.«01_k».proof.Proof.Gen.AdaReferenceIdeal.Run
public import Idealize.ShloMosaic.Lib.Claim
public import Idealize.ShloMosaic.Lib.Pointwise

@[expose] public section

set_option maxRecDepth 16384

noncomputable section

namespace Cert.AdaReferenceIdeal.Ada

open Cert.AdaReferenceIdeal Cert.AdaReferenceIdeal.Gen
open Idealize.ShloMosaic Idealize.ShloMosaic.TcCoe Idealize.ShloMosaic.Tactic Idealize.SL.Sem

variable (c : FVec Ideal S2x1024 .f32) (cc : FVec Ideal S1024 .f32) (w : FVec Ideal S1024x6144 .f32) (b : FVec Ideal S6144 .f32)

/-- A number times its logistic. -/
def act (x : EReal) : EReal := x * Ideal.logistic x

theorem act_zero : act 0 = 0 := zero_mul _

/-- A row of activations times a column of the weights, and the bias. -/
def col (v : Fin 1024 → EReal) (j : Fin 6144) : EReal := (∑ k, act (v k) * w (ix2 k j)) + b (ix1 j)

/-- A row of zeros gives the bias. -/
theorem col_zero (v : Fin 1024 → EReal) (hv : ∀ k, v k = 0) (j : Fin 6144) : col w b v j = b (ix1 j) := by
  unfold col
  simp only [hv, act_zero, zero_mul, Finset.sum_const_zero, zero_add]

/-- The eight rows the map is applied to: the batches', the context's, and zeros. -/
def row (p : Fin 8) (k : Fin 1024) : EReal :=
  if h : p.val < 2 then c (ix2 ⟨p.val, h⟩ k) else if p.val < 3 then cc (ix1 k) else 0

/-- The batches' rows, as the reference computes them. -/
def lat : FVec Ideal S2x6144 .f32 :=
  addf (Host.dotGeneral dot_S2x1024_S1024x6144_S2x6144_1_0_0_1_n_n none (mulf c (Host.divf (broadcastInDim S2x1024 ![] bcast_S_S2x1024 (constant S_ .f32 0x3F800000#32))
    (addf (broadcastInDim S2x1024 ![] bcast_S_S2x1024 (constant S_ .f32 0x3F800000#32)) (Host.exp (Host.negf c))))) w)
    (broadcastInDim S2x6144 ![0, 1] bcast_S1x6144_S2x6144_0_1 (broadcastInDim S1x6144 ![1] bcast_S6144_S1x6144_1 b))

theorem lat_at (p : Fin 2) (j : Fin 6144) : lat c w b (ix2 p j) = col w b (fun k => c (ix2 p k)) j := by
  unfold lat
  pointwise []
  rfl

/-- The context's row, as the reference computes it. -/
def ctx : FVec Ideal S6144 .f32 :=
  addf (Host.dotGeneral dot_S1024_S1024x6144_S6144_0_0_n_1_n_n none (mulf cc (Host.divf (broadcastInDim S1024 ![] bcast_S_S1024 (constant S_ .f32 0x3F800000#32))
    (addf (broadcastInDim S1024 ![] bcast_S_S1024 (constant S_ .f32 0x3F800000#32)) (Host.exp (Host.negf cc))))) w) b

theorem ctx_at (j : Fin 6144) : ctx cc w b (ix1 j) = col w b (fun k => cc (ix1 k)) j := by
  unfold ctx
  pointwise []
  rfl

/-- The rows put together, as the reference does it. -/
def whole (x : FVec Ideal S2x6144 .f32) (y : FVec Ideal S6144 .f32) : FVec Ideal S8x6144 .f32 :=
  concatenate S8x6144 0 [⟨S2x6144, x⟩, ⟨S1x6144, broadcastInDim S1x6144 ![1] bcast_S6144_S1x6144_1 y⟩,
    ⟨S5x6144, broadcastInDim S5x6144 ![1] bcast_S6144_S5x6144_1 b⟩] concatenates_S2x6144_S1x6144_S5x6144_S8x6144_d0

/-- The reference's array at a row and a column. -/
theorem result_at (p : Fin 8) (j : Fin 6144) : whole b (lat c w b) (ctx cc w b) (ix2 p j) = col w b (row c cc p) j := by
  by_cases h0 : p.val < 2
  · have e : row c cc p = fun k => c (ix2 ⟨p.val, h0⟩ k) := by
      funext k
      unfold row
      rw [dif_pos h0]
    rw [e, ← lat_at]
    unfold whole
    generalize lat c w b = x
    generalize ctx cc w b = y
    pointwise [h0]
  · by_cases h1 : p.val - 2 < 1
    · have e : row c cc p = fun k => cc (ix1 k) := by
        funext k
        unfold row
        rw [dif_neg h0, if_pos (by omega)]
      rw [e, ← ctx_at]
      unfold whole
      generalize lat c w b = x
      generalize ctx cc w b = y
      pointwise [h0, h1]
    · have e : ∀ k, row c cc p k = 0 := by
        intro k
        unfold row
        rw [dif_neg h0, if_neg (by omega)]
      rw [col_zero w b _ e]
      unfold whole
      generalize lat c w b = x
      generalize ctx cc w b = y
      pointwise [h0, h1]

end Cert.AdaReferenceIdeal.Ada

end
-- ==== Proof.Ada.Final.lean ====
/- The array the modulation's linear map leaves. -/
module

public import proofs.«01_k».proof.Proof.Gen.AdaKernelIdeal.Value
public import proofs.«01_k».proof.Proof.Ada.Ref
public import proofs.«01_k».proof.Proof.Mla.Rot
public import Idealize.ShloMosaic.Lib.Pipeline.ValueKit.Geometry
public import Idealize.ShloMosaic.Lib.Pipeline.ValueKit.Basic
public import Idealize.ShloMosaic.Lib.Claim
public import Idealize.ShloMosaic.Lib.Pointwise

@[expose] public section

set_option maxRecDepth 16384

noncomputable section

namespace Cert.AdaKernelIdeal.Ada

open Cert.AdaKernelIdeal Cert.AdaKernelIdeal.Gen
open Idealize.ShloMosaic Idealize.ShloMosaic.TcCoe Idealize.ShloMosaic.Tactic Idealize.SL.Sem

/-- A block's row, through the activation and the weights' columns. -/
theorem pay1_at (x : Vec Ideal S8x1024 .f32) (w : Vec Ideal S1024x1024 .f32) (b : Vec Ideal S1x1024 .f32) (r : Fin 8) (j : Fin 1024) :
    k0_pay1 (F := Ideal) x w b (ix2 r j) = (∑ k, AdaReferenceIdeal.Ada.act (x (ix2 r k)) * w (ix2 k j)) + b (ix2 0 j) := by
  unfold k0_pay1
  pointwise []
  rfl

/-- The rows, padded with zeros to eight, as the host code lays them out. -/
def rows (c : FVec Ideal S2x1024 .f32) (cc : FVec Ideal S1024 .f32) : FVec Ideal S8x1024 .f32 :=
  pad S8x1024 ![0, 0] ![5, 0] ![0, 0] (concatenate S3x1024 0 [⟨S2x1024, c⟩, ⟨S1x1024, broadcastInDim S1x1024 ![1] bcast_S1024_S1x1024_1 cc⟩]
    concatenates_S2x1024_S1x1024_S3x1024_d0) (sitofp (F := Ideal) .f32 (constantI S_ 32 0#32)) pads_S3x1024_S8x1024_050_000 h_S_

theorem rows_at (c : FVec Ideal S2x1024 .f32) (cc : FVec Ideal S1024 .f32) (p : Fin 8) (k : Fin 1024) :
    rows c cc (ix2 p k) = AdaReferenceIdeal.Ada.row c cc p k := by
  unfold rows AdaReferenceIdeal.Ada.row
  by_cases h0 : p.val < 2
  · have h1 : p.val < 3 := by omega
    rw [dif_pos h0]
    pointwise [h0, h1]
  · rw [dif_neg h0]
    by_cases h1 : p.val < 3
    · rw [if_pos h1]
      pointwise [h0, h1]
    · rw [if_neg h1]
      pointwise [h0, h1]
      exact Mla.sitofp_zero .f32

variable (m : (ℓ : Loc nD τ sig) → Buf (Elt Ideal) ℓ)

/-- The region's rows. -/
theorem entry_rows (c : Dev nD) : V m c main_v2 = rows (m ((c.tc : Thread nD τ).loc main_arg0)) (m ((c.tc : Thread nD τ).loc main_arg1)) := by
  unfold V
  simp only [hostOps0, hostOps0_1, hostOps0_2, List.flatten_cons, List.flatten_nil, List.append_nil, List.cons_append, List.nil_append]
  after_results_simp <;> (try dsimp only [Matrix.cons_val]) <;> (try after_results_simp) <;> rfl

/-- The region's bias: the argument as one row. -/
theorem entry_bias (c : Dev nD) (j : Fin 6144) : (show EReal from V m c main_v3 (ix2 0 j)) = (show EReal from m ((c.tc : Thread nD τ).loc main_arg3) (ix1 j)) := by
  unfold V
  simp only [hostOps0, hostOps0_1, hostOps0_2, List.flatten_cons, List.flatten_nil, List.append_nil, List.cons_append, List.nil_append]
  after_results
  pointwise []

/-- Every window's block index, by the point. -/
theorem idx : ∀ t : Fin cfg0.N, win0_0.index t = ![0, 0] ∧ win0_1.index t = ![0, t.val] ∧ win0_2.index t = ![0, t.val]
    ∧ win0_3.index t = ![0, t.val] ∧ t.val < 6 :=
  (by decide +kernel : ∀ t : Fin grid0.N, _)

/-- The column of the weights that a point's column is. -/
def column (t : Fin cfg0.N) (j : Fin 1024) : Fin 6144 := ⟨t.val * 1024 + j.val, by have := (idx t).2.2.2.2; omega⟩

theorem block0 (c : Dev nD) (t : Fin cfg0.N) (r : Fin 8) (k : Fin 1024) : iblk m c 0 t (ix2 (n0 := 8) (n1 := 1024) r k) = V m c main_v2 (ix2 r k) :=
  congrArg (V m c main_v2) (by
    funext a
    fin_cases a
    · exact Fin.ext (show (((win0_0.blk t).view.emb (ix2 (n0 := 8) (n1 := 1024) r k)) 0 : ℕ) = r.val by blk_simp [idx t])
    · exact Fin.ext (show (((win0_0.blk t).view.emb (ix2 (n0 := 8) (n1 := 1024) r k)) 1 : ℕ) = k.val by blk_simp [idx t]))

theorem block1 (c : Dev nD) (t : Fin cfg0.N) (k j : Fin 1024) : iblk m c 1 t (ix2 (n0 := 1024) (n1 := 1024) k j) = V m c main_arg2 (ix2 k (column t j)) :=
  congrArg (V m c main_arg2) (by
    funext a
    fin_cases a
    · exact Fin.ext (show (((win0_1.blk t).view.emb (ix2 (n0 := 1024) (n1 := 1024) k j)) 0 : ℕ) = k.val by blk_simp [idx t])
    · exact Fin.ext (show (((win0_1.blk t).view.emb (ix2 (n0 := 1024) (n1 := 1024) k j)) 1 : ℕ) = t.val * 1024 + j.val by blk_simp [idx t]))

theorem block2 (c : Dev nD) (t : Fin cfg0.N) (j : Fin 1024) : iblk m c 2 t (ix2 (n0 := 1) (n1 := 1024) 0 j) = V m c main_v3 (ix2 0 (column t j)) :=
  congrArg (V m c main_v3) (by
    funext a
    fin_cases a
    · exact Fin.ext (show (((win0_2.blk t).view.emb (ix2 (n0 := 1) (n1 := 1024) 0 j)) 0 : ℕ) = 0 by blk_simp [idx t]; rfl)
    · exact Fin.ext (show (((win0_2.blk t).view.emb (ix2 (n0 := 1) (n1 := 1024) 0 j)) 1 : ℕ) = t.val * 1024 + j.val by blk_simp [idx t]))

/-- The map's rows, from the arguments, as an array. -/
def G3 (c : Dev nD) : Vec Ideal S8x6144 .f32 := fun y =>
  AdaReferenceIdeal.Ada.col (m ((c.tc : Thread nD τ).loc main_arg2)) (m ((c.tc : Thread nD τ).loc main_arg3))
    (AdaReferenceIdeal.Ada.row (m ((c.tc : Thread nD τ).loc main_arg0)) (m ((c.tc : Thread nD τ).loc main_arg1)) (y 0)) (y 1)

/-- A load of a whole block is the block. -/
theorem ld0 (X : Vec Ideal S8x1024 .f32) : View.ld X r0_0 = X := View.ld_unit_lit _ X (by decide)
theorem ld1 (X : Vec Ideal S1024x1024 .f32) : View.ld X r0_1 = X := View.ld_unit_lit _ X (by decide)
theorem ld2 (X : Vec Ideal S1x1024 .f32) : View.ld X r0_2 = X := View.ld_unit_lit _ X (by decide)

/-- What a point leaves in its block. -/
theorem out3_eq (c : Dev nD) (t : Fin cfg0.N) (r : Fin 8) (j : Fin 1024) :
    out0_3 (iblk m c 0 t) (iblk m c 1 t) (iblk m c 2 t) (ix2 (n0 := 8) (n1 := 1024) r j) = G3 m c (ix2 r (column t j)) := by
  unfold out0_3
  rw [View.canon_cons_unit_lit _ _ _ (by decide)]
  simp only [ld0, ld1, ld2]
  refine (pay1_at _ _ _ r j).trans ?_
  have e0 := fun k => (block0 m c t r k).trans ((congrFun (entry_rows m c) _).trans (rows_at _ _ r k))
  have e1 := fun k => (block1 m c t k j).trans (congrFun (V_main_arg2 m c) _)
  have e2 := (block2 m c t j).trans (entry_bias m c (column t j))
  exact congrArg₂ (fun x y : EReal => x + y) (Finset.sum_congr rfl fun k _ =>
    congrArg₂ (fun x y : EReal => AdaReferenceIdeal.Ada.act x * y) (e0 k) (e1 k)) e2

/-- The result array the run leaves. -/
theorem final3 (c : Dev nD) : (dats m 0 c).arrAt 3 cfg0.N = G3 m c := by
  refine (dats m 0 c).arrAt_eq_of_covers 3 _ (by decide +kernel) fun t hf y => ?_
  have ey : y = ix2 (n0 := 8) (n1 := 1024) (y 0) (y 1) := by
    funext d
    fin_cases d <;> rfl
  have E0 : (((win0_3.blk t).view.emb y) 0 : ℕ) = (y 0 : ℕ) := by blk_simp [idx t]
  have E1 : (((win0_3.blk t).view.emb y) 1 : ℕ) = t.val * 1024 + (y 1 : ℕ) := by blk_simp [idx t]
  blk_simp
  rw [after0_3]
  refine (congrArg _ ey).trans ((out3_eq m c t (y 0) (y 1)).trans (congrArg (G3 m c) ?_))
  funext d
  fin_cases d
  · exact Fin.ext E0.symm
  · exact Fin.ext E1.symm

end Cert.AdaKernelIdeal.Ada

end
-- ==== Proof.Ada.Claims.lean ====
/- The claims about the modulation's linear map. -/
module

public import proofs.«01_k».proof.Proof.Ada.Final
public import proofs.«01_k».proof.Proof.Gen.AdaKernel.Frame
public import proofs.«01_k».proof.Defs
public import Idealize.ShloMosaic.Lib.Claim

@[expose] public section

set_option maxRecDepth 16384

noncomputable section

namespace Cert.Ada

open Idealize.ShloMosaic Idealize.ShloMosaic.TcCoe Idealize.ShloMosaic.Tactic Idealize.SL.Sem

/-- The kernel's frame. -/
theorem frame_p : Cert.quiescent_AdaKernel := fun m g _ => Cert.AdaKernel.Gen.frame m g

/-- The idealized kernel's frame. -/
theorem frame_pi : Cert.quiescent_AdaKernelIdeal := fun m g _ => Cert.AdaKernelIdeal.Gen.frame m g

/-- The reference's frame. -/
theorem frame_ri : Cert.quiescent_AdaReferenceIdeal := fun m g _ =>
  (θ_run Cert.AdaReferenceIdeal.defs _ _).mono (fun r h => ⟨fun c => (h c).2, Idealize.ShloMosaic.sem_eq_zero_of_no_sems (by decide) r.2⟩)
    (Cert.AdaReferenceIdeal.Value.run (F := Ideal) m g)

/-- No constant is named. -/
theorem preserves : Cert.preserves_AdaKernel_AdaKernelIdeal := trivial

/-- The kernel computes the reference's rows. -/
theorem algebraic : Cert.algebraic_AdaKernelIdeal_AdaReferenceIdeal := by
  intro m g m' g' _ hagree
  refine ⟨fun c => Cert.AdaKernelIdeal.Ada.G3 m c, ?_, ?_⟩
  · refine (θ_run _ _ _).mono (fun r h c => ?_) (Cert.AdaKernelIdeal.Value.run_blocks (F := Ideal) m g)
    exact ⟨(h c).1.trans (Cert.AdaKernelIdeal.Ada.final3 m c), (h c).2⟩
  · refine (θ_run _ _ _).mono (fun r h c => ⟨(h c).1.trans ?_, (h c).2⟩) (Cert.AdaReferenceIdeal.Value.run (F := Ideal) m' g')
    obtain ⟨a0, a1, a2, a3⟩ := hagree c
    funext y
    have ey : y = ix2 (n0 := 8) (n1 := 6144) (y 0) (y 1) := by
      funext d
      fin_cases d <;> rfl
    refine (congrArg _ ey).trans ((Cert.AdaReferenceIdeal.Ada.result_at _ _ _ _ (y 0) (y 1)).trans ?_)
    rw [a0, a1, a2, a3]
    rfl

end Cert.Ada

end
-- ==== Proof.Ctx.Soft.lean ====
/- A softmax average with the division last is the plain one on numbers. -/
module

public import proofs.«01_k».proof.Proof.Att.Soft

@[expose] public section

set_option maxRecDepth 16384

noncomputable section

namespace Cert.Context

open Idealize.ShloMosaic Idealize.ShloMosaic.TcCoe Idealize.ShloMosaic.Tactic
open Cert.KernelIdeal.Att (mz rout fold_scaled coe_sum sum_mul_real word_bot)

/-- The kernel's softmax average: the weighted sum over the sum. -/
def kavg {N : ℕ} (s v : Fin N → EReal) : EReal :=
  let M := (Finset.univ : Finset (Fin N)).fold max mz s
  Ideal.div (∑ n, Ideal.exp (s n - M) * v n) (∑ n, Ideal.exp (s n - M))

/-- The two averages agree on numbers. -/
theorem kavg_eq_rout {N : ℕ} (hN : 0 < N) (a : Fin N → ℝ) (v : Fin N → EReal) :
    kavg (fun n => (a n : EReal)) v = rout (fun n => (a n : EReal)) v := by
  haveI : Nonempty (Fin N) := ⟨⟨0, hN⟩⟩
  obtain ⟨i, -, hi⟩ := Finset.exists_max_image (Finset.univ : Finset (Fin N)) a Finset.univ_nonempty
  have hmz : mz = (⊥ : EReal) := word_bot
  have Ms := fold_scaled a i (fun n => hi n (Finset.mem_univ _)) one_pos
  simp only [mul_one] at Ms
  have Mk := (max_eq_right bot_le).symm.trans Ms
  have Mm : max (⊥ : EReal) (a i : EReal) = (a i : EReal) := max_eq_right bot_le
  unfold kavg rout
  simp only [hmz, Mk, Mm]
  have er : ∀ n, Ideal.exp ((a n : EReal) - (a i : EReal)) = ((Real.exp (a n - a i) : ℝ) : EReal) := fun n => by
    rw [← EReal.coe_sub, Ideal.exp_coe]
  simp only [er, zero_add]
  have hl : 0 < ∑ n, Real.exp (a n - a i) := Finset.sum_pos (fun n _ => Real.exp_pos _) Finset.univ_nonempty
  rw [← coe_sum, Ideal.div_coe hl.ne', sum_mul_real _ _ (by positivity)]
  refine Finset.sum_congr rfl fun n _ => ?_
  rw [Ideal.div_coe hl.ne']
  exact mul_right_comm _ _ _

/-- The kernel's softmax average with a sink: the sink joins the maximum and the sum. -/
def ksink {N : ℕ} (s v : Fin N → EReal) (z : EReal) : EReal :=
  let M := max ((Finset.univ : Finset (Fin N)).fold max mz s) z
  Ideal.div (∑ n, Ideal.exp (s n - M) * v n) ((∑ n, Ideal.exp (s n - M)) + Ideal.exp (z - M))

/-- The plain softmax average with the sink as a last score that no value goes with. -/
def rsink {N : ℕ} (s v : Fin N → EReal) (z : EReal) : EReal :=
  let x : Fin (N + 1) → EReal := Fin.snoc s z
  let M := max mz ((Finset.univ : Finset (Fin (N + 1))).fold max mz x)
  ∑ n : Fin N, Ideal.div (Ideal.exp (s n - M)) (0 + ∑ j, Ideal.exp (x j - M)) * v n

/-- The maximum with a last score. -/
theorem fold_snoc {N : ℕ} (s : Fin N → EReal) (z : EReal) :
    max mz ((Finset.univ : Finset (Fin (N + 1))).fold max mz (Fin.snoc s z : Fin (N + 1) → EReal)) = max ((Finset.univ : Finset (Fin N)).fold max mz s) z := by
  have hmz : mz = (⊥ : EReal) := word_bot
  rw [hmz, max_eq_right bot_le]
  refine le_antisymm ((Finset.fold_max_le _).2 ⟨bot_le, fun n _ => ?_⟩) (max_le ((Finset.fold_max_le _).2 ⟨bot_le, fun n _ => ?_⟩) ?_)
  · refine Fin.lastCases ?_ (fun i => ?_) n
    · rw [Fin.snoc_last]
      exact le_max_right _ _
    · rw [Fin.snoc_castSucc]
      exact le_max_of_le_left ((Finset.le_fold_max _).2 (.inr ⟨i, Finset.mem_univ _, le_rfl⟩))
  · exact (Finset.le_fold_max _).2 (.inr ⟨n.castSucc, Finset.mem_univ _, by rw [Fin.snoc_castSucc]⟩)
  · exact (Finset.le_fold_max _).2 (.inr ⟨Fin.last N, Finset.mem_univ _, by rw [Fin.snoc_last]⟩)

/-- The two averages with a sink agree on numbers and a sink below plus infinity. -/
theorem ksink_eq_rsink {N : ℕ} (hN : 0 < N) (a : Fin N → ℝ) (v : Fin N → EReal) (z : EReal) (hz : z ≠ ⊤) :
    ksink (fun n => (a n : EReal)) v z = rsink (fun n => (a n : EReal)) v z := by
  haveI : Nonempty (Fin N) := ⟨⟨0, hN⟩⟩
  obtain ⟨i, -, hi⟩ := Finset.exists_max_image (Finset.univ : Finset (Fin N)) a Finset.univ_nonempty
  have hmz : mz = (⊥ : EReal) := word_bot
  have Ms := fold_scaled a i (fun n => hi n (Finset.mem_univ _)) one_pos
  simp only [mul_one] at Ms
  have Mk : (Finset.univ : Finset (Fin N)).fold max mz (fun n => (a n : EReal)) = (a i : EReal) := by
    rw [hmz]
    exact (max_eq_right bot_le).symm.trans Ms
  obtain ⟨M, e0, h0, hM, he⟩ : ∃ M e0 : ℝ, 0 ≤ e0 ∧ max (a i : EReal) z = (M : EReal) ∧ Ideal.exp (z - (M : EReal)) = (e0 : EReal) := by
    induction z using EReal.rec with
    | bot => exact ⟨a i, 0, le_rfl, max_eq_left bot_le, by rw [sub_eq_add_neg, EReal.bot_add]; rfl⟩
    | coe x => exact ⟨max (a i) x, Real.exp (x - max (a i) x), (Real.exp_pos _).le, (EReal.coe_strictMono.monotone.map_max).symm,
        by rw [← EReal.coe_sub, Ideal.exp_coe]⟩
    | top => exact absurd rfl hz
  unfold ksink rsink
  simp only [fold_snoc, Mk, hM, Fin.sum_univ_castSucc, Fin.snoc_castSucc, Fin.snoc_last, he]
  have er : ∀ n, Ideal.exp ((a n : EReal) - (M : EReal)) = ((Real.exp (a n - M) : ℝ) : EReal) := fun n => by
    rw [← EReal.coe_sub, Ideal.exp_coe]
  simp only [er, zero_add]
  have hl : 0 < (∑ n, Real.exp (a n - M)) + e0 := add_pos_of_pos_of_nonneg (Finset.sum_pos (fun n _ => Real.exp_pos _) Finset.univ_nonempty) h0
  rw [← coe_sum, ← EReal.coe_add, Ideal.div_coe hl.ne', sum_mul_real _ _ (by positivity)]
  refine Finset.sum_congr rfl fun n _ => ?_
  rw [Ideal.div_coe hl.ne']
  exact mul_right_comm _ _ _

/-- A sum of products of numbers, times a number, is a number. -/
theorem score_real {D : ℕ} (q k : Fin D → EReal) (c : EReal) (hq : ∀ d, q d = ((q d).toReal : EReal)) (hk : ∀ d, k d = ((k d).toReal : EReal))
    (hc : c = (c.toReal : EReal)) : (∑ d, q d * k d) * c = (((∑ d, (q d).toReal * (k d).toReal) * c.toReal : ℝ) : EReal) := by
  rw [EReal.coe_mul, coe_sum, ← hc]
  refine congrArg (fun x : EReal => x * c) (Finset.sum_congr rfl fun d _ => ?_)
  rw [EReal.coe_mul, ← hq, ← hk]

/-- The averages agree where every score is a sum of products of numbers, times a number. -/
theorem kavg_scores {N D : ℕ} (hN : 0 < N) (q : Fin D → EReal) (k : Fin N → Fin D → EReal) (c : EReal) (v : Fin N → EReal)
    (hq : ∀ d, q d = ((q d).toReal : EReal)) (hk : ∀ n d, k n d = ((k n d).toReal : EReal)) (hc : c = (c.toReal : EReal)) :
    kavg (fun n => (∑ d, q d * k n d) * c) v = rout (fun n => (∑ d, q d * k n d) * c) v := by
  simp only [fun n => score_real q (k n) c hq (hk n) hc]
  exact kavg_eq_rout hN _ v

/-- The same with a sink. -/
theorem ksink_scores {N D : ℕ} (hN : 0 < N) (q : Fin D → EReal) (k : Fin N → Fin D → EReal) (c : EReal) (v : Fin N → EReal) (z : EReal)
    (hq : ∀ d, q d = ((q d).toReal : EReal)) (hk : ∀ n d, k n d = ((k n d).toReal : EReal)) (hc : c = (c.toReal : EReal)) (hz : z ≠ ⊤) :
    ksink (fun n => (∑ d, q d * k n d) * c) v z = rsink (fun n => (∑ d, q d * k n d) * c) v z := by
  simp only [fun n => score_real q (k n) c hq (hk n) hc]
  exact ksink_eq_rsink hN _ v z hz

end Cert.Context

end
-- ==== Proof.Ctx.Final.lean ====
/- The array the context's attention leaves. -/
module

public import proofs.«01_k».proof.Proof.Gen.CtxKernelIdeal.Value
public import proofs.«01_k».proof.Proof.Ctx.Soft
public import Idealize.ShloMosaic.Lib.Pipeline.ValueKit.Geometry
public import Idealize.ShloMosaic.Lib.Pipeline.ValueKit.Basic
public import Idealize.ShloMosaic.Lib.WritesUnit
public import Idealize.ShloMosaic.Lib.WholeRead
public import Idealize.ShloMosaic.Lib.Claim
public import Idealize.ShloMosaic.Lib.Pointwise

@[expose] public section

set_option maxRecDepth 16384

noncomputable section

namespace Cert.CtxKernelIdeal.Context

open Cert.CtxKernelIdeal Cert.CtxKernelIdeal.Gen
open Idealize.ShloMosaic Idealize.ShloMosaic.TcCoe Idealize.ShloMosaic.Tactic Idealize.SL.Sem
open Cert.KernelIdeal.Att (mz)

/-- A block's scores. -/
def scores (q k : Vec Ideal S1x1x256x64 .f32) : FVec Ideal S256x256 .f32 :=
  mulf (matmul dot_S256x64_S256x64_S256x256_1_1_0_0_n_n none (truncf .bf16 (shapeCast S256x64 q shapeCasts_S1x1x256x64_S256x64) bitsLt_bf16_f32)
    (truncf .bf16 (shapeCast S256x64 k shapeCasts_S1x1x256x64_S256x64) bitsLt_bf16_f32) (constant S256x256 .f32 0x00000000#32))
    (broadcast S256x256 (Scalar.ofBits .f32 0x3E000000#32))

theorem scores_at (q k : Vec Ideal S1x1x256x64 .f32) (r n : Fin 256) :
    scores q k (ix2 r n) = (∑ d : Fin 64, q (ix4 0 0 r d) * k (ix4 0 0 n d)) * FloatOps.ofBits (F := Ideal) .f32 0x3E000000#32 := by
  unfold scores
  pointwise []

/-- A block's greatest scores. -/
def tops (s : FVec Ideal S256x256 .f32) : FVec Ideal S256 .f32 := multiReduction .maximumf [1] S256 s 0xFF800000#32 reduces_S256x256_S256 (.inl rfl) rfl

theorem tops_at (s : FVec Ideal S256x256 .f32) (r : Fin 256) :
    tops s (ix1 r) = (Finset.univ : Finset (Fin 256)).fold max mz fun n => s (ix2 r n) := by
  refine (Ideal.multiReduction_maximumf_single s _ reduces_S256x256_S256 (.inl rfl) rfl (ix1 r)).trans ?_
  refine Finset.fold_congr fun n _ => ?_
  refine congrArg s ?_
  funext a
  fin_cases a <;> rfl

/-- A block's result from its scores, their maxima and the values. -/
def after (s : FVec Ideal S256x256 .f32) (w : FVec Ideal S256 .f32) (v : Vec Ideal S1x1x256x64 .f32) : FVec Ideal S1x1x256x64 .f32 :=
  let p : FVec Ideal S256x256 .f32 := exp (subf s (broadcastTo S256x256 (shapeCast S256x1 w shapeCasts_S256_S256x1) broadcasts_S256x1_S256x256))
  shapeCast S1x1x256x64 (divf (matmul dot_S256x256_S256x64_S256x64_1_0_0_1_n_n none (truncf .bf16 p bitsLt_bf16_f32)
    (truncf .bf16 (shapeCast S256x64 v shapeCasts_S1x1x256x64_S256x64) bitsLt_bf16_f32) (constant S256x64 .f32 0x00000000#32))
    (broadcastTo S256x64 (shapeCast S256x1 (multiReduction .add [1] S256 p 0x00000000#32 reduces_S256x256_S256 (.inl rfl) rfl) shapeCasts_S256_S256x1)
      broadcasts_S256x1_S256x64)) shapeCasts_S256x64_S1x1x256x64

theorem after_at (s : FVec Ideal S256x256 .f32) (w : FVec Ideal S256 .f32) (v : Vec Ideal S1x1x256x64 .f32) (r : Fin 256) (e : Fin 64) :
    after s w v (ix4 0 0 r e) = Ideal.div (∑ n : Fin 256, Ideal.exp (s (ix2 r n) - w (ix1 r)) * v (ix4 0 0 n e)) (∑ n : Fin 256, Ideal.exp (s (ix2 r n) - w (ix1 r))) := by
  unfold after
  pointwise []

theorem pay1_eq (q k v : Vec Ideal S1x1x256x64 .f32) : k0_pay1 (F := Ideal) q k v = after (scores q k) (tops (scores q k)) v := rfl

/-- A block's row: the softmax average of the values. -/
theorem pay1_at (q k v : Vec Ideal S1x1x256x64 .f32) (r : Fin 256) (e : Fin 64) :
    k0_pay1 (F := Ideal) q k v (ix4 0 0 r e) = Cert.Context.kavg
      (fun n => (∑ d : Fin 64, q (ix4 0 0 r d) * k (ix4 0 0 n d)) * FloatOps.ofBits (F := Ideal) .f32 0x3E000000#32) (fun n => v (ix4 0 0 n e)) := by
  rw [pay1_eq]
  refine (after_at _ _ v r e).trans ?_
  simp only [tops_at, scores_at]
  rfl

/-- A load of a whole block is the block. -/
theorem load (arg : Memref sig .tc .vmem S1x1x256x64 .f32) (harg : arg.IsWhole) (X : Vec Ideal S1x1x256x64 .f32) :
    View.readAt (Elt Ideal) arg.view (Rect.unit (s := S1x1x256x64) ![0, 0, 0, 0] S1x1x256x64.size inb_S1x1x256x64_S1x1x256x64_0_0_0_0).toLoadRect (harg.unread X) = X :=
  (funext fun y => harg.readAt_unread X _ y).trans (View.ld_unit_lit _ X (by decide))

/-- What a run of the body leaves in the result's block. -/
theorem outA (c : Dev nD) (i : grid0.Coords) (arg2 : Memref sig .tc .vmem S1x1x256x64 .f32) (harg2 : arg2.IsWhole) (arg3 : Memref sig .tc .vmem S1x1x256x64 .f32)
    (harg3 : arg3.IsWhole) (arg4 : Memref sig .tc .vmem S1x1x256x64 .f32) (harg4 : arg4.IsWhole) (arg5 : Memref sig .tc .smem S4 .f32) (harg5 : arg5.IsWhole)
    (arg6 : Memref sig .tc .vmem S1x1x256x64 .f32) (harg6 : arg6.IsWhole) (x0 x1 x2 : Vec Ideal S1x1x256x64 .f32) (x3 : Vec Ideal S4 .f32) (r : Fin 256) (e : Fin 64) :
    out0_A_4 c i arg2 harg2 arg3 harg3 arg4 harg4 arg5 harg5 arg6 harg6 x0 x1 x2 x3 (ix4 0 0 r e) = k0_pay1 (F := Ideal) x0 x1 x2 (ix4 0 0 r e) := by
  unfold out0_A_4
  refine (View.read_writes_cons_unit_of_mem VO0_4 _ inb_S1x1x256x64_S1x1x256x64_0_0_0_0 _ [] (ix4 0 0 r e) (ix4 0 0 r e) rfl fun a => ?_).trans ?_
  · fin_cases a <;> exact (Nat.zero_add _).symm
  · rw [load arg2 harg2, load arg3 harg3, load arg4 harg4]

variable (m : (ℓ : Loc nD τ sig) → Buf (Elt Ideal) ℓ)

theorem entry_q (c : Dev nD) (b : Fin 2) (h : Fin 4) (s : Fin 256) (d : Fin 64) : (show EReal from V m c main_v0 (ix4 b h s d))
    = (show EReal from m ((c.tc : Thread nD τ).loc main_arg0) (ix4 b s h d)) := by
  unfold V
  simp only [hostOps0, List.flatten_cons, List.flatten_nil, List.append_nil, List.cons_append, List.nil_append]
  after_results
  pointwise []

theorem entry_k (c : Dev nD) (b : Fin 2) (h : Fin 4) (s : Fin 256) (d : Fin 64) : (show EReal from V m c main_v3 (ix4 b h s d))
    = (show EReal from m ((c.tc : Thread nD τ).loc main_arg1) (ix4 b s h d)) := by
  unfold V
  simp only [hostOps0, List.flatten_cons, List.flatten_nil, List.append_nil, List.cons_append, List.nil_append]
  after_results
  pointwise []

theorem entry_v (c : Dev nD) (b : Fin 2) (h : Fin 4) (s : Fin 256) (d : Fin 64) : (show EReal from V m c main_v6 (ix4 b h s d))
    = (show EReal from m ((c.tc : Thread nD τ).loc main_arg2) (ix4 b s h d)) := by
  unfold V
  simp only [hostOps0, List.flatten_cons, List.flatten_nil, List.append_nil, List.cons_append, List.nil_append]
  after_results
  pointwise []

/-- Every window's block index, by the point. -/
theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_4.index t = ![t.val / 4, t.val % 4, 0, 0] ∧ t.val < 8 :=
  (by decide +kernel : ∀ t : Fin grid0.N, _)

/-- The batch and the head of a point. -/
def batch (t : Fin cfg0.N) : Fin 2 := ⟨t.val / 4, by have := (idx t).2.2.2.2; omega⟩
def head (t : Fin cfg0.N) : Fin 4 := ⟨t.val % 4, Nat.mod_lt _ (by omega)⟩

theorem block0 (c : Dev nD) (t : Fin cfg0.N) (s : Fin 256) (d : Fin 64) :
    iblk m c 0 t (ix4 (n0 := 1) (n1 := 1) (n2 := 256) (n3 := 64) 0 0 s d) = V m c main_v0 (ix4 (batch t) (head t) s d) :=
  congrArg (V m c main_v0) (by
    funext a
    fin_cases a
    · exact Fin.ext (show (((win0_0.blk t).view.emb (ix4 (n0 := 1) (n1 := 1) (n2 := 256) (n3 := 64) 0 0 s d)) 0 : ℕ) = t.val / 4 by blk_simp [idx t]; rfl)
    · exact Fin.ext (show (((win0_0.blk t).view.emb (ix4 (n0 := 1) (n1 := 1) (n2 := 256) (n3 := 64) 0 0 s d)) 1 : ℕ) = t.val % 4 by blk_simp [idx t]; rfl)
    · exact Fin.ext (show (((win0_0.blk t).view.emb (ix4 (n0 := 1) (n1 := 1) (n2 := 256) (n3 := 64) 0 0 s d)) 2 : ℕ) = s.val by blk_simp [idx t])
    · exact Fin.ext (show (((win0_0.blk t).view.emb (ix4 (n0 := 1) (n1 := 1) (n2 := 256) (n3 := 64) 0 0 s d)) 3 : ℕ) = d.val by blk_simp [idx t]))

theorem block1 (c : Dev nD) (t : Fin cfg0.N) (s : Fin 256) (d : Fin 64) :
    iblk m c 1 t (ix4 (n0 := 1) (n1 := 1) (n2 := 256) (n3 := 64) 0 0 s d) = V m c main_v3 (ix4 (batch t) (head t) s d) :=
  congrArg (V m c main_v3) (by
    funext a
    fin_cases a
    · exact Fin.ext (show (((win0_1.blk t).view.emb (ix4 (n0 := 1) (n1 := 1) (n2 := 256) (n3 := 64) 0 0 s d)) 0 : ℕ) = t.val / 4 by blk_simp [idx t]; rfl)
    · exact Fin.ext (show (((win0_1.blk t).view.emb (ix4 (n0 := 1) (n1 := 1) (n2 := 256) (n3 := 64) 0 0 s d)) 1 : ℕ) = t.val % 4 by blk_simp [idx t]; rfl)
    · exact Fin.ext (show (((win0_1.blk t).view.emb (ix4 (n0 := 1) (n1 := 1) (n2 := 256) (n3 := 64) 0 0 s d)) 2 : ℕ) = s.val by blk_simp [idx t])
    · exact Fin.ext (show (((win0_1.blk t).view.emb (ix4 (n0 := 1) (n1 := 1) (n2 := 256) (n3 := 64) 0 0 s d)) 3 : ℕ) = d.val by blk_simp [idx t]))

theorem block2 (c : Dev nD) (t : Fin cfg0.N) (s : Fin 256) (d : Fin 64) :
    iblk m c 2 t (ix4 (n0 := 1) (n1 := 1) (n2 := 256) (n3 := 64) 0 0 s d) = V m c main_v6 (ix4 (batch t) (head t) s d) :=
  congrArg (V m c main_v6) (by
    funext a
    fin_cases a
    · exact Fin.ext (show (((win0_2.blk t).view.emb (ix4 (n0 := 1) (n1 := 1) (n2 := 256) (n3 := 64) 0 0 s d)) 0 : ℕ) = t.val / 4 by blk_simp [idx t]; rfl)
    · exact Fin.ext (show (((win0_2.blk t).view.emb (ix4 (n0 := 1) (n1 := 1) (n2 := 256) (n3 := 64) 0 0 s d)) 1 : ℕ) = t.val % 4 by blk_simp [idx t]; rfl)
    · exact Fin.ext (show (((win0_2.blk t).view.emb (ix4 (n0 := 1) (n1 := 1) (n2 := 256) (n3 := 64) 0 0 s d)) 2 : ℕ) = s.val by blk_simp [idx t])
    · exact Fin.ext (show (((win0_2.blk t).view.emb (ix4 (n0 := 1) (n1 := 1) (n2 := 256) (n3 := 64) 0 0 s d)) 3 : ℕ) = d.val by blk_simp [idx t]))

/-- The averages of the values, from the arguments. -/
def avg (q k v : FVec Ideal S2x256x4x64 .f32) : FVec Ideal S2x4x256x64 .f32 := fun y =>
  Cert.Context.kavg (fun n : Fin 256 => (∑ d : Fin 64, q (ix4 (y 0) (y 2) (y 1) d) * k (ix4 (y 0) n (y 1) d)) * FloatOps.ofBits (F := Ideal) .f32 0x3E000000#32)
    (fun n => v (ix4 (y 0) n (y 1) (y 3)))

/-- The result array, from the arguments. -/
def G4 (c : Dev nD) : Vec Ideal S2x4x256x64 .f32 :=
  avg (m ((c.tc : Thread nD τ).loc main_arg0)) (m ((c.tc : Thread nD τ).loc main_arg1)) (m ((c.tc : Thread nD τ).loc main_arg2))

/-- What a point leaves in its block. -/
theorem out4_eq (c : Dev nD) (t : Fin cfg0.N) (r : Fin 256) (e : Fin 64) :
    outsAt0 m c t (ix4 (n0 := 1) (n1 := 1) (n2 := 256) (n3 := 64) 0 0 r e) = G4 m c (ix4 (batch t) (head t) r e) := by
  unfold outsAt0
  refine (outA c _ _ _ _ _ _ _ _ _ _ _ _ _ _ _ r e).trans ((pay1_at _ _ _ r e).trans ?_)
  have e0 := fun d => (block0 m c t r d).trans (entry_q m c (batch t) (head t) r d)
  have e1 := fun n d => (block1 m c t n d).trans (entry_k m c (batch t) (head t) n d)
  have e2 := fun n => (block2 m c t n e).trans (entry_v m c (batch t) (head t) n e)
  exact congrArg₂ Cert.Context.kavg (funext fun n => congrArg (fun x : EReal => x * FloatOps.ofBits (F := Ideal) .f32 0x3E000000#32)
    (Finset.sum_congr rfl fun d _ => congrArg₂ (fun x y : EReal => x * y) (e0 d) (e1 n d))) (funext e2)

/-- The result array the run leaves. -/
theorem final4 (c : Dev nD) : (dats m 0 c).arrAt 4 cfg0.N = G4 m c := by
  refine (dats m 0 c).arrAt_eq_of_covers 4 _ (by decide +kernel) fun t hf y => ?_
  have ey : y = ix4 (n0 := 1) (n1 := 1) (n2 := 256) (n3 := 64) 0 0 (y 2) (y 3) := by
    funext d
    fin_cases d
    · exact Subsingleton.elim (α := Fin 1) _ _
    · exact Subsingleton.elim (α := Fin 1) _ _
    · rfl
    · rfl
  have y0 : (y 0 : ℕ) = 0 := congrArg Fin.val (Subsingleton.elim (α := Fin 1) (y 0) 0)
  have y1 : (y 1 : ℕ) = 0 := congrArg Fin.val (Subsingleton.elim (α := Fin 1) (y 1) 0)
  have E0 : (((win0_4.blk t).view.emb y) 0 : ℕ) = t.val / 4 := by blk_simp [idx t, y0]
  have E1 : (((win0_4.blk t).view.emb y) 1 : ℕ) = t.val % 4 := by blk_simp [idx t, y1]
  have E2 : (((win0_4.blk t).view.emb y) 2 : ℕ) = (y 2 : ℕ) := by blk_simp [idx t]
  have E3 : (((win0_4.blk t).view.emb y) 3 : ℕ) = (y 3 : ℕ) := by blk_simp [idx t]
  blk_simp
  rw [after0_4]
  refine (congrArg _ ey).trans ((out4_eq m c t (y 2) (y 3)).trans (congrArg (G4 m c) ?_))
  funext d
  fin_cases d
  · exact Fin.ext E0.symm
  · exact Fin.ext E1.symm
  · exact Fin.ext E2.symm
  · exact Fin.ext E3.symm

end Cert.CtxKernelIdeal.Context

end
-- ==== Proof.Ctx.Ref.lean ====
/- The plain attention among the context's tokens, at an index. -/
module

public import proofs.«01_k».proof.Proof.Gen.CtxReferenceIdeal.Run
public import proofs.«01_k».proof.Proof.Att.Soft
public import Idealize.ShloMosaic.Lib.Claim
public import Idealize.ShloMosaic.Lib.KernelVsHost
public import Idealize.ShloMosaic.Lib.Pointwise

@[expose] public section

set_option maxRecDepth 16384

noncomputable section

namespace Cert.CtxReferenceIdeal.Context

open Cert.CtxReferenceIdeal Cert.CtxReferenceIdeal.Gen
open Idealize.ShloMosaic Idealize.ShloMosaic.TcCoe Idealize.ShloMosaic.Tactic Idealize.SL.Sem
open Cert.KernelIdeal.Att (mz rout)

/-- The scores. -/
def scores (q k : FVec Ideal S2x256x4x64 .f32) : FVec Ideal S2x4x256x256 .f32 :=
  mulf (Host.dotGeneral dot_S2x256x4x64_S2x256x4x64_S2x4x256x256_3_3_1_1_02_02 none q k)
    (broadcastInDim S2x4x256x256 ![] bcast_S_S2x4x256x256 (constant S_ .f32 0x3E000000#32))

theorem scores_at (q k : FVec Ideal S2x256x4x64 .f32) (b : Fin 2) (h : Fin 4) (t n : Fin 256) :
    scores q k (ix4 b h t n) = (∑ d : Fin 64, q (ix4 b t h d) * k (ix4 b n h d)) * FloatOps.ofBits (F := Ideal) .f32 0x3E000000#32 := by
  unfold scores
  pointwise []

/-- Every row's greatest score. -/
def tops (x : FVec Ideal S2x4x256x256 .f32) : FVec Ideal S2x4x256 .f32 :=
  Host.reduce FloatOps.maximumf x (constant (F := Ideal) S_ .f32 0xFF800000#32) reducesTo_S2x4x256x256_S2x4x256_d3 h_S_

theorem tops_at (x : FVec Ideal S2x4x256x256 .f32) (b : Fin 2) (h : Fin 4) (t : Fin 256) :
    tops x (ix3 b h t) = (Finset.univ : Finset (Fin 256)).fold max mz fun n => x (ix4 b h t n) := by
  have hr : S2x4x256x256.Reduces [3] S2x4x256 := by decide
  refine (congrFun (hostReduce_maximumf_eq_multiReduction x _ reducesTo_S2x4x256x256_S2x4x256_d3 h_S_ hr (.inl rfl) rfl) (ix3 b h t)).trans ?_
  refine (Ideal.multiReduction_maximumf_single x _ hr (.inl rfl) rfl (ix3 b h t)).trans ?_
  refine Finset.fold_congr fun n _ => ?_
  refine congrArg x ?_
  funext a
  fin_cases a <;> rfl

/-- A row quantity at every score of the row. -/
def spread (y : FVec Ideal S2x4x256 .f32) : FVec Ideal S2x4x256x256 .f32 :=
  broadcastInDim S2x4x256x256 ![0, 1, 2, 3] bcast_S2x4x256x1_S2x4x256x256_0_1_2_3 (broadcastInDim S2x4x256x1 ![0, 1, 2] bcast_S2x4x256_S2x4x256x1_0_1_2 y)

/-- The exponentials of the scores less their row's maximum. -/
def exps (x : FVec Ideal S2x4x256x256 .f32) (w : FVec Ideal S2x4x256 .f32) : FVec Ideal S2x4x256x256 .f32 :=
  Host.exp (subf x (spread (maximumf (broadcastInDim S2x4x256 ![] bcast_S_S2x4x256 (constant S_ .f32 0xFF800000#32)) w)))

theorem exps_at (x : FVec Ideal S2x4x256x256 .f32) (w : FVec Ideal S2x4x256 .f32) (b : Fin 2) (h : Fin 4) (t n : Fin 256) :
    exps x w (ix4 b h t n) = Ideal.exp (x (ix4 b h t n) - max mz (w (ix3 b h t))) := by
  unfold exps spread
  pointwise []
  rfl

/-- The softmax weights, from the exponentials. -/
def wts (p : FVec Ideal S2x4x256x256 .f32) : FVec Ideal S2x4x256x256 .f32 :=
  Host.divf p (spread (Host.reduceAdd p (constant (F := Ideal) S_ .f32 0x00000000#32) reducesTo_S2x4x256x256_S2x4x256_d3 h_S_))

theorem wts_at (p : FVec Ideal S2x4x256x256 .f32) (b : Fin 2) (h : Fin 4) (t n : Fin 256) :
    wts p (ix4 b h t n) = Ideal.div (p (ix4 b h t n)) (0 + ∑ j : Fin 256, p (ix4 b h t j)) := by
  unfold wts spread
  pointwise []

/-- The weighted values. -/
def outs (w : FVec Ideal S2x4x256x256 .f32) (v : FVec Ideal S2x256x4x64 .f32) : FVec Ideal S2x4x256x64 .f32 :=
  transpose S2x4x256x64 [0, 2, 1, 3] (transpose S2x256x4x64 [0, 3, 1, 2] (Host.dotGeneral dot_S2x256x4x64_S2x4x256x256_S2x4x64x256_1_3_3_2_02_01 none v w)
    transposes_S2x4x64x256_S2x256x4x64_0_3_1_2) transposes_S2x256x4x64_S2x4x256x64_0_2_1_3

theorem outs_at (w : FVec Ideal S2x4x256x256 .f32) (v : FVec Ideal S2x256x4x64 .f32) (b : Fin 2) (h : Fin 4) (t : Fin 256) (e : Fin 64) :
    outs w v (ix4 b h t e) = ∑ n : Fin 256, w (ix4 b h t n) * v (ix4 b n h e) := by
  unfold outs
  pointwise []
  simp only [mul_comm]

/-- The reference's array, from the arguments. -/
def result (q k v : FVec Ideal S2x256x4x64 .f32) : FVec Ideal S2x4x256x64 .f32 := outs (wts (exps (scores q k) (tops (scores q k)))) v

/-- The reference's array at an index: the plain softmax average. -/
theorem result_at (q k v : FVec Ideal S2x256x4x64 .f32) (b : Fin 2) (h : Fin 4) (t : Fin 256) (e : Fin 64) :
    result q k v (ix4 b h t e) = rout (fun n : Fin 256 => (∑ d : Fin 64, q (ix4 b t h d) * k (ix4 b n h d)) * FloatOps.ofBits (F := Ideal) .f32 0x3E000000#32)
      (fun n => v (ix4 b n h e)) := by
  unfold result
  refine (outs_at _ v b h t e).trans ?_
  simp only [wts_at, exps_at, tops_at, scores_at]
  rfl

end Cert.CtxReferenceIdeal.Context

end
-- ==== Proof.Ctx.Claims.lean ====
/- The claims about the context's attention. -/
module

public import proofs.«01_k».proof.Proof.Ctx.Final
public import proofs.«01_k».proof.Proof.Ctx.Ref
public import proofs.«01_k».proof.Proof.Att.Finite
public import proofs.«01_k».proof.Proof.Gen.CtxKernel.Frame
public import proofs.«01_k».proof.Proof.Gen.Pre_finite_scores_ctx
public import proofs.«01_k».proof.Defs
public import Idealize.ShloMosaic.Lib.Claim
public import Idealize.ShloMosaic.Lib.ReduceAll

@[expose] public section

set_option maxRecDepth 16384

noncomputable section

namespace Cert.Context

open Idealize.ShloMosaic Idealize.ShloMosaic.TcCoe Idealize.ShloMosaic.Tactic Idealize.SL.Sem

/-- The kernel's frame. -/
theorem frame_p : Cert.quiescent_CtxKernel := fun m g _ => Cert.CtxKernel.Gen.frame m g

/-- The idealized kernel's frame. -/
theorem frame_pi : Cert.quiescent_CtxKernelIdeal := fun m g _ => Cert.CtxKernelIdeal.Gen.frame m g

/-- The same from finite queries and keys. -/
theorem frame_pi_pre : Cert.quiescent_CtxKernelIdeal_pre_finite_scores_ctx := fun m g _ => Cert.CtxKernelIdeal.Gen.frame m g

/-- The reference's frame. -/
theorem frame_ri : Cert.quiescent_CtxReferenceIdeal := fun m g _ =>
  (θ_run Cert.CtxReferenceIdeal.defs _ _).mono (fun r h => ⟨fun c => (h c).2, Idealize.ShloMosaic.sem_eq_zero_of_no_sems (by decide) r.2⟩)
    (Cert.CtxReferenceIdeal.Value.run (F := Ideal) m g)

/-- The same from finite queries and keys. -/
theorem frame_ri_pre : Cert.quiescent_CtxReferenceIdeal_pre_finite_scores_ctx := fun m g _ => frame_ri m g trivial

/-- No constant is named. -/
theorem preserves : Cert.preserves_CtxKernel_CtxKernelIdeal := trivial

/-- The scale is a number. -/
theorem scale_real : FloatOps.ofBits (F := Ideal) .f32 0x3E000000#32 = ((FloatOps.ofBits (F := Ideal) .f32 0x3E000000#32 : EReal).toReal : EReal) := by
  have e : FloatOps.ofBits (F := Ideal) .f32 0x3E000000#32 = (((1 / 8 : ℝ)) : EReal) := by
    show Ideal.ofBits .f32 _ = _
    simp [Ideal.ofBits, Ideal.ieee, -EReal.coe_mul]
    norm_num
  rw [e, EReal.toReal_coe]

/-- Under the precondition queries and keys are numbers. -/
theorem finite (q k v : FVec Ideal Pre_finite_scores_ctx.S2x256x4x64 .f32) (h : Pre_finite_scores_ctx.fn (F := Ideal) q k v = fun _ => 1#1) :
    (∀ i, q i = (((q i : EReal).toReal : ℝ) : EReal)) ∧ ∀ i, k i = (((k i : EReal).toReal : ℝ) : EReal) := by
  haveI : Subsingleton Pre_finite_scores_ctx.S_.Idx := ⟨fun a b => funext fun d => d.elim0⟩
  obtain ⟨e1, e2⟩ := IntOp.andi_eq_one.mp (congrFun h (fun d => d.elim0))
  exact ⟨fun i => Att.real_of_abs _ (Host.reduce_andi_all _ _ _ _ _ e1 i), fun i => Att.real_of_abs _ (Host.reduce_andi_all _ _ _ _ _ e2 i)⟩

/-- On finite queries and keys the kernel's averages are the reference's. -/
theorem averages (q k v : FVec Ideal Pre_finite_scores_ctx.S2x256x4x64 .f32) (h : Pre_finite_scores_ctx.fn (F := Ideal) q k v = fun _ => 1#1) :
    Cert.CtxReferenceIdeal.Context.result q k v = Cert.CtxKernelIdeal.Context.avg q k v := by
  obtain ⟨hq, hk⟩ := finite q k v h
  funext y
  have ey : y = ix4 (n0 := 2) (n1 := 4) (n2 := 256) (n3 := 64) (y 0) (y 1) (y 2) (y 3) := by
    funext d
    fin_cases d <;> rfl
  refine (congrArg _ ey).trans ((Cert.CtxReferenceIdeal.Context.result_at q k v (y 0) (y 1) (y 2) (y 3)).trans ?_)
  exact (kavg_scores (by norm_num) (fun d : Fin 64 => q (ix4 (y 0) (y 2) (y 1) d)) (fun (n : Fin 256) d => k (ix4 (y 0) n (y 1) d)) _ _
    (fun d => hq _) (fun n d => hk _) scale_real).symm

/-- On finite queries and keys the kernel computes the reference's array. -/
theorem algebraic : Cert.algebraic_CtxKernelIdeal_CtxReferenceIdeal_pre_finite_scores_ctx := by
  intro m g m' g' hpre hagree
  refine ⟨fun c => Cert.CtxKernelIdeal.Context.G4 m c, ?_, ?_⟩
  · refine (θ_run _ _ _).mono (fun r h c => ?_) (Cert.CtxKernelIdeal.Value.run_blocks (F := Ideal) m g)
    exact ⟨(h c).1.trans (Cert.CtxKernelIdeal.Context.final4 m c), (h c).2⟩
  · refine (θ_run _ _ _).mono (fun r h c => ⟨(h c).1.trans ?_, (h c).2⟩) (Cert.CtxReferenceIdeal.Value.run (F := Ideal) m' g')
    obtain ⟨a0, a1, a2⟩ := hagree c
    rw [a0, a1, a2]
    exact averages _ _ _ (hpre c)

end Cert.Context

end
-- ==== Proof.Sink.Ref.lean ====
/- The plain attention among the context's tokens with a sink, at an index. -/
module

public import proofs.«01_k».proof.Proof.Gen.SinkReferenceIdeal.Run
public import proofs.«01_k».proof.Proof.Ctx.Soft
public import Idealize.ShloMosaic.Lib.Claim
public import Idealize.ShloMosaic.Lib.KernelVsHost
public import Idealize.ShloMosaic.Lib.Pointwise

@[expose] public section

set_option maxRecDepth 16384

noncomputable section

namespace Cert.SinkReferenceIdeal.Sink

open Cert.SinkReferenceIdeal Cert.SinkReferenceIdeal.Gen
open Idealize.ShloMosaic Idealize.ShloMosaic.TcCoe Idealize.ShloMosaic.Tactic Idealize.SL.Sem
open Cert.KernelIdeal.Att (mz)
open Cert.Context (rsink)

/-- The key head that a query head goes with. -/
def kv (h : Fin 4) : Fin 2 := ⟨h.val / 2, by omega⟩

/-- Keys or values, each head twice. -/
def twice (k : FVec Ideal S2x256x2x64 .f32) : FVec Ideal S2x256x4x64 .f32 :=
  shapeCast S2x256x4x64 (broadcastInDim S2x256x2x2x64 ![0, 1, 2, 4] bcast_S2x256x2x64_S2x256x2x2x64_0_1_2_4 k) shapeCasts_S2x256x2x2x64_S2x256x4x64

theorem twice_at (k : FVec Ideal S2x256x2x64 .f32) (b : Fin 2) (n : Fin 256) (h : Fin 4) (d : Fin 64) :
    twice k (ix4 b n h d) = k (ix4 b n (kv h) d) := by
  unfold twice kv
  pointwise []

/-- The scores. -/
def scores (q k : FVec Ideal S2x256x4x64 .f32) : FVec Ideal S2x4x256x256 .f32 :=
  mulf (Host.dotGeneral dot_S2x256x4x64_S2x256x4x64_S2x4x256x256_3_3_1_1_02_02 none q k)
    (broadcastInDim S2x4x256x256 ![] bcast_S_S2x4x256x256 (constant S_ .f32 0x3E000000#32))

theorem scores_at (q k : FVec Ideal S2x256x4x64 .f32) (b : Fin 2) (h : Fin 4) (t n : Fin 256) :
    scores q k (ix4 b h t n) = (∑ d : Fin 64, q (ix4 b t h d) * k (ix4 b n h d)) * FloatOps.ofBits (F := Ideal) .f32 0x3E000000#32 := by
  unfold scores
  pointwise []

/-- The scores with the sink as a last one. -/
def withSink (s : FVec Ideal S2x4x256x256 .f32) (z : FVec Ideal S4 .f32) : FVec Ideal S2x4x256x257 .f32 :=
  concatenate S2x4x256x257 3 [⟨S2x4x256x256, s⟩, ⟨S2x4x256x1, broadcastInDim S2x4x256x1 ![0, 1, 2, 3] bcast_S1x4x1x1_S2x4x256x1_0_1_2_3
    (broadcastInDim S1x4x1x1 ![1] bcast_S4_S1x4x1x1_1 z)⟩] concatenates_S2x4x256x256_S2x4x256x1_S2x4x256x257_d3

theorem withSink_lt (s : FVec Ideal S2x4x256x256 .f32) (z : FVec Ideal S4 .f32) (b : Fin 2) (h : Fin 4) (t : Fin 256) (n : Fin 257) (hn : n.val < 256) :
    withSink s z (ix4 b h t n) = s (ix4 b h t ⟨n.val, hn⟩) := by
  unfold withSink
  pointwise [hn]

theorem withSink_ge (s : FVec Ideal S2x4x256x256 .f32) (z : FVec Ideal S4 .f32) (b : Fin 2) (h : Fin 4) (t : Fin 256) (n : Fin 257) (hn : ¬ n.val < 256) :
    withSink s z (ix4 b h t n) = z (ix1 h) := by
  unfold withSink
  pointwise [hn]

theorem withSink_row (s : FVec Ideal S2x4x256x256 .f32) (z : FVec Ideal S4 .f32) (b : Fin 2) (h : Fin 4) (t : Fin 256) :
    (fun n : Fin 257 => (withSink s z (ix4 b h t n) : EReal)) = (Fin.snoc (fun n : Fin 256 => (s (ix4 b h t n) : EReal)) (z (ix1 h) : EReal) : Fin (256 + 1) → EReal) := by
  funext n
  refine Fin.lastCases ?_ (fun i => ?_) n
  · rw [Fin.snoc_last]
    exact withSink_ge s z b h t _ (by simp)
  · rw [Fin.snoc_castSucc]
    exact withSink_lt s z b h t _ i.isLt

/-- Every row's greatest score. -/
def tops (x : FVec Ideal S2x4x256x257 .f32) : FVec Ideal S2x4x256 .f32 :=
  Host.reduce FloatOps.maximumf x (constant (F := Ideal) S_ .f32 0xFF800000#32) reducesTo_S2x4x256x257_S2x4x256_d3 h_S_

theorem tops_at (x : FVec Ideal S2x4x256x257 .f32) (b : Fin 2) (h : Fin 4) (t : Fin 256) :
    tops x (ix3 b h t) = (Finset.univ : Finset (Fin 257)).fold max mz fun n => x (ix4 b h t n) := by
  have hr : S2x4x256x257.Reduces [3] S2x4x256 := by decide
  refine (congrFun (hostReduce_maximumf_eq_multiReduction x _ reducesTo_S2x4x256x257_S2x4x256_d3 h_S_ hr (.inl rfl) rfl) (ix3 b h t)).trans ?_
  refine (Ideal.multiReduction_maximumf_single x _ hr (.inl rfl) rfl (ix3 b h t)).trans ?_
  refine Finset.fold_congr fun n _ => ?_
  refine congrArg x ?_
  funext a
  fin_cases a <;> rfl

/-- A row quantity at every score of the row. -/
def spread (y : FVec Ideal S2x4x256 .f32) : FVec Ideal S2x4x256x257 .f32 :=
  broadcastInDim S2x4x256x257 ![0, 1, 2, 3] bcast_S2x4x256x1_S2x4x256x257_0_1_2_3 (broadcastInDim S2x4x256x1 ![0, 1, 2] bcast_S2x4x256_S2x4x256x1_0_1_2 y)

/-- The exponentials of the scores less their row's maximum. -/
def exps (x : FVec Ideal S2x4x256x257 .f32) (w : FVec Ideal S2x4x256 .f32) : FVec Ideal S2x4x256x257 .f32 :=
  Host.exp (subf x (spread (maximumf (broadcastInDim S2x4x256 ![] bcast_S_S2x4x256 (constant S_ .f32 0xFF800000#32)) w)))

theorem exps_at (x : FVec Ideal S2x4x256x257 .f32) (w : FVec Ideal S2x4x256 .f32) (b : Fin 2) (h : Fin 4) (t : Fin 256) (n : Fin 257) :
    exps x w (ix4 b h t n) = Ideal.exp (x (ix4 b h t n) - max mz (w (ix3 b h t))) := by
  unfold exps spread
  pointwise []
  rfl

/-- The softmax weights of the keys, from the exponentials. -/
def wts (p : FVec Ideal S2x4x256x257 .f32) : FVec Ideal S2x4x256x256 .f32 :=
  extractStridedSlice S2x4x256x256 ![0, 0, 0, 0] (Host.divf p (spread (Host.reduceAdd p (constant (F := Ideal) S_ .f32 0x00000000#32)
    reducesTo_S2x4x256x257_S2x4x256_d3 h_S_))) slices_S2x4x256x257_S2x4x256x256_0_0_0_0

theorem wts_at (p : FVec Ideal S2x4x256x257 .f32) (b : Fin 2) (h : Fin 4) (t n : Fin 256) :
    wts p (ix4 b h t n) = Ideal.div (p (ix4 b h t (n.castSucc : Fin 257))) (0 + ∑ j : Fin 257, p (ix4 b h t j)) := by
  unfold wts spread
  pointwise []
  rfl

/-- The weighted values. -/
def outs (w : FVec Ideal S2x4x256x256 .f32) (v : FVec Ideal S2x256x4x64 .f32) : FVec Ideal S2x4x256x64 .f32 :=
  transpose S2x4x256x64 [0, 2, 1, 3] (transpose S2x256x4x64 [0, 3, 1, 2] (Host.dotGeneral dot_S2x256x4x64_S2x4x256x256_S2x4x64x256_1_3_3_2_02_01 none v w)
    transposes_S2x4x64x256_S2x256x4x64_0_3_1_2) transposes_S2x256x4x64_S2x4x256x64_0_2_1_3

theorem outs_at (w : FVec Ideal S2x4x256x256 .f32) (v : FVec Ideal S2x256x4x64 .f32) (b : Fin 2) (h : Fin 4) (t : Fin 256) (e : Fin 64) :
    outs w v (ix4 b h t e) = ∑ n : Fin 256, w (ix4 b h t n) * v (ix4 b n h e) := by
  unfold outs
  pointwise []
  simp only [mul_comm]

/-- The weighted values of scores that have the sink among them. -/
theorem soft_at (s : FVec Ideal S2x4x256x256 .f32) (z : FVec Ideal S4 .f32) (v : FVec Ideal S2x256x4x64 .f32) (b : Fin 2) (h : Fin 4) (t : Fin 256) (e : Fin 64) :
    outs (wts (exps (withSink s z) (tops (withSink s z)))) v (ix4 b h t e)
      = rsink (fun n : Fin 256 => s (ix4 b h t n)) (fun n => v (ix4 b n h e)) (z (ix1 h)) := by
  refine (outs_at _ v b h t e).trans ?_
  have er := withSink_row s z b h t
  have ex : ∀ n : Fin 257, withSink s z (ix4 b h t n) = (Fin.snoc (fun n : Fin 256 => (s (ix4 b h t n) : EReal)) (z (ix1 h) : EReal) : Fin (256 + 1) → EReal) n := congrFun er
  have et : tops (withSink s z) (ix3 b h t) = (Finset.univ : Finset (Fin 257)).fold max mz (Fin.snoc (fun n : Fin 256 => (s (ix4 b h t n) : EReal)) (z (ix1 h) : EReal) : Fin (256 + 1) → EReal) :=
    (tops_at _ b h t).trans (Finset.fold_congr fun n _ => ex n)
  unfold rsink
  refine Finset.sum_congr rfl fun n _ => ?_
  refine congrArg (fun x : EReal => x * v (ix4 b n h e)) ((wts_at _ b h t n).trans ?_)
  refine congrArg₂ Ideal.div ?_ (congrArg (fun x : EReal => 0 + x) (Finset.sum_congr rfl fun j _ => ?_))
  · refine (exps_at _ _ b h t n.castSucc).trans ?_
    rw [et, ex, Fin.snoc_castSucc]
  · refine (exps_at _ _ b h t j).trans ?_
    rw [et, ex]

/-- The reference's array, from the arguments. -/
def result (q : FVec Ideal S2x256x4x64 .f32) (k v : FVec Ideal S2x256x2x64 .f32) (z : FVec Ideal S4 .f32) : FVec Ideal S2x4x256x64 .f32 :=
  outs (wts (exps (withSink (scores q (twice k)) z) (tops (withSink (scores q (twice k)) z)))) (twice v)

/-- The reference's array at an index: the plain softmax average with the sink. -/
theorem result_at (q : FVec Ideal S2x256x4x64 .f32) (k v : FVec Ideal S2x256x2x64 .f32) (z : FVec Ideal S4 .f32) (b : Fin 2) (h : Fin 4) (t : Fin 256) (e : Fin 64) :
    result q k v z (ix4 b h t e) = rsink (fun n : Fin 256 => (∑ d : Fin 64, q (ix4 b t h d) * k (ix4 b n (kv h) d)) * FloatOps.ofBits (F := Ideal) .f32 0x3E000000#32)
      (fun n => v (ix4 b n (kv h) e)) (z (ix1 h)) := by
  unfold result
  refine (soft_at _ z _ b h t e).trans ?_
  simp only [scores_at, twice_at]

end Cert.SinkReferenceIdeal.Sink

end
-- ==== Proof.Sink.Final.lean ====
/- The array the context's attention with a sink leaves. -/
module

public import proofs.«01_k».proof.Proof.Gen.SinkKernelIdeal.Value
public import proofs.«01_k».proof.Proof.Sink.Ref
public import Idealize.ShloMosaic.Lib.Pipeline.ValueKit.Geometry
public import Idealize.ShloMosaic.Lib.Pipeline.ValueKit.Basic
public import Idealize.ShloMosaic.Lib.WritesUnit
public import Idealize.ShloMosaic.Lib.WholeRead
public import Idealize.ShloMosaic.Lib.Claim
public import Idealize.ShloMosaic.Lib.Pointwise

@[expose] public section

set_option maxRecDepth 16384

noncomputable section

namespace Cert.SinkKernelIdeal.Sink

open Cert.SinkKernelIdeal Cert.SinkKernelIdeal.Gen
open Idealize.ShloMosaic Idealize.ShloMosaic.TcCoe Idealize.ShloMosaic.Tactic Idealize.SL.Sem
open Cert.KernelIdeal.Att (mz)

/-- A block's scores. -/
def scores (q k : Vec Ideal S1x1x256x64 .f32) : FVec Ideal S256x256 .f32 :=
  mulf (matmul dot_S256x64_S256x64_S256x256_1_1_0_0_n_n none (truncf .bf16 (shapeCast S256x64 q shapeCasts_S1x1x256x64_S256x64) bitsLt_bf16_f32)
    (truncf .bf16 (shapeCast S256x64 k shapeCasts_S1x1x256x64_S256x64) bitsLt_bf16_f32) (constant S256x256 .f32 0x00000000#32))
    (broadcast S256x256 (Scalar.ofBits .f32 0x3E000000#32))

theorem scores_at (q k : Vec Ideal S1x1x256x64 .f32) (r n : Fin 256) :
    scores q k (ix2 r n) = (∑ d : Fin 64, q (ix4 0 0 r d) * k (ix4 0 0 n d)) * FloatOps.ofBits (F := Ideal) .f32 0x3E000000#32 := by
  unfold scores
  pointwise []

/-- A block's greatest scores. -/
def tops (s : FVec Ideal S256x256 .f32) : FVec Ideal S256 .f32 := multiReduction .maximumf [1] S256 s 0xFF800000#32 reduces_S256x256_S256 (.inl rfl) rfl

theorem tops_at (s : FVec Ideal S256x256 .f32) (r : Fin 256) :
    tops s (ix1 r) = (Finset.univ : Finset (Fin 256)).fold max mz fun n => s (ix2 r n) := by
  refine (Ideal.multiReduction_maximumf_single s _ reduces_S256x256_S256 (.inl rfl) rfl (ix1 r)).trans ?_
  refine Finset.fold_congr fun n _ => ?_
  refine congrArg s ?_
  funext a
  fin_cases a <;> rfl

/-- A block's rows' maxima, the sink among them. -/
def maxes (w : FVec Ideal S256 .f32) (z : EReal) : FVec Ideal S256x1 .f32 := maximumf (shapeCast S256x1 w shapeCasts_S256_S256x1) (broadcast S256x1 z)

theorem maxes_at (w : FVec Ideal S256 .f32) (z : EReal) (r : Fin 256) : maxes w z (ix2 r 0) = max (w (ix1 r)) z := by
  unfold maxes
  pointwise []

/-- A block's result from its scores, their maxima, the sink and the values. -/
def after (s : FVec Ideal S256x256 .f32) (w : FVec Ideal S256x1 .f32) (z : EReal) (v : Vec Ideal S1x1x256x64 .f32) : FVec Ideal S1x1x256x64 .f32 :=
  let p : FVec Ideal S256x256 .f32 := exp (subf s (broadcastTo S256x256 w broadcasts_S256x1_S256x256))
  shapeCast S1x1x256x64 (divf (matmul dot_S256x256_S256x64_S256x64_1_0_0_1_n_n none (truncf .bf16 p bitsLt_bf16_f32)
    (truncf .bf16 (shapeCast S256x64 v shapeCasts_S1x1x256x64_S256x64) bitsLt_bf16_f32) (constant S256x64 .f32 0x00000000#32))
    (broadcastTo S256x64 (addf (shapeCast S256x1 (multiReduction .add [1] S256 p 0x00000000#32 reduces_S256x256_S256 (.inl rfl) rfl) shapeCasts_S256_S256x1)
      (exp (subf (broadcast S256x1 z) w))) broadcasts_S256x1_S256x64)) shapeCasts_S256x64_S1x1x256x64

theorem after_at (s : FVec Ideal S256x256 .f32) (w : FVec Ideal S256x1 .f32) (z : EReal) (v : Vec Ideal S1x1x256x64 .f32) (r : Fin 256) (e : Fin 64) :
    after s w z v (ix4 0 0 r e) = Ideal.div (∑ n : Fin 256, Ideal.exp (s (ix2 r n) - w (ix2 r 0)) * v (ix4 0 0 n e))
      ((∑ n : Fin 256, Ideal.exp (s (ix2 r n) - w (ix2 r 0))) + Ideal.exp (z - w (ix2 r 0))) := by
  unfold after
  pointwise []

theorem pay1_eq (q k v : Vec Ideal S1x1x256x64 .f32) (z : Elt Ideal .f32) :
    k0_pay1 (F := Ideal) q k z v = after (scores q k) (maxes (tops (scores q k)) z) z v := rfl

/-- A block's row: the softmax average of the values, with the sink. -/
theorem pay1_at (q k v : Vec Ideal S1x1x256x64 .f32) (z : Elt Ideal .f32) (r : Fin 256) (e : Fin 64) :
    k0_pay1 (F := Ideal) q k z v (ix4 0 0 r e) = Cert.Context.ksink
      (fun n => (∑ d : Fin 64, q (ix4 0 0 r d) * k (ix4 0 0 n d)) * FloatOps.ofBits (F := Ideal) .f32 0x3E000000#32) (fun n => v (ix4 0 0 n e)) z := by
  rw [pay1_eq]
  refine (after_at _ _ z v r e).trans ?_
  simp only [maxes_at, tops_at, scores_at]
  rfl

/-- The word a point reads among the sinks is that of its second coordinate. -/
theorem off1 (i : grid0.Coords) : k0_off1 i 0 + 0 * 1 = (i 1 : ℕ) := by
  have h : (i 1 : ℕ) < 4 := (i 1).isLt
  show (BitVec.ofNat 32 (i 1 : ℕ)).toNat + 0 * 1 = _
  rw [BitVec.toNat_ofNat, Nat.mod_eq_of_lt (by omega)]
  omega

/-- A load of a whole block is the block. -/
theorem load (arg : Memref sig .tc .vmem S1x1x256x64 .f32) (harg : arg.IsWhole) (X : Vec Ideal S1x1x256x64 .f32) :
    View.readAt (Elt Ideal) arg.view (Rect.unit (s := S1x1x256x64) ![0, 0, 0, 0] S1x1x256x64.size inb_S1x1x256x64_S1x1x256x64_0_0_0_0).toLoadRect (harg.unread X) = X :=
  (funext fun y => harg.readAt_unread X _ y).trans (View.ld_unit_lit _ X (by decide))

/-- What a run of the body leaves in the result's block. -/
theorem outA (c : Dev nD) (i : grid0.Coords) (arg2 : Memref sig .tc .vmem S1x1x256x64 .f32) (harg2 : arg2.IsWhole) (arg3 : Memref sig .tc .vmem S1x1x256x64 .f32)
    (harg3 : arg3.IsWhole) (arg4 : Memref sig .tc .vmem S1x1x256x64 .f32) (harg4 : arg4.IsWhole) (arg5 : Memref sig .tc .smem S4 .f32) (harg5 : arg5.IsWhole)
    (arg6 : Memref sig .tc .vmem S1x1x256x64 .f32) (harg6 : arg6.IsWhole) (x0 x1 x2 : Vec Ideal S1x1x256x64 .f32) (x3 : Vec Ideal S4 .f32) (r : Fin 256) (e : Fin 64) :
    out0_A_4 c i arg2 harg2 arg3 harg3 arg4 harg4 arg5 harg5 arg6 harg6 x0 x1 x2 x3 (ix4 0 0 r e) = k0_pay1 (F := Ideal) x0 x1 (x3 (ix1 (i 1))) x2 (ix4 0 0 r e) := by
  unfold out0_A_4
  refine (View.read_writes_cons_unit_of_mem VO0_4 _ inb_S1x1x256x64_S1x1x256x64_0_0_0_0 _ [] (ix4 0 0 r e) (ix4 0 0 r e) rfl fun a => ?_).trans ?_
  · fin_cases a <;> exact (Nat.zero_add _).symm
  · rw [load arg2 harg2, load arg3 harg3, load arg4 harg4]
    refine congrArg (fun z : EReal => (show EReal from k0_pay1 (F := Ideal) x0 x1 z x2 (ix4 0 0 r e))) ((harg5.readAt_unread x3 _ _).trans (congrArg x3 ?_))
    funext a
    fin_cases a
    exact Fin.ext (off1 i)

variable (m : (ℓ : Loc nD τ sig) → Buf (Elt Ideal) ℓ)

theorem entry_q (c : Dev nD) (b : Fin 2) (h : Fin 4) (s : Fin 256) (d : Fin 64) : (show EReal from V m c main_v0 (ix4 b h s d))
    = (show EReal from m ((c.tc : Thread nD τ).loc main_arg0) (ix4 b s h d)) := by
  unfold V
  simp only [hostOps0, List.flatten_cons, List.flatten_nil, List.append_nil, List.cons_append, List.nil_append]
  after_results
  pointwise []

theorem entry_k (c : Dev nD) (b : Fin 2) (h : Fin 4) (s : Fin 256) (d : Fin 64) : (show EReal from V m c main_v3 (ix4 b h s d))
    = (show EReal from m ((c.tc : Thread nD τ).loc main_arg1) (ix4 b s (Cert.SinkReferenceIdeal.Sink.kv h) d)) := by
  unfold V
  simp only [hostOps0, List.flatten_cons, List.flatten_nil, List.append_nil, List.cons_append, List.nil_append]
  after_results
  unfold Cert.SinkReferenceIdeal.Sink.kv
  pointwise []

theorem entry_v (c : Dev nD) (b : Fin 2) (h : Fin 4) (s : Fin 256) (d : Fin 64) : (show EReal from V m c main_v6 (ix4 b h s d))
    = (show EReal from m ((c.tc : Thread nD τ).loc main_arg2) (ix4 b s (Cert.SinkReferenceIdeal.Sink.kv h) d)) := by
  unfold V
  simp only [hostOps0, List.flatten_cons, List.flatten_nil, List.append_nil, List.cons_append, List.nil_append]
  after_results
  unfold Cert.SinkReferenceIdeal.Sink.kv
  pointwise []

/-- Every window's block index, by the point. -/
theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_4.index t = ![t.val / 4, t.val % 4, 0, 0] ∧ t.val < 8 :=
  (by decide +kernel : ∀ t : Fin grid0.N, _)

/-- The batch and the head of a point. -/
def batch (t : Fin cfg0.N) : Fin 2 := ⟨t.val / 4, by have := (idx t).2.2.2.2; omega⟩
def head (t : Fin cfg0.N) : Fin 4 := ⟨t.val % 4, Nat.mod_lt _ (by omega)⟩

theorem block0 (c : Dev nD) (t : Fin cfg0.N) (s : Fin 256) (d : Fin 64) :
    iblk m c 0 t (ix4 (n0 := 1) (n1 := 1) (n2 := 256) (n3 := 64) 0 0 s d) = V m c main_v0 (ix4 (batch t) (head t) s d) :=
  congrArg (V m c main_v0) (by
    funext a
    fin_cases a
    · exact Fin.ext (show (((win0_0.blk t).view.emb (ix4 (n0 := 1) (n1 := 1) (n2 := 256) (n3 := 64) 0 0 s d)) 0 : ℕ) = t.val / 4 by blk_simp [idx t]; rfl)
    · exact Fin.ext (show (((win0_0.blk t).view.emb (ix4 (n0 := 1) (n1 := 1) (n2 := 256) (n3 := 64) 0 0 s d)) 1 : ℕ) = t.val % 4 by blk_simp [idx t]; rfl)
    · exact Fin.ext (show (((win0_0.blk t).view.emb (ix4 (n0 := 1) (n1 := 1) (n2 := 256) (n3 := 64) 0 0 s d)) 2 : ℕ) = s.val by blk_simp [idx t])
    · exact Fin.ext (show (((win0_0.blk t).view.emb (ix4 (n0 := 1) (n1 := 1) (n2 := 256) (n3 := 64) 0 0 s d)) 3 : ℕ) = d.val by blk_simp [idx t]))

theorem block1 (c : Dev nD) (t : Fin cfg0.N) (s : Fin 256) (d : Fin 64) :
    iblk m c 1 t (ix4 (n0 := 1) (n1 := 1) (n2 := 256) (n3 := 64) 0 0 s d) = V m c main_v3 (ix4 (batch t) (head t) s d) :=
  congrArg (V m c main_v3) (by
    funext a
    fin_cases a
    · exact Fin.ext (show (((win0_1.blk t).view.emb (ix4 (n0 := 1) (n1 := 1) (n2 := 256) (n3 := 64) 0 0 s d)) 0 : ℕ) = t.val / 4 by blk_simp [idx t]; rfl)
    · exact Fin.ext (show (((win0_1.blk t).view.emb (ix4 (n0 := 1) (n1 := 1) (n2 := 256) (n3 := 64) 0 0 s d)) 1 : ℕ) = t.val % 4 by blk_simp [idx t]; rfl)
    · exact Fin.ext (show (((win0_1.blk t).view.emb (ix4 (n0 := 1) (n1 := 1) (n2 := 256) (n3 := 64) 0 0 s d)) 2 : ℕ) = s.val by blk_simp [idx t])
    · exact Fin.ext (show (((win0_1.blk t).view.emb (ix4 (n0 := 1) (n1 := 1) (n2 := 256) (n3 := 64) 0 0 s d)) 3 : ℕ) = d.val by blk_simp [idx t]))

theorem block2 (c : Dev nD) (t : Fin cfg0.N) (s : Fin 256) (d : Fin 64) :
    iblk m c 2 t (ix4 (n0 := 1) (n1 := 1) (n2 := 256) (n3 := 64) 0 0 s d) = V m c main_v6 (ix4 (batch t) (head t) s d) :=
  congrArg (V m c main_v6) (by
    funext a
    fin_cases a
    · exact Fin.ext (show (((win0_2.blk t).view.emb (ix4 (n0 := 1) (n1 := 1) (n2 := 256) (n3 := 64) 0 0 s d)) 0 : ℕ) = t.val / 4 by blk_simp [idx t]; rfl)
    · exact Fin.ext (show (((win0_2.blk t).view.emb (ix4 (n0 := 1) (n1 := 1) (n2 := 256) (n3 := 64) 0 0 s d)) 1 : ℕ) = t.val % 4 by blk_simp [idx t]; rfl)
    · exact Fin.ext (show (((win0_2.blk t).view.emb (ix4 (n0 := 1) (n1 := 1) (n2 := 256) (n3 := 64) 0 0 s d)) 2 : ℕ) = s.val by blk_simp [idx t])
    · exact Fin.ext (show (((win0_2.blk t).view.emb (ix4 (n0 := 1) (n1 := 1) (n2 := 256) (n3 := 64) 0 0 s d)) 3 : ℕ) = d.val by blk_simp [idx t]))

/-- The sinks' block is the whole argument, and a point's second coordinate is its head. -/
theorem idx3 : ∀ t : Fin cfg0.N, win0_3.index t = ![0] ∧ (grid0.coords t 1 : ℕ) = t.val % 4 :=
  (by decide +kernel : ∀ t : Fin grid0.N, _)

theorem block3 (c : Dev nD) (t : Fin cfg0.N) : iblk m c 3 t (ix1 (n0 := 4) (grid0.coords t 1)) = V m c main_arg3 (ix1 (head t)) :=
  congrArg (V m c main_arg3) (by
    funext a
    fin_cases a
    exact Fin.ext (show (((win0_3.blk t).view.emb (ix1 (n0 := 4) (grid0.coords t 1))) 0 : ℕ) = t.val % 4 by blk_simp [idx3 t]))

/-- The averages of the values, from the arguments. -/
def avg (q : FVec Ideal S2x256x4x64 .f32) (k v : FVec Ideal S2x256x2x64 .f32) (z : FVec Ideal S4 .f32) : FVec Ideal S2x4x256x64 .f32 := fun y =>
  Cert.Context.ksink (fun n : Fin 256 => (∑ d : Fin 64, q (ix4 (y 0) (y 2) (y 1) d) * k (ix4 (y 0) n (Cert.SinkReferenceIdeal.Sink.kv (y 1)) d))
    * FloatOps.ofBits (F := Ideal) .f32 0x3E000000#32) (fun n => v (ix4 (y 0) n (Cert.SinkReferenceIdeal.Sink.kv (y 1)) (y 3))) (z (ix1 (y 1)))

/-- The result array, from the arguments. -/
def G4 (c : Dev nD) : Vec Ideal S2x4x256x64 .f32 :=
  avg (m ((c.tc : Thread nD τ).loc main_arg0)) (m ((c.tc : Thread nD τ).loc main_arg1)) (m ((c.tc : Thread nD τ).loc main_arg2)) (m ((c.tc : Thread nD τ).loc main_arg3))

/-- What a point leaves in its block. -/
theorem out4_eq (c : Dev nD) (t : Fin cfg0.N) (r : Fin 256) (e : Fin 64) :
    outsAt0 m c t (ix4 (n0 := 1) (n1 := 1) (n2 := 256) (n3 := 64) 0 0 r e) = G4 m c (ix4 (batch t) (head t) r e) := by
  unfold outsAt0
  refine (outA c _ _ _ _ _ _ _ _ _ _ _ _ _ _ _ r e).trans ((pay1_at _ _ _ _ r e).trans ?_)
  have e0 := fun d => (block0 m c t r d).trans (entry_q m c (batch t) (head t) r d)
  have e1 := fun n d => (block1 m c t n d).trans (entry_k m c (batch t) (head t) n d)
  have e2 := fun n => (block2 m c t n e).trans (entry_v m c (batch t) (head t) n e)
  have e3 := (block3 m c t).trans (congrFun (V_main_arg3 m c) (ix1 (head t)))
  exact congr (congrArg₂ Cert.Context.ksink (funext fun n => congrArg (fun x : EReal => x * FloatOps.ofBits (F := Ideal) .f32 0x3E000000#32)
    (Finset.sum_congr rfl fun d _ => congrArg₂ (fun x y : EReal => x * y) (e0 d) (e1 n d))) (funext e2)) e3

/-- The result array the run leaves. -/
theorem final4 (c : Dev nD) : (dats m 0 c).arrAt 4 cfg0.N = G4 m c := by
  refine (dats m 0 c).arrAt_eq_of_covers 4 _ (by decide +kernel) fun t hf y => ?_
  have ey : y = ix4 (n0 := 1) (n1 := 1) (n2 := 256) (n3 := 64) 0 0 (y 2) (y 3) := by
    funext d
    fin_cases d
    · exact Subsingleton.elim (α := Fin 1) _ _
    · exact Subsingleton.elim (α := Fin 1) _ _
    · rfl
    · rfl
  have y0 : (y 0 : ℕ) = 0 := congrArg Fin.val (Subsingleton.elim (α := Fin 1) (y 0) 0)
  have y1 : (y 1 : ℕ) = 0 := congrArg Fin.val (Subsingleton.elim (α := Fin 1) (y 1) 0)
  have E0 : (((win0_4.blk t).view.emb y) 0 : ℕ) = t.val / 4 := by blk_simp [idx t, y0]
  have E1 : (((win0_4.blk t).view.emb y) 1 : ℕ) = t.val % 4 := by blk_simp [idx t, y1]
  have E2 : (((win0_4.blk t).view.emb y) 2 : ℕ) = (y 2 : ℕ) := by blk_simp [idx t]
  have E3 : (((win0_4.blk t).view.emb y) 3 : ℕ) = (y 3 : ℕ) := by blk_simp [idx t]
  blk_simp
  rw [after0_4]
  refine (congrArg _ ey).trans ((out4_eq m c t (y 2) (y 3)).trans (congrArg (G4 m c) ?_))
  funext d
  fin_cases d
  · exact Fin.ext E0.symm
  · exact Fin.ext E1.symm
  · exact Fin.ext E2.symm
  · exact Fin.ext E3.symm

end Cert.SinkKernelIdeal.Sink

end
-- ==== Proof.Sink.Claims.lean ====
/- The claims about the context's attention with a sink. -/
module

public import proofs.«01_k».proof.Proof.Sink.Final
public import proofs.«01_k».proof.Proof.Ctx.Claims
public import proofs.«01_k».proof.Proof.Att.Finite
public import proofs.«01_k».proof.Proof.Gen.SinkKernel.Frame
public import proofs.«01_k».proof.Proof.Gen.Pre_finite_scores_sink
public import proofs.«01_k».proof.Defs
public import Idealize.ShloMosaic.Lib.Claim
public import Idealize.ShloMosaic.Lib.ReduceAll

@[expose] public section

set_option maxRecDepth 16384

noncomputable section

namespace Cert.Sink

open Idealize.ShloMosaic Idealize.ShloMosaic.TcCoe Idealize.ShloMosaic.Tactic Idealize.SL.Sem

/-- The kernel's frame. -/
theorem frame_p : Cert.quiescent_SinkKernel := fun m g _ => Cert.SinkKernel.Gen.frame m g

/-- The idealized kernel's frame. -/
theorem frame_pi : Cert.quiescent_SinkKernelIdeal := fun m g _ => Cert.SinkKernelIdeal.Gen.frame m g

/-- The same under the precondition. -/
theorem frame_pi_pre : Cert.quiescent_SinkKernelIdeal_pre_finite_scores_sink := fun m g _ => Cert.SinkKernelIdeal.Gen.frame m g

/-- The reference's frame. -/
theorem frame_ri : Cert.quiescent_SinkReferenceIdeal := fun m g _ =>
  (θ_run Cert.SinkReferenceIdeal.defs _ _).mono (fun r h => ⟨fun c => (h c).2, Idealize.ShloMosaic.sem_eq_zero_of_no_sems (by decide) r.2⟩)
    (Cert.SinkReferenceIdeal.Value.run (F := Ideal) m g)

/-- The same under the precondition. -/
theorem frame_ri_pre : Cert.quiescent_SinkReferenceIdeal_pre_finite_scores_sink := fun m g _ => frame_ri m g trivial

/-- No constant is named. -/
theorem preserves : Cert.preserves_SinkKernel_SinkKernelIdeal := trivial

/-- An extended real below the word of plus infinity is not plus infinity. -/
theorem below (x : EReal) (h : FloatOps.cmpf (F := Ideal) (φ := .f32) .olt x (FloatOps.ofBits (F := Ideal) .f32 0x7F800000#32) = 1#1) : x ≠ ⊤ := by
  have h2 : BitVec.ofBool (decide (x < (⊤ : EReal))) = 1#1 := by
    rw [← Att.word_top]
    exact h
  rintro rfl
  simp at h2

/-- Under the precondition queries and keys are numbers, and no sink is plus infinity. -/
theorem finite (q : FVec Ideal Pre_finite_scores_sink.S2x256x4x64 .f32) (k v : FVec Ideal Pre_finite_scores_sink.S2x256x2x64 .f32)
    (z : FVec Ideal Pre_finite_scores_sink.S4 .f32) (h : Pre_finite_scores_sink.fn (F := Ideal) q k v z = fun _ => 1#1) :
    (∀ i, q i = (((q i : EReal).toReal : ℝ) : EReal)) ∧ (∀ i, k i = (((k i : EReal).toReal : ℝ) : EReal)) ∧ ∀ i, (z i : EReal) ≠ ⊤ := by
  haveI : Subsingleton Pre_finite_scores_sink.S_.Idx := ⟨fun a b => funext fun d => d.elim0⟩
  obtain ⟨e12, e3⟩ := IntOp.andi_eq_one.mp (congrFun h (fun d => d.elim0))
  obtain ⟨e1, e2⟩ := IntOp.andi_eq_one.mp e12
  exact ⟨fun i => Att.real_of_abs _ (Host.reduce_andi_all _ _ _ _ _ e1 i), fun i => Att.real_of_abs _ (Host.reduce_andi_all _ _ _ _ _ e2 i),
    fun i => below _ (Host.reduce_andi_all _ _ _ _ _ e3 i)⟩

/-- On finite queries and keys and sinks below plus infinity the kernel's averages are the reference's. -/
theorem averages (q : FVec Ideal Pre_finite_scores_sink.S2x256x4x64 .f32) (k v : FVec Ideal Pre_finite_scores_sink.S2x256x2x64 .f32)
    (z : FVec Ideal Pre_finite_scores_sink.S4 .f32) (h : Pre_finite_scores_sink.fn (F := Ideal) q k v z = fun _ => 1#1) :
    Cert.SinkReferenceIdeal.Sink.result q k v z = Cert.SinkKernelIdeal.Sink.avg q k v z := by
  obtain ⟨hq, hk, hz⟩ := finite q k v z h
  funext y
  have ey : y = ix4 (n0 := 2) (n1 := 4) (n2 := 256) (n3 := 64) (y 0) (y 1) (y 2) (y 3) := by
    funext d
    fin_cases d <;> rfl
  refine (congrArg _ ey).trans ((Cert.SinkReferenceIdeal.Sink.result_at q k v z (y 0) (y 1) (y 2) (y 3)).trans ?_)
  exact (Cert.Context.ksink_scores (by norm_num) (fun d : Fin 64 => q (ix4 (y 0) (y 2) (y 1) d))
    (fun (n : Fin 256) d => k (ix4 (y 0) n (Cert.SinkReferenceIdeal.Sink.kv (y 1)) d)) _ _ _
    (fun d => hq _) (fun n d => hk _) Cert.Context.scale_real (hz _)).symm

/-- On finite queries and keys and sinks below plus infinity the kernel computes the reference's array. -/
theorem algebraic : Cert.algebraic_SinkKernelIdeal_SinkReferenceIdeal_pre_finite_scores_sink := by
  intro m g m' g' hpre hagree
  refine ⟨fun c => Cert.SinkKernelIdeal.Sink.G4 m c, ?_, ?_⟩
  · refine (θ_run _ _ _).mono (fun r h c => ?_) (Cert.SinkKernelIdeal.Value.run_blocks (F := Ideal) m g)
    exact ⟨(h c).1.trans (Cert.SinkKernelIdeal.Sink.final4 m c), (h c).2⟩
  · refine (θ_run _ _ _).mono (fun r h c => ⟨(h c).1.trans ?_, (h c).2⟩) (Cert.SinkReferenceIdeal.Value.run (F := Ideal) m' g')
    obtain ⟨a0, a1, a2, a3⟩ := hagree c
    refine (show _ = Cert.SinkReferenceIdeal.Sink.result _ _ _ _ from rfl).trans ?_
    rw [a0, a1, a2, a3]
    exact averages _ _ _ _ (hpre c)

end Cert.Sink

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores
public import proofs.«01_k».proof.Proof.Att.Claims
public import proofs.«01_k».proof.Proof.In.Claims
public import proofs.«01_k».proof.Proof.Out.Claims
public import proofs.«01_k».proof.Proof.Peer.Claims
public import proofs.«01_k».proof.Proof.Mla.Claims
public import proofs.«01_k».proof.Proof.Last.Claims
public import proofs.«01_k».proof.Proof.Ada.Claims
public import proofs.«01_k».proof.Proof.Ctx.Claims
public import proofs.«01_k».proof.Proof.Sink.Claims
public import proofs.«01_k».proof.Proof.Gen.Pre_finite_scores_peer
public import proofs.«01_k».proof.Proof.Gen.PeerKernel
public import proofs.«01_k».proof.Proof.Gen.PeerKernel.Skeleton
public import proofs.«01_k».proof.Proof.Gen.PeerKernel.Launch
public import proofs.«01_k».proof.Proof.Gen.PeerKernel.Points
public import proofs.«01_k».proof.Proof.Gen.PeerKernel.Frame
public import proofs.«01_k».proof.Proof.Gen.PeerKernelIdeal
public import proofs.«01_k».proof.Proof.Gen.PeerKernelIdeal.Skeleton
public import proofs.«01_k».proof.Proof.Gen.PeerKernelIdeal.Launch
public import proofs.«01_k».proof.Proof.Gen.PeerKernelIdeal.Points
public import proofs.«01_k».proof.Proof.Gen.PeerKernelIdeal.Frame
public import proofs.«01_k».proof.Proof.Gen.PeerKernelIdeal.Value
public import proofs.«01_k».proof.Proof.Gen.PeerReferenceIdeal
public import proofs.«01_k».proof.Proof.Gen.PeerReferenceIdeal.Run
public import proofs.«01_k».proof.Proof.Gen.MlaKernel
public import proofs.«01_k».proof.Proof.Gen.MlaKernel.Skeleton
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Skeleton
public import proofs.«01_k».proof.Proof.Gen.MlaKernelIdeal.Launch
public import proofs.«01_k».proof.Proof.Gen.MlaKernelIdeal.Points
public import proofs.«01_k».proof.Proof.Gen.MlaKernelIdeal.Frame
public import proofs.«01_k».proof.Proof.Gen.MlaKernelIdeal.Value
public import proofs.«01_k».proof.Proof.Gen.MlaReferenceIdeal
public import proofs.«01_k».proof.Proof.Gen.MlaReferenceIdeal.Run
public import proofs.«01_k».proof.Proof.Gen.SinkKernel
public import proofs.«01_k».proof.Proof.Gen.SinkKernel.Skeleton
public import proofs.«01_k».proof.Proof.Gen.SinkKernel.Launch
public import proofs.«01_k».proof.Proof.Gen.SinkKernel.Points
public import proofs.«01_k».proof.Proof.Gen.SinkKernel.Frame
public import proofs.«01_k».proof.Proof.Gen.SinkKernelIdeal
public import proofs.«01_k».proof.Proof.Gen.SinkKernelIdeal.Skeleton
public import proofs.«01_k».proof.Proof.Gen.SinkKernelIdeal.Launch
public import proofs.«01_k».proof.Proof.Gen.SinkKernelIdeal.Points
public import proofs.«01_k».proof.Proof.Gen.SinkKernelIdeal.Frame
public import proofs.«01_k».proof.Proof.Gen.SinkKernelIdeal.Value
public import proofs.«01_k».proof.Proof.Gen.SinkReferenceIdeal
public import proofs.«01_k».proof.Proof.Gen.SinkReferenceIdeal.Run
public import proofs.«01_k».proof.Proof.Gen.Pre_finite_scores_sink
public import proofs.«01_k».proof.Proof.Gen.CtxKernel
public import proofs.«01_k».proof.Proof.Gen.CtxKernel.Skeleton
public import proofs.«01_k».proof.Proof.Gen.CtxKernel.Launch
public import proofs.«01_k».proof.Proof.Gen.CtxKernel.Points
public import proofs.«01_k».proof.Proof.Gen.CtxKernel.Frame
public import proofs.«01_k».proof.Proof.Gen.CtxKernelIdeal
public import proofs.«01_k».proof.Proof.Gen.CtxKernelIdeal.Skeleton
public import proofs.«01_k».proof.Proof.Gen.CtxKernelIdeal.Launch
public import proofs.«01_k».proof.Proof.Gen.CtxKernelIdeal.Points
public import proofs.«01_k».proof.Proof.Gen.CtxKernelIdeal.Frame
public import proofs.«01_k».proof.Proof.Gen.CtxKernelIdeal.Value
public import proofs.«01_k».proof.Proof.Gen.CtxReferenceIdeal
public import proofs.«01_k».proof.Proof.Gen.CtxReferenceIdeal.Run
public import proofs.«01_k».proof.Proof.Gen.Pre_finite_scores_ctx
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalKernelIdeal.Value
public import proofs.«01_k».proof.Proof.Gen.FinalReferenceIdeal
public import proofs.«01_k».proof.Proof.Gen.FinalReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.InKernelIdeal.Value
public import proofs.«01_k».proof.Proof.Gen.OutKernelIdeal.Value
public import proofs.«01_k».proof.Proof.Gen.InReferenceIdeal.Run
public import proofs.«01_k».proof.Proof.Gen.OutReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.InKernel.Gen.facts, Cert.InKernelIdeal.Gen.facts, Cert.InReferenceIdeal.Gen.facts,
    Cert.OutKernel.Gen.facts, Cert.OutKernelIdeal.Gen.facts, Cert.OutReferenceIdeal.Gen.facts,
    Cert.PeerKernel.Gen.facts, Cert.PeerKernelIdeal.Gen.facts, Cert.PeerReferenceIdeal.Gen.facts,
    Cert.MlaKernel.Gen.facts, Cert.MlaKernelIdeal.Gen.facts, Cert.MlaReferenceIdeal.Gen.facts,
    Cert.FinalKernel.Gen.facts, Cert.FinalKernelIdeal.Gen.facts, Cert.FinalReferenceIdeal.Gen.facts,
    Cert.AdaKernel.Gen.facts, Cert.AdaKernelIdeal.Gen.facts, Cert.AdaReferenceIdeal.Gen.facts,
    Cert.CtxKernel.Gen.facts, Cert.CtxKernelIdeal.Gen.facts, Cert.CtxReferenceIdeal.Gen.facts,
    Cert.SinkKernel.Gen.facts, Cert.SinkKernelIdeal.Gen.facts, Cert.SinkReferenceIdeal.Gen.facts,
    Cert.Pre_finite_scores.Gen.facts, Cert.Pre_finite_scores_peer.Gen.facts, Cert.Pre_finite_scores_ctx.Gen.facts, Cert.Pre_finite_scores_sink.Gen.facts,
    Cert.Att.frame_p, Cert.Att.frame_pi, Cert.Att.frame_pi_pre, Cert.Att.frame_ri, Cert.Att.frame_ri_pre,
    Cert.In.frame_p, Cert.In.frame_pi, Cert.In.frame_ri, Cert.Out.frame_p, Cert.Out.frame_pi, Cert.Out.frame_ri,
    Cert.Routing.frame_p, Cert.Routing.frame_pi, Cert.Routing.frame_pi_pre, Cert.Routing.frame_ri, Cert.Routing.frame_ri_pre,
    Cert.Latent.frame_p, Cert.Latent.frame_pi, Cert.Latent.frame_ri,
    Cert.Last.frame_p, Cert.Last.frame_pi, Cert.Last.frame_ri,
    Cert.Ada.frame_p, Cert.Ada.frame_pi, Cert.Ada.frame_ri,
    Cert.Context.frame_p, Cert.Context.frame_pi, Cert.Context.frame_pi_pre, Cert.Context.frame_ri, Cert.Context.frame_ri_pre,
    Cert.Sink.frame_p, Cert.Sink.frame_pi, Cert.Sink.frame_pi_pre, Cert.Sink.frame_ri, Cert.Sink.frame_ri_pre,
    Cert.Att.preserves, Cert.Att.algebraic, Cert.In.preserves, Cert.In.algebraic, Cert.Out.preserves, Cert.Out.algebraic,
    Cert.Routing.preserves, Cert.Routing.algebraic, Cert.Latent.preserves, Cert.Latent.algebraic,
    Cert.Last.preserves, Cert.Last.algebraic, Cert.Ada.preserves, Cert.Ada.algebraic,
    Cert.Context.preserves, Cert.Context.algebraic, Cert.Sink.preserves, Cert.Sink.algebraic⟩

end Cert.Proof

end
